-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_down [hPre_finite_down : Cert.Pre_finite_down.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_down.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite_down.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite_down.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_down [hPre_finite_down : Cert.Pre_finite_down.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_down.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite_down.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite_down.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_down [hKernel2Ideal : Cert.Kernel2Ideal.Facts] [hPre_finite_down : Cert.Pre_finite_down.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_down m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_down [hReference2Ideal : Cert.Reference2Ideal.Facts] [hPre_finite_down : Cert.Pre_finite_down.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_down m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def preserves_Kernel_KernelIdeal : Prop :=
  True

def preserves_Kernel2_Kernel2Ideal : Prop :=
  True

def algebraic_Kernel2Ideal_Reference2Ideal_pre_finite_down [hKernel2Ideal : Cert.Kernel2Ideal.Facts] [hReference2Ideal : Cert.Reference2Ideal.Facts] [hPre_finite_down : Cert.Pre_finite_down.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_down m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v29) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v31) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v29) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v15) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v6)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v35) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v34) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v34) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite_down : Cert.Pre_finite_down.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Kernel2Ideal_pre_finite_down (hKernel2Ideal := hKernel2Ideal) (hPre_finite_down := hPre_finite_down)
    ∧ quiescent_Reference2Ideal (hReference2Ideal := hReference2Ideal)
    ∧ quiescent_Reference2Ideal_pre_finite_down (hReference2Ideal := hReference2Ideal) (hPre_finite_down := hPre_finite_down)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ preserves_Kernel2_Kernel2Ideal
    ∧ algebraic_Kernel2Ideal_Reference2Ideal_pre_finite_down (hKernel2Ideal := hKernel2Ideal) (hReference2Ideal := hReference2Ideal) (hPre_finite_down := hPre_finite_down)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite_down.lean ====
abbrev S4x2048x4096 : Shape := ⟨3, ![4, 2048, 4096]⟩
abbrev S8x24576 : Shape := ⟨2, ![8, 24576]⟩
abbrev S4x2048x11008 : Shape := ⟨3, ![4, 2048, 11008]⟩
abbrev S1x11008x4096 : Shape := ⟨3, ![1, 11008, 4096]⟩
abbrev S4x4096 : Shape := ⟨2, ![4, 4096]⟩
abbrev S_ : Shape := ⟨0, ![]⟩

class Facts : Prop where
  slices_S8x24576_S4x4096_0_20480 : S8x24576.Slices ![0, 20480] S4x4096
  bcast_S_S4x4096 : S_.BroadcastsInDim S4x4096 (![] : Fin 0 → Fin S4x4096.rank)
  bcast_S_S4x2048x11008 : S_.BroadcastsInDim S4x2048x11008 (![] : Fin 0 → Fin S4x2048x11008.rank)
  bcast_S_S1x11008x4096 : S_.BroadcastsInDim S1x11008x4096 (![] : Fin 0 → Fin S1x11008x4096.rank)

variable [Facts]

def fn {F : FTy → Type} [FloatOps F] (main_arg0 : FVec F S4x2048x4096 .f32) (main_arg1 : FVec F S8x24576 .f32) (main_arg2 : FVec F S4x2048x11008 .bf16) (main_arg3 : FVec F S1x11008x4096 .f32) : IVec S4x4096 1 × IVec S4x2048x11008 1 × IVec S1x11008x4096 1 :=
  let main_v0 : FVec F S4x4096 .f32 := (extractStridedSlice S4x4096 ![0, 20480] · slices_S8x24576_S4x4096_0_20480) main_arg1
  let main_v1 : FVec F S4x4096 .f32 := Host.absf main_v0
  let main_cst : FVec F S_ .f32 := constant S_ .f32 0x7F800000#32
  let main_v2 : FVec F S4x4096 .f32 := broadcastInDim S4x4096 ![] bcast_S_S4x4096 main_cst
  let main_v3 : IVec S4x4096 1 := cmpf .olt main_v1 main_v2
  let main_v4 : FVec F S4x2048x11008 .bf16 := Host.absf main_arg2
  let main_cst_0 : FVec F S_ .bf16 := constant S_ .bf16 0x7F80#16
  let main_v5 : FVec F S4x2048x11008 .bf16 := broadcastInDim S4x2048x11008 ![] bcast_S_S4x2048x11008 main_cst_0
  let main_v6 : IVec S4x2048x11008 1 := cmpf .olt main_v4 main_v5
  let main_v7 : FVec F S1x11008x4096 .f32 := Host.absf main_arg3
  let main_cst_1 : FVec F S_ .f32 := constant S_ .f32 0x7F800000#32
  let main_v8 : FVec F S1x11008x4096 .f32 := broadcastInDim S1x11008x4096 ![] bcast_S_S1x11008x4096 main_cst_1
  let main_v9 : IVec S1x11008x4096 1 := cmpf .olt main_v7 main_v8
  (main_v3, main_v6, main_v9)
-- ==== Kernel.lean ====
abbrev S8192x2048 : Shape := ⟨2, ![8192, 2048]⟩
abbrev S8192x128 : Shape := ⟨2, ![8192, 128]⟩
abbrev S8192x512 : Shape := ⟨2, ![8192, 512]⟩
abbrev S1x4096x4096 : Shape := ⟨3, ![1, 4096, 4096]⟩
abbrev S1x2048x4096 : Shape := ⟨3, ![1, 2048, 4096]⟩
abbrev S16x128 : Shape := ⟨2, ![16, 128]⟩
abbrev S2048x128 : Shape := ⟨2, ![2048, 128]⟩
abbrev S_ : Shape := ⟨0, ![]⟩
abbrev S4096x4096 : Shape := ⟨2, ![4096, 4096]⟩
abbrev S2048x4096 : Shape := ⟨2, ![2048, 4096]⟩
abbrev S256x2048 : Shape := ⟨2, ![256, 2048]⟩
abbrev S256x128 : Shape := ⟨2, ![256, 128]⟩
abbrev S2048x512 : Shape := ⟨2, ![2048, 512]⟩
abbrev S1x128x4096 : Shape := ⟨3, ![1, 128, 4096]⟩
abbrev S1x64x4096 : Shape := ⟨3, ![1, 64, 4096]⟩
abbrev S128x4096 : Shape := ⟨2, ![128, 4096]⟩
abbrev S64x4096 : Shape := ⟨2, ![64, 4096]⟩
abbrev S8x256x256 : Shape := ⟨3, ![8, 256, 256]⟩
abbrev S128x256 : Shape := ⟨2, ![128, 256]⟩
abbrev S8x256 : Shape := ⟨2, ![8, 256]⟩
abbrev S8x512x256 : Shape := ⟨3, ![8, 512, 256]⟩
abbrev S4x1024x256 : Shape := ⟨3, ![4, 1024, 256]⟩
abbrev S8x1024 : Shape := ⟨2, ![8, 1024]⟩
abbrev S4x128x1024 : Shape := ⟨3, ![4, 128, 1024]⟩
abbrev S256x256 : Shape := ⟨2, ![256, 256]⟩
abbrev S512x128 : Shape := ⟨2, ![512, 128]⟩
abbrev S512x256 : Shape := ⟨2, ![512, 256]⟩
abbrev S1x256 : Shape := ⟨2, ![1, 256]⟩
abbrev S1x256x256 : Shape := ⟨3, ![1, 256, 256]⟩
abbrev S64x256 : Shape := ⟨2, ![64, 256]⟩
abbrev S32x256 : Shape := ⟨2, ![32, 256]⟩
abbrev S16x256 : Shape := ⟨2, ![16, 256]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩
abbrev S1x128x256 : Shape := ⟨3, ![1, 128, 256]⟩
abbrev S1x256x128 : Shape := ⟨3, ![1, 256, 128]⟩
abbrev S1x128 : Shape := ⟨2, ![1, 128]⟩
abbrev S1x1024 : Shape := ⟨2, ![1, 1024]⟩
abbrev S256x1024 : Shape := ⟨2, ![256, 1024]⟩
abbrev S1x1024x256 : Shape := ⟨3, ![1, 1024, 256]⟩
abbrev S1024x256 : Shape := ⟨2, ![1024, 256]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S1024 : Shape := ⟨1, ![1024]⟩
abbrev S1x128x1024 : Shape := ⟨3, ![1, 128, 1024]⟩

abbrev nBuf : Space → Nat
  | .hbm => 93
  | .vmem => 36
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x128, .f32⟩
  | .hbm, ⟨3, _⟩ => ⟨S8192x512, .bf16⟩
  | .hbm, ⟨4, _⟩ => ⟨S8192x512, .bf16⟩
  | .hbm, ⟨5, _⟩ => ⟨S1x4096x4096, .f32⟩
  | .hbm, ⟨6, _⟩ => ⟨S1x2048x4096, .f32⟩
  | .hbm, ⟨7, _⟩ => ⟨S1x2048x4096, .f32⟩
  | .hbm, ⟨8, _⟩ => ⟨S16x128, .f32⟩
  | .hbm, ⟨9, _⟩ => ⟨S2048x128, .i32⟩
  | .hbm, ⟨10, _⟩ => ⟨S2048x128, .i32⟩
  | .hbm, ⟨11, _⟩ => ⟨S_, .i32⟩
  | .hbm, ⟨12, _⟩ => ⟨S2048x128, .i32⟩
  | .hbm, ⟨13, _⟩ => ⟨S2048x128, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S2048x128, .i32⟩
  | .hbm, ⟨21, _⟩ => ⟨S2048x128, .i32⟩
  | .hbm, ⟨22, _⟩ => ⟨S_, .i32⟩
  | .hbm, ⟨23, _⟩ => ⟨S2048x128, .i32⟩
  | .hbm, ⟨24, _⟩ => ⟨S2048x128, .i1⟩
  | .hbm, ⟨25, _⟩ => ⟨S_, .i32⟩
  | .hbm, ⟨26, _⟩ => ⟨S2048x128, .i32⟩
  | .hbm, ⟨27, _⟩ => ⟨S2048x128, .i1⟩
  | .hbm, ⟨28, _⟩ => ⟨S_, .i32⟩
  | .hbm, ⟨29, _⟩ => ⟨S_, .i1⟩
  | .hbm, ⟨30, _⟩ => ⟨S2048x128, .i1⟩
  | .hbm, ⟨31, _⟩ => ⟨S2048x128, .i1⟩
  | .hbm, ⟨32, _⟩ => ⟨S2048x128, .i1⟩
  | .hbm, ⟨33, _⟩ => ⟨S2048x128, .i32⟩
  | .hbm, ⟨34, _⟩ => ⟨S2048x128, .i32⟩
  | .hbm, ⟨35, _⟩ => ⟨S2048x128, .i32⟩
  | .hbm, ⟨36, _⟩ => ⟨S_, .i32⟩
  | .hbm, ⟨37, _⟩ => ⟨S2048x128, .i32⟩
  | .hbm, ⟨38, _⟩ => ⟨S2048x128, .i1⟩
  | .hbm, ⟨39, _⟩ => ⟨S_, .i32⟩
  | .hbm, ⟨40, _⟩ => ⟨S_, .i32⟩
  | .hbm, ⟨41, _⟩ => ⟨S2048x128, .i32⟩
  | .hbm, ⟨42, _⟩ => ⟨S2048x128, .i32⟩
  | .hbm, ⟨43, _⟩ => ⟨S2048x128, .i32⟩
  | .hbm, ⟨44, _⟩ => ⟨S_, .i32⟩
  | .hbm, ⟨45, _⟩ => ⟨S2048x128, .i32⟩
  | .hbm, ⟨46, _⟩ => ⟨S2048x128, .i1⟩
  | .hbm, ⟨47, _⟩ => ⟨S2048x128, .i32⟩
  | .hbm, ⟨48, _⟩ => ⟨S2048x128, .i32⟩
  | .hbm, ⟨49, _⟩ => ⟨S_, .i32⟩
  | .hbm, ⟨50, _⟩ => ⟨S2048x128, .i32⟩
  | .hbm, ⟨51, _⟩ => ⟨S2048x128, .i1⟩
  | .hbm, ⟨52, _⟩ => ⟨S2048x128, .i1⟩
  | .hbm, ⟨53, _⟩ => ⟨S_, .i32⟩
  | .hbm, ⟨54, _⟩ => ⟨S2048x128, .i32⟩
  | .hbm, ⟨55, _⟩ => ⟨S2048x128, .i32⟩
  | .hbm, ⟨56, _⟩ => ⟨S2048x128, .i32⟩
  | .hbm, ⟨57, _⟩ => ⟨S_, .i32⟩
  | .hbm, ⟨58, _⟩ => ⟨S2048x128, .i32⟩
  | .hbm, ⟨59, _⟩ => ⟨S2048x128, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S2048x128, .i32⟩
  | .hbm, ⟨67, _⟩ => ⟨S2048x128, .i32⟩
  | .hbm, ⟨68, _⟩ => ⟨S_, .i32⟩
  | .hbm, ⟨69, _⟩ => ⟨S2048x128, .i32⟩
  | .hbm, ⟨70, _⟩ => ⟨S2048x128, .i1⟩
  | .hbm, ⟨71, _⟩ => ⟨S_, .i32⟩
  | .hbm, ⟨72, _⟩ => ⟨S2048x128, .i32⟩
  | .hbm, ⟨73, _⟩ => ⟨S2048x128, .i1⟩
  | .hbm, ⟨74, _⟩ => ⟨S_, .i32⟩
  | .hbm, ⟨75, _⟩ => ⟨S_, .i1⟩
  | .hbm, ⟨76, _⟩ => ⟨S2048x128, .i1⟩
  | .hbm, ⟨77, _⟩ => ⟨S2048x128, .i1⟩
  | .hbm, ⟨78, _⟩ => ⟨S2048x128, .i1⟩
  | .hbm, ⟨79, _⟩ => ⟨S2048x128, .i32⟩
  | .hbm, ⟨80, _⟩ => ⟨S2048x128, .i32⟩
  | .hbm, ⟨81, _⟩ => ⟨S2048x128, .i32⟩
  | .hbm, ⟨82, _⟩ => ⟨S2048x128, .i32⟩
  | .hbm, ⟨83, _⟩ => ⟨S_, .i32⟩
  | .hbm, ⟨84, _⟩ => ⟨S_, .i32⟩
  | .hbm, ⟨85, _⟩ => ⟨S2048x128, .i32⟩
  | .hbm, ⟨86, _⟩ => ⟨S2048x128, .i32⟩
  | .hbm, ⟨87, _⟩ => ⟨S2048x128, .f32⟩
  | .hbm, ⟨88, _⟩ => ⟨S2048x128, .bf16⟩
  | .hbm, ⟨89, _⟩ => ⟨S8192x2048, .bf16⟩
  | .hbm, ⟨90, _⟩ => ⟨S4096x4096, .bf16⟩
  | .hbm, ⟨91, _⟩ => ⟨S2048x4096, .bf16⟩
  | .hbm, ⟨92, _⟩ => ⟨S2048x4096, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x128, .f32⟩
  | .local _ .vmem, ⟨5, _⟩ => ⟨S256x128, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x128, .f32⟩
  | .local _ .vmem, ⟨11, _⟩ => ⟨S2048x128, .f32⟩
  | .local _ .vmem, ⟨12, _⟩ => ⟨S16x128, .f32⟩
  | .local _ .vmem, ⟨13, _⟩ => ⟨S2048x128, .bf16⟩
  | .local _ .vmem, ⟨14, _⟩ => ⟨S1x128x4096, .f32⟩
  | .local _ .vmem, ⟨15, _⟩ => ⟨S1x128x4096, .f32⟩
  | .local _ .vmem, ⟨16, _⟩ => ⟨S1x64x4096, .f32⟩
  | .local _ .vmem, ⟨17, _⟩ => ⟨S1x64x4096, .f32⟩
  | .local _ .vmem, ⟨18, _⟩ => ⟨S1x64x4096, .f32⟩
  | .local _ .vmem, ⟨19, _⟩ => ⟨S1x64x4096, .f32⟩
  | .local _ .vmem, ⟨20, _⟩ => ⟨S256x2048, .bf16⟩
  | .local _ .vmem, ⟨21, _⟩ => ⟨S256x2048, .bf16⟩
  | .local _ .vmem, ⟨22, _⟩ => ⟨S128x4096, .bf16⟩
  | .local _ .vmem, ⟨23, _⟩ => ⟨S128x4096, .bf16⟩
  | .local _ .vmem, ⟨24, _⟩ => ⟨S64x4096, .bf16⟩
  | .local _ .vmem, ⟨25, _⟩ => ⟨S64x4096, .bf16⟩
  | .local _ .vmem, ⟨26, _⟩ => ⟨S64x4096, .bf16⟩
  | .local _ .vmem, ⟨27, _⟩ => ⟨S64x4096, .bf16⟩
  | .local _ .vmem, ⟨28, _⟩ => ⟨S8x256x256, .f32⟩
  | .local _ .vmem, ⟨29, _⟩ => ⟨S8x256x256, .f32⟩
  | .local _ .vmem, ⟨30, _⟩ => ⟨S128x256, .f32⟩
  | .local _ .vmem, ⟨31, _⟩ => ⟨S8x256, .i32⟩
  | .local _ .vmem, ⟨32, _⟩ => ⟨S8x512x256, .bf16⟩
  | .local _ .vmem, ⟨33, _⟩ => ⟨S4x1024x256, .bf16⟩
  | .local _ .vmem, ⟨34, _⟩ => ⟨S8x1024, .f32⟩
  | .local _ .vmem, ⟨35, _⟩ => ⟨S4x128x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v4 : Ref sig .tc := ⟨.hbm, 35, rfl⟩
abbrev main_c_1 : Ref sig .tc := ⟨.hbm, 36, rfl⟩
abbrev main_v5 : Ref sig .tc := ⟨.hbm, 37, rfl⟩
abbrev main_v6 : Ref sig .tc := ⟨.hbm, 38, rfl⟩
abbrev main_c_2 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v7 : Ref sig .tc := ⟨.hbm, 56, rfl⟩
abbrev main_c_3 : Ref sig .tc := ⟨.hbm, 57, rfl⟩
abbrev main_v8 : Ref sig .tc := ⟨.hbm, 58, rfl⟩
abbrev main_v9 : Ref sig .tc := ⟨.hbm, 59, rfl⟩
abbrev main_c_4 : Ref sig .tc := ⟨.hbm, 60, rfl⟩
abbrev main_call2_v0 : Ref sig .tc := ⟨.hbm, 61, rfl⟩
abbrev main_call2_c : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_c_1 : Ref sig .tc := ⟨.hbm, 68, rfl⟩
abbrev main_call2_v5 : Ref sig .tc := ⟨.hbm, 69, rfl⟩
abbrev main_call2_v6 : Ref sig .tc := ⟨.hbm, 70, rfl⟩
abbrev main_call2_c_2 : Ref sig .tc := ⟨.hbm, 71, rfl⟩
abbrev main_call2_v7 : Ref sig .tc := ⟨.hbm, 72, rfl⟩
abbrev main_call2_v8 : Ref sig .tc := ⟨.hbm, 73, rfl⟩
abbrev main_call2_c_3 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_v10 : Ref sig .tc := ⟨.hbm, 81, rfl⟩
abbrev main_v11 : Ref sig .tc := ⟨.hbm, 82, rfl⟩
abbrev main_c_5 : Ref sig .tc := ⟨.hbm, 83, rfl⟩
abbrev main_call4_v0 : Ref sig .tc := ⟨.hbm, 84, rfl⟩
abbrev main_call4_v1 : Ref sig .tc := ⟨.hbm, 85, rfl⟩
abbrev main_v12 : Ref sig .tc := ⟨.hbm, 86, rfl⟩
abbrev main_v13 : Ref sig .tc := ⟨.hbm, 87, rfl⟩
abbrev main_v14 : Ref sig .tc := ⟨.hbm, 88, rfl⟩
abbrev main_v15_0 : Ref sig .tc := ⟨.hbm, 89, rfl⟩
abbrev main_v15_1 : Ref sig .tc := ⟨.hbm, 90, rfl⟩
abbrev main_v15_2 : Ref sig .tc := ⟨.hbm, 91, rfl⟩
abbrev main_v15_3 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_18 : BitVec 32 := 0#32
  let arg1 : BitVec 32 := BitVec.ofNat 32 (i 1).val
  let c1_i32 : BitVec 32 := 1#32
  let v12 : BitVec 32 := Scalar.addi arg1 c1_i32
  let v24 : BitVec 32 := Scalar.subi v12 c0_i32_18
  let c1_i32_19 : BitVec 32 := 1#32
  let v26 : BitVec 32 := Scalar.divsi v24 c1_i32_19
  let v27 : BitVec 32 := Scalar.muli v26 c1_i32_19
  let v28 : BitVec 32 := Scalar.addi c0_i32_18 v27
  let c1_i32_20 : BitVec 32 := 1#32
  ⟨c0_i32_18, v28, c1_i32_20⟩
def k0_mult1 (i : grid0.Coords) (k0_t1 : Fin (k0_t1_loop i).trips) : BitVec 32 :=
  let c0_i32_18 : BitVec 32 := 0#32
  let c1_i32_20 : BitVec 32 := 1#32
  let arg25 : BitVec 32 := Scf.iv c0_i32_18 c1_i32_20 k0_t1
  let c256_i32_252 : BitVec 32 := 256#32
  let v352 : BitVec 32 := Scalar.muli arg25 c256_i32_252
  v352
def k0_off1 (i : grid0.Coords) (k0_t1 : Fin (k0_t1_loop i).trips) : Fin 2 → Nat :=
  let c0_i32_18 : BitVec 32 := 0#32
  let c1_i32_20 : BitVec 32 := 1#32
  let arg25 : BitVec 32 := Scf.iv c0_i32_18 c1_i32_20 k0_t1
  let c256_i32_252 : BitVec 32 := 256#32
  let v352 : BitVec 32 := Scalar.muli arg25 c256_i32_252
  let v353 : BitVec 32 := v352
  let v354 : Index := Scalar.indexCast v353
  let c0_253 : Index := 0#32
  ![v354.toNat, 0]
def k0_off2 (i : grid0.Coords) (k0_t1 : Fin (k0_t1_loop i).trips) : Fin 3 → Nat :=
  let c0_i32_18 : BitVec 32 := 0#32
  let c1_i32_20 : BitVec 32 := 1#32
  let arg25 : BitVec 32 := Scf.iv c0_i32_18 c1_i32_20 k0_t1
  let v631 : Index := Scalar.indexCast arg25
  let c0_372 : Index := 0#32
  let c0_373 : Index := 0#32
  ![v631.toNat, 0, 0]
@[reducible] def k0_t2_loop (i : grid0.Coords) : Scf.Loop 32 :=
  let c0_i32_18 : BitVec 32 := 0#32
  let arg1 : BitVec 32 := BitVec.ofNat 32 (i 1).val
  let c1_i32 : BitVec 32 := 1#32
  let v12 : BitVec 32 := Scalar.addi arg1 c1_i32
  let v24 : BitVec 32 := Scalar.subi v12 c0_i32_18
  let c1_i32_19 : BitVec 32 := 1#32
  let v26 : BitVec 32 := Scalar.divsi v24 c1_i32_19
  let v27 : BitVec 32 := Scalar.muli v26 c1_i32_19
  let v28 : BitVec 32 := Scalar.addi c0_i32_18 v27
  let v25 : BitVec 32 := Scalar.addi c0_i32_18 v24
  let c1_i32_21 : BitVec 32 := 1#32
  ⟨v28, v25, c1_i32_21⟩
def k0_mult2 (i : grid0.Coords) (k0_t2 : Fin (k0_t2_loop i).trips) : BitVec 32 :=
  let c0_i32_18 : BitVec 32 := 0#32
  let arg1 : BitVec 32 := BitVec.ofNat 32 (i 1).val
  let c1_i32 : BitVec 32 := 1#32
  let v12 : BitVec 32 := Scalar.addi arg1 c1_i32
  let v24 : BitVec 32 := Scalar.subi v12 c0_i32_18
  let c1_i32_19 : BitVec 32 := 1#32
  let v26 : BitVec 32 := Scalar.divsi v24 c1_i32_19
  let v27 : BitVec 32 := Scalar.muli v26 c1_i32_19
  let v28 : BitVec 32 := Scalar.addi c0_i32_18 v27
  let c1_i32_21 : BitVec 32 := 1#32
  let arg25 : BitVec 32 := Scf.iv v28 c1_i32_21 k0_t2
  let c256_i32_252 : BitVec 32 := 256#32
  let v352 : BitVec 32 := Scalar.muli arg25 c256_i32_252
  v352
def k0_off3 (i : grid0.Coords) (k0_t2 : Fin (k0_t2_loop i).trips) : Fin 2 → Nat :=
  let c0_i32_18 : BitVec 32 := 0#32
  let arg1 : BitVec 32 := BitVec.ofNat 32 (i 1).val
  let c1_i32 : BitVec 32 := 1#32
  let v12 : BitVec 32 := Scalar.addi arg1 c1_i32
  let v24 : BitVec 32 := Scalar.subi v12 c0_i32_18
  let c1_i32_19 : BitVec 32 := 1#32
  let v26 : BitVec 32 := Scalar.divsi v24 c1_i32_19
  let v27 : BitVec 32 := Scalar.muli v26 c1_i32_19
  let v28 : BitVec 32 := Scalar.addi c0_i32_18 v27
  let c1_i32_21 : BitVec 32 := 1#32
  let arg25 : BitVec 32 := Scf.iv v28 c1_i32_21 k0_t2
  let c256_i32_252 : BitVec 32 := 256#32
  let v352 : BitVec 32 := Scalar.muli arg25 c256_i32_252
  let v353 : BitVec 32 := v352
  let v354 : Index := Scalar.indexCast v353
  let c0_253 : Index := 0#32
  ![v354.toNat, 0]
def k0_off4 (i : grid0.Coords) (k0_t2 : Fin (k0_t2_loop i).trips) : Fin 3 → Nat :=
  let c0_i32_18 : BitVec 32 := 0#32
  let arg1 : BitVec 32 := BitVec.ofNat 32 (i 1).val
  let c1_i32 : BitVec 32 := 1#32
  let v12 : BitVec 32 := Scalar.addi arg1 c1_i32
  let v24 : BitVec 32 := Scalar.subi v12 c0_i32_18
  let c1_i32_19 : BitVec 32 := 1#32
  let v26 : BitVec 32 := Scalar.divsi v24 c1_i32_19
  let v27 : BitVec 32 := Scalar.muli v26 c1_i32_19
  let v28 : BitVec 32 := Scalar.addi c0_i32_18 v27
  let c1_i32_21 : BitVec 32 := 1#32
  let arg25 : BitVec 32 := Scf.iv v28 c1_i32_21 k0_t2
  let v631 : Index := Scalar.indexCast arg25
  let c0_372 : Index := 0#32
  let c0_373 : Index := 0#32
  ![v631.toNat, 0, 0]
def k0_cond2 (i : grid0.Coords) : BitVec 1 :=
  let arg1 : BitVec 32 := BitVec.ofNat 32 (i 1).val
  let c0_i32_24 : BitVec 32 := 0#32
  let v32 : BitVec 1 := Scalar.cmpi .sgt arg1 c0_i32_24
  let v33 : BitVec 32 := Scalar.extui v32
  let c0_i32_25 : BitVec 32 := 0#32
  let v34 : BitVec 1 := Scalar.cmpi .ne v33 c0_i32_25
  v34

@[reducible] def k0_t3_loop (i : grid0.Coords) : Scf.Loop 32 :=
  let c0_i32_253 : BitVec 32 := 0#32
  let arg1 : BitVec 32 := BitVec.ofNat 32 (i 1).val
  let c1_i32 : BitVec 32 := 1#32
  let v12 : BitVec 32 := Scalar.addi arg1 c1_i32
  let v353 : BitVec 32 := Scalar.subi v12 c0_i32_253
  let c1_i32_254 : BitVec 32 := 1#32
  let v355 : BitVec 32 := Scalar.divsi v353 c1_i32_254
  let v356 : BitVec 32 := Scalar.muli v355 c1_i32_254
  let v357 : BitVec 32 := Scalar.addi c0_i32_253 v356
  let c1_i32_255 : BitVec 32 := 1#32
  ⟨c0_i32_253, v357, c1_i32_255⟩
def k0_off5 (i : grid0.Coords) (k0_t3 : Fin (k0_t3_loop i).trips) : Fin 3 → Nat :=
  let c0_i32_253 : BitVec 32 := 0#32
  let c1_i32_255 : BitVec 32 := 1#32
  let arg25 : BitVec 32 := Scf.iv c0_i32_253 c1_i32_255 k0_t3
  let v396 : Index := Scalar.indexCast arg25
  let c0_275 : Index := 0#32
  let c0_276 : Index := 0#32
  ![v396.toNat, 0, 0]
@[reducible] def k0_t4_loop (i : grid0.Coords) : Scf.Loop 32 :=
  let c0_i32_253 : BitVec 32 := 0#32
  let arg1 : BitVec 32 := BitVec.ofNat 32 (i 1).val
  let c1_i32 : BitVec 32 := 1#32
  let v12 : BitVec 32 := Scalar.addi arg1 c1_i32
  let v353 : BitVec 32 := Scalar.subi v12 c0_i32_253
  let c1_i32_254 : BitVec 32 := 1#32
  let v355 : BitVec 32 := Scalar.divsi v353 c1_i32_254
  let v356 : BitVec 32 := Scalar.muli v355 c1_i32_254
  let v357 : BitVec 32 := Scalar.addi c0_i32_253 v356
  let v354 : BitVec 32 := Scalar.addi c0_i32_253 v353
  let c1_i32_256 : BitVec 32 := 1#32
  ⟨v357, v354, c1_i32_256⟩
def k0_off6 (i : grid0.Coords) (k0_t4 : Fin (k0_t4_loop i).trips) : Fin 3 → Nat :=
  let c0_i32_253 : BitVec 32 := 0#32
  let arg1 : BitVec 32 := BitVec.ofNat 32 (i 1).val
  let c1_i32 : BitVec 32 := 1#32
  let v12 : BitVec 32 := Scalar.addi arg1 c1_i32
  let v353 : BitVec 32 := Scalar.subi v12 c0_i32_253
  let c1_i32_254 : BitVec 32 := 1#32
  let v355 : BitVec 32 := Scalar.divsi v353 c1_i32_254
  let v356 : BitVec 32 := Scalar.muli v355 c1_i32_254
  let v357 : BitVec 32 := Scalar.addi c0_i32_253 v356
  let c1_i32_256 : BitVec 32 := 1#32
  let arg25 : BitVec 32 := Scf.iv v357 c1_i32_256 k0_t4
  let v396 : Index := Scalar.indexCast arg25
  let c0_275 : Index := 0#32
  let c0_276 : Index := 0#32
  ![v396.toNat, 0, 0]
@[reducible] def k0_t5_loop : Scf.Loop 32 :=
  let c0_i32_261 : BitVec 32 := 0#32
  let c31_i32_262 : BitVec 32 := 31#32
  let v371 : BitVec 32 := Scalar.addi c0_i32_261 c31_i32_262
  let c1_i32_263 : BitVec 32 := 1#32
  ⟨c0_i32_261, v371, c1_i32_263⟩
@[reducible] def k0_t6_loop (i : grid0.Coords) : Scf.Loop 32 :=
  let c0_i32_278 : BitVec 32 := 0#32
  let arg1 : BitVec 32 := BitVec.ofNat 32 (i 1).val
  let c1_i32 : BitVec 32 := 1#32
  let v12 : BitVec 32 := Scalar.addi arg1 c1_i32
  let v406 : BitVec 32 := Scalar.subi v12 c0_i32_278
  let c1_i32_279 : BitVec 32 := 1#32
  let v408 : BitVec 32 := Scalar.divsi v406 c1_i32_279
  let v409 : BitVec 32 := Scalar.muli v408 c1_i32_279
  let v410 : BitVec 32 := Scalar.addi c0_i32_278 v409
  let c1_i32_280 : BitVec 32 := 1#32
  ⟨c0_i32_278, v410, c1_i32_280⟩
def k0_off7 (i : grid0.Coords) (k0_t6 : Fin (k0_t6_loop i).trips) : Fin 3 → Nat :=
  let c0_i32_278 : BitVec 32 := 0#32
  let c1_i32_280 : BitVec 32 := 1#32
  let arg28 : BitVec 32 := Scf.iv c0_i32_278 c1_i32_280 k0_t6
  let v420 : Index := Scalar.indexCast arg28
  let c0_285 : Index := 0#32
  let c0_286 : Index := 0#32
  ![v420.toNat, 0, 0]
@[reducible] def k0_t7_loop (i : grid0.Coords) : Scf.Loop 32 :=
  let c0_i32_278 : BitVec 32 := 0#32
  let arg1 : BitVec 32 := BitVec.ofNat 32 (i 1).val
  let c1_i32 : BitVec 32 := 1#32
  let v12 : BitVec 32 := Scalar.addi arg1 c1_i32
  let v406 : BitVec 32 := Scalar.subi v12 c0_i32_278
  let c1_i32_279 : BitVec 32 := 1#32
  let v408 : BitVec 32 := Scalar.divsi v406 c1_i32_279
  let v409 : BitVec 32 := Scalar.muli v408 c1_i32_279
  let v410 : BitVec 32 := Scalar.addi c0_i32_278 v409
  let v407 : BitVec 32 := Scalar.addi c0_i32_278 v406
  let c1_i32_281 : BitVec 32 := 1#32
  ⟨v410, v407, c1_i32_281⟩
def k0_off8 (i : grid0.Coords) (k0_t7 : Fin (k0_t7_loop i).trips) : Fin 3 → Nat :=
  let c0_i32_278 : BitVec 32 := 0#32
  let arg1 : BitVec 32 := BitVec.ofNat 32 (i 1).val
  let c1_i32 : BitVec 32 := 1#32
  let v12 : BitVec 32 := Scalar.addi arg1 c1_i32
  let v406 : BitVec 32 := Scalar.subi v12 c0_i32_278
  let c1_i32_279 : BitVec 32 := 1#32
  let v408 : BitVec 32 := Scalar.divsi v406 c1_i32_279
  let v409 : BitVec 32 := Scalar.muli v408 c1_i32_279
  let v410 : BitVec 32 := Scalar.addi c0_i32_278 v409
  let c1_i32_281 : BitVec 32 := 1#32
  let arg28 : BitVec 32 := Scf.iv v410 c1_i32_281 k0_t7
  let v420 : Index := Scalar.indexCast arg28
  let c0_285 : Index := 0#32
  let c0_286 : Index := 0#32
  ![v420.toNat, 0, 0]
@[reducible] def k0_t8_loop (i : grid0.Coords) : Scf.Loop 32 :=
  let c0_i32_275 : BitVec 32 := 0#32
  let arg1 : BitVec 32 := BitVec.ofNat 32 (i 1).val
  let c1_i32 : BitVec 32 := 1#32
  let v12 : BitVec 32 := Scalar.addi arg1 c1_i32
  let v396 : BitVec 32 := Scalar.subi v12 c0_i32_275
  let c1_i32_276 : BitVec 32 := 1#32
  let v398 : BitVec 32 := Scalar.divsi v396 c1_i32_276
  let v399 : BitVec 32 := Scalar.muli v398 c1_i32_276
  let v400 : BitVec 32 := Scalar.addi c0_i32_275 v399
  let c1_i32_277 : BitVec 32 := 1#32
  ⟨c0_i32_275, v400, c1_i32_277⟩
def k0_off9 (i : grid0.Coords) (k0_t8 : Fin (k0_t8_loop i).trips) : Fin 3 → Nat :=
  let c0_i32_275 : BitVec 32 := 0#32
  let c1_i32_277 : BitVec 32 := 1#32
  let arg25 : BitVec 32 := Scf.iv c0_i32_275 c1_i32_277 k0_t8
  let v414 : Index := Scalar.indexCast arg25
  let c0_288 : Index := 0#32
  let c0_289 : Index := 0#32
  ![v414.toNat, 0, 0]
@[reducible] def k0_t9_loop (i : grid0.Coords) : Scf.Loop 32 :=
  let c0_i32_275 : BitVec 32 := 0#32
  let arg1 : BitVec 32 := BitVec.ofNat 32 (i 1).val
  let c1_i32 : BitVec 32 := 1#32
  let v12 : BitVec 32 := Scalar.addi arg1 c1_i32
  let v396 : BitVec 32 := Scalar.subi v12 c0_i32_275
  let c1_i32_276 : BitVec 32 := 1#32
  let v398 : BitVec 32 := Scalar.divsi v396 c1_i32_276
  let v399 : BitVec 32 := Scalar.muli v398 c1_i32_276
  let v400 : BitVec 32 := Scalar.addi c0_i32_275 v399
  let v397 : BitVec 32 := Scalar.addi c0_i32_275 v396
  let c1_i32_278 : BitVec 32 := 1#32
  ⟨v400, v397, c1_i32_278⟩
def k0_off10 (i : grid0.Coords) (k0_t9 : Fin (k0_t9_loop i).trips) : Fin 3 → Nat :=
  let c0_i32_275 : BitVec 32 := 0#32
  let arg1 : BitVec 32 := BitVec.ofNat 32 (i 1).val
  let c1_i32 : BitVec 32 := 1#32
  let v12 : BitVec 32 := Scalar.addi arg1 c1_i32
  let v396 : BitVec 32 := Scalar.subi v12 c0_i32_275
  let c1_i32_276 : BitVec 32 := 1#32
  let v398 : BitVec 32 := Scalar.divsi v396 c1_i32_276
  let v399 : BitVec 32 := Scalar.muli v398 c1_i32_276
  let v400 : BitVec 32 := Scalar.addi c0_i32_275 v399
  let c1_i32_278 : BitVec 32 := 1#32
  let arg25 : BitVec 32 := Scf.iv v400 c1_i32_278 k0_t9
  let v414 : Index := Scalar.indexCast arg25
  let c0_288 : Index := 0#32
  let c0_289 : Index := 0#32
  ![v414.toNat, 0, 0]
@[reducible] def k0_t10_loop : Scf.Loop 32 :=
  let c0_i32_282 : BitVec 32 := 0#32
  let c11_i32 : BitVec 32 := 11#32
  let v408 : BitVec 32 := Scalar.addi c0_i32_282 c11_i32
  let c1_i32_283 : BitVec 32 := 1#32
  ⟨c0_i32_282, v408, c1_i32_283⟩
@[reducible] def k0_t11_loop (i : grid0.Coords) : Scf.Loop 32 :=
  let c0_i32_289 : BitVec 32 := 0#32
  let arg1 : BitVec 32 := BitVec.ofNat 32 (i 1).val
  let c1_i32 : BitVec 32 := 1#32
  let v12 : BitVec 32 := Scalar.addi arg1 c1_i32
  let v418 : BitVec 32 := Scalar.subi v12 c0_i32_289
  let c1_i32_290 : BitVec 32 := 1#32
  let v420 : BitVec 32 := Scalar.divsi v418 c1_i32_290
  let v421 : BitVec 32 := Scalar.muli v420 c1_i32_290
  let v422 : BitVec 32 := Scalar.addi c0_i32_289 v421
  let c1_i32_291 : BitVec 32 := 1#32
  ⟨c0_i32_289, v422, c1_i32_291⟩
def k0_off11 (i : grid0.Coords) (k0_t11 : Fin (k0_t11_loop i).trips) : Fin 3 → Nat :=
  let c0_i32_289 : BitVec 32 := 0#32
  let c1_i32_291 : BitVec 32 := 1#32
  let arg27 : BitVec 32 := Scf.iv c0_i32_289 c1_i32_291 k0_t11
  let v430 : Index := Scalar.indexCast arg27
  let c0_295 : Index := 0#32
  let c0_296 : Index := 0#32
  ![v430.toNat, 0, 0]
@[reducible] def k0_t12_loop (i : grid0.Coords) : Scf.Loop 32 :=
  let c0_i32_289 : BitVec 32 := 0#32
  let arg1 : BitVec 32 := BitVec.ofNat 32 (i 1).val
  let c1_i32 : BitVec 32 := 1#32
  let v12 : BitVec 32 := Scalar.addi arg1 c1_i32
  let v418 : BitVec 32 := Scalar.subi v12 c0_i32_289
  let c1_i32_290 : BitVec 32 := 1#32
  let v420 : BitVec 32 := Scalar.divsi v418 c1_i32_290
  let v421 : BitVec 32 := Scalar.muli v420 c1_i32_290
  let v422 : BitVec 32 := Scalar.addi c0_i32_289 v421
  let v419 : BitVec 32 := Scalar.addi c0_i32_289 v418
  let c1_i32_292 : BitVec 32 := 1#32
  ⟨v422, v419, c1_i32_292⟩
def k0_off12 (i : grid0.Coords) (k0_t12 : Fin (k0_t12_loop i).trips) : Fin 3 → Nat :=
  let c0_i32_289 : BitVec 32 := 0#32
  let arg1 : BitVec 32 := BitVec.ofNat 32 (i 1).val
  let c1_i32 : BitVec 32 := 1#32
  let v12 : BitVec 32 := Scalar.addi arg1 c1_i32
  let v418 : BitVec 32 := Scalar.subi v12 c0_i32_289
  let c1_i32_290 : BitVec 32 := 1#32
  let v420 : BitVec 32 := Scalar.divsi v418 c1_i32_290
  let v421 : BitVec 32 := Scalar.muli v420 c1_i32_290
  let v422 : BitVec 32 := Scalar.addi c0_i32_289 v421
  let c1_i32_292 : BitVec 32 := 1#32
  let arg27 : BitVec 32 := Scf.iv v422 c1_i32_292 k0_t12
  let v430 : Index := Scalar.indexCast arg27
  let c0_295 : Index := 0#32
  let c0_296 : Index := 0#32
  ![v430.toNat, 0, 0]
@[reducible] def k0_t13_loop (i : grid0.Coords) : Scf.Loop 32 :=
  let c0_i32_30 : BitVec 32 := 0#32
  let arg1 : BitVec 32 := BitVec.ofNat 32 (i 1).val
  let c1_i32 : BitVec 32 := 1#32
  let v12 : BitVec 32 := Scalar.addi arg1 c1_i32
  let v43 : BitVec 32 := Scalar.subi v12 c0_i32_30
  let c1_i32_31 : BitVec 32 := 1#32
  let v45 : BitVec 32 := Scalar.divsi v43 c1_i32_31
  let v46 : BitVec 32 := Scalar.muli v45 c1_i32_31
  let v47 : BitVec 32 := Scalar.addi c0_i32_30 v46
  let c1_i32_32 : BitVec 32 := 1#32
  ⟨c0_i32_30, v47, c1_i32_32⟩
def k0_off13 (i : grid0.Coords) (k0_t13 : Fin (k0_t13_loop i).trips) : Fin 3 → Nat :=
  let c0_i32_30 : BitVec 32 := 0#32
  let c1_i32_32 : BitVec 32 := 1#32
  let arg25 : BitVec 32 := Scf.iv c0_i32_30 c1_i32_32 k0_t13
  let v353 : Index := Scalar.indexCast arg25
  let c0_253 : Index := 0#32
  let c0_254 : Index := 0#32
  ![v353.toNat, 0, 0]
@[reducible] def k0_t14_loop (i : grid0.Coords) : Scf.Loop 32 :=
  let c0_i32_30 : BitVec 32 := 0#32
  let arg1 : BitVec 32 := BitVec.ofNat 32 (i 1).val
  let c1_i32 : BitVec 32 := 1#32
  let v12 : BitVec 32 := Scalar.addi arg1 c1_i32
  let v43 : BitVec 32 := Scalar.subi v12 c0_i32_30
  let c1_i32_31 : BitVec 32 := 1#32
  let v45 : BitVec 32 := Scalar.divsi v43 c1_i32_31
  let v46 : BitVec 32 := Scalar.muli v45 c1_i32_31
  let v47 : BitVec 32 := Scalar.addi c0_i32_30 v46
  let v44 : BitVec 32 := Scalar.addi c0_i32_30 v43
  let c1_i32_33 : BitVec 32 := 1#32
  ⟨v47, v44, c1_i32_33⟩
def k0_off14 (i : grid0.Coords) (k0_t14 : Fin (k0_t14_loop i).trips) : Fin 3 → Nat :=
  let c0_i32_30 : BitVec 32 := 0#32
  let arg1 : BitVec 32 := BitVec.ofNat 32 (i 1).val
  let c1_i32 : BitVec 32 := 1#32
  let v12 : BitVec 32 := Scalar.addi arg1 c1_i32
  let v43 : BitVec 32 := Scalar.subi v12 c0_i32_30
  let c1_i32_31 : BitVec 32 := 1#32
  let v45 : BitVec 32 := Scalar.divsi v43 c1_i32_31
  let v46 : BitVec 32 := Scalar.muli v45 c1_i32_31
  let v47 : BitVec 32 := Scalar.addi c0_i32_30 v46
  let c1_i32_33 : BitVec 32 := 1#32
  let arg25 : BitVec 32 := Scf.iv v47 c1_i32_33 k0_t14
  let v353 : Index := Scalar.indexCast arg25
  let c0_253 : Index := 0#32
  let c0_254 : Index := 0#32
  ![v353.toNat, 0, 0]
@[reducible] def k0_t15_loop (i : grid0.Coords) : Scf.Loop 32 :=
  let c0_i32_196 : BitVec 32 := 0#32
  let arg1 : BitVec 32 := BitVec.ofNat 32 (i 1).val
  let c1_i32 : BitVec 32 := 1#32
  let v12 : BitVec 32 := Scalar.addi arg1 c1_i32
  let v263 : BitVec 32 := Scalar.subi v12 c0_i32_196
  let c1_i32_197 : BitVec 32 := 1#32
  let v265 : BitVec 32 := Scalar.divsi v263 c1_i32_197
  let v266 : BitVec 32 := Scalar.muli v265 c1_i32_197
  let v267 : BitVec 32 := Scalar.addi c0_i32_196 v266
  let c1_i32_198 : BitVec 32 := 1#32
  ⟨c0_i32_196, v267, c1_i32_198⟩
def k0_mult3 (i : grid0.Coords) (k0_t15 : Fin (k0_t15_loop i).trips) : BitVec 32 :=
  let c0_i32_196 : BitVec 32 := 0#32
  let c1_i32_198 : BitVec 32 := 1#32
  let arg25 : BitVec 32 := Scf.iv c0_i32_196 c1_i32_198 k0_t15
  let c256_i32_252 : BitVec 32 := 256#32
  let v352 : BitVec 32 := Scalar.muli arg25 c256_i32_252
  v352
def k0_off15 (i : grid0.Coords) (k0_t15 : Fin (k0_t15_loop i).trips) : Fin 2 → Nat :=
  let c0_i32_196 : BitVec 32 := 0#32
  let c1_i32_198 : BitVec 32 := 1#32
  let arg25 : BitVec 32 := Scf.iv c0_i32_196 c1_i32_198 k0_t15
  let c256_i32_252 : BitVec 32 := 256#32
  let v352 : BitVec 32 := Scalar.muli arg25 c256_i32_252
  let v353 : BitVec 32 := v352
  let v354 : Index := Scalar.indexCast v353
  let c0_253 : Index := 0#32
  ![v354.toNat, 0]
def k0_off16 (i : grid0.Coords) (k0_t15 : Fin (k0_t15_loop i).trips) : Fin 3 → Nat :=
  let c0_i32_196 : BitVec 32 := 0#32
  let c1_i32_198 : BitVec 32 := 1#32
  let arg25 : BitVec 32 := Scf.iv c0_i32_196 c1_i32_198 k0_t15
  let v357 : Index := Scalar.indexCast arg25
  let c0_254 : Index := 0#32
  let c0_255 : Index := 0#32
  ![v357.toNat, 0, 0]
def k0_off17 (i : grid0.Coords) (k0_t15 : Fin (k0_t15_loop i).trips) : Fin 2 → Nat :=
  let c0_i32_196 : BitVec 32 := 0#32
  let c1_i32_198 : BitVec 32 := 1#32
  let arg25 : BitVec 32 := Scf.iv c0_i32_196 c1_i32_198 k0_t15
  let c256_i32_252 : BitVec 32 := 256#32
  let v352 : BitVec 32 := Scalar.muli arg25 c256_i32_252
  let v353 : BitVec 32 := v352
  let v361 : Index := Scalar.indexCast v353
  let c0_256 : Index := 0#32
  ![v361.toNat, 0]
def k0_off18 (i : grid0.Coords) (k0_t15 : Fin (k0_t15_loop i).trips) : Fin 2 → Nat :=
  let c0_i32_196 : BitVec 32 := 0#32
  let c1_i32_198 : BitVec 32 := 1#32
  let arg25 : BitVec 32 := Scf.iv c0_i32_196 c1_i32_198 k0_t15
  let c256_i32_252 : BitVec 32 := 256#32
  let v352 : BitVec 32 := Scalar.muli arg25 c256_i32_252
  let v353 : BitVec 32 := v352
  let v368 : Index := Scalar.indexCast v353
  let c128_261 : Index := 128#32
  ![v368.toNat, 128]
def k0_off19 (i : grid0.Coords) (k0_t15 : Fin (k0_t15_loop i).trips) : Fin 2 → Nat :=
  let c0_i32_196 : BitVec 32 := 0#32
  let c1_i32_198 : BitVec 32 := 1#32
  let arg25 : BitVec 32 := Scf.iv c0_i32_196 c1_i32_198 k0_t15
  let c256_i32_252 : BitVec 32 := 256#32
  let v352 : BitVec 32 := Scalar.muli arg25 c256_i32_252
  let v353 : BitVec 32 := v352
  let v375 : Index := Scalar.indexCast v353
  let c256_266 : Index := 256#32
  ![v375.toNat, 256]
def k0_off20 (i : grid0.Coords) (k0_t15 : Fin (k0_t15_loop i).trips) : Fin 2 → Nat :=
  let c0_i32_196 : BitVec 32 := 0#32
  let c1_i32_198 : BitVec 32 := 1#32
  let arg25 : BitVec 32 := Scf.iv c0_i32_196 c1_i32_198 k0_t15
  let c256_i32_252 : BitVec 32 := 256#32
  let v352 : BitVec 32 := Scalar.muli arg25 c256_i32_252
  let v353 : BitVec 32 := v352
  let v382 : Index := Scalar.indexCast v353
  let c384_271 : Index := 384#32
  ![v382.toNat, 384]
def k0_off21 (i : grid0.Coords) (k0_t15 : Fin (k0_t15_loop i).trips) : Fin 3 → Nat :=
  let c0_i32_196 : BitVec 32 := 0#32
  let c1_i32_198 : BitVec 32 := 1#32
  let arg25 : BitVec 32 := Scf.iv c0_i32_196 c1_i32_198 k0_t15
  let v389 : Index := Scalar.indexCast arg25
  let c0_276 : Index := 0#32
  let c0_277 : Index := 0#32
  ![v389.toNat, 0, 0]
def k0_off22 (i : grid0.Coords) (k0_t15 : Fin (k0_t15_loop i).trips) : Fin 3 → Nat :=
  let c0_i32_196 : BitVec 32 := 0#32
  let c1_i32_198 : BitVec 32 := 1#32
  let arg25 : BitVec 32 := Scf.iv c0_i32_196 c1_i32_198 k0_t15
  let v452 : Index := Scalar.indexCast arg25
  let c128_295 : Index := 128#32
  let c0_296 : Index := 0#32
  ![v452.toNat, 128, 0]
def k0_off23 (i : grid0.Coords) (k0_t15 : Fin (k0_t15_loop i).trips) : Fin 3 → Nat :=
  let c0_i32_196 : BitVec 32 := 0#32
  let c1_i32_198 : BitVec 32 := 1#32
  let arg25 : BitVec 32 := Scf.iv c0_i32_196 c1_i32_198 k0_t15
  let v515 : Index := Scalar.indexCast arg25
  let c256_314 : Index := 256#32
  let c0_315 : Index := 0#32
  ![v515.toNat, 256, 0]
def k0_off24 (i : grid0.Coords) (k0_t15 : Fin (k0_t15_loop i).trips) : Fin 3 → Nat :=
  let c0_i32_196 : BitVec 32 := 0#32
  let c1_i32_198 : BitVec 32 := 1#32
  let arg25 : BitVec 32 := Scf.iv c0_i32_196 c1_i32_198 k0_t15
  let v578 : Index := Scalar.indexCast arg25
  let c384_333 : Index := 384#32
  let c0_334 : Index := 0#32
  ![v578.toNat, 384, 0]
@[reducible] def k0_t16_loop (i : grid0.Coords) : Scf.Loop 32 :=
  let c0_i32_196 : BitVec 32 := 0#32
  let arg1 : BitVec 32 := BitVec.ofNat 32 (i 1).val
  let c1_i32 : BitVec 32 := 1#32
  let v12 : BitVec 32 := Scalar.addi arg1 c1_i32
  let v263 : BitVec 32 := Scalar.subi v12 c0_i32_196
  let c1_i32_197 : BitVec 32 := 1#32
  let v265 : BitVec 32 := Scalar.divsi v263 c1_i32_197
  let v266 : BitVec 32 := Scalar.muli v265 c1_i32_197
  let v267 : BitVec 32 := Scalar.addi c0_i32_196 v266
  let v264 : BitVec 32 := Scalar.addi c0_i32_196 v263
  let c1_i32_199 : BitVec 32 := 1#32
  ⟨v267, v264, c1_i32_199⟩
def k0_mult4 (i : grid0.Coords) (k0_t16 : Fin (k0_t16_loop i).trips) : BitVec 32 :=
  let c0_i32_196 : BitVec 32 := 0#32
  let arg1 : BitVec 32 := BitVec.ofNat 32 (i 1).val
  let c1_i32 : BitVec 32 := 1#32
  let v12 : BitVec 32 := Scalar.addi arg1 c1_i32
  let v263 : BitVec 32 := Scalar.subi v12 c0_i32_196
  let c1_i32_197 : BitVec 32 := 1#32
  let v265 : BitVec 32 := Scalar.divsi v263 c1_i32_197
  let v266 : BitVec 32 := Scalar.muli v265 c1_i32_197
  let v267 : BitVec 32 := Scalar.addi c0_i32_196 v266
  let c1_i32_199 : BitVec 32 := 1#32
  let arg25 : BitVec 32 := Scf.iv v267 c1_i32_199 k0_t16
  let c256_i32_252 : BitVec 32 := 256#32
  let v352 : BitVec 32 := Scalar.muli arg25 c256_i32_252
  v352
def k0_off25 (i : grid0.Coords) (k0_t16 : Fin (k0_t16_loop i).trips) : Fin 2 → Nat :=
  let c0_i32_196 : BitVec 32 := 0#32
  let arg1 : BitVec 32 := BitVec.ofNat 32 (i 1).val
  let c1_i32 : BitVec 32 := 1#32
  let v12 : BitVec 32 := Scalar.addi arg1 c1_i32
  let v263 : BitVec 32 := Scalar.subi v12 c0_i32_196
  let c1_i32_197 : BitVec 32 := 1#32
  let v265 : BitVec 32 := Scalar.divsi v263 c1_i32_197
  let v266 : BitVec 32 := Scalar.muli v265 c1_i32_197
  let v267 : BitVec 32 := Scalar.addi c0_i32_196 v266
  let c1_i32_199 : BitVec 32 := 1#32
  let arg25 : BitVec 32 := Scf.iv v267 c1_i32_199 k0_t16
  let c256_i32_252 : BitVec 32 := 256#32
  let v352 : BitVec 32 := Scalar.muli arg25 c256_i32_252
  let v353 : BitVec 32 := v352
  let v354 : Index := Scalar.indexCast v353
  let c0_253 : Index := 0#32
  ![v354.toNat, 0]
def k0_off26 (i : grid0.Coords) (k0_t16 : Fin (k0_t16_loop i).trips) : Fin 3 → Nat :=
  let c0_i32_196 : BitVec 32 := 0#32
  let arg1 : BitVec 32 := BitVec.ofNat 32 (i 1).val
  let c1_i32 : BitVec 32 := 1#32
  let v12 : BitVec 32 := Scalar.addi arg1 c1_i32
  let v263 : BitVec 32 := Scalar.subi v12 c0_i32_196
  let c1_i32_197 : BitVec 32 := 1#32
  let v265 : BitVec 32 := Scalar.divsi v263 c1_i32_197
  let v266 : BitVec 32 := Scalar.muli v265 c1_i32_197
  let v267 : BitVec 32 := Scalar.addi c0_i32_196 v266
  let c1_i32_199 : BitVec 32 := 1#32
  let arg25 : BitVec 32 := Scf.iv v267 c1_i32_199 k0_t16
  let v357 : Index := Scalar.indexCast arg25
  let c0_254 : Index := 0#32
  let c0_255 : Index := 0#32
  ![v357.toNat, 0, 0]
def k0_off27 (i : grid0.Coords) (k0_t16 : Fin (k0_t16_loop i).trips) : Fin 2 → Nat :=
  let c0_i32_196 : BitVec 32 := 0#32
  let arg1 : BitVec 32 := BitVec.ofNat 32 (i 1).val
  let c1_i32 : BitVec 32 := 1#32
  let v12 : BitVec 32 := Scalar.addi arg1 c1_i32
  let v263 : BitVec 32 := Scalar.subi v12 c0_i32_196
  let c1_i32_197 : BitVec 32 := 1#32
  let v265 : BitVec 32 := Scalar.divsi v263 c1_i32_197
  let v266 : BitVec 32 := Scalar.muli v265 c1_i32_197
  let v267 : BitVec 32 := Scalar.addi c0_i32_196 v266
  let c1_i32_199 : BitVec 32 := 1#32
  let arg25 : BitVec 32 := Scf.iv v267 c1_i32_199 k0_t16
  let c256_i32_252 : BitVec 32 := 256#32
  let v352 : BitVec 32 := Scalar.muli arg25 c256_i32_252
  let v353 : BitVec 32 := v352
  let v361 : Index := Scalar.indexCast v353
  let c0_256 : Index := 0#32
  ![v361.toNat, 0]
def k0_off28 (i : grid0.Coords) (k0_t16 : Fin (k0_t16_loop i).trips) : Fin 2 → Nat :=
  let c0_i32_196 : BitVec 32 := 0#32
  let arg1 : BitVec 32 := BitVec.ofNat 32 (i 1).val
  let c1_i32 : BitVec 32 := 1#32
  let v12 : BitVec 32 := Scalar.addi arg1 c1_i32
  let v263 : BitVec 32 := Scalar.subi v12 c0_i32_196
  let c1_i32_197 : BitVec 32 := 1#32
  let v265 : BitVec 32 := Scalar.divsi v263 c1_i32_197
  let v266 : BitVec 32 := Scalar.muli v265 c1_i32_197
  let v267 : BitVec 32 := Scalar.addi c0_i32_196 v266
  let c1_i32_199 : BitVec 32 := 1#32
  let arg25 : BitVec 32 := Scf.iv v267 c1_i32_199 k0_t16
  let c256_i32_252 : BitVec 32 := 256#32
  let v352 : BitVec 32 := Scalar.muli arg25 c256_i32_252
  let v353 : BitVec 32 := v352
  let v368 : Index := Scalar.indexCast v353
  let c128_261 : Index := 128#32
  ![v368.toNat, 128]
def k0_off29 (i : grid0.Coords) (k0_t16 : Fin (k0_t16_loop i).trips) : Fin 2 → Nat :=
  let c0_i32_196 : BitVec 32 := 0#32
  let arg1 : BitVec 32 := BitVec.ofNat 32 (i 1).val
  let c1_i32 : BitVec 32 := 1#32
  let v12 : BitVec 32 := Scalar.addi arg1 c1_i32
  let v263 : BitVec 32 := Scalar.subi v12 c0_i32_196
  let c1_i32_197 : BitVec 32 := 1#32
  let v265 : BitVec 32 := Scalar.divsi v263 c1_i32_197
  let v266 : BitVec 32 := Scalar.muli v265 c1_i32_197
  let v267 : BitVec 32 := Scalar.addi c0_i32_196 v266
  let c1_i32_199 : BitVec 32 := 1#32
  let arg25 : BitVec 32 := Scf.iv v267 c1_i32_199 k0_t16
  let c256_i32_252 : BitVec 32 := 256#32
  let v352 : BitVec 32 := Scalar.muli arg25 c256_i32_252
  let v353 : BitVec 32 := v352
  let v375 : Index := Scalar.indexCast v353
  let c256_266 : Index := 256#32
  ![v375.toNat, 256]
def k0_off30 (i : grid0.Coords) (k0_t16 : Fin (k0_t16_loop i).trips) : Fin 2 → Nat :=
  let c0_i32_196 : BitVec 32 := 0#32
  let arg1 : BitVec 32 := BitVec.ofNat 32 (i 1).val
  let c1_i32 : BitVec 32 := 1#32
  let v12 : BitVec 32 := Scalar.addi arg1 c1_i32
  let v263 : BitVec 32 := Scalar.subi v12 c0_i32_196
  let c1_i32_197 : BitVec 32 := 1#32
  let v265 : BitVec 32 := Scalar.divsi v263 c1_i32_197
  let v266 : BitVec 32 := Scalar.muli v265 c1_i32_197
  let v267 : BitVec 32 := Scalar.addi c0_i32_196 v266
  let c1_i32_199 : BitVec 32 := 1#32
  let arg25 : BitVec 32 := Scf.iv v267 c1_i32_199 k0_t16
  let c256_i32_252 : BitVec 32 := 256#32
  let v352 : BitVec 32 := Scalar.muli arg25 c256_i32_252
  let v353 : BitVec 32 := v352
  let v382 : Index := Scalar.indexCast v353
  let c384_271 : Index := 384#32
  ![v382.toNat, 384]
def k0_off31 (i : grid0.Coords) (k0_t16 : Fin (k0_t16_loop i).trips) : Fin 3 → Nat :=
  let c0_i32_196 : BitVec 32 := 0#32
  let arg1 : BitVec 32 := BitVec.ofNat 32 (i 1).val
  let c1_i32 : BitVec 32 := 1#32
  let v12 : BitVec 32 := Scalar.addi arg1 c1_i32
  let v263 : BitVec 32 := Scalar.subi v12 c0_i32_196
  let c1_i32_197 : BitVec 32 := 1#32
  let v265 : BitVec 32 := Scalar.divsi v263 c1_i32_197
  let v266 : BitVec 32 := Scalar.muli v265 c1_i32_197
  let v267 : BitVec 32 := Scalar.addi c0_i32_196 v266
  let c1_i32_199 : BitVec 32 := 1#32
  let arg25 : BitVec 32 := Scf.iv v267 c1_i32_199 k0_t16
  let v389 : Index := Scalar.indexCast arg25
  let c0_276 : Index := 0#32
  let c0_277 : Index := 0#32
  ![v389.toNat, 0, 0]
def k0_off32 (i : grid0.Coords) (k0_t16 : Fin (k0_t16_loop i).trips) : Fin 3 → Nat :=
  let c0_i32_196 : BitVec 32 := 0#32
  let arg1 : BitVec 32 := BitVec.ofNat 32 (i 1).val
  let c1_i32 : BitVec 32 := 1#32
  let v12 : BitVec 32 := Scalar.addi arg1 c1_i32
  let v263 : BitVec 32 := Scalar.subi v12 c0_i32_196
  let c1_i32_197 : BitVec 32 := 1#32
  let v265 : BitVec 32 := Scalar.divsi v263 c1_i32_197
  let v266 : BitVec 32 := Scalar.muli v265 c1_i32_197
  let v267 : BitVec 32 := Scalar.addi c0_i32_196 v266
  let c1_i32_199 : BitVec 32 := 1#32
  let arg25 : BitVec 32 := Scf.iv v267 c1_i32_199 k0_t16
  let v452 : Index := Scalar.indexCast arg25
  let c128_295 : Index := 128#32
  let c0_296 : Index := 0#32
  ![v452.toNat, 128, 0]
def k0_off33 (i : grid0.Coords) (k0_t16 : Fin (k0_t16_loop i).trips) : Fin 3 → Nat :=
  let c0_i32_196 : BitVec 32 := 0#32
  let arg1 : BitVec 32 := BitVec.ofNat 32 (i 1).val
  let c1_i32 : BitVec 32 := 1#32
  let v12 : BitVec 32 := Scalar.addi arg1 c1_i32
  let v263 : BitVec 32 := Scalar.subi v12 c0_i32_196
  let c1_i32_197 : BitVec 32 := 1#32
  let v265 : BitVec 32 := Scalar.divsi v263 c1_i32_197
  let v266 : BitVec 32 := Scalar.muli v265 c1_i32_197
  let v267 : BitVec 32 := Scalar.addi c0_i32_196 v266
  let c1_i32_199 : BitVec 32 := 1#32
  let arg25 : BitVec 32 := Scf.iv v267 c1_i32_199 k0_t16
  let v515 : Index := Scalar.indexCast arg25
  let c256_314 : Index := 256#32
  let c0_315 : Index := 0#32
  ![v515.toNat, 256, 0]
def k0_off34 (i : grid0.Coords) (k0_t16 : Fin (k0_t16_loop i).trips) : Fin 3 → Nat :=
  let c0_i32_196 : BitVec 32 := 0#32
  let arg1 : BitVec 32 := BitVec.ofNat 32 (i 1).val
  let c1_i32 : BitVec 32 := 1#32
  let v12 : BitVec 32 := Scalar.addi arg1 c1_i32
  let v263 : BitVec 32 := Scalar.subi v12 c0_i32_196
  let c1_i32_197 : BitVec 32 := 1#32
  let v265 : BitVec 32 := Scalar.divsi v263 c1_i32_197
  let v266 : BitVec 32 := Scalar.muli v265 c1_i32_197
  let v267 : BitVec 32 := Scalar.addi c0_i32_196 v266
  let c1_i32_199 : BitVec 32 := 1#32
  let arg25 : BitVec 32 := Scf.iv v267 c1_i32_199 k0_t16
  let v578 : Index := Scalar.indexCast arg25
  let c384_333 : Index := 384#32
  let c0_334 : Index := 0#32
  ![v578.toNat, 384, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Kernel2.lean ====
abbrev S4x2048x4096 : Shape := ⟨3, ![4, 2048, 4096]⟩
abbrev S8x24576 : Shape := ⟨2, ![8, 24576]⟩
abbrev S4x2048x11008 : Shape := ⟨3, ![4, 2048, 11008]⟩
abbrev S1x11008x4096 : Shape := ⟨3, ![1, 11008, 4096]⟩
abbrev S8192x4096 : Shape := ⟨2, ![8192, 4096]⟩
abbrev S8x1x24576 : Shape := ⟨3, ![8, 1, 24576]⟩
abbrev S8192x11008 : Shape := ⟨2, ![8192, 11008]⟩
abbrev S11008x4096 : Shape := ⟨2, ![11008, 4096]⟩
abbrev S1024x5504 : Shape := ⟨2, ![1024, 5504]⟩
abbrev S5504x512 : Shape := ⟨2, ![5504, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 11
  | .vmem => 20
  | .smem => 0
  | _ => 0

abbrev bufTy : (tb : Table) → Fin (tcTables nBuf tb) → BufTy
  | .hbm, ⟨0, _⟩ => ⟨S4x2048x4096, .f32⟩
  | .hbm, ⟨1, _⟩ => ⟨S8x24576, .f32⟩
  | .hbm, ⟨2, _⟩ => ⟨S4x2048x11008, .bf16⟩
  | .hbm, ⟨3, _⟩ => ⟨S1x11008x4096, .f32⟩
  | .hbm, ⟨4, _⟩ => ⟨S8192x4096, .f32⟩
  | .hbm, ⟨5, _⟩ => ⟨S8x1x24576, .f32⟩
  | .hbm, ⟨6, _⟩ => ⟨S8192x11008, .bf16⟩
  | .hbm, ⟨7, _⟩ => ⟨S11008x4096, .f32⟩
  | .hbm, ⟨8, _⟩ => ⟨S11008x4096, .bf16⟩
  | .hbm, ⟨9, _⟩ => ⟨S8192x4096, .f32⟩
  | .hbm, ⟨10, _⟩ => ⟨S8192x4096, .f32⟩
  | .local _ .vmem, ⟨0, _⟩ => ⟨S1024x5504, .bf16⟩
  | .local _ .vmem, ⟨1, _⟩ => ⟨S1024x5504, .bf16⟩
  | .local _ .vmem, ⟨2, _⟩ => ⟨S5504x512, .bf16⟩
  | .local _ .vmem, ⟨3, _⟩ => ⟨S5504x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S1024x5504, .bf16⟩
  | .local _ .vmem, ⟨11, _⟩ => ⟨S1024x5504, .bf16⟩
  | .local _ .vmem, ⟨12, _⟩ => ⟨S5504x512, .bf16⟩
  | .local _ .vmem, ⟨13, _⟩ => ⟨S5504x512, .bf16⟩
  | .local _ .vmem, ⟨14, _⟩ => ⟨S1024x512, .f32⟩
  | .local _ .vmem, ⟨15, _⟩ => ⟨S1024x512, .f32⟩
  | .local _ .vmem, ⟨16, _⟩ => ⟨S1x1x512, .f32⟩
  | .local _ .vmem, ⟨17, _⟩ => ⟨S1x1x512, .f32⟩
  | .local _ .vmem, ⟨18, _⟩ => ⟨S1024x512, .f32⟩
  | .local _ .vmem, ⟨19, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c40_i32 : BitVec 32 := 40#32
  let v17 : BitVec 32 := Scalar.addi c40_i32 arg1
  let c0_i32_4 : BitVec 32 := 0#32
  let c0_i32_5 : BitVec 32 := 0#32
  ![v16.toNat, c0_i32_4.toNat, v17.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c40_i32 : BitVec 32 := 40#32
  let v17 : BitVec 32 := Scalar.addi c40_i32 arg1
  let c0_i32_4 : BitVec 32 := 0#32
  let c0_i32_5 : BitVec 32 := 0#32
  ![v16.toNat, c0_i32_4.toNat, v17.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x5504 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S5504x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== Reference2Ideal.lean ====
abbrev S4x2048x4096 : Shape := ⟨3, ![4, 2048, 4096]⟩
abbrev S8x24576 : Shape := ⟨2, ![8, 24576]⟩
abbrev S4x2048x11008 : Shape := ⟨3, ![4, 2048, 11008]⟩
abbrev S1x11008x4096 : Shape := ⟨3, ![1, 11008, 4096]⟩
abbrev S4x24576 : Shape := ⟨2, ![4, 24576]⟩
abbrev S4x4096 : Shape := ⟨2, ![4, 4096]⟩
abbrev S4x1x4096 : Shape := ⟨3, ![4, 1, 4096]⟩
abbrev S11008x4096 : Shape := ⟨2, ![11008, 4096]⟩
abbrev S8192x4096 : Shape := ⟨2, ![8192, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x24576, .f32⟩
  | .hbm, ⟨2, _⟩ => ⟨S4x2048x11008, .bf16⟩
  | .hbm, ⟨3, _⟩ => ⟨S1x11008x4096, .f32⟩
  | .hbm, ⟨4, _⟩ => ⟨S4x24576, .f32⟩
  | .hbm, ⟨5, _⟩ => ⟨S4x4096, .f32⟩
  | .hbm, ⟨6, _⟩ => ⟨S4x4096, .f32⟩
  | .hbm, ⟨7, _⟩ => ⟨S4x4096, .f32⟩
  | .hbm, ⟨8, _⟩ => ⟨S4x4096, .f32⟩
  | .hbm, ⟨9, _⟩ => ⟨S4x4096, .f32⟩
  | .hbm, ⟨10, _⟩ => ⟨S4x4096, .f32⟩
  | .hbm, ⟨11, _⟩ => ⟨S4x1x4096, .f32⟩
  | .hbm, ⟨12, _⟩ => ⟨S4x1x4096, .f32⟩
  | .hbm, ⟨13, _⟩ => ⟨S4x1x4096, .f32⟩
  | .hbm, ⟨14, _⟩ => ⟨S4x1x4096, .f32⟩
  | .hbm, ⟨15, _⟩ => ⟨S4x1x4096, .f32⟩
  | .hbm, ⟨16, _⟩ => ⟨S4x1x4096, .f32⟩
  | .hbm, ⟨17, _⟩ => ⟨S4x2048x11008, .f32⟩
  | .hbm, ⟨18, _⟩ => ⟨S11008x4096, .f32⟩
  | .hbm, ⟨19, _⟩ => ⟨S4x2048x4096, .f32⟩
  | .hbm, ⟨20, _⟩ => ⟨S4x2048x4096, .f32⟩
  | .hbm, ⟨21, _⟩ => ⟨S4x2048x4096, .f32⟩
  | .hbm, ⟨22, _⟩ => ⟨S4x2048x4096, .f32⟩
  | .hbm, ⟨23, _⟩ => ⟨S8192x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Kernel3.lean ====
abbrev S4x2048x4096 : Shape := ⟨3, ![4, 2048, 4096]⟩
abbrev S1x4096x22016 : Shape := ⟨3, ![1, 4096, 22016]⟩
abbrev S1x3x22016 : Shape := ⟨3, ![1, 3, 22016]⟩
abbrev S1x22016 : Shape := ⟨2, ![1, 22016]⟩
abbrev S1x11008x4096 : Shape := ⟨3, ![1, 11008, 4096]⟩
abbrev S8192x4096 : Shape := ⟨2, ![8192, 4096]⟩
abbrev S1x1x22016 : Shape := ⟨3, ![1, 1, 22016]⟩
abbrev S8192x11008 : Shape := ⟨2, ![8192, 11008]⟩
abbrev S11008x4096 : Shape := ⟨2, ![11008, 4096]⟩
abbrev S2048x4096 : Shape := ⟨2, ![2048, 4096]⟩
abbrev S1x4096x256 : Shape := ⟨3, ![1, 4096, 256]⟩
abbrev S1x3x256 : Shape := ⟨3, ![1, 3, 256]⟩
abbrev S1x1x256 : Shape := ⟨3, ![1, 1, 256]⟩
abbrev S1x64x4096 : Shape := ⟨3, ![1, 64, 4096]⟩
abbrev S2048x256 : Shape := ⟨2, ![2048, 256]⟩
abbrev S64x4096 : Shape := ⟨2, ![64, 4096]⟩
abbrev S4096x256 : Shape := ⟨2, ![4096, 256]⟩
abbrev S8x256 : Shape := ⟨2, ![8, 256]⟩
abbrev S512x4096 : Shape := ⟨2, ![512, 4096]⟩
abbrev S512x256 : Shape := ⟨2, ![512, 256]⟩
abbrev S520x256 : Shape := ⟨2, ![520, 256]⟩
abbrev S1x256 : Shape := ⟨2, ![1, 256]⟩

abbrev nBuf : Space → Nat
  | .hbm => 10
  | .vmem => 19
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x22016, .f32⟩
  | .hbm, ⟨2, _⟩ => ⟨S1x3x22016, .f32⟩
  | .hbm, ⟨3, _⟩ => ⟨S1x22016, .f32⟩
  | .hbm, ⟨4, _⟩ => ⟨S1x11008x4096, .f32⟩
  | .hbm, ⟨5, _⟩ => ⟨S8192x4096, .bf16⟩
  | .hbm, ⟨6, _⟩ => ⟨S1x1x22016, .f32⟩
  | .hbm, ⟨7, _⟩ => ⟨S1x1x22016, .f32⟩
  | .hbm, ⟨8, _⟩ => ⟨S8192x11008, .bf16⟩
  | .hbm, ⟨9, _⟩ => ⟨S11008x4096, .bf16⟩
  | .local _ .vmem, ⟨0, _⟩ => ⟨S2048x4096, .bf16⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x3x256, .f32⟩
  | .local _ .vmem, ⟨6, _⟩ => ⟨S1x3x256, .f32⟩
  | .local _ .vmem, ⟨7, _⟩ => ⟨S1x3x256, .f32⟩
  | .local _ .vmem, ⟨8, _⟩ => ⟨S1x3x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x64x4096, .f32⟩
  | .local _ .vmem, ⟨14, _⟩ => ⟨S1x64x4096, .f32⟩
  | .local _ .vmem, ⟨15, _⟩ => ⟨S2048x256, .bf16⟩
  | .local _ .vmem, ⟨16, _⟩ => ⟨S2048x256, .bf16⟩
  | .local _ .vmem, ⟨17, _⟩ => ⟨S64x4096, .bf16⟩
  | .local _ .vmem, ⟨18, _⟩ => ⟨S64x4096, .bf16⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S4x2048x4096 : Shape := ⟨3, ![4, 2048, 4096]⟩
abbrev S1x4096x22016 : Shape := ⟨3, ![1, 4096, 22016]⟩
abbrev S1x3x22016 : Shape := ⟨3, ![1, 3, 22016]⟩
abbrev S1x22016 : Shape := ⟨2, ![1, 22016]⟩
abbrev S1x11008x4096 : Shape := ⟨3, ![1, 11008, 4096]⟩
abbrev S4096x22016 : Shape := ⟨2, ![4096, 22016]⟩
abbrev S4x2048x22016 : Shape := ⟨3, ![4, 2048, 22016]⟩
abbrev S_ : Shape := ⟨0, ![]⟩
abbrev S4x2050x22016 : Shape := ⟨3, ![4, 2050, 22016]⟩
abbrev S22016 : Shape := ⟨1, ![22016]⟩
abbrev S1x1x22016 : Shape := ⟨3, ![1, 1, 22016]⟩
abbrev S4x2048x11008 : Shape := ⟨3, ![4, 2048, 11008]⟩
abbrev S8192x11008 : Shape := ⟨2, ![8192, 11008]⟩
abbrev S11008x4096 : Shape := ⟨2, ![11008, 4096]⟩

abbrev nBuf : Space → Nat
  | .hbm => 51
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x22016, .f32⟩
  | .hbm, ⟨2, _⟩ => ⟨S1x3x22016, .f32⟩
  | .hbm, ⟨3, _⟩ => ⟨S1x22016, .f32⟩
  | .hbm, ⟨4, _⟩ => ⟨S1x11008x4096, .f32⟩
  | .hbm, ⟨5, _⟩ => ⟨S4x2048x4096, .f32⟩
  | .hbm, ⟨6, _⟩ => ⟨S4096x22016, .f32⟩
  | .hbm, ⟨7, _⟩ => ⟨S4x2048x22016, .f32⟩
  | .hbm, ⟨8, _⟩ => ⟨S_, .i32⟩
  | .hbm, ⟨9, _⟩ => ⟨S_, .f32⟩
  | .hbm, ⟨10, _⟩ => ⟨S4x2050x22016, .f32⟩
  | .hbm, ⟨11, _⟩ => ⟨S22016, .f32⟩
  | .hbm, ⟨12, _⟩ => ⟨S4x2048x22016, .f32⟩
  | .hbm, ⟨13, _⟩ => ⟨S1x1x22016, .f32⟩
  | .hbm, ⟨14, _⟩ => ⟨S22016, .f32⟩
  | .hbm, ⟨15, _⟩ => ⟨S1x1x22016, .f32⟩
  | .hbm, ⟨16, _⟩ => ⟨S4x2048x22016, .f32⟩
  | .hbm, ⟨17, _⟩ => ⟨S4x2048x22016, .f32⟩
  | .hbm, ⟨18, _⟩ => ⟨S1x1x22016, .f32⟩
  | .hbm, ⟨19, _⟩ => ⟨S4x2048x22016, .f32⟩
  | .hbm, ⟨20, _⟩ => ⟨S4x2048x22016, .f32⟩
  | .hbm, ⟨21, _⟩ => ⟨S4x2048x22016, .f32⟩
  | .hbm, ⟨22, _⟩ => ⟨S1x1x22016, .f32⟩
  | .hbm, ⟨23, _⟩ => ⟨S22016, .f32⟩
  | .hbm, ⟨24, _⟩ => ⟨S1x1x22016, .f32⟩
  | .hbm, ⟨25, _⟩ => ⟨S4x2048x22016, .f32⟩
  | .hbm, ⟨26, _⟩ => ⟨S4x2048x22016, .f32⟩
  | .hbm, ⟨27, _⟩ => ⟨S4x2048x22016, .f32⟩
  | .hbm, ⟨28, _⟩ => ⟨S4x2048x22016, .f32⟩
  | .hbm, ⟨29, _⟩ => ⟨S1x1x22016, .f32⟩
  | .hbm, ⟨30, _⟩ => ⟨S22016, .f32⟩
  | .hbm, ⟨31, _⟩ => ⟨S1x1x22016, .f32⟩
  | .hbm, ⟨32, _⟩ => ⟨S4x2048x22016, .f32⟩
  | .hbm, ⟨33, _⟩ => ⟨S4x2048x22016, .f32⟩
  | .hbm, ⟨34, _⟩ => ⟨S4x2048x22016, .f32⟩
  | .hbm, ⟨35, _⟩ => ⟨S4x2048x11008, .f32⟩
  | .hbm, ⟨36, _⟩ => ⟨S4x2048x11008, .f32⟩
  | .hbm, ⟨37, _⟩ => ⟨S4x2048x11008, .f32⟩
  | .hbm, ⟨38, _⟩ => ⟨S4x2048x11008, .f32⟩
  | .hbm, ⟨39, _⟩ => ⟨S_, .f32⟩
  | .hbm, ⟨40, _⟩ => ⟨S4x2048x11008, .f32⟩
  | .hbm, ⟨41, _⟩ => ⟨S4x2048x11008, .f32⟩
  | .hbm, ⟨42, _⟩ => ⟨S_, .f32⟩
  | .hbm, ⟨43, _⟩ => ⟨S4x2048x11008, .f32⟩
  | .hbm, ⟨44, _⟩ => ⟨S4x2048x11008, .f32⟩
  | .hbm, ⟨45, _⟩ => ⟨S4x2048x11008, .f32⟩
  | .hbm, ⟨46, _⟩ => ⟨S4x2048x11008, .f32⟩
  | .hbm, ⟨47, _⟩ => ⟨S8192x11008, .f32⟩
  | .hbm, ⟨48, _⟩ => ⟨S8192x11008, .bf16⟩
  | .hbm, ⟨49, _⟩ => ⟨S11008x4096, .f32⟩
  | .hbm, ⟨50, _⟩ => ⟨S11008x4096, .bf16⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== Kernel4.lean ====
abbrev S4x2048x2048 : Shape := ⟨3, ![4, 2048, 2048]⟩
abbrev S1x2048x4096 : Shape := ⟨3, ![1, 2048, 4096]⟩
abbrev S4x2048x8192 : Shape := ⟨3, ![4, 2048, 8192]⟩
abbrev S8192x2048 : Shape := ⟨2, ![8192, 2048]⟩
abbrev S2048x4096 : Shape := ⟨2, ![2048, 4096]⟩
abbrev S8192x8192 : Shape := ⟨2, ![8192, 8192]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩
abbrev S512x2048 : Shape := ⟨2, ![512, 2048]⟩
abbrev S512x512 : Shape := ⟨2, ![512, 512]⟩

abbrev nBuf : Space → Nat
  | .hbm => 13
  | .vmem => 14
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x2048, .bf16⟩
  | .hbm, ⟨2, _⟩ => ⟨S1x2048x4096, .f32⟩
  | .hbm, ⟨3, _⟩ => ⟨S1x2048x4096, .f32⟩
  | .hbm, ⟨4, _⟩ => ⟨S4x2048x8192, .bf16⟩
  | .hbm, ⟨5, _⟩ => ⟨S8192x2048, .bf16⟩
  | .hbm, ⟨6, _⟩ => ⟨S8192x2048, .bf16⟩
  | .hbm, ⟨7, _⟩ => ⟨S2048x4096, .f32⟩
  | .hbm, ⟨8, _⟩ => ⟨S2048x4096, .bf16⟩
  | .hbm, ⟨9, _⟩ => ⟨S2048x4096, .f32⟩
  | .hbm, ⟨10, _⟩ => ⟨S2048x4096, .bf16⟩
  | .hbm, ⟨11, _⟩ => ⟨S8192x8192, .bf16⟩
  | .hbm, ⟨12, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S4x2048x2048 : Shape := ⟨3, ![4, 2048, 2048]⟩
abbrev S1x2048x4096 : Shape := ⟨3, ![1, 2048, 4096]⟩
abbrev S4x2048x8192 : Shape := ⟨3, ![4, 2048, 8192]⟩
abbrev S4x2048x4096 : Shape := ⟨3, ![4, 2048, 4096]⟩
abbrev S_ : Shape := ⟨0, ![]⟩
abbrev S2048x4096 : Shape := ⟨2, ![2048, 4096]⟩
abbrev S8192x4096 : Shape := ⟨2, ![8192, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x2048, .bf16⟩
  | .hbm, ⟨2, _⟩ => ⟨S1x2048x4096, .f32⟩
  | .hbm, ⟨3, _⟩ => ⟨S1x2048x4096, .f32⟩
  | .hbm, ⟨4, _⟩ => ⟨S4x2048x8192, .bf16⟩
  | .hbm, ⟨5, _⟩ => ⟨S4x2048x8192, .f32⟩
  | .hbm, ⟨6, _⟩ => ⟨S4x2048x4096, .f32⟩
  | .hbm, ⟨7, _⟩ => ⟨S4x2048x4096, .f32⟩
  | .hbm, ⟨8, _⟩ => ⟨S4x2048x4096, .f32⟩
  | .hbm, ⟨9, _⟩ => ⟨S4x2048x4096, .f32⟩
  | .hbm, ⟨10, _⟩ => ⟨S_, .f32⟩
  | .hbm, ⟨11, _⟩ => ⟨S4x2048x4096, .f32⟩
  | .hbm, ⟨12, _⟩ => ⟨S4x2048x4096, .f32⟩
  | .hbm, ⟨13, _⟩ => ⟨S_, .f32⟩
  | .hbm, ⟨14, _⟩ => ⟨S4x2048x4096, .f32⟩
  | .hbm, ⟨15, _⟩ => ⟨S4x2048x4096, .f32⟩
  | .hbm, ⟨16, _⟩ => ⟨S4x2048x2048, .f32⟩
  | .hbm, ⟨17, _⟩ => ⟨S2048x4096, .f32⟩
  | .hbm, ⟨18, _⟩ => ⟨S4x2048x4096, .f32⟩
  | .hbm, ⟨19, _⟩ => ⟨S4x2048x4096, .f32⟩
  | .hbm, ⟨20, _⟩ => ⟨S4x2048x4096, .f32⟩
  | .hbm, ⟨21, _⟩ => ⟨S4x2048x4096, .f32⟩
  | .hbm, ⟨22, _⟩ => ⟨S_, .f32⟩
  | .hbm, ⟨23, _⟩ => ⟨S4x2048x4096, .f32⟩
  | .hbm, ⟨24, _⟩ => ⟨S4x2048x4096, .f32⟩
  | .hbm, ⟨25, _⟩ => ⟨S_, .f32⟩
  | .hbm, ⟨26, _⟩ => ⟨S4x2048x4096, .f32⟩
  | .hbm, ⟨27, _⟩ => ⟨S4x2048x4096, .f32⟩
  | .hbm, ⟨28, _⟩ => ⟨S4x2048x2048, .f32⟩
  | .hbm, ⟨29, _⟩ => ⟨S2048x4096, .f32⟩
  | .hbm, ⟨30, _⟩ => ⟨S4x2048x4096, .f32⟩
  | .hbm, ⟨31, _⟩ => ⟨S4x2048x4096, .f32⟩
  | .hbm, ⟨32, _⟩ => ⟨S4x2048x4096, .f32⟩
  | .hbm, ⟨33, _⟩ => ⟨S8192x4096, .f32⟩
  | .hbm, ⟨34, _⟩ => ⟨S8192x4096, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel5.lean ====
abbrev S4x2048x4096 : Shape := ⟨3, ![4, 2048, 4096]⟩
abbrev S8x24576 : Shape := ⟨2, ![8, 24576]⟩
abbrev S1x4096x4096 : Shape := ⟨3, ![1, 4096, 4096]⟩
abbrev S8192x4096 : Shape := ⟨2, ![8192, 4096]⟩
abbrev S4096x4096 : Shape := ⟨2, ![4096, 4096]⟩
abbrev S8x1x24576 : Shape := ⟨3, ![8, 1, 24576]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 10
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S8x24576, .f32⟩
  | .hbm, ⟨2, _⟩ => ⟨S4x2048x4096, .bf16⟩
  | .hbm, ⟨3, _⟩ => ⟨S1x4096x4096, .f32⟩
  | .hbm, ⟨4, _⟩ => ⟨S8192x4096, .bf16⟩
  | .hbm, ⟨5, _⟩ => ⟨S4096x4096, .f32⟩
  | .hbm, ⟨6, _⟩ => ⟨S4096x4096, .bf16⟩
  | .hbm, ⟨7, _⟩ => ⟨S8192x4096, .f32⟩
  | .hbm, ⟨8, _⟩ => ⟨S8x1x24576, .f32⟩
  | .hbm, ⟨9, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.addi c16_i32 arg1
  let c0_i32_4 : BitVec 32 := 0#32
  let c0_i32_5 : BitVec 32 := 0#32
  ![v16.toNat, c0_i32_4.toNat, v17.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S4x2048x4096 : Shape := ⟨3, ![4, 2048, 4096]⟩
abbrev S8x24576 : Shape := ⟨2, ![8, 24576]⟩
abbrev S1x4096x4096 : Shape := ⟨3, ![1, 4096, 4096]⟩
abbrev S4x24576 : Shape := ⟨2, ![4, 24576]⟩
abbrev S4x4096 : Shape := ⟨2, ![4, 4096]⟩
abbrev S4x1x4096 : Shape := ⟨3, ![4, 1, 4096]⟩
abbrev S4096x4096 : Shape := ⟨2, ![4096, 4096]⟩
abbrev S8192x4096 : Shape := ⟨2, ![8192, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x24576, .f32⟩
  | .hbm, ⟨2, _⟩ => ⟨S4x2048x4096, .bf16⟩
  | .hbm, ⟨3, _⟩ => ⟨S1x4096x4096, .f32⟩
  | .hbm, ⟨4, _⟩ => ⟨S4x24576, .f32⟩
  | .hbm, ⟨5, _⟩ => ⟨S4x4096, .f32⟩
  | .hbm, ⟨6, _⟩ => ⟨S4x4096, .f32⟩
  | .hbm, ⟨7, _⟩ => ⟨S4x4096, .f32⟩
  | .hbm, ⟨8, _⟩ => ⟨S4x4096, .f32⟩
  | .hbm, ⟨9, _⟩ => ⟨S4x4096, .f32⟩
  | .hbm, ⟨10, _⟩ => ⟨S4x4096, .f32⟩
  | .hbm, ⟨11, _⟩ => ⟨S4x1x4096, .f32⟩
  | .hbm, ⟨12, _⟩ => ⟨S4x1x4096, .f32⟩
  | .hbm, ⟨13, _⟩ => ⟨S4x1x4096, .f32⟩
  | .hbm, ⟨14, _⟩ => ⟨S4x1x4096, .f32⟩
  | .hbm, ⟨15, _⟩ => ⟨S4x1x4096, .f32⟩
  | .hbm, ⟨16, _⟩ => ⟨S4x1x4096, .f32⟩
  | .hbm, ⟨17, _⟩ => ⟨S4x2048x4096, .f32⟩
  | .hbm, ⟨18, _⟩ => ⟨S4096x4096, .f32⟩
  | .hbm, ⟨19, _⟩ => ⟨S4x2048x4096, .f32⟩
  | .hbm, ⟨20, _⟩ => ⟨S4x2048x4096, .f32⟩
  | .hbm, ⟨21, _⟩ => ⟨S4x2048x4096, .f32⟩
  | .hbm, ⟨22, _⟩ => ⟨S4x2048x4096, .f32⟩
  | .hbm, ⟨23, _⟩ => ⟨S8192x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Kernel6.lean ====
abbrev S4x2048x4096 : Shape := ⟨3, ![4, 2048, 4096]⟩
abbrev S1x4096x17504 : Shape := ⟨3, ![1, 4096, 17504]⟩
abbrev S8192x4096 : Shape := ⟨2, ![8192, 4096]⟩
abbrev S1x17504x4096 : Shape := ⟨3, ![1, 17504, 4096]⟩
abbrev S8192x8192 : Shape := ⟨2, ![8192, 8192]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x17504, .f32⟩
  | .hbm, ⟨2, _⟩ => ⟨S8192x4096, .bf16⟩
  | .hbm, ⟨3, _⟩ => ⟨S1x17504x4096, .f32⟩
  | .hbm, ⟨4, _⟩ => ⟨S8192x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let c9312_i32 : BitVec 32 := 9312#32
  let arg1 : BitVec 32 := BitVec.ofNat 32 (i 1).val
  let c512_i32 : BitVec 32 := 512#32
  let v0 : BitVec 32 := Scalar.muli arg1 c512_i32
  let v1 : BitVec 32 := Scalar.addi c9312_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c9312_i32 : BitVec 32 := 9312#32
  let v1 : BitVec 32 := Scalar.addi c9312_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4x2048x4096 : Shape := ⟨3, ![4, 2048, 4096]⟩
abbrev S1x4096x17504 : Shape := ⟨3, ![1, 4096, 17504]⟩
abbrev S4096x17504 : Shape := ⟨2, ![4096, 17504]⟩
abbrev S4x2048x17504 : Shape := ⟨3, ![4, 2048, 17504]⟩
abbrev S4x2048x2048 : Shape := ⟨3, ![4, 2048, 2048]⟩
abbrev S4x2048x512 : Shape := ⟨3, ![4, 2048, 512]⟩
abbrev S4x2048x64 : Shape := ⟨3, ![4, 2048, 64]⟩
abbrev S4x2048x32 : Shape := ⟨3, ![4, 2048, 32]⟩
abbrev S4x2048x8192 : Shape := ⟨3, ![4, 2048, 8192]⟩
abbrev S8192x8192 : Shape := ⟨2, ![8192, 8192]⟩

abbrev nBuf : Space → Nat
  | .hbm => 18
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x17504, .f32⟩
  | .hbm, ⟨2, _⟩ => ⟨S4x2048x4096, .f32⟩
  | .hbm, ⟨3, _⟩ => ⟨S4096x17504, .f32⟩
  | .hbm, ⟨4, _⟩ => ⟨S4x2048x17504, .f32⟩
  | .hbm, ⟨5, _⟩ => ⟨S4x2048x2048, .f32⟩
  | .hbm, ⟨6, _⟩ => ⟨S4x2048x512, .f32⟩
  | .hbm, ⟨7, _⟩ => ⟨S4x2048x512, .f32⟩
  | .hbm, ⟨8, _⟩ => ⟨S4x2048x2048, .f32⟩
  | .hbm, ⟨9, _⟩ => ⟨S4x2048x64, .f32⟩
  | .hbm, ⟨10, _⟩ => ⟨S4x2048x32, .f32⟩
  | .hbm, ⟨11, _⟩ => ⟨S4x2048x2048, .f32⟩
  | .hbm, ⟨12, _⟩ => ⟨S4x2048x2048, .f32⟩
  | .hbm, ⟨13, _⟩ => ⟨S4x2048x4096, .f32⟩
  | .hbm, ⟨14, _⟩ => ⟨S4x2048x4096, .f32⟩
  | .hbm, ⟨15, _⟩ => ⟨S4x2048x8192, .f32⟩
  | .hbm, ⟨16, _⟩ => ⟨S8192x8192, .f32⟩
  | .hbm, ⟨17, _⟩ => ⟨S8192x8192, .bf16⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== Kernel7.lean ====
abbrev S4x2048x4096 : Shape := ⟨3, ![4, 2048, 4096]⟩
abbrev S1x4096x17504 : Shape := ⟨3, ![1, 4096, 17504]⟩
abbrev S8192x4096 : Shape := ⟨2, ![8192, 4096]⟩
abbrev S1x17504x4096 : Shape := ⟨3, ![1, 17504, 4096]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x17504, .f32⟩
  | .hbm, ⟨2, _⟩ => ⟨S8192x4096, .bf16⟩
  | .hbm, ⟨3, _⟩ => ⟨S1x17504x4096, .f32⟩
  | .hbm, ⟨4, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c5216_i32 : BitVec 32 := 5216#32
  let arg1 : BitVec 32 := BitVec.ofNat 32 (i 1).val
  let c512_i32 : BitVec 32 := 512#32
  let v0 : BitVec 32 := Scalar.muli arg1 c512_i32
  let v1 : BitVec 32 := Scalar.addi c5216_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c5216_i32 : BitVec 32 := 5216#32
  let v1 : BitVec 32 := Scalar.addi c5216_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4x2048x4096 : Shape := ⟨3, ![4, 2048, 4096]⟩
abbrev S1x4096x17504 : Shape := ⟨3, ![1, 4096, 17504]⟩
abbrev S4096x17504 : Shape := ⟨2, ![4096, 17504]⟩
abbrev S4x2048x17504 : Shape := ⟨3, ![4, 2048, 17504]⟩
abbrev S4x2048x2048 : Shape := ⟨3, ![4, 2048, 2048]⟩
abbrev S4x2048x512 : Shape := ⟨3, ![4, 2048, 512]⟩
abbrev S4x2048x64 : Shape := ⟨3, ![4, 2048, 64]⟩
abbrev S4x2048x32 : Shape := ⟨3, ![4, 2048, 32]⟩
abbrev S_ : Shape := ⟨0, ![]⟩
abbrev S8192x4096 : Shape := ⟨2, ![8192, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x17504, .f32⟩
  | .hbm, ⟨2, _⟩ => ⟨S4x2048x4096, .f32⟩
  | .hbm, ⟨3, _⟩ => ⟨S4096x17504, .f32⟩
  | .hbm, ⟨4, _⟩ => ⟨S4x2048x17504, .f32⟩
  | .hbm, ⟨5, _⟩ => ⟨S4x2048x2048, .f32⟩
  | .hbm, ⟨6, _⟩ => ⟨S4x2048x512, .f32⟩
  | .hbm, ⟨7, _⟩ => ⟨S4x2048x512, .f32⟩
  | .hbm, ⟨8, _⟩ => ⟨S4x2048x2048, .f32⟩
  | .hbm, ⟨9, _⟩ => ⟨S4x2048x64, .f32⟩
  | .hbm, ⟨10, _⟩ => ⟨S4x2048x32, .f32⟩
  | .hbm, ⟨11, _⟩ => ⟨S4x2048x2048, .f32⟩
  | .hbm, ⟨12, _⟩ => ⟨S4x2048x2048, .f32⟩
  | .hbm, ⟨13, _⟩ => ⟨S4x2048x4096, .f32⟩
  | .hbm, ⟨14, _⟩ => ⟨S4x2048x4096, .f32⟩
  | .hbm, ⟨15, _⟩ => ⟨S_, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S_, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S4x2048x4096, .f32⟩
  | .hbm, ⟨34, _⟩ => ⟨S8192x4096, .f32⟩
  | .hbm, ⟨35, _⟩ => ⟨S8192x4096, .bf16⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Kernel8.lean ====
abbrev S4x2048x4096 : Shape := ⟨3, ![4, 2048, 4096]⟩
abbrev S1x4096x17504 : Shape := ⟨3, ![1, 4096, 17504]⟩
abbrev S1x128 : Shape := ⟨2, ![1, 128]⟩
abbrev S8192x4096 : Shape := ⟨2, ![8192, 4096]⟩
abbrev S1x17504x4096 : Shape := ⟨3, ![1, 17504, 4096]⟩
abbrev S128 : Shape := ⟨1, ![128]⟩
abbrev S8192x2048 : Shape := ⟨2, ![8192, 2048]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 7
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x17504, .f32⟩
  | .hbm, ⟨2, _⟩ => ⟨S1x128, .f32⟩
  | .hbm, ⟨3, _⟩ => ⟨S8192x4096, .bf16⟩
  | .hbm, ⟨4, _⟩ => ⟨S1x17504x4096, .f32⟩
  | .hbm, ⟨5, _⟩ => ⟨S128, .f32⟩
  | .hbm, ⟨6, _⟩ => ⟨S1x128, .f32⟩
  | .hbm, ⟨7, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1x128, .f32⟩
  | .local _ .vmem, ⟨5, _⟩ => ⟨S1024x512, .bf16⟩
  | .local _ .vmem, ⟨6, _⟩ => ⟨S1024x512, .bf16⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S4x2048x4096 : Shape := ⟨3, ![4, 2048, 4096]⟩
abbrev S1x4096x17504 : Shape := ⟨3, ![1, 4096, 17504]⟩
abbrev S1x128 : Shape := ⟨2, ![1, 128]⟩
abbrev S4096x17504 : Shape := ⟨2, ![4096, 17504]⟩
abbrev S4x2048x17504 : Shape := ⟨3, ![4, 2048, 17504]⟩
abbrev S4x2048x2048 : Shape := ⟨3, ![4, 2048, 2048]⟩
abbrev S4x2048x512 : Shape := ⟨3, ![4, 2048, 512]⟩
abbrev S4x2048x64 : Shape := ⟨3, ![4, 2048, 64]⟩
abbrev S4x2048x32 : Shape := ⟨3, ![4, 2048, 32]⟩
abbrev S4x2048x16x128 : Shape := ⟨4, ![4, 2048, 16, 128]⟩
abbrev S128 : Shape := ⟨1, ![128]⟩
abbrev S_ : Shape := ⟨0, ![]⟩
abbrev S4x2048x16 : Shape := ⟨3, ![4, 2048, 16]⟩
abbrev S4x2048x16x1 : Shape := ⟨4, ![4, 2048, 16, 1]⟩
abbrev S1x1x1x128 : Shape := ⟨4, ![1, 1, 1, 128]⟩
abbrev S8192x2048 : Shape := ⟨2, ![8192, 2048]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x17504, .f32⟩
  | .hbm, ⟨2, _⟩ => ⟨S1x128, .f32⟩
  | .hbm, ⟨3, _⟩ => ⟨S4x2048x4096, .f32⟩
  | .hbm, ⟨4, _⟩ => ⟨S4096x17504, .f32⟩
  | .hbm, ⟨5, _⟩ => ⟨S4x2048x17504, .f32⟩
  | .hbm, ⟨6, _⟩ => ⟨S4x2048x2048, .f32⟩
  | .hbm, ⟨7, _⟩ => ⟨S4x2048x512, .f32⟩
  | .hbm, ⟨8, _⟩ => ⟨S4x2048x512, .f32⟩
  | .hbm, ⟨9, _⟩ => ⟨S4x2048x2048, .f32⟩
  | .hbm, ⟨10, _⟩ => ⟨S4x2048x64, .f32⟩
  | .hbm, ⟨11, _⟩ => ⟨S4x2048x32, .f32⟩
  | .hbm, ⟨12, _⟩ => ⟨S4x2048x2048, .f32⟩
  | .hbm, ⟨13, _⟩ => ⟨S4x2048x2048, .f32⟩
  | .hbm, ⟨14, _⟩ => ⟨S4x2048x4096, .f32⟩
  | .hbm, ⟨15, _⟩ => ⟨S4x2048x4096, .f32⟩
  | .hbm, ⟨16, _⟩ => ⟨S4x2048x16x128, .f32⟩
  | .hbm, ⟨17, _⟩ => ⟨S128, .f32⟩
  | .hbm, ⟨18, _⟩ => ⟨S4x2048x16x128, .f32⟩
  | .hbm, ⟨19, _⟩ => ⟨S_, .f32⟩
  | .hbm, ⟨20, _⟩ => ⟨S4x2048x16, .f32⟩
  | .hbm, ⟨21, _⟩ => ⟨S4x2048x16x1, .f32⟩
  | .hbm, ⟨22, _⟩ => ⟨S_, .f32⟩
  | .hbm, ⟨23, _⟩ => ⟨S4x2048x16x1, .f32⟩
  | .hbm, ⟨24, _⟩ => ⟨S4x2048x16x1, .f32⟩
  | .hbm, ⟨25, _⟩ => ⟨S_, .f32⟩
  | .hbm, ⟨26, _⟩ => ⟨S4x2048x16x1, .f32⟩
  | .hbm, ⟨27, _⟩ => ⟨S4x2048x16x1, .f32⟩
  | .hbm, ⟨28, _⟩ => ⟨S4x2048x16x1, .f32⟩
  | .hbm, ⟨29, _⟩ => ⟨S4x2048x16x128, .f32⟩
  | .hbm, ⟨30, _⟩ => ⟨S4x2048x16x128, .f32⟩
  | .hbm, ⟨31, _⟩ => ⟨S1x1x1x128, .f32⟩
  | .hbm, ⟨32, _⟩ => ⟨S4x2048x16x128, .f32⟩
  | .hbm, ⟨33, _⟩ => ⟨S4x2048x16x128, .f32⟩
  | .hbm, ⟨34, _⟩ => ⟨S_, .f32⟩
  | .hbm, ⟨35, _⟩ => ⟨S4x2048x16x128, .f32⟩
  | .hbm, ⟨36, _⟩ => ⟨S4x2048x16x128, .f32⟩
  | .hbm, ⟨37, _⟩ => ⟨S8192x2048, .f32⟩
  | .hbm, ⟨38, _⟩ => ⟨S8192x2048, .bf16⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Kernel9.lean ====
abbrev S4x2048x4096 : Shape := ⟨3, ![4, 2048, 4096]⟩
abbrev S1x4096x17504 : Shape := ⟨3, ![1, 4096, 17504]⟩
abbrev S1x128 : Shape := ⟨2, ![1, 128]⟩
abbrev S8192x4096 : Shape := ⟨2, ![8192, 4096]⟩
abbrev S1x17504x4096 : Shape := ⟨3, ![1, 17504, 4096]⟩
abbrev S128 : Shape := ⟨1, ![128]⟩
abbrev S8192x512 : Shape := ⟨2, ![8192, 512]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 6
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x17504, .f32⟩
  | .hbm, ⟨2, _⟩ => ⟨S1x128, .f32⟩
  | .hbm, ⟨3, _⟩ => ⟨S8192x4096, .bf16⟩
  | .hbm, ⟨4, _⟩ => ⟨S1x17504x4096, .f32⟩
  | .hbm, ⟨5, _⟩ => ⟨S128, .f32⟩
  | .hbm, ⟨6, _⟩ => ⟨S1x128, .f32⟩
  | .hbm, ⟨7, _⟩ => ⟨S8192x512, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x128, .f32⟩
  | .local _ .vmem, ⟨4, _⟩ => ⟨S1024x512, .bf16⟩
  | .local _ .vmem, ⟨5, _⟩ => ⟨S1024x512, .bf16⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def k0_mult1 (i : grid0.Coords) : BitVec 32 :=
  let c2048_i32 : BitVec 32 := 2048#32
  let arg1 : BitVec 32 := BitVec.ofNat 32 (i 1).val
  let c512_i32 : BitVec 32 := 512#32
  let v0 : BitVec 32 := Scalar.muli arg1 c512_i32
  let v1 : BitVec 32 := Scalar.addi c2048_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c2048_i32 : BitVec 32 := 2048#32
  let v1 : BitVec 32 := Scalar.addi c2048_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S4x2048x4096 : Shape := ⟨3, ![4, 2048, 4096]⟩
abbrev S1x4096x17504 : Shape := ⟨3, ![1, 4096, 17504]⟩
abbrev S1x128 : Shape := ⟨2, ![1, 128]⟩
abbrev S4096x17504 : Shape := ⟨2, ![4096, 17504]⟩
abbrev S4x2048x17504 : Shape := ⟨3, ![4, 2048, 17504]⟩
abbrev S4x2048x2048 : Shape := ⟨3, ![4, 2048, 2048]⟩
abbrev S4x2048x512 : Shape := ⟨3, ![4, 2048, 512]⟩
abbrev S4x2048x64 : Shape := ⟨3, ![4, 2048, 64]⟩
abbrev S4x2048x32 : Shape := ⟨3, ![4, 2048, 32]⟩
abbrev S4x2048x4x128 : Shape := ⟨4, ![4, 2048, 4, 128]⟩
abbrev S128 : Shape := ⟨1, ![128]⟩
abbrev S_ : Shape := ⟨0, ![]⟩
abbrev S4x2048x4 : Shape := ⟨3, ![4, 2048, 4]⟩
abbrev S4x2048x4x1 : Shape := ⟨4, ![4, 2048, 4, 1]⟩
abbrev S1x1x1x128 : Shape := ⟨4, ![1, 1, 1, 128]⟩
abbrev S8192x512 : Shape := ⟨2, ![8192, 512]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x17504, .f32⟩
  | .hbm, ⟨2, _⟩ => ⟨S1x128, .f32⟩
  | .hbm, ⟨3, _⟩ => ⟨S4x2048x4096, .f32⟩
  | .hbm, ⟨4, _⟩ => ⟨S4096x17504, .f32⟩
  | .hbm, ⟨5, _⟩ => ⟨S4x2048x17504, .f32⟩
  | .hbm, ⟨6, _⟩ => ⟨S4x2048x2048, .f32⟩
  | .hbm, ⟨7, _⟩ => ⟨S4x2048x512, .f32⟩
  | .hbm, ⟨8, _⟩ => ⟨S4x2048x512, .f32⟩
  | .hbm, ⟨9, _⟩ => ⟨S4x2048x2048, .f32⟩
  | .hbm, ⟨10, _⟩ => ⟨S4x2048x64, .f32⟩
  | .hbm, ⟨11, _⟩ => ⟨S4x2048x32, .f32⟩
  | .hbm, ⟨12, _⟩ => ⟨S4x2048x2048, .f32⟩
  | .hbm, ⟨13, _⟩ => ⟨S4x2048x2048, .f32⟩
  | .hbm, ⟨14, _⟩ => ⟨S4x2048x4096, .f32⟩
  | .hbm, ⟨15, _⟩ => ⟨S4x2048x4096, .f32⟩
  | .hbm, ⟨16, _⟩ => ⟨S4x2048x4x128, .f32⟩
  | .hbm, ⟨17, _⟩ => ⟨S128, .f32⟩
  | .hbm, ⟨18, _⟩ => ⟨S4x2048x4x128, .f32⟩
  | .hbm, ⟨19, _⟩ => ⟨S_, .f32⟩
  | .hbm, ⟨20, _⟩ => ⟨S4x2048x4, .f32⟩
  | .hbm, ⟨21, _⟩ => ⟨S4x2048x4x1, .f32⟩
  | .hbm, ⟨22, _⟩ => ⟨S_, .f32⟩
  | .hbm, ⟨23, _⟩ => ⟨S4x2048x4x1, .f32⟩
  | .hbm, ⟨24, _⟩ => ⟨S4x2048x4x1, .f32⟩
  | .hbm, ⟨25, _⟩ => ⟨S_, .f32⟩
  | .hbm, ⟨26, _⟩ => ⟨S4x2048x4x1, .f32⟩
  | .hbm, ⟨27, _⟩ => ⟨S4x2048x4x1, .f32⟩
  | .hbm, ⟨28, _⟩ => ⟨S4x2048x4x1, .f32⟩
  | .hbm, ⟨29, _⟩ => ⟨S4x2048x4x128, .f32⟩
  | .hbm, ⟨30, _⟩ => ⟨S4x2048x4x128, .f32⟩
  | .hbm, ⟨31, _⟩ => ⟨S1x1x1x128, .f32⟩
  | .hbm, ⟨32, _⟩ => ⟨S4x2048x4x128, .f32⟩
  | .hbm, ⟨33, _⟩ => ⟨S4x2048x4x128, .f32⟩
  | .hbm, ⟨34, _⟩ => ⟨S8192x512, .f32⟩
  | .hbm, ⟨35, _⟩ => ⟨S8192x512, .bf16⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Kernel10.lean ====
abbrev S4x2048x4096 : Shape := ⟨3, ![4, 2048, 4096]⟩
abbrev S1x4096x17504 : Shape := ⟨3, ![1, 4096, 17504]⟩
abbrev S8192x4096 : Shape := ⟨2, ![8192, 4096]⟩
abbrev S1x17504x4096 : Shape := ⟨3, ![1, 17504, 4096]⟩
abbrev S8192x512 : Shape := ⟨2, ![8192, 512]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x17504, .f32⟩
  | .hbm, ⟨2, _⟩ => ⟨S8192x4096, .bf16⟩
  | .hbm, ⟨3, _⟩ => ⟨S1x17504x4096, .f32⟩
  | .hbm, ⟨4, _⟩ => ⟨S8192x512, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1024x512, .bf16⟩
  | .local _ .vmem, ⟨4, _⟩ => ⟨S1024x512, .bf16⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_mult1 (i : grid0.Coords) : BitVec 32 :=
  let c2560_i32 : BitVec 32 := 2560#32
  let arg1 : BitVec 32 := BitVec.ofNat 32 (i 1).val
  let c512_i32 : BitVec 32 := 512#32
  let v0 : BitVec 32 := Scalar.muli arg1 c512_i32
  let v1 : BitVec 32 := Scalar.addi c2560_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c2560_i32 : BitVec 32 := 2560#32
  let v1 : BitVec 32 := Scalar.addi c2560_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4x2048x4096 : Shape := ⟨3, ![4, 2048, 4096]⟩
abbrev S1x4096x17504 : Shape := ⟨3, ![1, 4096, 17504]⟩
abbrev S4096x17504 : Shape := ⟨2, ![4096, 17504]⟩
abbrev S4x2048x17504 : Shape := ⟨3, ![4, 2048, 17504]⟩
abbrev S4x2048x2048 : Shape := ⟨3, ![4, 2048, 2048]⟩
abbrev S4x2048x512 : Shape := ⟨3, ![4, 2048, 512]⟩
abbrev S4x2048x64 : Shape := ⟨3, ![4, 2048, 64]⟩
abbrev S4x2048x32 : Shape := ⟨3, ![4, 2048, 32]⟩
abbrev S8192x512 : Shape := ⟨2, ![8192, 512]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x17504, .f32⟩
  | .hbm, ⟨2, _⟩ => ⟨S4x2048x4096, .f32⟩
  | .hbm, ⟨3, _⟩ => ⟨S4096x17504, .f32⟩
  | .hbm, ⟨4, _⟩ => ⟨S4x2048x17504, .f32⟩
  | .hbm, ⟨5, _⟩ => ⟨S4x2048x2048, .f32⟩
  | .hbm, ⟨6, _⟩ => ⟨S4x2048x512, .f32⟩
  | .hbm, ⟨7, _⟩ => ⟨S4x2048x512, .f32⟩
  | .hbm, ⟨8, _⟩ => ⟨S4x2048x2048, .f32⟩
  | .hbm, ⟨9, _⟩ => ⟨S4x2048x64, .f32⟩
  | .hbm, ⟨10, _⟩ => ⟨S4x2048x32, .f32⟩
  | .hbm, ⟨11, _⟩ => ⟨S4x2048x2048, .f32⟩
  | .hbm, ⟨12, _⟩ => ⟨S4x2048x2048, .f32⟩
  | .hbm, ⟨13, _⟩ => ⟨S4x2048x4096, .f32⟩
  | .hbm, ⟨14, _⟩ => ⟨S4x2048x4096, .f32⟩
  | .hbm, ⟨15, _⟩ => ⟨S8192x512, .f32⟩
  | .hbm, ⟨16, _⟩ => ⟨S8192x512, .bf16⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== Kernel11.lean ====
abbrev S4x2048x4096 : Shape := ⟨3, ![4, 2048, 4096]⟩
abbrev S1x4096x17504 : Shape := ⟨3, ![1, 4096, 17504]⟩
abbrev S8192x4096 : Shape := ⟨2, ![8192, 4096]⟩
abbrev S1x17504x4096 : Shape := ⟨3, ![1, 17504, 4096]⟩
abbrev S8192x2048 : Shape := ⟨2, ![8192, 2048]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x17504, .f32⟩
  | .hbm, ⟨2, _⟩ => ⟨S8192x4096, .bf16⟩
  | .hbm, ⟨3, _⟩ => ⟨S1x17504x4096, .f32⟩
  | .hbm, ⟨4, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c3072_i32 : BitVec 32 := 3072#32
  let arg1 : BitVec 32 := BitVec.ofNat 32 (i 1).val
  let c512_i32 : BitVec 32 := 512#32
  let v0 : BitVec 32 := Scalar.muli arg1 c512_i32
  let v1 : BitVec 32 := Scalar.addi c3072_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c3072_i32 : BitVec 32 := 3072#32
  let v1 : BitVec 32 := Scalar.addi c3072_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4x2048x4096 : Shape := ⟨3, ![4, 2048, 4096]⟩
abbrev S1x4096x17504 : Shape := ⟨3, ![1, 4096, 17504]⟩
abbrev S4096x17504 : Shape := ⟨2, ![4096, 17504]⟩
abbrev S4x2048x17504 : Shape := ⟨3, ![4, 2048, 17504]⟩
abbrev S4x2048x2048 : Shape := ⟨3, ![4, 2048, 2048]⟩
abbrev S4x2048x512 : Shape := ⟨3, ![4, 2048, 512]⟩
abbrev S4x2048x64 : Shape := ⟨3, ![4, 2048, 64]⟩
abbrev S4x2048x32 : Shape := ⟨3, ![4, 2048, 32]⟩
abbrev S8192x2048 : Shape := ⟨2, ![8192, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x17504, .f32⟩
  | .hbm, ⟨2, _⟩ => ⟨S4x2048x4096, .f32⟩
  | .hbm, ⟨3, _⟩ => ⟨S4096x17504, .f32⟩
  | .hbm, ⟨4, _⟩ => ⟨S4x2048x17504, .f32⟩
  | .hbm, ⟨5, _⟩ => ⟨S4x2048x2048, .f32⟩
  | .hbm, ⟨6, _⟩ => ⟨S4x2048x512, .f32⟩
  | .hbm, ⟨7, _⟩ => ⟨S4x2048x512, .f32⟩
  | .hbm, ⟨8, _⟩ => ⟨S4x2048x2048, .f32⟩
  | .hbm, ⟨9, _⟩ => ⟨S4x2048x64, .f32⟩
  | .hbm, ⟨10, _⟩ => ⟨S4x2048x32, .f32⟩
  | .hbm, ⟨11, _⟩ => ⟨S4x2048x2048, .f32⟩
  | .hbm, ⟨12, _⟩ => ⟨S4x2048x2048, .f32⟩
  | .hbm, ⟨13, _⟩ => ⟨S4x2048x4096, .f32⟩
  | .hbm, ⟨14, _⟩ => ⟨S4x2048x4096, .f32⟩
  | .hbm, ⟨15, _⟩ => ⟨S8192x2048, .f32⟩
  | .hbm, ⟨16, _⟩ => ⟨S8192x2048, .bf16⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== Kernel12.lean ====
abbrev S4x2048x4096 : Shape := ⟨3, ![4, 2048, 4096]⟩
abbrev S1x4096x17504 : Shape := ⟨3, ![1, 4096, 17504]⟩
abbrev S8192x4096 : Shape := ⟨2, ![8192, 4096]⟩
abbrev S1x17504x4096 : Shape := ⟨3, ![1, 17504, 4096]⟩
abbrev S8192x128 : Shape := ⟨2, ![8192, 128]⟩
abbrev S1024x4096 : Shape := ⟨2, ![1024, 4096]⟩
abbrev S1x128x4096 : Shape := ⟨3, ![1, 128, 4096]⟩
abbrev S1024x128 : Shape := ⟨2, ![1024, 128]⟩
abbrev S128x4096 : Shape := ⟨2, ![128, 4096]⟩
abbrev S512x4096 : Shape := ⟨2, ![512, 4096]⟩
abbrev S512x128 : Shape := ⟨2, ![512, 128]⟩

abbrev nBuf : Space → Nat
  | .hbm => 5
  | .vmem => 5
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x17504, .f32⟩
  | .hbm, ⟨2, _⟩ => ⟨S8192x4096, .bf16⟩
  | .hbm, ⟨3, _⟩ => ⟨S1x17504x4096, .f32⟩
  | .hbm, ⟨4, _⟩ => ⟨S8192x128, .f32⟩
  | .local _ .vmem, ⟨0, _⟩ => ⟨S1024x4096, .bf16⟩
  | .local _ .vmem, ⟨1, _⟩ => ⟨S1024x4096, .bf16⟩
  | .local _ .vmem, ⟨2, _⟩ => ⟨S1x128x4096, .f32⟩
  | .local _ .vmem, ⟨3, _⟩ => ⟨S1024x128, .f32⟩
  | .local _ .vmem, ⟨4, _⟩ => ⟨S1024x128, .f32⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_mult1 (i : grid0.Coords) : BitVec 32 :=
  let c5120_i32 : BitVec 32 := 5120#32
  let arg1 : BitVec 32 := BitVec.ofNat 32 (i 1).val
  let c128_i32 : BitVec 32 := 128#32
  let v0 : BitVec 32 := Scalar.muli arg1 c128_i32
  let v1 : BitVec 32 := Scalar.addi c5120_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c5120_i32 : BitVec 32 := 5120#32
  let v1 : BitVec 32 := Scalar.addi c5120_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4x2048x4096 : Shape := ⟨3, ![4, 2048, 4096]⟩
abbrev S1x4096x17504 : Shape := ⟨3, ![1, 4096, 17504]⟩
abbrev S4096x17504 : Shape := ⟨2, ![4096, 17504]⟩
abbrev S4x2048x17504 : Shape := ⟨3, ![4, 2048, 17504]⟩
abbrev S4x2048x2048 : Shape := ⟨3, ![4, 2048, 2048]⟩
abbrev S4x2048x512 : Shape := ⟨3, ![4, 2048, 512]⟩
abbrev S4x2048x64 : Shape := ⟨3, ![4, 2048, 64]⟩
abbrev S4x2048x32 : Shape := ⟨3, ![4, 2048, 32]⟩
abbrev S4x2048x128 : Shape := ⟨3, ![4, 2048, 128]⟩
abbrev S8192x128 : Shape := ⟨2, ![8192, 128]⟩

abbrev nBuf : Space → Nat
  | .hbm => 18
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x17504, .f32⟩
  | .hbm, ⟨2, _⟩ => ⟨S4x2048x4096, .f32⟩
  | .hbm, ⟨3, _⟩ => ⟨S4096x17504, .f32⟩
  | .hbm, ⟨4, _⟩ => ⟨S4x2048x17504, .f32⟩
  | .hbm, ⟨5, _⟩ => ⟨S4x2048x2048, .f32⟩
  | .hbm, ⟨6, _⟩ => ⟨S4x2048x512, .f32⟩
  | .hbm, ⟨7, _⟩ => ⟨S4x2048x512, .f32⟩
  | .hbm, ⟨8, _⟩ => ⟨S4x2048x2048, .f32⟩
  | .hbm, ⟨9, _⟩ => ⟨S4x2048x64, .f32⟩
  | .hbm, ⟨10, _⟩ => ⟨S4x2048x32, .f32⟩
  | .hbm, ⟨11, _⟩ => ⟨S4x2048x2048, .f32⟩
  | .hbm, ⟨12, _⟩ => ⟨S4x2048x2048, .f32⟩
  | .hbm, ⟨13, _⟩ => ⟨S4x2048x4096, .f32⟩
  | .hbm, ⟨14, _⟩ => ⟨S4x2048x4096, .f32⟩
  | .hbm, ⟨15, _⟩ => ⟨S4x2048x32, .f32⟩
  | .hbm, ⟨16, _⟩ => ⟨S4x2048x128, .f32⟩
  | .hbm, ⟨17, _⟩ => ⟨S8192x128, .f32⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== Kernel13.lean ====
abbrev S4x2048x4096 : Shape := ⟨3, ![4, 2048, 4096]⟩
abbrev S1x2048 : Shape := ⟨2, ![1, 2048]⟩
abbrev S1x8x128x128 : Shape := ⟨4, ![1, 8, 128, 128]⟩
abbrev S1x8x128 : Shape := ⟨3, ![1, 8, 128]⟩
abbrev S8192x4096 : Shape := ⟨2, ![8192, 4096]⟩
abbrev S2048 : Shape := ⟨1, ![2048]⟩
abbrev S8x128x128 : Shape := ⟨3, ![8, 128, 128]⟩
abbrev S8x128 : Shape := ⟨2, ![8, 128]⟩
abbrev S128x8 : Shape := ⟨2, ![128, 8]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩
abbrev S128x256 : Shape := ⟨2, ![128, 256]⟩

abbrev nBuf : Space → Nat
  | .hbm => 11
  | .vmem => 9
  | .smem => 0
  | _ => 0

abbrev bufTy : (tb : Table) → Fin (tcTables nBuf tb) → BufTy
  | .hbm, ⟨0, _⟩ => ⟨S4x2048x4096, .bf16⟩
  | .hbm, ⟨1, _⟩ => ⟨S1x2048, .f32⟩
  | .hbm, ⟨2, _⟩ => ⟨S1x8x128x128, .f32⟩
  | .hbm, ⟨3, _⟩ => ⟨S1x8x128, .f32⟩
  | .hbm, ⟨4, _⟩ => ⟨S8192x4096, .bf16⟩
  | .hbm, ⟨5, _⟩ => ⟨S2048, .f32⟩
  | .hbm, ⟨6, _⟩ => ⟨S8x128x128, .f32⟩
  | .hbm, ⟨7, _⟩ => ⟨S8x128, .f32⟩
  | .hbm, ⟨8, _⟩ => ⟨S1x2048, .f32⟩
  | .hbm, ⟨9, _⟩ => ⟨S128x8, .f32⟩
  | .hbm, ⟨10, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S8x128x128, .f32⟩
  | .local _ .vmem, ⟨6, _⟩ => ⟨S128x8, .f32⟩
  | .local _ .vmem, ⟨7, _⟩ => ⟨S512x2048, .bf16⟩
  | .local _ .vmem, ⟨8, _⟩ => ⟨S512x2048, .bf16⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference13Ideal.lean ====
abbrev S4x2048x4096 : Shape := ⟨3, ![4, 2048, 4096]⟩
abbrev S1x2048 : Shape := ⟨2, ![1, 2048]⟩
abbrev S1x8x128x128 : Shape := ⟨4, ![1, 8, 128, 128]⟩
abbrev S1x8x128 : Shape := ⟨3, ![1, 8, 128]⟩
abbrev S4x2048x2048 : Shape := ⟨3, ![4, 2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x16x128x8x256 : Shape := ⟨5, ![4, 16, 128, 8, 256]⟩
abbrev S128x128 : Shape := ⟨2, ![128, 128]⟩
abbrev S1x128x128 : Shape := ⟨3, ![1, 128, 128]⟩
abbrev S8x128x128 : Shape := ⟨3, ![8, 128, 128]⟩
abbrev S8x4x16x256x128 : Shape := ⟨5, ![8, 4, 16, 256, 128]⟩
abbrev S8x128 : Shape := ⟨2, ![8, 128]⟩
abbrev S128x8 : Shape := ⟨2, ![128, 8]⟩
abbrev S1x1x128x8x1 : Shape := ⟨5, ![1, 1, 128, 8, 1]⟩
abbrev S8192x2048 : Shape := ⟨2, ![8192, 2048]⟩

abbrev nBuf : Space → Nat
  | .hbm => 54
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S1x2048, .f32⟩
  | .hbm, ⟨2, _⟩ => ⟨S1x8x128x128, .f32⟩
  | .hbm, ⟨3, _⟩ => ⟨S1x8x128, .f32⟩
  | .hbm, ⟨4, _⟩ => ⟨S4x2048x4096, .f32⟩
  | .hbm, ⟨5, _⟩ => ⟨S4x2048x2048, .f32⟩
  | .hbm, ⟨6, _⟩ => ⟨S4x2048x2048, .f32⟩
  | .hbm, ⟨7, _⟩ => ⟨S2048, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S1x1x2048, .f32⟩
  | .hbm, ⟨22, _⟩ => ⟨S4x2048x2048, .f32⟩
  | .hbm, ⟨23, _⟩ => ⟨S4x2048x2048, .f32⟩
  | .hbm, ⟨24, _⟩ => ⟨S4x16x128x8x256, .f32⟩
  | .hbm, ⟨25, _⟩ => ⟨S_, .i1⟩
  | .hbm, ⟨26, _⟩ => ⟨S128x128, .i1⟩
  | .hbm, ⟨27, _⟩ => ⟨S128x128, .i32⟩
  | .hbm, ⟨28, _⟩ => ⟨S_, .i32⟩
  | .hbm, ⟨29, _⟩ => ⟨S128x128, .i32⟩
  | .hbm, ⟨30, _⟩ => ⟨S128x128, .i32⟩
  | .hbm, ⟨31, _⟩ => ⟨S128x128, .i32⟩
  | .hbm, ⟨32, _⟩ => ⟨S128x128, .i1⟩
  | .hbm, ⟨33, _⟩ => ⟨S_, .i1⟩
  | .hbm, ⟨34, _⟩ => ⟨S128x128, .i1⟩
  | .hbm, ⟨35, _⟩ => ⟨S128x128, .i1⟩
  | .hbm, ⟨36, _⟩ => ⟨S1x128x128, .i1⟩
  | .hbm, ⟨37, _⟩ => ⟨S8x128x128, .f32⟩
  | .hbm, ⟨38, _⟩ => ⟨S8x128x128, .f32⟩
  | .hbm, ⟨39, _⟩ => ⟨S_, .f32⟩
  | .hbm, ⟨40, _⟩ => ⟨S8x128x128, .f32⟩
  | .hbm, ⟨41, _⟩ => ⟨S8x128x128, .i1⟩
  | .hbm, ⟨42, _⟩ => ⟨S8x128x128, .f32⟩
  | .hbm, ⟨43, _⟩ => ⟨S8x4x16x256x128, .f32⟩
  | .hbm, ⟨44, _⟩ => ⟨S4x16x128x8x256, .f32⟩
  | .hbm, ⟨45, _⟩ => ⟨S8x128, .f32⟩
  | .hbm, ⟨46, _⟩ => ⟨S128x8, .f32⟩
  | .hbm, ⟨47, _⟩ => ⟨S1x1x128x8x1, .f32⟩
  | .hbm, ⟨48, _⟩ => ⟨S4x16x128x8x256, .f32⟩
  | .hbm, ⟨49, _⟩ => ⟨S4x16x128x8x256, .f32⟩
  | .hbm, ⟨50, _⟩ => ⟨S4x2048x2048, .f32⟩
  | .hbm, ⟨51, _⟩ => ⟨S4x2048x2048, .f32⟩
  | .hbm, ⟨52, _⟩ => ⟨S8192x2048, .f32⟩
  | .hbm, ⟨53, _⟩ => ⟨S8192x2048, .bf16⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_0 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_call1_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]
-- ==== Kernel14.lean ====
abbrev S4x2048x4096 : Shape := ⟨3, ![4, 2048, 4096]⟩
abbrev S8x24576 : Shape := ⟨2, ![8, 24576]⟩
abbrev S1x4096 : Shape := ⟨2, ![1, 4096]⟩
abbrev S8192x4096 : Shape := ⟨2, ![8192, 4096]⟩
abbrev S4096 : Shape := ⟨1, ![4096]⟩
abbrev S8x1x24576 : Shape := ⟨3, ![8, 1, 24576]⟩
abbrev S512x4096 : Shape := ⟨2, ![512, 4096]⟩
abbrev S1x1x4096 : Shape := ⟨3, ![1, 1, 4096]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S8x24576, .f32⟩
  | .hbm, ⟨2, _⟩ => ⟨S1x4096, .f32⟩
  | .hbm, ⟨3, _⟩ => ⟨S8192x4096, .f32⟩
  | .hbm, ⟨4, _⟩ => ⟨S4096, .f32⟩
  | .hbm, ⟨5, _⟩ => ⟨S8x1x24576, .f32⟩
  | .hbm, ⟨6, _⟩ => ⟨S1x4096, .f32⟩
  | .hbm, ⟨7, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S512x4096, .bf16⟩
  | .local _ .vmem, ⟨8, _⟩ => ⟨S512x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference14Ideal.lean ====
abbrev S4x2048x4096 : Shape := ⟨3, ![4, 2048, 4096]⟩
abbrev S8x24576 : Shape := ⟨2, ![8, 24576]⟩
abbrev S1x4096 : Shape := ⟨2, ![1, 4096]⟩
abbrev S4x24576 : Shape := ⟨2, ![4, 24576]⟩
abbrev S4x4096 : Shape := ⟨2, ![4, 4096]⟩
abbrev S4x1x4096 : Shape := ⟨3, ![4, 1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x24576, .f32⟩
  | .hbm, ⟨2, _⟩ => ⟨S1x4096, .f32⟩
  | .hbm, ⟨3, _⟩ => ⟨S4x24576, .f32⟩
  | .hbm, ⟨4, _⟩ => ⟨S4x4096, .f32⟩
  | .hbm, ⟨5, _⟩ => ⟨S4x4096, .f32⟩
  | .hbm, ⟨6, _⟩ => ⟨S4x4096, .f32⟩
  | .hbm, ⟨7, _⟩ => ⟨S4x4096, .f32⟩
  | .hbm, ⟨8, _⟩ => ⟨S4x4096, .f32⟩
  | .hbm, ⟨9, _⟩ => ⟨S4x4096, .f32⟩
  | .hbm, ⟨10, _⟩ => ⟨S4x1x4096, .f32⟩
  | .hbm, ⟨11, _⟩ => ⟨S4x1x4096, .f32⟩
  | .hbm, ⟨12, _⟩ => ⟨S4x1x4096, .f32⟩
  | .hbm, ⟨13, _⟩ => ⟨S4x1x4096, .f32⟩
  | .hbm, ⟨14, _⟩ => ⟨S4x1x4096, .f32⟩
  | .hbm, ⟨15, _⟩ => ⟨S4x1x4096, .f32⟩
  | .hbm, ⟨16, _⟩ => ⟨S4096, .f32⟩
  | .hbm, ⟨17, _⟩ => ⟨S4x2048x4096, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x4096, .f32⟩
  | .hbm, ⟨29, _⟩ => ⟨S4x2048x4096, .f32⟩
  | .hbm, ⟨30, _⟩ => ⟨S1x1x4096, .f32⟩
  | .hbm, ⟨31, _⟩ => ⟨S4x2048x4096, .f32⟩
  | .hbm, ⟨32, _⟩ => ⟨S4x2048x4096, .f32⟩
  | .hbm, ⟨33, _⟩ => ⟨S_, .f32⟩
  | .hbm, ⟨34, _⟩ => ⟨S4x1x4096, .f32⟩
  | .hbm, ⟨35, _⟩ => ⟨S4x1x4096, .f32⟩
  | .hbm, ⟨36, _⟩ => ⟨S4x2048x4096, .f32⟩
  | .hbm, ⟨37, _⟩ => ⟨S4x2048x4096, .f32⟩
  | .hbm, ⟨38, _⟩ => ⟨S4x2048x4096, .f32⟩
  | .hbm, ⟨39, _⟩ => ⟨S4x2048x4096, .f32⟩
  | .hbm, ⟨40, _⟩ => ⟨S8192x4096, .f32⟩
  | .hbm, ⟨41, _⟩ => ⟨S8192x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== Kernel15.lean ====
abbrev S4x2048x4096 : Shape := ⟨3, ![4, 2048, 4096]⟩
abbrev S8x24576 : Shape := ⟨2, ![8, 24576]⟩
abbrev S1x4096 : Shape := ⟨2, ![1, 4096]⟩
abbrev S8192x4096 : Shape := ⟨2, ![8192, 4096]⟩
abbrev S4096 : Shape := ⟨1, ![4096]⟩
abbrev S8x1x24576 : Shape := ⟨3, ![8, 1, 24576]⟩
abbrev S512x4096 : Shape := ⟨2, ![512, 4096]⟩
abbrev S1x1x4096 : Shape := ⟨3, ![1, 1, 4096]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S8x24576, .f32⟩
  | .hbm, ⟨2, _⟩ => ⟨S1x4096, .f32⟩
  | .hbm, ⟨3, _⟩ => ⟨S8192x4096, .f32⟩
  | .hbm, ⟨4, _⟩ => ⟨S4096, .f32⟩
  | .hbm, ⟨5, _⟩ => ⟨S8x1x24576, .f32⟩
  | .hbm, ⟨6, _⟩ => ⟨S1x4096, .f32⟩
  | .hbm, ⟨7, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S512x4096, .bf16⟩
  | .local _ .vmem, ⟨8, _⟩ => ⟨S512x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32_5 : BitVec 32 := 4#32
  let c0_i32_6 : BitVec 32 := 0#32
  ![v16.toNat, c0_i32_4.toNat, c4_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference15Ideal.lean ====
abbrev S4x2048x4096 : Shape := ⟨3, ![4, 2048, 4096]⟩
abbrev S8x24576 : Shape := ⟨2, ![8, 24576]⟩
abbrev S1x4096 : Shape := ⟨2, ![1, 4096]⟩
abbrev S4x24576 : Shape := ⟨2, ![4, 24576]⟩
abbrev S4x4096 : Shape := ⟨2, ![4, 4096]⟩
abbrev S4x1x4096 : Shape := ⟨3, ![4, 1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x24576, .f32⟩
  | .hbm, ⟨2, _⟩ => ⟨S1x4096, .f32⟩
  | .hbm, ⟨3, _⟩ => ⟨S4x24576, .f32⟩
  | .hbm, ⟨4, _⟩ => ⟨S4x4096, .f32⟩
  | .hbm, ⟨5, _⟩ => ⟨S4x4096, .f32⟩
  | .hbm, ⟨6, _⟩ => ⟨S4x4096, .f32⟩
  | .hbm, ⟨7, _⟩ => ⟨S4x4096, .f32⟩
  | .hbm, ⟨8, _⟩ => ⟨S4x4096, .f32⟩
  | .hbm, ⟨9, _⟩ => ⟨S4x4096, .f32⟩
  | .hbm, ⟨10, _⟩ => ⟨S4x1x4096, .f32⟩
  | .hbm, ⟨11, _⟩ => ⟨S4x1x4096, .f32⟩
  | .hbm, ⟨12, _⟩ => ⟨S4x1x4096, .f32⟩
  | .hbm, ⟨13, _⟩ => ⟨S4x1x4096, .f32⟩
  | .hbm, ⟨14, _⟩ => ⟨S4x1x4096, .f32⟩
  | .hbm, ⟨15, _⟩ => ⟨S4x1x4096, .f32⟩
  | .hbm, ⟨16, _⟩ => ⟨S4096, .f32⟩
  | .hbm, ⟨17, _⟩ => ⟨S4x2048x4096, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x4096, .f32⟩
  | .hbm, ⟨29, _⟩ => ⟨S4x2048x4096, .f32⟩
  | .hbm, ⟨30, _⟩ => ⟨S1x1x4096, .f32⟩
  | .hbm, ⟨31, _⟩ => ⟨S4x2048x4096, .f32⟩
  | .hbm, ⟨32, _⟩ => ⟨S4x2048x4096, .f32⟩
  | .hbm, ⟨33, _⟩ => ⟨S_, .f32⟩
  | .hbm, ⟨34, _⟩ => ⟨S4x1x4096, .f32⟩
  | .hbm, ⟨35, _⟩ => ⟨S4x1x4096, .f32⟩
  | .hbm, ⟨36, _⟩ => ⟨S4x2048x4096, .f32⟩
  | .hbm, ⟨37, _⟩ => ⟨S4x2048x4096, .f32⟩
  | .hbm, ⟨38, _⟩ => ⟨S4x2048x4096, .f32⟩
  | .hbm, ⟨39, _⟩ => ⟨S4x2048x4096, .f32⟩
  | .hbm, ⟨40, _⟩ => ⟨S8192x4096, .f32⟩
  | .hbm, ⟨41, _⟩ => ⟨S8192x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== Kernel16.lean ====
abbrev S8x4096 : Shape := ⟨2, ![8, 4096]⟩
abbrev S1x4096x24576 : Shape := ⟨3, ![1, 4096, 24576]⟩
abbrev S1x24576 : Shape := ⟨2, ![1, 24576]⟩
abbrev S1x1x24576 : Shape := ⟨3, ![1, 1, 24576]⟩
abbrev S8x24576 : Shape := ⟨2, ![8, 24576]⟩
abbrev S1x4096x512 : Shape := ⟨3, ![1, 4096, 512]⟩
abbrev S1x1x512 : Shape := ⟨3, ![1, 1, 512]⟩
abbrev S8x512 : Shape := ⟨2, ![8, 512]⟩
abbrev S4096x512 : Shape := ⟨2, ![4096, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S1x4096x24576, .f32⟩
  | .hbm, ⟨2, _⟩ => ⟨S1x24576, .f32⟩
  | .hbm, ⟨3, _⟩ => ⟨S1x1x24576, .f32⟩
  | .hbm, ⟨4, _⟩ => ⟨S8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S8x512, .f32⟩
  | .local _ .vmem, ⟨6, _⟩ => ⟨S8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference16Ideal.lean ====
abbrev S8x4096 : Shape := ⟨2, ![8, 4096]⟩
abbrev S1x4096x24576 : Shape := ⟨3, ![1, 4096, 24576]⟩
abbrev S1x24576 : Shape := ⟨2, ![1, 24576]⟩
abbrev S_ : Shape := ⟨0, ![]⟩
abbrev S4096x24576 : Shape := ⟨2, ![4096, 24576]⟩
abbrev S8x24576 : Shape := ⟨2, ![8, 24576]⟩
abbrev S24576 : Shape := ⟨1, ![24576]⟩

abbrev nBuf : Space → Nat
  | .hbm => 18
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S1x4096x24576, .f32⟩
  | .hbm, ⟨2, _⟩ => ⟨S1x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S4096x24576, .f32⟩
  | .hbm, ⟨13, _⟩ => ⟨S8x24576, .f32⟩
  | .hbm, ⟨14, _⟩ => ⟨S24576, .f32⟩
  | .hbm, ⟨15, _⟩ => ⟨S1x24576, .f32⟩
  | .hbm, ⟨16, _⟩ => ⟨S8x24576, .f32⟩
  | .hbm, ⟨17, _⟩ => ⟨S8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.Attn.Hoare.lean ====
/-
  A small Hoare logic for the attention kernel's body.

  `Runs c R p` says: from the resource `R` the program `p` runs without a fault and gives `R` back. `Has R c m` says:
  inside `R` lies the whole buffer of the memref `m`, at some contents, and whatever contents it has later it can be put
  back. A load or a store of a memref that `R` has runs; so does a sequence of runs, a loop of runs and a choice of runs.
  The kernel's body, of several thousand statements, is then proved by its syntax alone, part by part (Parts).
-/
module

public import proofs.«01_k».proof.Proof.Gen.KernelIdeal
public import Idealize.ShloMosaic.Lib.Tactic
public import Idealize.ShloMosaic.Lib.Ring
public import Idealize.ShloMosaic.Lib.Pipeline.FrameBody

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

abbrev 𝒱₀ : Variants := Variants.none

/-- The whole buffer of `m`, at some contents. -/
def Any (c : Dev nD) {cs : Space} {s : Shape} {e : EltTy} (m : Memref sig .tc cs s e) : sProp 𝕄 :=
  iprop(∃ f : Buf (Elt F) (m.view.loc (c : Thread nD τ)), m.view.loc (c : Thread nD τ) ↦{fullShare} f)

/-- `R` has the whole buffer of `m`, to be taken out and put back. -/
def Has (c : Dev nD) (R : sProp 𝕄) {cs : Space} {s : Shape} {e : EltTy} (m : Memref sig .tc cs s e) : Prop :=
  R ⊢ iprop(Any c m ∗ (Any c m -∗ R))

/-- `p` runs from `R` to `R`. -/
def Runs (c : Dev nD) (R : sProp 𝕄) {α : Type} (p : Prog (TpuEff nD τ sig (Elt F) Λ₀ .tc) α) : Prop :=
  ∀ E : Set ℕ, R ⊢ wp frame (wpE defs₀ 𝒱₀ (c : Thread nD τ) none) E p (fun _ => R)

variable {c : Dev nD} {R : sProp (MT nD τ sig Unit (Elt F) ℕ (UR sig nD τ) ℕ)}

theorem Runs.pure {α : Type} (a : α) : Runs c R (Pure.pure a : Prog (TpuEff nD τ sig (Elt F) Λ₀ .tc) α) := fun E => by
  rw [wp_pure]; iintro H; imodintro; iexact H

theorem Runs.bind {α β : Type} {p : Prog (TpuEff nD τ sig (Elt F) Λ₀ .tc) α}
    {k : α → Prog (TpuEff nD τ sig (Elt F) Λ₀ .tc) β} (hp : Runs c R p) (hk : ∀ a, Runs c R (k a)) : Runs c R (p >>= k) :=
  fun E => by
    rw [wp_bind]; exact (hp E).trans (wp_mono _ _ _ fun a => hk a E)

theorem Runs.load {cs : CoreSpace} {s : Shape} {e : EltTy} {m : Memref sig .tc cs s e} (h : Has c R m)
    {r : LoadRect s} {hl : m.view.LoadsAt r} :
    Runs c R (Prog.lift (.load m r hl) : Prog (TpuEff nD τ sig (Elt F) Λ₀ .tc) _) := fun E => by
  refine BIBase.Entails.trans h ?_
  unfold Any
  iintro ⟨⟨%f, Hf⟩, Hback⟩
  iapply (wp_load 𝒱₀ (c : Thread nD τ) none E (Finset.subset_univ _)) $$ Hf
  iintro Hf
  rw [wp_ret]
  imodintro
  iapply Hback
  iexists f
  iexact Hf

theorem Runs.store {cs : CoreSpace} {s : Shape} {e : EltTy} {m : Memref sig .tc cs s e} (h : Has c R m)
    {r : Rect s} {w : r.shape.Idx → Elt F e} {Mk : Finset r.shape.Idx} {hx : (m.access r).Stores Mk}
    {hm : Mk = Finset.univ ∨ ∀ a, r.stride a = 1} :
    Runs c R (Prog.lift (.store m r w Mk hx hm) : Prog (TpuEff nD τ sig (Elt F) Λ₀ .tc) _) := fun E => by
  refine BIBase.Entails.trans h ?_
  unfold Any
  iintro ⟨⟨%f, Hf⟩, Hback⟩
  iapply (wp_store 𝒱₀ (c : Thread nD τ) none E (m := m) (r := r) (Finset.subset_univ _)) $$ Hf
  iintro Hf
  rw [wp_ret]
  imodintro
  iapply Hback
  iexists _
  iexact Hf

theorem Runs.loop {w : Nat} {σ : Type} (l : Scf.Loop w) (ok : l.OK) (init : σ)
    {body : Fin l.trips → σ → Prog (TpuEff nD τ sig (Elt F) Λ₀ .tc) σ} (hb : ∀ k acc, Runs c R (body k acc)) :
    Runs c R (Scf.Loop.for l ok init body) := fun E => by
  unfold Scf.Loop.for
  refine BIBase.Entails.trans ?_ (Scf.wp_for _ _ _ _ _ _ _ _ _ (fun _ _ => R) (fun k acc => hb k acc E))
  iintro H
  isplitl [H]
  · iexact H
  · iintro %acc H; iexact H

theorem Runs.dite {α : Type} {p : Prop} [Decidable p] {t : p → Prog (TpuEff nD τ sig (Elt F) Λ₀ .tc) α}
    {f : ¬p → Prog (TpuEff nD τ sig (Elt F) Λ₀ .tc) α} (ht : ∀ h, Runs c R (t h)) (hf : ∀ h, Runs c R (f h)) :
    Runs c R (if h : p then t h else f h) := by
  by_cases h : p
  · rw [dif_pos h]; exact ht h
  · rw [dif_neg h]; exact hf h

theorem Runs.ite {α : Type} {p : Prop} [Decidable p] {t f : Prog (TpuEff nD τ sig (Elt F) Λ₀ .tc) α}
    (ht : Runs c R t) (hf : Runs c R f) : Runs c R (if p then t else f) := by
  by_cases h : p
  · rw [if_pos h]; exact ht
  · rw [if_neg h]; exact hf

end Cert.KernelIdeal.Attn

end
-- ==== Proof.Attn.Res.lean ====
/-
  The attention kernel's resource: it has every one of the body's twenty-three memrefs (HasAll).
-/
module

public import proofs.«01_k».proof.Proof.Attn.Hoare

@[expose] public section

set_option maxRecDepth 16384
set_option maxHeartbeats 8000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {c : Dev nD} {R : sProp (MT nD τ sig Unit (Elt F) ℕ (UR sig nD τ) ℕ)}
/-- `R` has each memref of the body. -/
structure HasAll (c : Dev nD) (R : sProp (MT nD τ sig Unit (Elt F) ℕ (UR sig nD τ) ℕ))
  (arg2 : Memref sig .tc .vmem S256x2048 .bf16)
  (arg3 : Memref sig .tc .vmem S256x2048 .bf16)
  (arg4 : Memref sig .tc .vmem S256x128 .f32)
  (arg5 : Memref sig .tc .vmem S2048x512 .bf16)
  (arg6 : Memref sig .tc .vmem S2048x512 .bf16)
  (arg7 : Memref sig .tc .vmem S2048x128 .f32)
  (arg8 : Memref sig .tc .vmem S16x128 .f32)
  (arg9 : Memref sig .tc .vmem S2048x128 .bf16)
  (arg10 : Memref sig .tc .vmem S1x128x4096 .f32)
  (arg11 : Memref sig .tc .vmem S1x64x4096 .f32)
  (arg12 : Memref sig .tc .vmem S1x64x4096 .f32)
  (arg13 : Memref sig .tc .vmem S256x2048 .bf16)
  (arg14 : Memref sig .tc .vmem S128x4096 .bf16)
  (arg15 : Memref sig .tc .vmem S64x4096 .bf16)
  (arg16 : Memref sig .tc .vmem S64x4096 .bf16)
  (arg17 : Memref sig .tc .vmem S8x256x256 .f32)
  (arg18 : Memref sig .tc .vmem S8x256x256 .f32)
  (arg19 : Memref sig .tc .vmem S128x256 .f32)
  (arg20 : Memref sig .tc .vmem S8x256 .i32)
  (arg21 : Memref sig .tc .vmem S8x512x256 .bf16)
  (arg22 : Memref sig .tc .vmem S4x1024x256 .bf16)
  (arg23 : Memref sig .tc .vmem S8x1024 .f32)
  (arg24 : Memref sig .tc .vmem S4x128x1024 .f32) : Prop where
  h2 : Has c R arg2
  h3 : Has c R arg3
  h4 : Has c R arg4
  h5 : Has c R arg5
  h6 : Has c R arg6
  h7 : Has c R arg7
  h8 : Has c R arg8
  h9 : Has c R arg9
  h10 : Has c R arg10
  h11 : Has c R arg11
  h12 : Has c R arg12
  h13 : Has c R arg13
  h14 : Has c R arg14
  h15 : Has c R arg15
  h16 : Has c R arg16
  h17 : Has c R arg17
  h18 : Has c R arg18
  h19 : Has c R arg19
  h20 : Has c R arg20
  h21 : Has c R arg21
  h22 : Has c R arg22
  h23 : Has c R arg23
  h24 : Has c R arg24

end Cert.KernelIdeal.Attn

end
-- ==== Proof.Attn.Parts1.lean ====
/-
  Parts of the attention kernel's body run: each by its syntax, a load or store by the memref it goes to.
-/
module

public import proofs.«01_k».proof.Proof.Attn.Res

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {c : Dev nD} {R : sProp (MT nD τ sig Unit (Elt F) ℕ (UR sig nD τ) ℕ)}
variable {arg2 : Memref sig .tc .vmem S256x2048 .bf16}
  {arg3 : Memref sig .tc .vmem S256x2048 .bf16}
  {arg4 : Memref sig .tc .vmem S256x128 .f32}
  {arg5 : Memref sig .tc .vmem S2048x512 .bf16}
  {arg6 : Memref sig .tc .vmem S2048x512 .bf16}
  {arg7 : Memref sig .tc .vmem S2048x128 .f32}
  {arg8 : Memref sig .tc .vmem S16x128 .f32}
  {arg9 : Memref sig .tc .vmem S2048x128 .bf16}
  {arg10 : Memref sig .tc .vmem S1x128x4096 .f32}
  {arg11 : Memref sig .tc .vmem S1x64x4096 .f32}
  {arg12 : Memref sig .tc .vmem S1x64x4096 .f32}
  {arg13 : Memref sig .tc .vmem S256x2048 .bf16}
  {arg14 : Memref sig .tc .vmem S128x4096 .bf16}
  {arg15 : Memref sig .tc .vmem S64x4096 .bf16}
  {arg16 : Memref sig .tc .vmem S64x4096 .bf16}
  {arg17 : Memref sig .tc .vmem S8x256x256 .f32}
  {arg18 : Memref sig .tc .vmem S8x256x256 .f32}
  {arg19 : Memref sig .tc .vmem S128x256 .f32}
  {arg20 : Memref sig .tc .vmem S8x256 .i32}
  {arg21 : Memref sig .tc .vmem S8x512x256 .bf16}
  {arg22 : Memref sig .tc .vmem S4x1024x256 .bf16}
  {arg23 : Memref sig .tc .vmem S8x1024 .f32}
  {arg24 : Memref sig .tc .vmem S4x128x1024 .f32}

theorem runs_part1 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v23 : IVec S256x128 32) (c0_i32_18 : BitVec 32) (c1_i32_20 : BitVec 32) (k0_t1 : Fin (k0_t1_loop i).trips) :
    Runs c R (F := F) (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v23 c0_i32_18 c1_i32_20 k0_t1) := by
  unfold k0_part1
  repeat (first
    | (extract_lets; clear_value *)
    | with_reducible exact Runs.pure _
    | with_reducible exact Runs.load H.h3
    | with_reducible exact Runs.load H.h7
    | with_reducible exact Runs.load H.h19
    | with_reducible (refine Runs.bind ?_ fun _ => ?_))

theorem runs_part2 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v366 : FVec F S512x128 .bf16) (v383 : FVec F S256x256 .f32) (v385 : FVec F S512x256 .f32) (v386 : Vec F S1x256 .f32) (v387 : FVec F S256x256 .f32) (cst_270 : F .f32) :
    Runs c R (F := F) (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v366 v383 v385 v386 v387 cst_270) := by
  unfold k0_part2
  repeat (first
    | (extract_lets; clear_value *)
    | with_reducible exact Runs.pure _
    | with_reducible exact Runs.load H.h3
    | with_reducible exact Runs.load H.h19
    | with_reducible (refine Runs.bind ?_ fun _ => ?_))

theorem runs_part3 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v366 : FVec F S512x128 .bf16) (v424 : FVec F S256x256 .f32) (v425 : Vec F S1x256 .f32) (v426 : FVec F S256x256 .f32) (cst_286 : F .f32) :
    Runs c R (F := F) (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v366 v424 v425 v426 cst_286) := by
  unfold k0_part3
  repeat (first
    | (extract_lets; clear_value *)
    | with_reducible exact Runs.pure _
    | with_reducible exact Runs.load H.h3
    | with_reducible exact Runs.load H.h19
    | with_reducible (refine Runs.bind ?_ fun _ => ?_))

theorem runs_part4 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v366 : FVec F S512x128 .bf16) (v463 : FVec F S256x256 .f32) (v465 : FVec F S512x256 .f32) :
    Runs c R (F := F) (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v366 v463 v465) := by
  unfold k0_part4
  repeat (first
    | (extract_lets; clear_value *)
    | with_reducible exact Runs.pure _
    | with_reducible exact Runs.load H.h3
    | with_reducible exact Runs.load H.h19
    | with_reducible (refine Runs.bind ?_ fun _ => ?_))

theorem runs_part5 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v366 : FVec F S512x128 .bf16) (v497 : FVec F S512x256 .f32) (v504 : FVec F S256x256 .f32) :
    Runs c R (F := F) (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v366 v497 v504) := by
  unfold k0_part5
  repeat (first
    | (extract_lets; clear_value *)
    | with_reducible exact Runs.pure _
    | with_reducible exact Runs.load H.h3
    | with_reducible exact Runs.load H.h19
    | with_reducible (refine Runs.bind ?_ fun _ => ?_))

theorem runs_part6 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v366 : FVec F S512x128 .bf16) (v543 : FVec F S256x256 .f32) :
    Runs c R (F := F) (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v366 v543) := by
  unfold k0_part6
  repeat (first
    | (extract_lets; clear_value *)
    | with_reducible exact Runs.pure _
    | with_reducible exact Runs.load H.h3
    | with_reducible exact Runs.load H.h19
    | with_reducible (refine Runs.bind ?_ fun _ => ?_))

theorem runs_part7 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v366 : FVec F S512x128 .bf16) (v575 : FVec F S256x256 .f32) (v577 : FVec F S512x256 .f32) (v578 : Vec F S1x256 .f32) (v579 : FVec F S256x256 .f32) (cst_354 : F .f32) :
    Runs c R (F := F) (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v366 v575 v577 v578 v579 cst_354) := by
  unfold k0_part7
  repeat (first
    | (extract_lets; clear_value *)
    | with_reducible exact Runs.pure _
    | with_reducible exact Runs.load H.h3
    | with_reducible exact Runs.load H.h19
    | with_reducible (refine Runs.bind ?_ fun _ => ?_))

end Cert.KernelIdeal.Attn

end
-- ==== Proof.Attn.Parts2.lean ====
/-
  Parts of the attention kernel's body run: each by its syntax, a load or store by the memref it goes to.
-/
module

public import proofs.«01_k».proof.Proof.Attn.Res

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {c : Dev nD} {R : sProp (MT nD τ sig Unit (Elt F) ℕ (UR sig nD τ) ℕ)}
variable {arg2 : Memref sig .tc .vmem S256x2048 .bf16}
  {arg3 : Memref sig .tc .vmem S256x2048 .bf16}
  {arg4 : Memref sig .tc .vmem S256x128 .f32}
  {arg5 : Memref sig .tc .vmem S2048x512 .bf16}
  {arg6 : Memref sig .tc .vmem S2048x512 .bf16}
  {arg7 : Memref sig .tc .vmem S2048x128 .f32}
  {arg8 : Memref sig .tc .vmem S16x128 .f32}
  {arg9 : Memref sig .tc .vmem S2048x128 .bf16}
  {arg10 : Memref sig .tc .vmem S1x128x4096 .f32}
  {arg11 : Memref sig .tc .vmem S1x64x4096 .f32}
  {arg12 : Memref sig .tc .vmem S1x64x4096 .f32}
  {arg13 : Memref sig .tc .vmem S256x2048 .bf16}
  {arg14 : Memref sig .tc .vmem S128x4096 .bf16}
  {arg15 : Memref sig .tc .vmem S64x4096 .bf16}
  {arg16 : Memref sig .tc .vmem S64x4096 .bf16}
  {arg17 : Memref sig .tc .vmem S8x256x256 .f32}
  {arg18 : Memref sig .tc .vmem S8x256x256 .f32}
  {arg19 : Memref sig .tc .vmem S128x256 .f32}
  {arg20 : Memref sig .tc .vmem S8x256 .i32}
  {arg21 : Memref sig .tc .vmem S8x512x256 .bf16}
  {arg22 : Memref sig .tc .vmem S4x1024x256 .bf16}
  {arg23 : Memref sig .tc .vmem S8x1024 .f32}
  {arg24 : Memref sig .tc .vmem S4x128x1024 .f32}

theorem runs_part8 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v23 : IVec S256x128 32) (v28 : BitVec 32) (c1_i32_21 : BitVec 32) (k0_t2 : Fin (k0_t2_loop i).trips) :
    Runs c R (F := F) (k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v23 v28 c1_i32_21 k0_t2) := by
  unfold k0_part8
  repeat (first
    | (extract_lets; clear_value *)
    | with_reducible exact Runs.pure _
    | with_reducible exact Runs.load H.h3
    | with_reducible exact Runs.load H.h7
    | with_reducible exact Runs.load H.h19
    | with_reducible (refine Runs.bind ?_ fun _ => ?_))

theorem runs_part9 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v366 : FVec F S512x128 .bf16) (v383 : FVec F S256x256 .f32) (v385 : FVec F S512x256 .f32) (v386 : Vec F S1x256 .f32) (v387 : FVec F S256x256 .f32) (cst_270 : F .f32) :
    Runs c R (F := F) (k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v366 v383 v385 v386 v387 cst_270) := by
  unfold k0_part9
  repeat (first
    | (extract_lets; clear_value *)
    | with_reducible exact Runs.pure _
    | with_reducible exact Runs.load H.h3
    | with_reducible exact Runs.load H.h19
    | with_reducible (refine Runs.bind ?_ fun _ => ?_))

theorem runs_part10 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v366 : FVec F S512x128 .bf16) (v424 : FVec F S256x256 .f32) (v425 : Vec F S1x256 .f32) (v426 : FVec F S256x256 .f32) (cst_286 : F .f32) :
    Runs c R (F := F) (k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v366 v424 v425 v426 cst_286) := by
  unfold k0_part10
  repeat (first
    | (extract_lets; clear_value *)
    | with_reducible exact Runs.pure _
    | with_reducible exact Runs.load H.h3
    | with_reducible exact Runs.load H.h19
    | with_reducible (refine Runs.bind ?_ fun _ => ?_))

theorem runs_part11 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v366 : FVec F S512x128 .bf16) (v463 : FVec F S256x256 .f32) (v465 : FVec F S512x256 .f32) :
    Runs c R (F := F) (k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v366 v463 v465) := by
  unfold k0_part11
  repeat (first
    | (extract_lets; clear_value *)
    | with_reducible exact Runs.pure _
    | with_reducible exact Runs.load H.h3
    | with_reducible exact Runs.load H.h19
    | with_reducible (refine Runs.bind ?_ fun _ => ?_))

theorem runs_part12 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v366 : FVec F S512x128 .bf16) (v497 : FVec F S512x256 .f32) (v504 : FVec F S256x256 .f32) :
    Runs c R (F := F) (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v366 v497 v504) := by
  unfold k0_part12
  repeat (first
    | (extract_lets; clear_value *)
    | with_reducible exact Runs.pure _
    | with_reducible exact Runs.load H.h3
    | with_reducible exact Runs.load H.h19
    | with_reducible (refine Runs.bind ?_ fun _ => ?_))

theorem runs_part13 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v366 : FVec F S512x128 .bf16) (v543 : FVec F S256x256 .f32) :
    Runs c R (F := F) (k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v366 v543) := by
  unfold k0_part13
  repeat (first
    | (extract_lets; clear_value *)
    | with_reducible exact Runs.pure _
    | with_reducible exact Runs.load H.h3
    | with_reducible exact Runs.load H.h19
    | with_reducible (refine Runs.bind ?_ fun _ => ?_))

theorem runs_part14 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v366 : FVec F S512x128 .bf16) (v575 : FVec F S256x256 .f32) (v577 : FVec F S512x256 .f32) (v578 : Vec F S1x256 .f32) (v579 : FVec F S256x256 .f32) (cst_354 : F .f32) :
    Runs c R (F := F) (k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v366 v575 v577 v578 v579 cst_354) := by
  unfold k0_part14
  repeat (first
    | (extract_lets; clear_value *)
    | with_reducible exact Runs.pure _
    | with_reducible exact Runs.load H.h3
    | with_reducible exact Runs.load H.h19
    | with_reducible (refine Runs.bind ?_ fun _ => ?_))

end Cert.KernelIdeal.Attn

end
-- ==== Proof.Attn.Parts3.lean ====
/-
  Parts of the attention kernel's body run: each by its syntax, a load or store by the memref it goes to.
-/
module

public import proofs.«01_k».proof.Proof.Attn.Res

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {c : Dev nD} {R : sProp (MT nD τ sig Unit (Elt F) ℕ (UR sig nD τ) ℕ)}
variable {arg2 : Memref sig .tc .vmem S256x2048 .bf16}
  {arg3 : Memref sig .tc .vmem S256x2048 .bf16}
  {arg4 : Memref sig .tc .vmem S256x128 .f32}
  {arg5 : Memref sig .tc .vmem S2048x512 .bf16}
  {arg6 : Memref sig .tc .vmem S2048x512 .bf16}
  {arg7 : Memref sig .tc .vmem S2048x128 .f32}
  {arg8 : Memref sig .tc .vmem S16x128 .f32}
  {arg9 : Memref sig .tc .vmem S2048x128 .bf16}
  {arg10 : Memref sig .tc .vmem S1x128x4096 .f32}
  {arg11 : Memref sig .tc .vmem S1x64x4096 .f32}
  {arg12 : Memref sig .tc .vmem S1x64x4096 .f32}
  {arg13 : Memref sig .tc .vmem S256x2048 .bf16}
  {arg14 : Memref sig .tc .vmem S128x4096 .bf16}
  {arg15 : Memref sig .tc .vmem S64x4096 .bf16}
  {arg16 : Memref sig .tc .vmem S64x4096 .bf16}
  {arg17 : Memref sig .tc .vmem S8x256x256 .f32}
  {arg18 : Memref sig .tc .vmem S8x256x256 .f32}
  {arg19 : Memref sig .tc .vmem S128x256 .f32}
  {arg20 : Memref sig .tc .vmem S8x256 .i32}
  {arg21 : Memref sig .tc .vmem S8x512x256 .bf16}
  {arg22 : Memref sig .tc .vmem S4x1024x256 .bf16}
  {arg23 : Memref sig .tc .vmem S8x1024 .f32}
  {arg24 : Memref sig .tc .vmem S4x128x1024 .f32}

theorem runs_part15 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v12 : BitVec 32) (v14 : IVec S256x256 32) (k0_h2 : k0_cond2 i = 1#1) :
    Runs c R (F := F) (k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v12 v14 k0_h2) := by
  unfold k0_part15
  repeat (first
    | (extract_lets; clear_value *)
    | with_reducible exact Runs.pure _
    | with_reducible exact Runs.load H.h17
    | with_reducible exact Runs.load H.h20
    | with_reducible exact Runs.store H.h20
    | with_reducible (refine Runs.bind ?_ fun _ => ?_)
    | with_reducible (refine Runs.loop _ _ _ fun _ _ => ?_))

theorem runs_part16 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
     :
    Runs c R (F := F) (k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 ) := by
  unfold k0_part16
  repeat (first
    | (extract_lets; clear_value *)
    | with_reducible exact Runs.pure _
    | with_reducible exact Runs.load H.h6
    | with_reducible exact Runs.load H.h21
    | with_reducible exact Runs.store H.h21
    | with_reducible (refine Runs.bind ?_ fun _ => ?_))

theorem runs_part17 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v383 : FVec F S128x256 .bf16) :
    Runs c R (F := F) (k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v383) := by
  unfold k0_part17
  repeat (first
    | (extract_lets; clear_value *)
    | with_reducible exact Runs.pure _
    | with_reducible exact Runs.load H.h6
    | with_reducible exact Runs.load H.h21
    | with_reducible exact Runs.store H.h21
    | with_reducible (refine Runs.bind ?_ fun _ => ?_))

theorem runs_part18 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v415 : Vec F S256x128 .bf16) :
    Runs c R (F := F) (k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v415) := by
  unfold k0_part18
  repeat (first
    | (extract_lets; clear_value *)
    | with_reducible exact Runs.pure _
    | with_reducible exact Runs.load H.h6
    | with_reducible exact Runs.load H.h21
    | with_reducible exact Runs.store H.h21
    | with_reducible (refine Runs.bind ?_ fun _ => ?_))

theorem runs_part19 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v446 : FVec F S128x256 .bf16) :
    Runs c R (F := F) (k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v446) := by
  unfold k0_part19
  repeat (first
    | (extract_lets; clear_value *)
    | with_reducible exact Runs.pure _
    | with_reducible exact Runs.load H.h6
    | with_reducible exact Runs.load H.h21
    | with_reducible exact Runs.store H.h21
    | with_reducible (refine Runs.bind ?_ fun _ => ?_))

theorem runs_part20 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v481 : FVec F S128x256 .bf16) :
    Runs c R (F := F) (k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v481) := by
  unfold k0_part20
  repeat (first
    | (extract_lets; clear_value *)
    | with_reducible exact Runs.pure _
    | with_reducible exact Runs.load H.h6
    | with_reducible exact Runs.load H.h21
    | with_reducible exact Runs.store H.h21
    | with_reducible (refine Runs.bind ?_ fun _ => ?_))

theorem runs_part21 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
     :
    Runs c R (F := F) (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 ) := by
  unfold k0_part21
  repeat (first
    | (extract_lets; clear_value *)
    | with_reducible exact Runs.pure _
    | with_reducible exact Runs.load H.h6
    | with_reducible exact Runs.load H.h21
    | with_reducible exact Runs.store H.h21
    | with_reducible (refine Runs.bind ?_ fun _ => ?_))

theorem runs_part22 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
     :
    Runs c R (F := F) (k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 ) := by
  unfold k0_part22
  repeat (first
    | (extract_lets; clear_value *)
    | with_reducible exact Runs.pure _
    | with_reducible exact Runs.load H.h6
    | with_reducible exact Runs.load H.h21
    | with_reducible exact Runs.store H.h21
    | with_reducible exact runs_part16 H ..
    | with_reducible exact runs_part17 H ..
    | with_reducible exact runs_part18 H ..
    | with_reducible exact runs_part19 H ..
    | with_reducible exact runs_part20 H ..
    | with_reducible exact runs_part21 H ..
    | with_reducible (refine Runs.bind ?_ fun _ => ?_))

end Cert.KernelIdeal.Attn

end
-- ==== Proof.Attn.Parts6.lean ====
/-
  Parts of the attention kernel's body run: each by its syntax, a load or store by the memref it goes to.
-/
module

public import proofs.«01_k».proof.Proof.Attn.Res
public import proofs.«01_k».proof.Proof.Attn.Parts1
public import proofs.«01_k».proof.Proof.Attn.Parts2
public import proofs.«01_k».proof.Proof.Attn.Parts3

@[expose] public section

set_option maxRecDepth 16384

set_option maxHeartbeats 8000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {c : Dev nD} {R : sProp (MT nD τ sig Unit (Elt F) ℕ (UR sig nD τ) ℕ)}
variable {arg2 : Memref sig .tc .vmem S256x2048 .bf16}
  {arg3 : Memref sig .tc .vmem S256x2048 .bf16}
  {arg4 : Memref sig .tc .vmem S256x128 .f32}
  {arg5 : Memref sig .tc .vmem S2048x512 .bf16}
  {arg6 : Memref sig .tc .vmem S2048x512 .bf16}
  {arg7 : Memref sig .tc .vmem S2048x128 .f32}
  {arg8 : Memref sig .tc .vmem S16x128 .f32}
  {arg9 : Memref sig .tc .vmem S2048x128 .bf16}
  {arg10 : Memref sig .tc .vmem S1x128x4096 .f32}
  {arg11 : Memref sig .tc .vmem S1x64x4096 .f32}
  {arg12 : Memref sig .tc .vmem S1x64x4096 .f32}
  {arg13 : Memref sig .tc .vmem S256x2048 .bf16}
  {arg14 : Memref sig .tc .vmem S128x4096 .bf16}
  {arg15 : Memref sig .tc .vmem S64x4096 .bf16}
  {arg16 : Memref sig .tc .vmem S64x4096 .bf16}
  {arg17 : Memref sig .tc .vmem S8x256x256 .f32}
  {arg18 : Memref sig .tc .vmem S8x256x256 .f32}
  {arg19 : Memref sig .tc .vmem S128x256 .f32}
  {arg20 : Memref sig .tc .vmem S8x256 .i32}
  {arg21 : Memref sig .tc .vmem S8x512x256 .bf16}
  {arg22 : Memref sig .tc .vmem S4x1024x256 .bf16}
  {arg23 : Memref sig .tc .vmem S8x1024 .f32}
  {arg24 : Memref sig .tc .vmem S4x128x1024 .f32}

theorem runs_part36 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (arg1 : BitVec 32) (v12 : BitVec 32) (v13 : BitVec 32) (v14 : IVec S256x256 32) (v15 : IVec S256x256 32) (v23 : IVec S256x128 32) (c0_i32_18 : BitVec 32) (v28 : BitVec 32) :
    Runs c R (F := F) (k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v12 v13 v14 v15 v23 c0_i32_18 v28) := by
  unfold k0_part36
  repeat (first
    | extract_lets
    | with_reducible exact Runs.pure _
    | with_reducible exact Runs.load H.h2
    | with_reducible exact Runs.load H.h17
    | with_reducible exact Runs.load H.h18
    | with_reducible exact Runs.load H.h20
    | with_reducible exact Runs.load H.h22
    | with_reducible exact Runs.store H.h17
    | with_reducible exact Runs.store H.h18
    | with_reducible exact Runs.store H.h20
    | with_reducible exact Runs.store H.h21
    | with_reducible exact Runs.store H.h22
    | with_reducible exact runs_part1 H ..
    | with_reducible exact runs_part2 H ..
    | with_reducible exact runs_part3 H ..
    | with_reducible exact runs_part4 H ..
    | with_reducible exact runs_part5 H ..
    | with_reducible exact runs_part6 H ..
    | with_reducible exact runs_part7 H ..
    | with_reducible exact runs_part8 H ..
    | with_reducible exact runs_part9 H ..
    | with_reducible exact runs_part10 H ..
    | with_reducible exact runs_part11 H ..
    | with_reducible exact runs_part12 H ..
    | with_reducible exact runs_part13 H ..
    | with_reducible exact runs_part14 H ..
    | with_reducible exact runs_part15 H ..
    | with_reducible exact runs_part22 H ..
    | with_reducible (refine Runs.bind ?_ fun _ => ?_)
    | with_reducible (refine Runs.loop _ _ _ fun _ _ => ?_)
    | with_reducible (refine Runs.dite (fun _ => ?_) (fun _ => ?_))
    | with_reducible (refine Runs.ite ?_ ?_)
    | split)

end Cert.KernelIdeal.Attn

end
-- ==== Proof.Attn.Parts7.lean ====
/-
  Parts of the attention kernel's body run: each by its syntax, a load or store by the memref it goes to.
-/
module

public import proofs.«01_k».proof.Proof.Attn.Res

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {c : Dev nD} {R : sProp (MT nD τ sig Unit (Elt F) ℕ (UR sig nD τ) ℕ)}
variable {arg2 : Memref sig .tc .vmem S256x2048 .bf16}
  {arg3 : Memref sig .tc .vmem S256x2048 .bf16}
  {arg4 : Memref sig .tc .vmem S256x128 .f32}
  {arg5 : Memref sig .tc .vmem S2048x512 .bf16}
  {arg6 : Memref sig .tc .vmem S2048x512 .bf16}
  {arg7 : Memref sig .tc .vmem S2048x128 .f32}
  {arg8 : Memref sig .tc .vmem S16x128 .f32}
  {arg9 : Memref sig .tc .vmem S2048x128 .bf16}
  {arg10 : Memref sig .tc .vmem S1x128x4096 .f32}
  {arg11 : Memref sig .tc .vmem S1x64x4096 .f32}
  {arg12 : Memref sig .tc .vmem S1x64x4096 .f32}
  {arg13 : Memref sig .tc .vmem S256x2048 .bf16}
  {arg14 : Memref sig .tc .vmem S128x4096 .bf16}
  {arg15 : Memref sig .tc .vmem S64x4096 .bf16}
  {arg16 : Memref sig .tc .vmem S64x4096 .bf16}
  {arg17 : Memref sig .tc .vmem S8x256x256 .f32}
  {arg18 : Memref sig .tc .vmem S8x256x256 .f32}
  {arg19 : Memref sig .tc .vmem S128x256 .f32}
  {arg20 : Memref sig .tc .vmem S8x256 .i32}
  {arg21 : Memref sig .tc .vmem S8x512x256 .bf16}
  {arg22 : Memref sig .tc .vmem S4x1024x256 .bf16}
  {arg23 : Memref sig .tc .vmem S8x1024 .f32}
  {arg24 : Memref sig .tc .vmem S4x128x1024 .f32}

theorem runs_part35 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
     :
    Runs c R (F := F) (k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 ) := by
  unfold k0_part35
  repeat (first
    | (extract_lets; clear_value *)
    | with_reducible exact Runs.pure _
    | with_reducible exact Runs.load H.h4
    | with_reducible exact Runs.load H.h10
    | with_reducible exact Runs.load H.h11
    | with_reducible exact Runs.load H.h12
    | with_reducible exact Runs.load H.h14
    | with_reducible exact Runs.load H.h15
    | with_reducible exact Runs.load H.h16
    | with_reducible exact Runs.load H.h19
    | with_reducible exact Runs.store H.h14
    | with_reducible exact Runs.store H.h15
    | with_reducible exact Runs.store H.h16
    | with_reducible exact Runs.store H.h19
    | with_reducible (refine Runs.bind ?_ fun _ => ?_))

theorem runs_part37 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
     :
    Runs c R (F := F) (k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 ) := by
  unfold k0_part37
  repeat (first
    | (extract_lets; clear_value *)
    | with_reducible exact Runs.pure _
    | with_reducible exact Runs.load H.h2
    | with_reducible exact Runs.load H.h8
    | with_reducible exact Runs.load H.h22
    | with_reducible exact Runs.store H.h22
    | with_reducible (refine Runs.bind ?_ fun _ => ?_))

theorem runs_part38 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v84 : Vec F S256x128 .bf16) :
    Runs c R (F := F) (k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v84) := by
  unfold k0_part38
  repeat (first
    | (extract_lets; clear_value *)
    | with_reducible exact Runs.pure _
    | with_reducible exact Runs.load H.h2
    | with_reducible exact Runs.load H.h8
    | with_reducible exact Runs.load H.h22
    | with_reducible exact Runs.store H.h22
    | with_reducible (refine Runs.bind ?_ fun _ => ?_))

theorem runs_part39 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v113 : FVec F S256x128 .bf16) :
    Runs c R (F := F) (k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v113) := by
  unfold k0_part39
  repeat (first
    | (extract_lets; clear_value *)
    | with_reducible exact Runs.pure _
    | with_reducible exact Runs.load H.h2
    | with_reducible exact Runs.load H.h8
    | with_reducible exact Runs.load H.h22
    | with_reducible exact Runs.store H.h22
    | with_reducible (refine Runs.bind ?_ fun _ => ?_))

theorem runs_part40 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v139 : Vec F S256x128 .bf16) :
    Runs c R (F := F) (k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v139) := by
  unfold k0_part40
  repeat (first
    | (extract_lets; clear_value *)
    | with_reducible exact Runs.pure _
    | with_reducible exact Runs.load H.h2
    | with_reducible exact Runs.load H.h8
    | with_reducible exact Runs.load H.h22
    | with_reducible exact Runs.store H.h22
    | with_reducible (refine Runs.bind ?_ fun _ => ?_))

theorem runs_part41 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v171 : FVec F S1x256x128 .bf16) :
    Runs c R (F := F) (k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v171) := by
  unfold k0_part41
  repeat (first
    | (extract_lets; clear_value *)
    | with_reducible exact Runs.pure _
    | with_reducible exact Runs.load H.h2
    | with_reducible exact Runs.load H.h8
    | with_reducible exact Runs.load H.h22
    | with_reducible exact Runs.store H.h22
    | with_reducible (refine Runs.bind ?_ fun _ => ?_))

theorem runs_part42 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v198 : Vec F S1x128 .f32) :
    Runs c R (F := F) (k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v198) := by
  unfold k0_part42
  repeat (first
    | (extract_lets; clear_value *)
    | with_reducible exact Runs.pure _
    | with_reducible exact Runs.load H.h2
    | with_reducible exact Runs.load H.h8
    | with_reducible exact Runs.load H.h22
    | with_reducible exact Runs.store H.h22
    | with_reducible (refine Runs.bind ?_ fun _ => ?_))

theorem runs_part43 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v227 : FVec F S4x128x1024 .f32) :
    Runs c R (F := F) (k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v227) := by
  unfold k0_part43
  repeat (first
    | (extract_lets; clear_value *)
    | with_reducible exact Runs.pure _
    | with_reducible exact Runs.load H.h23
    | with_reducible exact Runs.load H.h24
    | with_reducible exact Runs.store H.h23
    | with_reducible exact Runs.store H.h24
    | with_reducible (refine Runs.bind ?_ fun _ => ?_))

end Cert.KernelIdeal.Attn

end
-- ==== Proof.Attn.Parts4.lean ====
/-
  Parts of the attention kernel's body run: each by its syntax, a load or store by the memref it goes to.
-/
module

public import proofs.«01_k».proof.Proof.Attn.Res

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {c : Dev nD} {R : sProp (MT nD τ sig Unit (Elt F) ℕ (UR sig nD τ) ℕ)}
variable {arg2 : Memref sig .tc .vmem S256x2048 .bf16}
  {arg3 : Memref sig .tc .vmem S256x2048 .bf16}
  {arg4 : Memref sig .tc .vmem S256x128 .f32}
  {arg5 : Memref sig .tc .vmem S2048x512 .bf16}
  {arg6 : Memref sig .tc .vmem S2048x512 .bf16}
  {arg7 : Memref sig .tc .vmem S2048x128 .f32}
  {arg8 : Memref sig .tc .vmem S16x128 .f32}
  {arg9 : Memref sig .tc .vmem S2048x128 .bf16}
  {arg10 : Memref sig .tc .vmem S1x128x4096 .f32}
  {arg11 : Memref sig .tc .vmem S1x64x4096 .f32}
  {arg12 : Memref sig .tc .vmem S1x64x4096 .f32}
  {arg13 : Memref sig .tc .vmem S256x2048 .bf16}
  {arg14 : Memref sig .tc .vmem S128x4096 .bf16}
  {arg15 : Memref sig .tc .vmem S64x4096 .bf16}
  {arg16 : Memref sig .tc .vmem S64x4096 .bf16}
  {arg17 : Memref sig .tc .vmem S8x256x256 .f32}
  {arg18 : Memref sig .tc .vmem S8x256x256 .f32}
  {arg19 : Memref sig .tc .vmem S128x256 .f32}
  {arg20 : Memref sig .tc .vmem S8x256 .i32}
  {arg21 : Memref sig .tc .vmem S8x512x256 .bf16}
  {arg22 : Memref sig .tc .vmem S4x1024x256 .bf16}
  {arg23 : Memref sig .tc .vmem S8x1024 .f32}
  {arg24 : Memref sig .tc .vmem S4x128x1024 .f32}

theorem runs_part23 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (c0_i32_196 : BitVec 32) (c1_i32_198 : BitVec 32) (k0_t15 : Fin (k0_t15_loop i).trips) :
    Runs c R (F := F) (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c0_i32_196 c1_i32_198 k0_t15) := by
  unfold k0_part23
  repeat (first
    | (extract_lets; clear_value *)
    | with_reducible exact Runs.pure _
    | with_reducible exact Runs.load H.h5
    | with_reducible exact Runs.load H.h9
    | with_reducible exact Runs.load H.h18
    | with_reducible exact Runs.load H.h22
    | with_reducible (refine Runs.bind ?_ fun _ => ?_))

theorem runs_part24 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (k0_t15 : Fin (k0_t15_loop i).trips) (arg25 : BitVec 32) (v360 : FVec F S256x1024 .f32) (v367 : FVec F S256x1024 .f32) (v384 : FVec F S256x256 .bf16) (v386 : FVec F S1024x256 .bf16) (cst_275 : FVec F S256x1024 .f32) :
    Runs c R (F := F) (k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_t15 arg25 v360 v367 v384 v386 cst_275) := by
  unfold k0_part24
  repeat (first
    | (extract_lets; clear_value *)
    | with_reducible exact Runs.pure _
    | with_reducible exact Runs.load H.h21
    | with_reducible exact Runs.load H.h23
    | with_reducible exact Runs.store H.h23
    | with_reducible (refine Runs.bind ?_ fun _ => ?_))

theorem runs_part25 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (k0_t15 : Fin (k0_t15_loop i).trips) (arg25 : BitVec 32) (v374 : FVec F S256x1024 .f32) (v391 : FVec F S128x256 .bf16) (v412 : FVec F S1x1024 .f32) (v415 : FVec F S256x1024 .f32) (v420 : FVec F S1x1024 .f32) (v435 : FVec F S8x1024 .f32) :
    Runs c R (F := F) (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_t15 arg25 v374 v391 v412 v415 v420 v435) := by
  unfold k0_part25
  repeat (first
    | (extract_lets; clear_value *)
    | with_reducible exact Runs.pure _
    | with_reducible exact Runs.load H.h21
    | with_reducible exact Runs.load H.h23
    | with_reducible exact Runs.load H.h24
    | with_reducible exact Runs.store H.h23
    | with_reducible exact Runs.store H.h24
    | with_reducible (refine Runs.bind ?_ fun _ => ?_))

theorem runs_part26 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (k0_t15 : Fin (k0_t15_loop i).trips) (arg25 : BitVec 32) (v454 : FVec F S128x256 .bf16) (v473 : FVec F S1x1024 .f32) (v475 : FVec F S1x1024 .f32) (v478 : FVec F S256x1024 .f32) :
    Runs c R (F := F) (k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_t15 arg25 v454 v473 v475 v478) := by
  unfold k0_part26
  repeat (first
    | (extract_lets; clear_value *)
    | with_reducible exact Runs.pure _
    | with_reducible exact Runs.load H.h21
    | with_reducible exact Runs.load H.h23
    | with_reducible exact Runs.load H.h24
    | with_reducible exact Runs.store H.h23
    | with_reducible exact Runs.store H.h24
    | with_reducible (refine Runs.bind ?_ fun _ => ?_))

theorem runs_part27 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v381 : FVec F S256x1024 .f32) (v518 : Vec F S1x1024 .f32) :
    Runs c R (F := F) (k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v381 v518) := by
  unfold k0_part27
  repeat (first
    | (extract_lets; clear_value *)
    | with_reducible exact Runs.pure _
    | with_reducible exact Runs.load H.h23
    | with_reducible exact Runs.store H.h23
    | with_reducible (refine Runs.bind ?_ fun _ => ?_))

theorem runs_part28 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (k0_t15 : Fin (k0_t15_loop i).trips) (arg25 : BitVec 32) (v388 : FVec F S256x1024 .f32) (v517 : FVec F S128x256 .bf16) (v538 : FVec F S1x1024 .f32) (v541 : FVec F S256x1024 .f32) :
    Runs c R (F := F) (k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_t15 arg25 v388 v517 v538 v541) := by
  unfold k0_part28
  repeat (first
    | (extract_lets; clear_value *)
    | with_reducible exact Runs.pure _
    | with_reducible exact Runs.load H.h21
    | with_reducible exact Runs.load H.h23
    | with_reducible exact Runs.load H.h24
    | with_reducible exact Runs.store H.h23
    | with_reducible exact Runs.store H.h24
    | with_reducible (refine Runs.bind ?_ fun _ => ?_))

end Cert.KernelIdeal.Attn

end
-- ==== Proof.Attn.Parts5.lean ====
/-
  Parts of the attention kernel's body run: each by its syntax, a load or store by the memref it goes to.
-/
module

public import proofs.«01_k».proof.Proof.Attn.Res

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {c : Dev nD} {R : sProp (MT nD τ sig Unit (Elt F) ℕ (UR sig nD τ) ℕ)}
variable {arg2 : Memref sig .tc .vmem S256x2048 .bf16}
  {arg3 : Memref sig .tc .vmem S256x2048 .bf16}
  {arg4 : Memref sig .tc .vmem S256x128 .f32}
  {arg5 : Memref sig .tc .vmem S2048x512 .bf16}
  {arg6 : Memref sig .tc .vmem S2048x512 .bf16}
  {arg7 : Memref sig .tc .vmem S2048x128 .f32}
  {arg8 : Memref sig .tc .vmem S16x128 .f32}
  {arg9 : Memref sig .tc .vmem S2048x128 .bf16}
  {arg10 : Memref sig .tc .vmem S1x128x4096 .f32}
  {arg11 : Memref sig .tc .vmem S1x64x4096 .f32}
  {arg12 : Memref sig .tc .vmem S1x64x4096 .f32}
  {arg13 : Memref sig .tc .vmem S256x2048 .bf16}
  {arg14 : Memref sig .tc .vmem S128x4096 .bf16}
  {arg15 : Memref sig .tc .vmem S64x4096 .bf16}
  {arg16 : Memref sig .tc .vmem S64x4096 .bf16}
  {arg17 : Memref sig .tc .vmem S8x256x256 .f32}
  {arg18 : Memref sig .tc .vmem S8x256x256 .f32}
  {arg19 : Memref sig .tc .vmem S128x256 .f32}
  {arg20 : Memref sig .tc .vmem S8x256 .i32}
  {arg21 : Memref sig .tc .vmem S8x512x256 .bf16}
  {arg22 : Memref sig .tc .vmem S4x1024x256 .bf16}
  {arg23 : Memref sig .tc .vmem S8x1024 .f32}
  {arg24 : Memref sig .tc .vmem S4x128x1024 .f32}

theorem runs_part29 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v267 : BitVec 32) (c1_i32_199 : BitVec 32) (k0_t16 : Fin (k0_t16_loop i).trips) :
    Runs c R (F := F) (k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v267 c1_i32_199 k0_t16) := by
  unfold k0_part29
  repeat (first
    | (extract_lets; clear_value *)
    | with_reducible exact Runs.pure _
    | with_reducible exact Runs.load H.h5
    | with_reducible exact Runs.load H.h9
    | with_reducible exact Runs.load H.h18
    | with_reducible exact Runs.load H.h22
    | with_reducible (refine Runs.bind ?_ fun _ => ?_))

theorem runs_part30 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (k0_t16 : Fin (k0_t16_loop i).trips) (arg25 : BitVec 32) (v360 : FVec F S256x1024 .f32) (v367 : FVec F S256x1024 .f32) (v384 : FVec F S256x256 .bf16) (v386 : FVec F S1024x256 .bf16) (cst_275 : FVec F S256x1024 .f32) :
    Runs c R (F := F) (k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_t16 arg25 v360 v367 v384 v386 cst_275) := by
  unfold k0_part30
  repeat (first
    | (extract_lets; clear_value *)
    | with_reducible exact Runs.pure _
    | with_reducible exact Runs.load H.h21
    | with_reducible exact Runs.load H.h23
    | with_reducible exact Runs.store H.h23
    | with_reducible (refine Runs.bind ?_ fun _ => ?_))

theorem runs_part31 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (k0_t16 : Fin (k0_t16_loop i).trips) (arg25 : BitVec 32) (v374 : FVec F S256x1024 .f32) (v391 : FVec F S128x256 .bf16) (v412 : FVec F S1x1024 .f32) (v415 : FVec F S256x1024 .f32) (v420 : FVec F S1x1024 .f32) (v435 : FVec F S8x1024 .f32) :
    Runs c R (F := F) (k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_t16 arg25 v374 v391 v412 v415 v420 v435) := by
  unfold k0_part31
  repeat (first
    | (extract_lets; clear_value *)
    | with_reducible exact Runs.pure _
    | with_reducible exact Runs.load H.h21
    | with_reducible exact Runs.load H.h23
    | with_reducible exact Runs.load H.h24
    | with_reducible exact Runs.store H.h23
    | with_reducible exact Runs.store H.h24
    | with_reducible (refine Runs.bind ?_ fun _ => ?_))

theorem runs_part32 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (k0_t16 : Fin (k0_t16_loop i).trips) (arg25 : BitVec 32) (v454 : FVec F S128x256 .bf16) (v473 : FVec F S1x1024 .f32) (v475 : FVec F S1x1024 .f32) (v478 : FVec F S256x1024 .f32) :
    Runs c R (F := F) (k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_t16 arg25 v454 v473 v475 v478) := by
  unfold k0_part32
  repeat (first
    | (extract_lets; clear_value *)
    | with_reducible exact Runs.pure _
    | with_reducible exact Runs.load H.h21
    | with_reducible exact Runs.load H.h23
    | with_reducible exact Runs.load H.h24
    | with_reducible exact Runs.store H.h23
    | with_reducible exact Runs.store H.h24
    | with_reducible (refine Runs.bind ?_ fun _ => ?_))

theorem runs_part33 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v381 : FVec F S256x1024 .f32) (v518 : Vec F S1x1024 .f32) :
    Runs c R (F := F) (k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v381 v518) := by
  unfold k0_part33
  repeat (first
    | (extract_lets; clear_value *)
    | with_reducible exact Runs.pure _
    | with_reducible exact Runs.load H.h23
    | with_reducible exact Runs.store H.h23
    | with_reducible (refine Runs.bind ?_ fun _ => ?_))

theorem runs_part34 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (k0_t16 : Fin (k0_t16_loop i).trips) (arg25 : BitVec 32) (v388 : FVec F S256x1024 .f32) (v517 : FVec F S128x256 .bf16) (v538 : FVec F S1x1024 .f32) (v541 : FVec F S256x1024 .f32) :
    Runs c R (F := F) (k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_t16 arg25 v388 v517 v538 v541) := by
  unfold k0_part34
  repeat (first
    | (extract_lets; clear_value *)
    | with_reducible exact Runs.pure _
    | with_reducible exact Runs.load H.h21
    | with_reducible exact Runs.load H.h23
    | with_reducible exact Runs.load H.h24
    | with_reducible exact Runs.store H.h23
    | with_reducible exact Runs.store H.h24
    | with_reducible (refine Runs.bind ?_ fun _ => ?_))

end Cert.KernelIdeal.Attn

end
-- ==== Proof.Attn.Parts8.lean ====
/-
  Parts of the attention kernel's body run: each by its syntax, a load or store by the memref it goes to.
-/
module

public import proofs.«01_k».proof.Proof.Attn.Res
public import proofs.«01_k».proof.Proof.Attn.Parts4
public import proofs.«01_k».proof.Proof.Attn.Parts5

@[expose] public section

set_option maxRecDepth 16384

set_option maxHeartbeats 8000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {c : Dev nD} {R : sProp (MT nD τ sig Unit (Elt F) ℕ (UR sig nD τ) ℕ)}
variable {arg2 : Memref sig .tc .vmem S256x2048 .bf16}
  {arg3 : Memref sig .tc .vmem S256x2048 .bf16}
  {arg4 : Memref sig .tc .vmem S256x128 .f32}
  {arg5 : Memref sig .tc .vmem S2048x512 .bf16}
  {arg6 : Memref sig .tc .vmem S2048x512 .bf16}
  {arg7 : Memref sig .tc .vmem S2048x128 .f32}
  {arg8 : Memref sig .tc .vmem S16x128 .f32}
  {arg9 : Memref sig .tc .vmem S2048x128 .bf16}
  {arg10 : Memref sig .tc .vmem S1x128x4096 .f32}
  {arg11 : Memref sig .tc .vmem S1x64x4096 .f32}
  {arg12 : Memref sig .tc .vmem S1x64x4096 .f32}
  {arg13 : Memref sig .tc .vmem S256x2048 .bf16}
  {arg14 : Memref sig .tc .vmem S128x4096 .bf16}
  {arg15 : Memref sig .tc .vmem S64x4096 .bf16}
  {arg16 : Memref sig .tc .vmem S64x4096 .bf16}
  {arg17 : Memref sig .tc .vmem S8x256x256 .f32}
  {arg18 : Memref sig .tc .vmem S8x256x256 .f32}
  {arg19 : Memref sig .tc .vmem S128x256 .f32}
  {arg20 : Memref sig .tc .vmem S8x256 .i32}
  {arg21 : Memref sig .tc .vmem S8x512x256 .bf16}
  {arg22 : Memref sig .tc .vmem S4x1024x256 .bf16}
  {arg23 : Memref sig .tc .vmem S8x1024 .f32}
  {arg24 : Memref sig .tc .vmem S4x128x1024 .f32}

theorem runs_part44 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
    (v12 : BitVec 32) (v258 : FVec F S1x1024 .f32) :
    Runs c R (F := F) (k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v12 v258) := by
  unfold k0_part44
  repeat (first
    | (extract_lets; clear_value *)
    | with_reducible exact Runs.pure _
    | with_reducible exact Runs.load H.h13
    | with_reducible exact Runs.load H.h23
    | with_reducible exact Runs.load H.h24
    | with_reducible exact Runs.store H.h13
    | with_reducible exact Runs.store H.h23
    | with_reducible exact Runs.store H.h24
    | with_reducible exact runs_part23 H ..
    | with_reducible exact runs_part24 H ..
    | with_reducible exact runs_part25 H ..
    | with_reducible exact runs_part26 H ..
    | with_reducible exact runs_part27 H ..
    | with_reducible exact runs_part28 H ..
    | with_reducible exact runs_part29 H ..
    | with_reducible exact runs_part30 H ..
    | with_reducible exact runs_part31 H ..
    | with_reducible exact runs_part32 H ..
    | with_reducible exact runs_part33 H ..
    | with_reducible exact runs_part34 H ..
    | with_reducible (refine Runs.bind ?_ fun _ => ?_)
    | with_reducible (refine Runs.loop _ _ _ fun _ _ => ?_)
    | split)

theorem runs_part45 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
     :
    Runs c R (F := F) (k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 ) := by
  unfold k0_part45
  repeat (first
    | (extract_lets; clear_value *)
    | with_reducible exact Runs.pure _
    | with_reducible exact Runs.load H.h13
    | with_reducible exact Runs.load H.h23
    | with_reducible exact Runs.load H.h24
    | with_reducible exact Runs.store H.h13
    | with_reducible (refine Runs.bind ?_ fun _ => ?_))

end Cert.KernelIdeal.Attn

end
-- ==== Proof.Attn.Parts9.lean ====
/-
  Parts of the attention kernel's body run: each by its syntax, a load or store by the memref it goes to.
-/
module

public import proofs.«01_k».proof.Proof.Attn.Res
public import proofs.«01_k».proof.Proof.Attn.Parts6
public import proofs.«01_k».proof.Proof.Attn.Parts7
public import proofs.«01_k».proof.Proof.Attn.Parts8

@[expose] public section

set_option maxRecDepth 16384

set_option maxHeartbeats 8000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {c : Dev nD} {R : sProp (MT nD τ sig Unit (Elt F) ℕ (UR sig nD τ) ℕ)}
variable {arg2 : Memref sig .tc .vmem S256x2048 .bf16}
  {arg3 : Memref sig .tc .vmem S256x2048 .bf16}
  {arg4 : Memref sig .tc .vmem S256x128 .f32}
  {arg5 : Memref sig .tc .vmem S2048x512 .bf16}
  {arg6 : Memref sig .tc .vmem S2048x512 .bf16}
  {arg7 : Memref sig .tc .vmem S2048x128 .f32}
  {arg8 : Memref sig .tc .vmem S16x128 .f32}
  {arg9 : Memref sig .tc .vmem S2048x128 .bf16}
  {arg10 : Memref sig .tc .vmem S1x128x4096 .f32}
  {arg11 : Memref sig .tc .vmem S1x64x4096 .f32}
  {arg12 : Memref sig .tc .vmem S1x64x4096 .f32}
  {arg13 : Memref sig .tc .vmem S256x2048 .bf16}
  {arg14 : Memref sig .tc .vmem S128x4096 .bf16}
  {arg15 : Memref sig .tc .vmem S64x4096 .bf16}
  {arg16 : Memref sig .tc .vmem S64x4096 .bf16}
  {arg17 : Memref sig .tc .vmem S8x256x256 .f32}
  {arg18 : Memref sig .tc .vmem S8x256x256 .f32}
  {arg19 : Memref sig .tc .vmem S128x256 .f32}
  {arg20 : Memref sig .tc .vmem S8x256 .i32}
  {arg21 : Memref sig .tc .vmem S8x512x256 .bf16}
  {arg22 : Memref sig .tc .vmem S4x1024x256 .bf16}
  {arg23 : Memref sig .tc .vmem S8x1024 .f32}
  {arg24 : Memref sig .tc .vmem S4x128x1024 .f32}

theorem runs_part46 (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
     :
    Runs c R (F := F) (k0_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 ) := by
  unfold k0_part46
  repeat (first
    | (extract_lets; clear_value *)
    | with_reducible exact Runs.pure _
    | with_reducible exact Runs.load H.h13
    | with_reducible exact Runs.load H.h23
    | with_reducible exact Runs.load H.h24
    | with_reducible exact Runs.store H.h13
    | with_reducible exact runs_part35 H ..
    | with_reducible exact runs_part36 H ..
    | with_reducible exact runs_part37 H ..
    | with_reducible exact runs_part38 H ..
    | with_reducible exact runs_part39 H ..
    | with_reducible exact runs_part40 H ..
    | with_reducible exact runs_part41 H ..
    | with_reducible exact runs_part42 H ..
    | with_reducible exact runs_part43 H ..
    | with_reducible exact runs_part44 H ..
    | with_reducible exact runs_part45 H ..
    | with_reducible (refine Runs.bind ?_ fun _ => ?_)
    | split)

theorem runs_body (H : HasAll c R arg2 arg3 arg4 arg5 arg6 arg7 arg8 arg9 arg10 arg11 arg12 arg13 arg14 arg15 arg16 arg17 arg18 arg19 arg20 arg21 arg22 arg23 arg24) (i : grid0.Coords)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole)
     :
    Runs c R (F := F) (cc0_dsa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 ) := by
  unfold cc0_dsa_attention
  repeat (first
    | (extract_lets; clear_value *)
    | with_reducible exact Runs.pure _
    | with_reducible exact Runs.load H.h13
    | with_reducible exact Runs.store H.h13
    | with_reducible exact runs_part46 H ..
    | with_reducible (refine Runs.bind ?_ fun _ => ?_))

end Cert.KernelIdeal.Attn

end
-- ==== Proof.Attn.Own.lean ====
/-
  What the attention kernel owns at a point: its staging and scratch buffers, each at some contents.
-/
module

public import proofs.«01_k».proof.Proof.Attn.Parts9
public import proofs.«01_k».proof.Proof.Gen.KernelIdeal.Frame

@[expose] public section

set_option maxRecDepth 16384
set_option maxHeartbeats 8000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {c : Dev nD} {R : sProp (MT nD τ sig Unit (Elt F) ℕ (UR sig nD τ) ℕ)}

open Idealize.ShloMosaic.Pipeline (RDat Cfg Window cellOf)

/-- A resource has the buffer it begins with, -/
theorem Has.left {cs : Space} {s : Shape} {e : EltTy} {m : Memref sig .tc cs s e} : Has c iprop(Any c m ∗ R) m := by
  unfold Has
  iintro ⟨H, HR⟩
  isplitl [H]
  · iexact H
  · iintro H
    isplitl [H]
    · iexact H
    · iexact HR

/-- and whatever its rest has. -/
theorem Has.right {P : sProp (MT nD τ sig Unit (Elt F) ℕ (UR sig nD τ) ℕ)} {cs : Space} {s : Shape} {e : EltTy}
    {m : Memref sig .tc cs s e} (h : Has c R m) : Has c iprop(P ∗ R) m := by
  unfold Has at h ⊢
  iintro ⟨HP, HR⟩
  ihave H := h $$ HR
  icases H with ⟨H, Hb⟩
  isplitl [H]
  · iexact H
  · iintro H
    isplitl [HP]
    · iexact HP
    · iapply Hb
      iexact H

theorem Has.last {cs : Space} {s : Shape} {e : EltTy} {m : Memref sig .tc cs s e} :
    Has c (Any c m : sProp (MT nD τ sig Unit (Elt F) ℕ (UR sig nD τ) ℕ)) m := by
  unfold Has
  iintro H
  isplitl [H]
  · iexact H
  · iintro H; iexact H

/-- A whole staging buffer owned at known contents is owned at some. -/
theorem any_of_owns {cs : Space} {s : Shape} {e : EltTy} {m : Memref sig .tc cs s e} (h : m.IsWhole)
    (X : s.Idx → Elt F e) :
    (owns (c : Thread nD τ) m fullShare X : sProp (MT nD τ sig Unit (Elt F) ℕ (UR sig nD τ) ℕ)) ⊢ Any c m := by
  obtain ⟨b, rfl, rfl, rfl, h⟩ := h
  cases h
  rw [owns_whole]
  unfold Any
  iintro H
  iexists X
  iexact H

theorem owns_of_any {cs : Space} {s : Shape} {e : EltTy} {m : Memref sig .tc cs s e} (h : m.IsWhole) :
    (Any c m : sProp (MT nD τ sig Unit (Elt F) ℕ (UR sig nD τ) ℕ))
      ⊢ iprop(∃ X : s.Idx → Elt F e, ⌜True⌝ ∗ owns (c : Thread nD τ) m fullShare X) := by
  obtain ⟨b, rfl, rfl, rfl, h⟩ := h
  cases h
  unfold Any
  iintro ⟨%f, H⟩
  iexists f
  rw [owns_whole]
  isplitr
  · ipureintro; trivial
  · iexact H

/-- All the buffers of the body, each at some contents. -/
def Own (c : Dev nD)
    (arg2 : Memref sig .tc .vmem S256x2048 .bf16)
    (arg3 : Memref sig .tc .vmem S256x2048 .bf16)
    (arg4 : Memref sig .tc .vmem S256x128 .f32)
    (arg5 : Memref sig .tc .vmem S2048x512 .bf16)
    (arg6 : Memref sig .tc .vmem S2048x512 .bf16)
    (arg7 : Memref sig .tc .vmem S2048x128 .f32)
    (arg8 : Memref sig .tc .vmem S16x128 .f32)
    (arg9 : Memref sig .tc .vmem S2048x128 .bf16)
    (arg10 : Memref sig .tc .vmem S1x128x4096 .f32)
    (arg11 : Memref sig .tc .vmem S1x64x4096 .f32)
    (arg12 : Memref sig .tc .vmem S1x64x4096 .f32)
    (arg13 : Memref sig .tc .vmem S256x2048 .bf16)
    (arg14 : Memref sig .tc .vmem S128x4096 .bf16)
    (arg15 : Memref sig .tc .vmem S64x4096 .bf16)
    (arg16 : Memref sig .tc .vmem S64x4096 .bf16)
    (arg17 : Memref sig .tc .vmem S8x256x256 .f32)
    (arg18 : Memref sig .tc .vmem S8x256x256 .f32)
    (arg19 : Memref sig .tc .vmem S128x256 .f32)
    (arg20 : Memref sig .tc .vmem S8x256 .i32)
    (arg21 : Memref sig .tc .vmem S8x512x256 .bf16)
    (arg22 : Memref sig .tc .vmem S4x1024x256 .bf16)
    (arg23 : Memref sig .tc .vmem S8x1024 .f32)
    (arg24 : Memref sig .tc .vmem S4x128x1024 .f32) :
    sProp (MT nD τ sig Unit (Elt F) ℕ (UR sig nD τ) ℕ) :=
  iprop(Any c arg2 ∗ Any c arg3 ∗ Any c arg4 ∗ Any c arg5 ∗ Any c arg6 ∗ Any c arg7 ∗ Any c arg8 ∗ Any c arg9 ∗ Any c arg10 ∗ Any c arg11 ∗ Any c arg12 ∗ Any c arg13 ∗ Any c arg14 ∗ Any c arg15 ∗ Any c arg16 ∗ Any c arg17 ∗ Any c arg18 ∗ Any c arg19 ∗ Any c arg20 ∗ Any c arg21 ∗ Any c arg22 ∗ Any c arg23 ∗ Any c arg24)

variable {arg2 : Memref sig .tc .vmem S256x2048 .bf16}
  {arg3 : Memref sig .tc .vmem S256x2048 .bf16}
  {arg4 : Memref sig .tc .vmem S256x128 .f32}
  {arg5 : Memref sig .tc .vmem S2048x512 .bf16}
  {arg6 : Memref sig .tc .vmem S2048x512 .bf16}
  {arg7 : Memref sig .tc .vmem S2048x128 .f32}
  {arg8 : Memref sig .tc .vmem S16x128 .f32}
  {arg9 : Memref sig .tc .vmem S2048x128 .bf16}
  {arg10 : Memref sig .tc .vmem S1x128x4096 .f32}
  {arg11 : Memref sig .tc .vmem S1x64x4096 .f32}
  {arg12 : Memref sig .tc .vmem S1x64x4096 .f32}
  {arg13 : Memref sig .tc .vmem S256x2048 .bf16}
  {arg14 : Memref sig .tc .vmem S128x4096 .bf16}
  {arg15 : Memref sig .tc .vmem S64x4096 .bf16}
  {arg16 : Memref sig .tc .vmem S64x4096 .bf16}
  {arg17 : Memref sig .tc .vmem S8x256x256 .f32}
  {arg18 : Memref sig .tc .vmem S8x256x256 .f32}
  {arg19 : Memref sig .tc .vmem S128x256 .f32}
  {arg20 : Memref sig .tc .vmem S8x256 .i32}
  {arg21 : Memref sig .tc .vmem S8x512x256 .bf16}
  {arg22 : Memref sig .tc .vmem S4x1024x256 .bf16}
  {arg23 : Memref sig .tc .vmem S8x1024 .f32}
  {arg24 : Memref sig .tc .vmem S4x128x1024 .f32}

theorem hasAll_own : HasAll c (Own c arg2 arg3 arg4 arg5 arg6 arg7 arg8 arg9 arg10 arg11 arg12 arg13 arg14 arg15 arg16 arg17 arg18 arg19 arg20 arg21 arg22 arg23 arg24 : sProp (MT nD τ sig Unit (Elt F) ℕ (UR sig nD τ) ℕ)) arg2 arg3 arg4 arg5 arg6 arg7 arg8 arg9 arg10 arg11 arg12 arg13 arg14 arg15 arg16 arg17 arg18 arg19 arg20 arg21 arg22 arg23 arg24 where
  h2 := Has.left
  h3 := (Has.left).right
  h4 := (Has.left).right.right
  h5 := (Has.left).right.right.right
  h6 := (Has.left).right.right.right.right
  h7 := (Has.left).right.right.right.right.right
  h8 := (Has.left).right.right.right.right.right.right
  h9 := (Has.left).right.right.right.right.right.right.right
  h10 := (Has.left).right.right.right.right.right.right.right.right
  h11 := (Has.left).right.right.right.right.right.right.right.right.right
  h12 := (Has.left).right.right.right.right.right.right.right.right.right.right
  h13 := (Has.left).right.right.right.right.right.right.right.right.right.right.right
  h14 := (Has.left).right.right.right.right.right.right.right.right.right.right.right.right
  h15 := (Has.left).right.right.right.right.right.right.right.right.right.right.right.right.right
  h16 := (Has.left).right.right.right.right.right.right.right.right.right.right.right.right.right.right
  h17 := (Has.left).right.right.right.right.right.right.right.right.right.right.right.right.right.right.right
  h18 := (Has.left).right.right.right.right.right.right.right.right.right.right.right.right.right.right.right.right
  h19 := (Has.left).right.right.right.right.right.right.right.right.right.right.right.right.right.right.right.right.right
  h20 := (Has.left).right.right.right.right.right.right.right.right.right.right.right.right.right.right.right.right.right.right
  h21 := (Has.left).right.right.right.right.right.right.right.right.right.right.right.right.right.right.right.right.right.right.right
  h22 := (Has.left).right.right.right.right.right.right.right.right.right.right.right.right.right.right.right.right.right.right.right.right
  h23 := (Has.left).right.right.right.right.right.right.right.right.right.right.right.right.right.right.right.right.right.right.right.right.right
  h24 := (Has.last).right.right.right.right.right.right.right.right.right.right.right.right.right.right.right.right.right.right.right.right.right.right

end Cert.KernelIdeal.Attn

end
-- ==== Proof.Attn.Frame.lean ====
/-
  The attention kernel's frame: its body's obligation at every point of the grid, from the run of its parts, with
  nothing said of what it leaves in the staging buffers; then the run of the whole program, which leaves the argument
  arrays as they were and every semaphore at zero. Stated for any float values: the printed program has the same text.
-/
module

public import proofs.«01_k».proof.Proof.Attn.Own
public import proofs.«01_k».proof.Proof.Gen.KernelIdeal.Frame

@[expose] public section

set_option maxRecDepth 16384
set_option maxHeartbeats 8000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {c : Dev nD} {R : sProp (MT nD τ sig Unit (Elt F) ℕ (UR sig nD τ) ℕ)}

open Idealize.ShloMosaic.Pipeline (RDat Cfg Window cellOf)

variable (m : (ℓ : Loc nD τ sig) → Buf (Elt F) ℓ) (ρ : Dev nD → PrngReg)

/-- The proof data: the arrays as the region is entered with them, and nothing said of what the body leaves. -/
def rdat (c : Dev nD) : RDat τ (Elt F) Unit ℕ (UR sig nD τ) ℕ cfg0 c where
  A w := Gen.V m c (Pipeline.arrRef spec0 w)
  after _ _ _ _ := True
  Φ _ := Pipeline.ΦA spec0 c
  q w := Pipeline.shareOf spec0 w
  owed _ := 0

/-- The body's label runs the printed body at the point. -/
theorem body_eq (t : Fin cfg0.N) : (defs₀ (F := F)) .tc cfg0.body (cfg0.bodyArgs t (cfg0.slots t)) = Gen.bodyAt0 t := rfl

/-- The body's obligation at every point. -/
theorem body_obligation (c : Dev nD) (E : Set ℕ) : (rdat m c).BodyObligation defs₀ 𝒱₀ () E := fun t Y _ => by
  rw [Gen.bigSep_W0, Gen.bigSep_W0, body_eq]
  have hrun := runs_body (F := F) (c := c) (arg17 := Memref.whole cc0_scratch0) (arg18 := Memref.whole cc0_scratch1) (arg19 := Memref.whole cc0_scratch2) (arg20 := Memref.whole cc0_scratch3) (arg21 := Memref.whole cc0_scratch4) (arg22 := Memref.whole cc0_scratch5) (arg23 := Memref.whole cc0_scratch6) (arg24 := Memref.whole cc0_scratch7) hasAll_own (Cert.KernelIdeal.grid0.coords t)
    (Gen.hstage0_0 ((cfg0.slots t 0).cast Gen.nbuf0_0))
    (Gen.hstage0_1 ((cfg0.slots t 1).cast Gen.nbuf0_1))
    (Gen.hstage0_2 ((cfg0.slots t 2).cast Gen.nbuf0_2))
    (Gen.hstage0_3 ((cfg0.slots t 3).cast Gen.nbuf0_3))
    (Gen.hstage0_4 ((cfg0.slots t 4).cast Gen.nbuf0_4))
    (Gen.hstage0_5 ((cfg0.slots t 5).cast Gen.nbuf0_5))
    (Gen.hstage0_6 ((cfg0.slots t 6).cast Gen.nbuf0_6))
    (Gen.hstage0_7 ((cfg0.slots t 7).cast Gen.nbuf0_7))
    (Gen.hstage0_8 ((cfg0.slots t 8).cast Gen.nbuf0_8))
    (Gen.hstage0_9 ((cfg0.slots t 9).cast Gen.nbuf0_9))
    (Gen.hstage0_10 ((cfg0.slots t 10).cast Gen.nbuf0_10))
    (Gen.hstage0_11 ((cfg0.slots t 11).cast Gen.nbuf0_11))
    (Gen.hstage0_12 ((cfg0.slots t 12).cast Gen.nbuf0_12))
    (Gen.hstage0_13 ((cfg0.slots t 13).cast Gen.nbuf0_13))
    (Gen.hstage0_14 ((cfg0.slots t 14).cast Gen.nbuf0_14))
    (Memref.isWhole_whole cc0_scratch0) (Memref.isWhole_whole cc0_scratch1) (Memref.isWhole_whole cc0_scratch2) (Memref.isWhole_whole cc0_scratch3) (Memref.isWhole_whole cc0_scratch4) (Memref.isWhole_whole cc0_scratch5) (Memref.isWhole_whole cc0_scratch6) (Memref.isWhole_whole cc0_scratch7) E
  have hrun' : Own c ((cfg0.win 0).stage (cfg0.slots t 0)) ((cfg0.win 1).stage (cfg0.slots t 1)) ((cfg0.win 2).stage (cfg0.slots t 2)) ((cfg0.win 3).stage (cfg0.slots t 3)) ((cfg0.win 4).stage (cfg0.slots t 4)) ((cfg0.win 5).stage (cfg0.slots t 5)) ((cfg0.win 6).stage (cfg0.slots t 6)) ((cfg0.win 7).stage (cfg0.slots t 7)) ((cfg0.win 8).stage (cfg0.slots t 8)) ((cfg0.win 9).stage (cfg0.slots t 9)) ((cfg0.win 10).stage (cfg0.slots t 10)) ((cfg0.win 11).stage (cfg0.slots t 11)) ((cfg0.win 12).stage (cfg0.slots t 12)) ((cfg0.win 13).stage (cfg0.slots t 13)) ((cfg0.win 14).stage (cfg0.slots t 14)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) ⊢ wp Idealize.ShloMosaic.frame (wpE defs₀ 𝒱₀ (c.tc : Thread nD τ) none) E (Gen.bodyAt0 t) (fun _ => Own c ((cfg0.win 0).stage (cfg0.slots t 0)) ((cfg0.win 1).stage (cfg0.slots t 1)) ((cfg0.win 2).stage (cfg0.slots t 2)) ((cfg0.win 3).stage (cfg0.slots t 3)) ((cfg0.win 4).stage (cfg0.slots t 4)) ((cfg0.win 5).stage (cfg0.slots t 5)) ((cfg0.win 6).stage (cfg0.slots t 6)) ((cfg0.win 7).stage (cfg0.slots t 7)) ((cfg0.win 8).stage (cfg0.slots t 8)) ((cfg0.win 9).stage (cfg0.slots t 9)) ((cfg0.win 10).stage (cfg0.slots t 10)) ((cfg0.win 11).stage (cfg0.slots t 11)) ((cfg0.win 12).stage (cfg0.slots t 12)) ((cfg0.win 13).stage (cfg0.slots t 13)) ((cfg0.win 14).stage (cfg0.slots t 14)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7)) := hrun
  have s0 : (iprop(∃ f, ((c.tc : Thread nD τ).loc cc0_scratch0) ↦{fullShare} f) : sProp (MT nD τ sig Unit (Elt F) ℕ (UR sig nD τ) ℕ)) ⊢ Any c (Memref.whole cc0_scratch0) := by unfold Any; exact .rfl
  have r0 : (Any c (Memref.whole cc0_scratch0) : sProp (MT nD τ sig Unit (Elt F) ℕ (UR sig nD τ) ℕ)) ⊢ (iprop(∃ f, ((c.tc : Thread nD τ).loc cc0_scratch0) ↦{fullShare} f) : sProp (MT nD τ sig Unit (Elt F) ℕ (UR sig nD τ) ℕ)) := by unfold Any; exact .rfl
  have s1 : (iprop(∃ f, ((c.tc : Thread nD τ).loc cc0_scratch1) ↦{fullShare} f) : sProp (MT nD τ sig Unit (Elt F) ℕ (UR sig nD τ) ℕ)) ⊢ Any c (Memref.whole cc0_scratch1) := by unfold Any; exact .rfl
  have r1 : (Any c (Memref.whole cc0_scratch1) : sProp (MT nD τ sig Unit (Elt F) ℕ (UR sig nD τ) ℕ)) ⊢ (iprop(∃ f, ((c.tc : Thread nD τ).loc cc0_scratch1) ↦{fullShare} f) : sProp (MT nD τ sig Unit (Elt F) ℕ (UR sig nD τ) ℕ)) := by unfold Any; exact .rfl
  have s2 : (iprop(∃ f, ((c.tc : Thread nD τ).loc cc0_scratch2) ↦{fullShare} f) : sProp (MT nD τ sig Unit (Elt F) ℕ (UR sig nD τ) ℕ)) ⊢ Any c (Memref.whole cc0_scratch2) := by unfold Any; exact .rfl
  have r2 : (Any c (Memref.whole cc0_scratch2) : sProp (MT nD τ sig Unit (Elt F) ℕ (UR sig nD τ) ℕ)) ⊢ (iprop(∃ f, ((c.tc : Thread nD τ).loc cc0_scratch2) ↦{fullShare} f) : sProp (MT nD τ sig Unit (Elt F) ℕ (UR sig nD τ) ℕ)) := by unfold Any; exact .rfl
  have s3 : (iprop(∃ f, ((c.tc : Thread nD τ).loc cc0_scratch3) ↦{fullShare} f) : sProp (MT nD τ sig Unit (Elt F) ℕ (UR sig nD τ) ℕ)) ⊢ Any c (Memref.whole cc0_scratch3) := by unfold Any; exact .rfl
  have r3 : (Any c (Memref.whole cc0_scratch3) : sProp (MT nD τ sig Unit (Elt F) ℕ (UR sig nD τ) ℕ)) ⊢ (iprop(∃ f, ((c.tc : Thread nD τ).loc cc0_scratch3) ↦{fullShare} f) : sProp (MT nD τ sig Unit (Elt F) ℕ (UR sig nD τ) ℕ)) := by unfold Any; exact .rfl
  have s4 : (iprop(∃ f, ((c.tc : Thread nD τ).loc cc0_scratch4) ↦{fullShare} f) : sProp (MT nD τ sig Unit (Elt F) ℕ (UR sig nD τ) ℕ)) ⊢ Any c (Memref.whole cc0_scratch4) := by unfold Any; exact .rfl
  have r4 : (Any c (Memref.whole cc0_scratch4) : sProp (MT nD τ sig Unit (Elt F) ℕ (UR sig nD τ) ℕ)) ⊢ (iprop(∃ f, ((c.tc : Thread nD τ).loc cc0_scratch4) ↦{fullShare} f) : sProp (MT nD τ sig Unit (Elt F) ℕ (UR sig nD τ) ℕ)) := by unfold Any; exact .rfl
  have s5 : (iprop(∃ f, ((c.tc : Thread nD τ).loc cc0_scratch5) ↦{fullShare} f) : sProp (MT nD τ sig Unit (Elt F) ℕ (UR sig nD τ) ℕ)) ⊢ Any c (Memref.whole cc0_scratch5) := by unfold Any; exact .rfl
  have r5 : (Any c (Memref.whole cc0_scratch5) : sProp (MT nD τ sig Unit (Elt F) ℕ (UR sig nD τ) ℕ)) ⊢ (iprop(∃ f, ((c.tc : Thread nD τ).loc cc0_scratch5) ↦{fullShare} f) : sProp (MT nD τ sig Unit (Elt F) ℕ (UR sig nD τ) ℕ)) := by unfold Any; exact .rfl
  have s6 : (iprop(∃ f, ((c.tc : Thread nD τ).loc cc0_scratch6) ↦{fullShare} f) : sProp (MT nD τ sig Unit (Elt F) ℕ (UR sig nD τ) ℕ)) ⊢ Any c (Memref.whole cc0_scratch6) := by unfold Any; exact .rfl
  have r6 : (Any c (Memref.whole cc0_scratch6) : sProp (MT nD τ sig Unit (Elt F) ℕ (UR sig nD τ) ℕ)) ⊢ (iprop(∃ f, ((c.tc : Thread nD τ).loc cc0_scratch6) ↦{fullShare} f) : sProp (MT nD τ sig Unit (Elt F) ℕ (UR sig nD τ) ℕ)) := by unfold Any; exact .rfl
  have s7 : (iprop(∃ f, ((c.tc : Thread nD τ).loc cc0_scratch7) ↦{fullShare} f) : sProp (MT nD τ sig Unit (Elt F) ℕ (UR sig nD τ) ℕ)) ⊢ Any c (Memref.whole cc0_scratch7) := by unfold Any; exact .rfl
  have r7 : (Any c (Memref.whole cc0_scratch7) : sProp (MT nD τ sig Unit (Elt F) ℕ (UR sig nD τ) ℕ)) ⊢ (iprop(∃ f, ((c.tc : Thread nD τ).loc cc0_scratch7) ↦{fullShare} f) : sProp (MT nD τ sig Unit (Elt F) ℕ (UR sig nD τ) ℕ)) := by unfold Any; exact .rfl
  have a0 := any_of_owns (F := F) (c := c) (m := ((cfg0.win 0).stage (cfg0.slots t 0))) (Gen.hstage0_0 ((cfg0.slots t 0).cast Gen.nbuf0_0)) (Y 0)
  have o0 := owns_of_any (F := F) (c := c) (m := ((cfg0.win 0).stage (cfg0.slots t 0))) (Gen.hstage0_0 ((cfg0.slots t 0).cast Gen.nbuf0_0))
  have a1 := any_of_owns (F := F) (c := c) (m := ((cfg0.win 1).stage (cfg0.slots t 1))) (Gen.hstage0_1 ((cfg0.slots t 1).cast Gen.nbuf0_1)) (Y 1)
  have o1 := owns_of_any (F := F) (c := c) (m := ((cfg0.win 1).stage (cfg0.slots t 1))) (Gen.hstage0_1 ((cfg0.slots t 1).cast Gen.nbuf0_1))
  have a2 := any_of_owns (F := F) (c := c) (m := ((cfg0.win 2).stage (cfg0.slots t 2))) (Gen.hstage0_2 ((cfg0.slots t 2).cast Gen.nbuf0_2)) (Y 2)
  have o2 := owns_of_any (F := F) (c := c) (m := ((cfg0.win 2).stage (cfg0.slots t 2))) (Gen.hstage0_2 ((cfg0.slots t 2).cast Gen.nbuf0_2))
  have a3 := any_of_owns (F := F) (c := c) (m := ((cfg0.win 3).stage (cfg0.slots t 3))) (Gen.hstage0_3 ((cfg0.slots t 3).cast Gen.nbuf0_3)) (Y 3)
  have o3 := owns_of_any (F := F) (c := c) (m := ((cfg0.win 3).stage (cfg0.slots t 3))) (Gen.hstage0_3 ((cfg0.slots t 3).cast Gen.nbuf0_3))
  have a4 := any_of_owns (F := F) (c := c) (m := ((cfg0.win 4).stage (cfg0.slots t 4))) (Gen.hstage0_4 ((cfg0.slots t 4).cast Gen.nbuf0_4)) (Y 4)
  have o4 := owns_of_any (F := F) (c := c) (m := ((cfg0.win 4).stage (cfg0.slots t 4))) (Gen.hstage0_4 ((cfg0.slots t 4).cast Gen.nbuf0_4))
  have a5 := any_of_owns (F := F) (c := c) (m := ((cfg0.win 5).stage (cfg0.slots t 5))) (Gen.hstage0_5 ((cfg0.slots t 5).cast Gen.nbuf0_5)) (Y 5)
  have o5 := owns_of_any (F := F) (c := c) (m := ((cfg0.win 5).stage (cfg0.slots t 5))) (Gen.hstage0_5 ((cfg0.slots t 5).cast Gen.nbuf0_5))
  have a6 := any_of_owns (F := F) (c := c) (m := ((cfg0.win 6).stage (cfg0.slots t 6))) (Gen.hstage0_6 ((cfg0.slots t 6).cast Gen.nbuf0_6)) (Y 6)
  have o6 := owns_of_any (F := F) (c := c) (m := ((cfg0.win 6).stage (cfg0.slots t 6))) (Gen.hstage0_6 ((cfg0.slots t 6).cast Gen.nbuf0_6))
  have a7 := any_of_owns (F := F) (c := c) (m := ((cfg0.win 7).stage (cfg0.slots t 7))) (Gen.hstage0_7 ((cfg0.slots t 7).cast Gen.nbuf0_7)) (Y 7)
  have o7 := owns_of_any (F := F) (c := c) (m := ((cfg0.win 7).stage (cfg0.slots t 7))) (Gen.hstage0_7 ((cfg0.slots t 7).cast Gen.nbuf0_7))
  have a8 := any_of_owns (F := F) (c := c) (m := ((cfg0.win 8).stage (cfg0.slots t 8))) (Gen.hstage0_8 ((cfg0.slots t 8).cast Gen.nbuf0_8)) (Y 8)
  have o8 := owns_of_any (F := F) (c := c) (m := ((cfg0.win 8).stage (cfg0.slots t 8))) (Gen.hstage0_8 ((cfg0.slots t 8).cast Gen.nbuf0_8))
  have a9 := any_of_owns (F := F) (c := c) (m := ((cfg0.win 9).stage (cfg0.slots t 9))) (Gen.hstage0_9 ((cfg0.slots t 9).cast Gen.nbuf0_9)) (Y 9)
  have o9 := owns_of_any (F := F) (c := c) (m := ((cfg0.win 9).stage (cfg0.slots t 9))) (Gen.hstage0_9 ((cfg0.slots t 9).cast Gen.nbuf0_9))
  have a10 := any_of_owns (F := F) (c := c) (m := ((cfg0.win 10).stage (cfg0.slots t 10))) (Gen.hstage0_10 ((cfg0.slots t 10).cast Gen.nbuf0_10)) (Y 10)
  have o10 := owns_of_any (F := F) (c := c) (m := ((cfg0.win 10).stage (cfg0.slots t 10))) (Gen.hstage0_10 ((cfg0.slots t 10).cast Gen.nbuf0_10))
  have a11 := any_of_owns (F := F) (c := c) (m := ((cfg0.win 11).stage (cfg0.slots t 11))) (Gen.hstage0_11 ((cfg0.slots t 11).cast Gen.nbuf0_11)) (Y 11)
  have o11 := owns_of_any (F := F) (c := c) (m := ((cfg0.win 11).stage (cfg0.slots t 11))) (Gen.hstage0_11 ((cfg0.slots t 11).cast Gen.nbuf0_11))
  have a12 := any_of_owns (F := F) (c := c) (m := ((cfg0.win 12).stage (cfg0.slots t 12))) (Gen.hstage0_12 ((cfg0.slots t 12).cast Gen.nbuf0_12)) (Y 12)
  have o12 := owns_of_any (F := F) (c := c) (m := ((cfg0.win 12).stage (cfg0.slots t 12))) (Gen.hstage0_12 ((cfg0.slots t 12).cast Gen.nbuf0_12))
  have a13 := any_of_owns (F := F) (c := c) (m := ((cfg0.win 13).stage (cfg0.slots t 13))) (Gen.hstage0_13 ((cfg0.slots t 13).cast Gen.nbuf0_13)) (Y 13)
  have o13 := owns_of_any (F := F) (c := c) (m := ((cfg0.win 13).stage (cfg0.slots t 13))) (Gen.hstage0_13 ((cfg0.slots t 13).cast Gen.nbuf0_13))
  have a14 := any_of_owns (F := F) (c := c) (m := ((cfg0.win 14).stage (cfg0.slots t 14))) (Gen.hstage0_14 ((cfg0.slots t 14).cast Gen.nbuf0_14)) (Y 14)
  have o14 := owns_of_any (F := F) (c := c) (m := ((cfg0.win 14).stage (cfg0.slots t 14))) (Gen.hstage0_14 ((cfg0.slots t 14).cast Gen.nbuf0_14))
  rw [show (rdat m c).Φ t.castSucc = Pipeline.ΦA spec0 c from rfl, show (rdat m c).Φ t.succ = Pipeline.ΦA spec0 c from rfl,
    show (rdat m c).owesAt () t.succ = (rdat m c).owesAt () t.castSucc from rfl]
  unfold Pipeline.ΦA
  rw [Gen.scopedRest0_eq]
  iintro ⟨⟨⟨S0, S1, S2, S3, S4, S5, S6, S7⟩, HP⟩, HO, W0, W1, W2, W3, W4, W5, W6, W7, W8, W9, W10, W11, W12, W13, W14⟩
  ihave W0 := a0 $$ W0
  ihave W1 := a1 $$ W1
  ihave W2 := a2 $$ W2
  ihave W3 := a3 $$ W3
  ihave W4 := a4 $$ W4
  ihave W5 := a5 $$ W5
  ihave W6 := a6 $$ W6
  ihave W7 := a7 $$ W7
  ihave W8 := a8 $$ W8
  ihave W9 := a9 $$ W9
  ihave W10 := a10 $$ W10
  ihave W11 := a11 $$ W11
  ihave W12 := a12 $$ W12
  ihave W13 := a13 $$ W13
  ihave W14 := a14 $$ W14
  ihave HR : Own c ((cfg0.win 0).stage (cfg0.slots t 0)) ((cfg0.win 1).stage (cfg0.slots t 1)) ((cfg0.win 2).stage (cfg0.slots t 2)) ((cfg0.win 3).stage (cfg0.slots t 3)) ((cfg0.win 4).stage (cfg0.slots t 4)) ((cfg0.win 5).stage (cfg0.slots t 5)) ((cfg0.win 6).stage (cfg0.slots t 6)) ((cfg0.win 7).stage (cfg0.slots t 7)) ((cfg0.win 8).stage (cfg0.slots t 8)) ((cfg0.win 9).stage (cfg0.slots t 9)) ((cfg0.win 10).stage (cfg0.slots t 10)) ((cfg0.win 11).stage (cfg0.slots t 11)) ((cfg0.win 12).stage (cfg0.slots t 12)) ((cfg0.win 13).stage (cfg0.slots t 13)) ((cfg0.win 14).stage (cfg0.slots t 14)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) $$ [W0 W1 W2 W3 W4 W5 W6 W7 W8 W9 W10 W11 W12 W13 W14 S0 S1 S2 S3 S4 S5 S6 S7]
  · unfold Own
    isplitl [W0]
    · iexact W0
    isplitl [W1]
    · iexact W1
    isplitl [W2]
    · iexact W2
    isplitl [W3]
    · iexact W3
    isplitl [W4]
    · iexact W4
    isplitl [W5]
    · iexact W5
    isplitl [W6]
    · iexact W6
    isplitl [W7]
    · iexact W7
    isplitl [W8]
    · iexact W8
    isplitl [W9]
    · iexact W9
    isplitl [W10]
    · iexact W10
    isplitl [W11]
    · iexact W11
    isplitl [W12]
    · iexact W12
    isplitl [W13]
    · iexact W13
    isplitl [W14]
    · iexact W14
    isplitl [S0]
    · iapply s0 $$ S0
    isplitl [S1]
    · iapply s1 $$ S1
    isplitl [S2]
    · iapply s2 $$ S2
    isplitl [S3]
    · iapply s3 $$ S3
    isplitl [S4]
    · iapply s4 $$ S4
    isplitl [S5]
    · iapply s5 $$ S5
    isplitl [S6]
    · iapply s6 $$ S6
    iapply s7 $$ S7
  ihave HW := hrun' $$ HR
  iapply (wp_wand_r _ _ _)
  isplitl [HW]
  · iexact HW
  · iintro %_ HR
    unfold Own
    icases HR with ⟨W0, W1, W2, W3, W4, W5, W6, W7, W8, W9, W10, W11, W12, W13, W14, S0, S1, S2, S3, S4, S5, S6, S7⟩
    isplitl [S0 S1 S2 S3 S4 S5 S6 S7 HP]
    · isplitr [HP]
      · isplitl [S0]
        · iapply r0 $$ S0
        isplitl [S1]
        · iapply r1 $$ S1
        isplitl [S2]
        · iapply r2 $$ S2
        isplitl [S3]
        · iapply r3 $$ S3
        isplitl [S4]
        · iapply r4 $$ S4
        isplitl [S5]
        · iapply r5 $$ S5
        isplitl [S6]
        · iapply r6 $$ S6
        iapply r7 $$ S7
      · iexact HP
    isplitl [HO]
    · iexact HO
    isplitl [W0]
    · iapply o0 $$ W0
    isplitl [W1]
    · iapply o1 $$ W1
    isplitl [W2]
    · iapply o2 $$ W2
    isplitl [W3]
    · iapply o3 $$ W3
    isplitl [W4]
    · iapply o4 $$ W4
    isplitl [W5]
    · iapply o5 $$ W5
    isplitl [W6]
    · iapply o6 $$ W6
    isplitl [W7]
    · iapply o7 $$ W7
    isplitl [W8]
    · iapply o8 $$ W8
    isplitl [W9]
    · iapply o9 $$ W9
    isplitl [W10]
    · iapply o10 $$ W10
    isplitl [W11]
    · iapply o11 $$ W11
    isplitl [W12]
    · iapply o12 $$ W12
    isplitl [W13]
    · iapply o13 $$ W13
    iapply o14 $$ W14

-- the launch's implicit arguments are found by unifying its conclusion with this one
set_option backward.isDefEq.respectTransparency.types false in
/-- The run of the program: every array ends at contents its window allows, every semaphore at zero. -/
theorem run_main : θ_run defs (onTc (τ := τ) (main (F := F))) (s₀ m ρ)
    (fun r => Pipeline.RDat.FramePost cfg0 (rdat m) (Gen.V m) r ∧ r.2.sem = fun _ => 0) :=
  Pipeline.RDat.θ_run_frame_track_shared cfgs 0 Gen.launch₀0 defs₀ 𝒱₀ (rdat m) m ρ main (fun c => body_obligation m c Set.univ)
    (fun _ _ _ => rfl) (fun _ _ => rfl) (Gen.V m) (Gen.hmain m 𝒱₀) (fun _ _ => rfl) (fun _ => .rfl) (fun _ => .rfl)
    (fun r => Pipeline.RDat.FramePost cfg0 (rdat m) (Gen.V m) r ∧ r.2.sem = fun _ => 0) (fun _ h => h)

/-- The argument arrays end as they began, and the machine is quiescent. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c =>
    ⟨(Pipeline.RDat.FramePost.arr_in h.1 c 0 rfl).trans (Gen.V_main_arg0 m c),
      (Pipeline.RDat.FramePost.arr_in h.1 c 1 rfl).trans (Gen.V_main_arg1 m c),
      (Pipeline.RDat.FramePost.arr_in h.1 c 5 rfl).trans (Gen.V_main_arg2 m c),
      (Pipeline.RDat.FramePost.arr_in h.1 c 3 rfl).trans (Gen.V_main_arg3 m c),
      (Pipeline.RDat.FramePost.arr_in h.1 c 4 rfl).trans (Gen.V_main_arg4 m c),
      (Pipeline.RDat.FramePost.arr_in h.1 c 8 rfl).trans (Gen.V_main_arg5 m c),
      (Pipeline.RDat.FramePost.arr_in h.1 c 9 rfl).trans (Gen.V_main_arg6 m c),
      (Pipeline.RDat.FramePost.arr_in h.1 c 10 rfl).trans (Gen.V_main_arg7 m c)⟩, h.2⟩) (run_main m ρ)

end Cert.KernelIdeal.Attn

end
-- ==== Proof.Attn.Same.lean ====
/-
  The attention call's two frames: the printed program's body table is the idealized one's, the two texts being the
  same, so both frames are the one run, at the words and at the extended reals.
-/
module

public import proofs.«01_k».proof.Defs
public import proofs.«01_k».proof.Proof.Attn.Frame
public import proofs.«01_k».proof.Proof.Gen.Kernel
public import proofs.«01_k».proof.Proof.Gen.KernelIdeal

@[expose] public section

set_option maxRecDepth 16384
set_option maxHeartbeats 8000000

namespace Cert.KernelIdeal.Attn

open Idealize.ShloMosaic Idealize.SL.Sem

theorem body_same : @Cert.Kernel.cc0_dsa_attention Bits _ _ = @Cert.KernelIdeal.cc0_dsa_attention Bits _ _ := rfl

theorem defs_eq : Cert.Kernel.defs (F := Bits) = Cert.KernelIdeal.defs (F := Bits) :=
  congrArg (Pipeline.defs _) (congrArg Defs.onTc (funext fun l => match l with
    | 0 => funext fun _ => by dsimp only; rw [body_same]; try rfl))
/-- The printed program's frame: the run over any float values, taken at the words. -/
theorem frame_kernel : Cert.quiescent_Kernel := fun m ρ _ => by
  rw [defs_eq, show Cert.Kernel.main (F := Bits) = Cert.KernelIdeal.main (F := Bits) from rfl]
  exact run_frame (F := Bits) m ρ

/-- The idealized program's frame: the same run at the extended reals. -/
theorem frame_ideal : Cert.quiescent_KernelIdeal := fun m ρ _ =>
  run_frame (F := Ideal) m ρ

end Cert.KernelIdeal.Attn

end
-- ==== Proof.Down.Run.lean ====
/-
  The two runs of the accumulating kernel with what they leave: the final array is the second run's, taken from the
  array the first one left, and the arguments are untouched.
-/
module

public import proofs.«01_k».proof.Proof.Gen.Kernel2Ideal.Frame

@[expose] public section

set_option maxRecDepth 16384
set_option synthInstance.maxSize 4096

noncomputable section

namespace Cert.Down

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- The program runs, leaving in its result what the second region writes, its arguments as they were. -/
theorem run : θ_run defs (onTc (τ := τ) (main (F := F))) ⟨m, fun _ => 0, ρ⟩ (fun r => ∀ c : Dev nD,
      r.2.mem ((c.tc : Thread nD τ).loc main_v6) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v6 (by decide))).trans (W3_arr m ρ c 4),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.Down

end
-- ==== Proof.Down.Val.lean ====
/-
  What the accumulating kernel's two runs leave. Each adds to the array it is given half of the sum down the rows of the
  weight, times a factor of the modulation: the first to the residual, the second to what the first left.
-/
module

public import proofs.«01_k».proof.Defs
public import proofs.«01_k».proof.Proof.Down.Run
public import Idealize.ShloMosaic.Lib.Pipeline.Value
public import Idealize.ShloMosaic.Lib.Pipeline.ValueKit.Geometry
public import Idealize.ShloMosaic.Lib.Pipeline.ValueKit.Tiles
public import Idealize.ShloMosaic.Lib.Pointwise
public import Idealize.ShloMosaic.Lib.ValueLayout
public import Idealize.ShloMosaic.Lib.IdealHost

@[expose] public section

set_option maxRecDepth 16384

noncomputable section

namespace Cert.Down

open Cert.Kernel2Ideal Cert.Kernel2Ideal.Gen Idealize.ShloMosaic Idealize.ShloMosaic.TcCoe Idealize.SL.Sem
open Idealize.ShloMosaic.Pipeline (Dat)
open scoped BigOperators

/-- An array plus the factor times half of the sum, the half starting at row `o`. -/
def step (x : FVec Ideal S8192x4096 .f32) (g : FVec Ideal S8x1x24576 .f32) (a : FVec Ideal S8192x11008 .bf16)
    (w : FVec Ideal S11008x4096 .bf16) (o : Fin 2) : FVec Ideal S8192x4096 .f32 := fun i =>
  let r : Fin 8192 := ⟨(i 0).val, ValueIdx.idx2_lt0 i⟩
  let n : Fin 4096 := ⟨(i 1).val, ValueIdx.idx2_lt1 i⟩
  x (ix2 r n) + g (ix3 ⟨r.val / 2048, by omega⟩ 0 ⟨20480 + n.val, by omega⟩)
    * ∑ k : Fin 5504, a (ix2 r ⟨o.val * 5504 + k.val, by omega⟩) * w (ix2 ⟨o.val * 5504 + k.val, by omega⟩ n)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## Run 0 -/

theorem t_lt0 (t : Fin cfg0.N) : t.val < 64 := lt_of_lt_of_eq t.isLt N_0

/-- The blocks' places, decided over the grid. -/
theorem idx_facts0 : ∀ t : Fin cfg0.N,
    win0_0.index t 0 = t.val / 8
    ∧ win0_0.index t 1 = 0
    ∧ win0_1.index t 0 = 0
    ∧ win0_1.index t 1 = t.val % 8
    ∧ win0_2.index t 0 = t.val / 8
    ∧ win0_2.index t 1 = t.val % 8
    ∧ win0_3.index t 0 = t.val / 16
    ∧ win0_3.index t 1 = 0
    ∧ win0_3.index t 2 = 40 + t.val % 8
    ∧ win0_4.index t 0 = t.val / 8
    ∧ win0_4.index t 1 = t.val % 8 :=
  (by decide +kernel : ∀ t : Fin grid0.N, _)

theorem blk0_0 (c : Dev nD) (t : Fin cfg0.N) (i0 : Fin 1024) (i1 : Fin 5504) :
    (iblk0 V c 0 t : S1024x5504.Idx → EReal) (ix2 i0 i1) = V c main_v2 (ix2 ⟨t.val / 8 * 1024 + i0.val, by have := t_lt0 t; omega⟩ ⟨0 * 5504 + i1.val, by have := t_lt0 t; omega⟩) := by
  obtain ⟨h0, h1, -, -, -, -, -, -, -, -, -⟩ := idx_facts0 t
  refine congrArg (V c main_v2) (funext fun a => Fin.ext ?_)
  match a with
  | ⟨0, _⟩ => show win0_0.index t 0 * 1024 + 1 * i0.val = _; rw [h0]; first | rfl | (simp; done) | (simp only [ix2, ix3, ix4]; have := t_lt0 t; simp; omega)
  | ⟨1, _⟩ => show win0_0.index t 1 * 5504 + 1 * i1.val = _; rw [h1]; first | rfl | (simp; done) | (simp only [ix2, ix3, ix4]; have := t_lt0 t; simp; omega)

theorem blk0_1 (c : Dev nD) (t : Fin cfg0.N) (i0 : Fin 5504) (i1 : Fin 512) :
    (iblk0 V c 1 t : S5504x512.Idx → EReal) (ix2 i0 i1) = V c main_v4 (ix2 ⟨0 * 5504 + i0.val, by have := t_lt0 t; omega⟩ ⟨t.val % 8 * 512 + i1.val, by have := t_lt0 t; omega⟩) := by
  obtain ⟨-, -, h0, h1, -, -, -, -, -, -, -⟩ := idx_facts0 t
  refine congrArg (V c main_v4) (funext fun a => Fin.ext ?_)
  match a with
  | ⟨0, _⟩ => show win0_1.index t 0 * 5504 + 1 * i0.val = _; rw [h0]; first | rfl | (simp; done) | (simp only [ix2, ix3, ix4]; have := t_lt0 t; simp; omega)
  | ⟨1, _⟩ => show win0_1.index t 1 * 512 + 1 * i1.val = _; rw [h1]; first | rfl | (simp; done) | (simp only [ix2, ix3, ix4]; have := t_lt0 t; simp; omega)

theorem blk0_2 (c : Dev nD) (t : Fin cfg0.N) (i0 : Fin 1024) (i1 : Fin 512) :
    (iblk0 V c 2 t : S1024x512.Idx → EReal) (ix2 i0 i1) = V c main_v0 (ix2 ⟨t.val / 8 * 1024 + i0.val, by have := t_lt0 t; omega⟩ ⟨t.val % 8 * 512 + i1.val, by have := t_lt0 t; omega⟩) := by
  obtain ⟨-, -, -, -, h0, h1, -, -, -, -, -⟩ := idx_facts0 t
  refine congrArg (V c main_v0) (funext fun a => Fin.ext ?_)
  match a with
  | ⟨0, _⟩ => show win0_2.index t 0 * 1024 + 1 * i0.val = _; rw [h0]; first | rfl | (simp; done) | (simp only [ix2, ix3, ix4]; have := t_lt0 t; simp; omega)
  | ⟨1, _⟩ => show win0_2.index t 1 * 512 + 1 * i1.val = _; rw [h1]; first | rfl | (simp; done) | (simp only [ix2, ix3, ix4]; have := t_lt0 t; simp; omega)

theorem blk0_3 (c : Dev nD) (t : Fin cfg0.N) (i0 : Fin 1) (i1 : Fin 1) (i2 : Fin 512) :
    (iblk0 V c 3 t : S1x1x512.Idx → EReal) (ix3 i0 i1 i2) = V c main_v1 (ix3 ⟨t.val / 16, by have := t_lt0 t; omega⟩ 0 ⟨(40 + t.val % 8) * 512 + i2.val, by have := t_lt0 t; omega⟩) := by
  obtain ⟨-, -, -, -, -, -, h0, h1, h2, -, -⟩ := idx_facts0 t
  refine congrArg (V c main_v1) (funext fun a => Fin.ext ?_)
  match a with
  | ⟨0, _⟩ => show win0_3.index t 0 * 1 + 1 * i0.val = _; rw [h0]; first | rfl | (simp; done) | (simp only [ix2, ix3, ix4]; have := t_lt0 t; simp; omega)
  | ⟨1, _⟩ => show win0_3.index t 1 * 1 + 1 * i1.val = _; rw [h1]; first | rfl | (simp; done) | (simp only [ix2, ix3, ix4]; have := t_lt0 t; simp; omega)
  | ⟨2, _⟩ => show win0_3.index t 2 * 512 + 1 * i2.val = _; rw [h2]; first | rfl | (simp; done) | (simp only [ix2, ix3, ix4]; have := t_lt0 t; simp; omega)

/-- What a point writes back is its block of the step. -/
theorem flushed_eq0 (c : Dev nD) (t : Fin cfg0.N) :
    (dat0 V c).flushed 4 t = ((cfg0.win 4).blk t).view.read (Elt Ideal) (step (V c main_v0) (V c main_v1) (V c main_v2) (V c main_v4) 0) := by
  obtain ⟨-, -, -, -, -, -, -, -, -, h0, h1⟩ := idx_facts0 t
  have ht := t_lt0 t
  show (cfg0.win 4).cut (grid0.coords t) ((dat0 V c).after 4 t) = _
  rw [after0_4]
  funext j
  obtain ⟨r, n, rfl⟩ : ∃ (r : Fin 1024) (n : Fin 512), j = ix2 r n := ⟨j 0, j 1, eq_ix2 j⟩
  have hr : ((cfg0.win 4).blk t).view.read (Elt Ideal) (step (V c main_v0) (V c main_v1) (V c main_v2) (V c main_v4) 0) (ix2 r n)
      = step (V c main_v0) (V c main_v1) (V c main_v2) (V c main_v4) 0 (ix2 ⟨t.val / 8 * 1024 + r.val, by omega⟩ ⟨t.val % 8 * 512 + n.val, by omega⟩) := by
    refine congrArg (step (V c main_v0) (V c main_v1) (V c main_v2) (V c main_v4) 0) (funext fun a => Fin.ext ?_)
    match a with
    | ⟨0, _⟩ => show win0_4.index t 0 * 1024 + 1 * r.val = _; rw [h0]; simp
    | ⟨1, _⟩ => show win0_4.index t 1 * 512 + 1 * n.val = _; rw [h1]; simp
  rw [hr]
  show out0_4 (iblk0 V c 0 t) (iblk0 V c 1 t) (iblk0 V c 2 t) (iblk0 V c 3 t) (ix2 r n) = _
  unfold out0_4
  rw [View.canon_unit_zero hz2, View.ld_unit_zero hz2, View.ld_unit_zero hz2, View.ld_unit_zero hz2, View.ld_unit_zero hz3]
  pointwise [k0_pay1, step]
  simp only [blk0_0, blk0_1, blk0_2, blk0_3]
  have hb : (t.val / 8 * 1024 + r.val) / 2048 = t.val / 16 := by omega
  have hg : (40 + t.val % 8) * 512 + n.val = 20480 + (t.val % 8 * 512 + n.val) := by omega
  simp only [hb, hg, Nat.zero_mul, Nat.zero_add]

/-- The array after the run. -/
theorem arr_eq0 (c : Dev nD) : (dat0 V c).arrAt 4 cfg0.N = step (V c main_v0) (V c main_v1) (V c main_v2) (V c main_v4) 0 := by
  have hc : (cfg0.win 4).Covers := by decide +kernel
  exact (dat0 V c).arrAt_eq_of_cover 4 _ (fun t _ => flushed_eq0 V c t) (Pipeline.Window.Covers.cover (cfg0.win 4) hc (Memref.isWhole_whole main_v5))

/-! ## Run 1 -/

theorem t_lt1 (t : Fin cfg1.N) : t.val < 64 := lt_of_lt_of_eq t.isLt N_1

/-- The blocks' places, decided over the grid. -/
theorem idx_facts1 : ∀ t : Fin cfg1.N,
    win1_0.index t 0 = t.val / 8
    ∧ win1_0.index t 1 = 1
    ∧ win1_1.index t 0 = 1
    ∧ win1_1.index t 1 = t.val % 8
    ∧ win1_2.index t 0 = t.val / 8
    ∧ win1_2.index t 1 = t.val % 8
    ∧ win1_3.index t 0 = t.val / 16
    ∧ win1_3.index t 1 = 0
    ∧ win1_3.index t 2 = 40 + t.val % 8
    ∧ win1_4.index t 0 = t.val / 8
    ∧ win1_4.index t 1 = t.val % 8 :=
  (by decide +kernel : ∀ t : Fin grid1.N, _)

theorem blk1_0 (c : Dev nD) (t : Fin cfg1.N) (i0 : Fin 1024) (i1 : Fin 5504) :
    (iblk1 V c 0 t : S1024x5504.Idx → EReal) (ix2 i0 i1) = V c main_v2 (ix2 ⟨t.val / 8 * 1024 + i0.val, by have := t_lt1 t; omega⟩ ⟨1 * 5504 + i1.val, by have := t_lt1 t; omega⟩) := by
  obtain ⟨h0, h1, -, -, -, -, -, -, -, -, -⟩ := idx_facts1 t
  refine congrArg (V c main_v2) (funext fun a => Fin.ext ?_)
  match a with
  | ⟨0, _⟩ => show win1_0.index t 0 * 1024 + 1 * i0.val = _; rw [h0]; first | rfl | (simp; done) | (simp only [ix2, ix3, ix4]; have := t_lt1 t; simp; omega)
  | ⟨1, _⟩ => show win1_0.index t 1 * 5504 + 1 * i1.val = _; rw [h1]; first | rfl | (simp; done) | (simp only [ix2, ix3, ix4]; have := t_lt1 t; simp; omega)

theorem blk1_1 (c : Dev nD) (t : Fin cfg1.N) (i0 : Fin 5504) (i1 : Fin 512) :
    (iblk1 V c 1 t : S5504x512.Idx → EReal) (ix2 i0 i1) = V c main_v4 (ix2 ⟨1 * 5504 + i0.val, by have := t_lt1 t; omega⟩ ⟨t.val % 8 * 512 + i1.val, by have := t_lt1 t; omega⟩) := by
  obtain ⟨-, -, h0, h1, -, -, -, -, -, -, -⟩ := idx_facts1 t
  refine congrArg (V c main_v4) (funext fun a => Fin.ext ?_)
  match a with
  | ⟨0, _⟩ => show win1_1.index t 0 * 5504 + 1 * i0.val = _; rw [h0]; first | rfl | (simp; done) | (simp only [ix2, ix3, ix4]; have := t_lt1 t; simp; omega)
  | ⟨1, _⟩ => show win1_1.index t 1 * 512 + 1 * i1.val = _; rw [h1]; first | rfl | (simp; done) | (simp only [ix2, ix3, ix4]; have := t_lt1 t; simp; omega)

theorem blk1_2 (c : Dev nD) (t : Fin cfg1.N) (i0 : Fin 1024) (i1 : Fin 512) :
    (iblk1 V c 2 t : S1024x512.Idx → EReal) (ix2 i0 i1) = V c main_v5 (ix2 ⟨t.val / 8 * 1024 + i0.val, by have := t_lt1 t; omega⟩ ⟨t.val % 8 * 512 + i1.val, by have := t_lt1 t; omega⟩) := by
  obtain ⟨-, -, -, -, h0, h1, -, -, -, -, -⟩ := idx_facts1 t
  refine congrArg (V c main_v5) (funext fun a => Fin.ext ?_)
  match a with
  | ⟨0, _⟩ => show win1_2.index t 0 * 1024 + 1 * i0.val = _; rw [h0]; first | rfl | (simp; done) | (simp only [ix2, ix3, ix4]; have := t_lt1 t; simp; omega)
  | ⟨1, _⟩ => show win1_2.index t 1 * 512 + 1 * i1.val = _; rw [h1]; first | rfl | (simp; done) | (simp only [ix2, ix3, ix4]; have := t_lt1 t; simp; omega)

theorem blk1_3 (c : Dev nD) (t : Fin cfg1.N) (i0 : Fin 1) (i1 : Fin 1) (i2 : Fin 512) :
    (iblk1 V c 3 t : S1x1x512.Idx → EReal) (ix3 i0 i1 i2) = V c main_v1 (ix3 ⟨t.val / 16, by have := t_lt1 t; omega⟩ 0 ⟨(40 + t.val % 8) * 512 + i2.val, by have := t_lt1 t; omega⟩) := by
  obtain ⟨-, -, -, -, -, -, h0, h1, h2, -, -⟩ := idx_facts1 t
  refine congrArg (V c main_v1) (funext fun a => Fin.ext ?_)
  match a with
  | ⟨0, _⟩ => show win1_3.index t 0 * 1 + 1 * i0.val = _; rw [h0]; first | rfl | (simp; done) | (simp only [ix2, ix3, ix4]; have := t_lt1 t; simp; omega)
  | ⟨1, _⟩ => show win1_3.index t 1 * 1 + 1 * i1.val = _; rw [h1]; first | rfl | (simp; done) | (simp only [ix2, ix3, ix4]; have := t_lt1 t; simp; omega)
  | ⟨2, _⟩ => show win1_3.index t 2 * 512 + 1 * i2.val = _; rw [h2]; first | rfl | (simp; done) | (simp only [ix2, ix3, ix4]; have := t_lt1 t; simp; omega)

/-- What a point writes back is its block of the step. -/
theorem flushed_eq1 (c : Dev nD) (t : Fin cfg1.N) :
    (dat1 V c).flushed 4 t = ((cfg1.win 4).blk t).view.read (Elt Ideal) (step (V c main_v5) (V c main_v1) (V c main_v2) (V c main_v4) 1) := by
  obtain ⟨-, -, -, -, -, -, -, -, -, h0, h1⟩ := idx_facts1 t
  have ht := t_lt1 t
  show (cfg1.win 4).cut (grid1.coords t) ((dat1 V c).after 4 t) = _
  rw [after1_4]
  funext j
  obtain ⟨r, n, rfl⟩ : ∃ (r : Fin 1024) (n : Fin 512), j = ix2 r n := ⟨j 0, j 1, eq_ix2 j⟩
  have hr : ((cfg1.win 4).blk t).view.read (Elt Ideal) (step (V c main_v5) (V c main_v1) (V c main_v2) (V c main_v4) 1) (ix2 r n)
      = step (V c main_v5) (V c main_v1) (V c main_v2) (V c main_v4) 1 (ix2 ⟨t.val / 8 * 1024 + r.val, by omega⟩ ⟨t.val % 8 * 512 + n.val, by omega⟩) := by
    refine congrArg (step (V c main_v5) (V c main_v1) (V c main_v2) (V c main_v4) 1) (funext fun a => Fin.ext ?_)
    match a with
    | ⟨0, _⟩ => show win1_4.index t 0 * 1024 + 1 * r.val = _; rw [h0]; simp
    | ⟨1, _⟩ => show win1_4.index t 1 * 512 + 1 * n.val = _; rw [h1]; simp
  rw [hr]
  show out1_4 (iblk1 V c 0 t) (iblk1 V c 1 t) (iblk1 V c 2 t) (iblk1 V c 3 t) (ix2 r n) = _
  unfold out1_4
  rw [View.canon_unit_zero hz2, View.ld_unit_zero hz2, View.ld_unit_zero hz2, View.ld_unit_zero hz2, View.ld_unit_zero hz3]
  pointwise [k1_pay1, step]
  simp only [blk1_0, blk1_1, blk1_2, blk1_3]
  have hb : (t.val / 8 * 1024 + r.val) / 2048 = t.val / 16 := by omega
  have hg : (40 + t.val % 8) * 512 + n.val = 20480 + (t.val % 8 * 512 + n.val) := by omega
  simp only [hb, hg]

/-- The array after the run. -/
theorem arr_eq1 (c : Dev nD) : (dat1 V c).arrAt 4 cfg1.N = step (V c main_v5) (V c main_v1) (V c main_v2) (V c main_v4) 1 := by
  have hc : (cfg1.win 4).Covers := by decide +kernel
  exact (dat1 V c).arrAt_eq_of_cover 4 _ (fun t _ => flushed_eq1 V c t) (Pipeline.Window.Covers.cover (cfg1.win 4) hc (Memref.isWhole_whole main_v6))

/-! ## Both runs, from the arguments -/

variable (m : (ℓ : Loc nD τ sig) → Buf (Elt Ideal) ℓ) (ρ : Dev nD → PrngReg)

theorem V1_0 (c : Dev nD) : V1 m ρ c main_v0 = shapeCast _ (m ((c : Thread nD τ).loc main_arg0)) shapeCasts_S4x2048x4096_S8192x4096 := by
  show StableHlo.after hostOps0 _ _ = _
  unfold hostOps0; after_results <;> rfl
theorem V1_1 (c : Dev nD) : V1 m ρ c main_v1 = shapeCast _ (m ((c : Thread nD τ).loc main_arg1)) shapeCasts_S8x24576_S8x1x24576 := by
  show StableHlo.after hostOps0 _ _ = _
  unfold hostOps0; after_results <;> rfl
theorem V1_2 (c : Dev nD) : V1 m ρ c main_v2 = shapeCast _ (m ((c : Thread nD τ).loc main_arg2)) shapeCasts_S4x2048x11008_S8192x11008 := by
  show StableHlo.after hostOps0 _ _ = _
  unfold hostOps0; after_results <;> rfl
theorem V1_4 (c : Dev nD) : V1 m ρ c main_v4 = truncf (F := Ideal) (φ := .f32) .bf16 (shapeCast _ (m ((c : Thread nD τ).loc main_arg3)) shapeCasts_S1x11008x4096_S11008x4096) bitsLt_bf16_f32 := by
  show StableHlo.after hostOps0 _ _ = _
  unfold hostOps0; after_results <;> rfl

theorem cast0 (x : FVec Ideal S4x2048x4096 .f32) (r : Fin 8192) (k : Fin 4096) :
    shapeCast S8192x4096 x shapeCasts_S4x2048x4096_S8192x4096 (ix2 r k) = x (ix3 ⟨r.val / 2048, by omega⟩ ⟨r.val % 2048, by omega⟩ k) := by pointwise
theorem cast1 (g : FVec Ideal S8x24576 .f32) (b : Fin 8) (n : Fin 24576) :
    shapeCast S8x1x24576 g shapeCasts_S8x24576_S8x1x24576 (ix3 b 0 n) = g (ix2 b n) := by pointwise
theorem cast2 (a : FVec Ideal S4x2048x11008 .bf16) (r : Fin 8192) (k : Fin 11008) :
    shapeCast S8192x11008 a shapeCasts_S4x2048x11008_S8192x11008 (ix2 r k) = a (ix3 ⟨r.val / 2048, by omega⟩ ⟨r.val % 2048, by omega⟩ k) := by pointwise
theorem cast4 (w : FVec Ideal S1x11008x4096 .f32) (k : Fin 11008) (n : Fin 4096) :
    truncf (F := Ideal) .bf16 (shapeCast S11008x4096 w shapeCasts_S1x11008x4096_S11008x4096) bitsLt_bf16_f32 (ix2 k n) = w (ix3 0 k n) := by pointwise

/-- The result at a row and a column, as the two runs add it up. -/
def two (x : FVec Ideal S4x2048x4096 .f32) (mod : FVec Ideal S8x24576 .f32) (a : FVec Ideal S4x2048x11008 .bf16)
    (w : FVec Ideal S1x11008x4096 .f32) : FVec Ideal S8192x4096 .f32 := fun i =>
  let b : Fin 4 := ⟨(i 0).val / 2048, by have := ValueIdx.idx2_lt0 i; omega⟩
  let s : Fin 2048 := ⟨(i 0).val % 2048, by omega⟩
  let n : Fin 4096 := ⟨(i 1).val, ValueIdx.idx2_lt1 i⟩
  let g := mod (ix2 ⟨b.val, by omega⟩ ⟨20480 + n.val, by omega⟩)
  x (ix3 b s n) + g * (∑ k : Fin 5504, a (ix3 b s ⟨0 * 5504 + k.val, by omega⟩) * w (ix3 0 ⟨0 * 5504 + k.val, by omega⟩ n))
    + g * ∑ k : Fin 5504, a (ix3 b s ⟨1 * 5504 + k.val, by omega⟩) * w (ix3 0 ⟨1 * 5504 + k.val, by omega⟩ n)

theorem two_eq (x : FVec Ideal S4x2048x4096 .f32) (mod : FVec Ideal S8x24576 .f32) (a : FVec Ideal S4x2048x11008 .bf16)
    (w : FVec Ideal S1x11008x4096 .f32) :
    step (step (shapeCast _ x shapeCasts_S4x2048x4096_S8192x4096) (shapeCast _ mod shapeCasts_S8x24576_S8x1x24576)
        (shapeCast _ a shapeCasts_S4x2048x11008_S8192x11008) (truncf (F := Ideal) (φ := .f32) .bf16 (shapeCast _ w shapeCasts_S1x11008x4096_S11008x4096) bitsLt_bf16_f32) 0)
      (shapeCast _ mod shapeCasts_S8x24576_S8x1x24576) (shapeCast _ a shapeCasts_S4x2048x11008_S8192x11008)
      (truncf (F := Ideal) (φ := .f32) .bf16 (shapeCast _ w shapeCasts_S1x11008x4096_S11008x4096) bitsLt_bf16_f32) 1 = two x mod a w := by
  funext i
  obtain ⟨r, n, rfl⟩ : ∃ (r : Fin 8192) (n : Fin 4096), i = ix2 r n := ⟨i 0, i 1, eq_ix2 i⟩
  refine congr_arg₂ (· + ·) (congr_arg₂ (· + ·) (cast0 ..) (congr_arg₂ (· * ·) (cast1 ..) (Finset.sum_congr rfl fun k _ => congr_arg₂ (· * ·) (cast2 ..) (cast4 ..))))
    (congr_arg₂ (· * ·) (cast1 ..) (Finset.sum_congr rfl fun k _ => congr_arg₂ (· * ·) (cast2 ..) (cast4 ..)))

/-- What the second run leaves, from the arguments. -/
theorem arr_eq (c : Dev nD) : (dat1 (V2 m ρ) c).arrAt 4 cfg1.N
    = two (m ((c : Thread nD τ).loc main_arg0)) (m ((c : Thread nD τ).loc main_arg1)) (m ((c : Thread nD τ).loc main_arg2)) (m ((c : Thread nD τ).loc main_arg3)) := by
  have h5 : V2 m ρ c main_v5 = _ := (W2_arr m ρ c 4).trans (arr_eq0 (V1 m ρ) c)
  have h1 : V2 m ρ c main_v1 = V1 m ρ c main_v1 := W2_of m ρ c main_v1 (by decide)
  have h2 : V2 m ρ c main_v2 = V1 m ρ c main_v2 := W2_of m ρ c main_v2 (by decide)
  have h4 : V2 m ρ c main_v4 = V1 m ρ c main_v4 := W2_of m ρ c main_v4 (by decide)
  rw [arr_eq1, h5, h1, h2, h4, V1_0, V1_1, V1_2, V1_4]
  exact two_eq _ _ _ _

end Cert.Down

end
-- ==== Proof.Down.Ref.lean ====
/-
  The accumulating kernel against the reference: where the factor, the activations and the weight are finite, the
  product distributes over the two halves of the sum.
-/
module

public import proofs.«01_k».proof.Proof.Down.Val
public import Idealize.ShloMosaic.Lib.KernelVsHost
public import proofs.«01_k».proof.Proof.Gen.Kernel2
public import proofs.«01_k».proof.Proof.Gen.Reference2Ideal.Run
public import Idealize.ShloMosaic.Lib.Quiescent

@[expose] public section

set_option maxRecDepth 16384

noncomputable section

namespace Cert.Down

open Idealize.ShloMosaic Idealize.ShloMosaic.TcCoe Idealize.SL.Sem
open scoped BigOperators

/-- The precondition's facts. -/
theorem pre_facts : Cert.Pre_finite_down.Facts := ⟨by decide, by decide, by decide, by decide⟩

/-- An absolute value under plus infinity is a real number's. -/
theorem real_of_f32 (x : Ideal .f32) (h : FloatOps.cmpf .olt (FloatOps.hostAbsf x) (FloatOps.ofBits (F := Ideal) .f32 0x7F800000#32) = 1#1) :
    ∃ r : ℝ, (x : EReal) = r := by
  have htop : Ideal.ofBits .f32 0x7F800000#32 = ⊤ := by simp [Ideal.ofBits, Ideal.ieee]
  replace h : Ideal.cmp .olt (max (x : EReal) (-(x : EReal))) (Ideal.ofBits .f32 0x7F800000#32) = 1#1 := h
  rw [htop] at h
  have hl : max (x : EReal) (-(x : EReal)) < ⊤ := by
    by_contra hn
    simp [Ideal.cmp, hn] at h
  rw [max_lt_iff] at hl
  refine ⟨EReal.toReal x, (EReal.coe_toReal hl.1.ne ?_).symm⟩
  rintro rfl
  simp at hl

theorem real_of_bf16 (x : Ideal .bf16) (h : FloatOps.cmpf .olt (FloatOps.hostAbsf x) (FloatOps.ofBits (F := Ideal) .bf16 0x7F80#16) = 1#1) :
    ∃ r : ℝ, (x : EReal) = r := by
  have htop : Ideal.ofBits .bf16 0x7F80#16 = ⊤ := by simp [Ideal.ofBits, Ideal.ieee]
  replace h : Ideal.cmp .olt (max (x : EReal) (-(x : EReal))) (Ideal.ofBits .bf16 0x7F80#16) = 1#1 := h
  rw [htop] at h
  have hl : max (x : EReal) (-(x : EReal)) < ⊤ := by
    by_contra hn
    simp [Ideal.cmp, hn] at h
  rw [max_lt_iff] at hl
  refine ⟨EReal.toReal x, (EReal.coe_toReal hl.1.ne ?_).symm⟩
  rintro rfl
  simp at hl

/-- A finite sum of real numbers' products is a real number. -/
theorem real_sum {n : Nat} (f g : Fin n → EReal) (hf : ∀ k, ∃ r : ℝ, f k = r) (hg : ∀ k, ∃ r : ℝ, g k = r) : ∃ r : ℝ, ∑ k, f k * g k = r := by
  choose f' hf using hf
  choose g' hg using hg
  refine ⟨∑ k, f' k * g' k, ?_⟩
  simp only [hf, hg, ← EReal.coe_mul]
  exact (map_sum (⟨⟨Real.toEReal, rfl⟩, EReal.coe_add⟩ : ℝ →+ EReal) _ _).symm

/-- For real numbers the factor distributes over the two halves. -/
theorem halves (x g : EReal) (f w : Fin 11008 → EReal) (hg : ∃ r : ℝ, g = r) (hf : ∀ k, ∃ r : ℝ, f k = r) (hw : ∀ k, ∃ r : ℝ, w k = r) :
    x + g * (∑ k : Fin 5504, f ⟨0 * 5504 + k.val, by omega⟩ * w ⟨0 * 5504 + k.val, by omega⟩)
      + g * (∑ k : Fin 5504, f ⟨1 * 5504 + k.val, by omega⟩ * w ⟨1 * 5504 + k.val, by omega⟩) = x + g * ∑ k, f k * w k := by
  have hs : ∑ k, f k * w k = (∑ k : Fin 5504, f ⟨0 * 5504 + k.val, by omega⟩ * w ⟨0 * 5504 + k.val, by omega⟩)
      + ∑ k : Fin 5504, f ⟨1 * 5504 + k.val, by omega⟩ * w ⟨1 * 5504 + k.val, by omega⟩ := by
    refine (Fin.sum_univ_add (M := EReal) (a := 5504) (b := 5504) fun k : Fin 11008 => f k * w k).trans ?_
    refine congr_arg₂ (· + ·) (Finset.sum_congr rfl fun k _ => ?_) (Finset.sum_congr rfl fun k _ => ?_)
    · have e : (Fin.castAdd 5504 k : Fin 11008) = ⟨0 * 5504 + k.val, by omega⟩ := Fin.ext (by simp)
      rw [← e]
    · have e : (Fin.natAdd 5504 k : Fin 11008) = ⟨1 * 5504 + k.val, by omega⟩ := Fin.ext (by simp [Nat.add_comm])
      rw [← e]
  obtain ⟨a, ha⟩ := real_sum (fun k : Fin 5504 => f ⟨0 * 5504 + k.val, by omega⟩) (fun k => w ⟨0 * 5504 + k.val, by omega⟩) (fun _ => hf _) (fun _ => hw _)
  obtain ⟨b, hb⟩ := real_sum (fun k : Fin 5504 => f ⟨1 * 5504 + k.val, by omega⟩) (fun k => w ⟨1 * 5504 + k.val, by omega⟩) (fun _ => hf _) (fun _ => hw _)
  obtain ⟨g', rfl⟩ := hg
  rw [hs, ha, hb, add_assoc, ← EReal.coe_mul, ← EReal.coe_mul, ← EReal.coe_add, ← EReal.coe_add, ← EReal.coe_mul, mul_add]

section

open Cert.Reference2Ideal Cert.Reference2Ideal.Gen

/-- The reference's result, element by element, where its factor, activations and weight are finite. -/
theorem ref_eq (x : FVec Ideal S4x2048x4096 .f32) (mod : FVec Ideal S8x24576 .f32) (a : FVec Ideal S4x2048x11008 .bf16)
    (w : FVec Ideal S1x11008x4096 .f32) (hm : ∀ (b : Fin 4) (n : Fin 4096), ∃ r : ℝ, mod (ix2 ⟨b.val, by omega⟩ ⟨20480 + n.val, by omega⟩) = (r : EReal))
    (ha : ∀ i, ∃ r : ℝ, a i = (r : EReal)) (hw : ∀ i, ∃ r : ℝ, w i = (r : EReal)) :
    shapeCast S8192x4096 (addf x (mulf (broadcastInDim S4x2048x4096 ![0, 1, 2] bcast_S4x1x4096_S4x2048x4096_0_1_2 (broadcastInDim S4x1x4096 ![0, 2] bcast_S4x4096_S4x1x4096_0_2 (extractStridedSlice S4x4096 ![0, 20480] (extractStridedSlice S4x24576 ![0, 0] mod slices_S8x24576_S4x24576_0_0) slices_S4x24576_S4x4096_0_20480))) (Host.dotGeneral (F := Ideal) dot_S4x2048x11008_S11008x4096_S4x2048x4096_2_0_01_1_n_n none (extf .f32 a bitsLt_bf16_f32) (shapeCast S11008x4096 w shapeCasts_S1x11008x4096_S11008x4096)))) shapeCasts_S4x2048x4096_S8192x4096
      = two x mod a w := by
  funext i
  obtain ⟨r, n, rfl⟩ : ∃ (r : Fin 8192) (n : Fin 4096), i = ix2 r n := ⟨i 0, i 1, eq_ix2 i⟩
  refine Eq.trans ?_ (halves (x (ix3 ⟨r.val / 2048, by omega⟩ ⟨r.val % 2048, by omega⟩ n)) (mod (ix2 ⟨r.val / 2048, by omega⟩ ⟨20480 + n.val, by omega⟩))
    (fun k => a (ix3 ⟨r.val / 2048, by omega⟩ ⟨r.val % 2048, by omega⟩ k)) (fun k => w (ix3 0 k n)) (hm ⟨r.val / 2048, by omega⟩ n) (fun _ => ha _) (fun _ => hw _)).symm
  pointwise

end

/-- The precondition, at the arguments, gives real numbers. -/
theorem pre_real [Cert.Pre_finite_down.Facts] (x : FVec Ideal Cert.Pre_finite_down.S4x2048x4096 .f32) (mod : FVec Ideal Cert.Pre_finite_down.S8x24576 .f32)
    (a : FVec Ideal Cert.Pre_finite_down.S4x2048x11008 .bf16) (w : FVec Ideal Cert.Pre_finite_down.S1x11008x4096 .f32)
    (h0 : (Cert.Pre_finite_down.fn x mod a w).1 = fun _ => 1#1) (h1 : (Cert.Pre_finite_down.fn x mod a w).2.1 = fun _ => 1#1)
    (h2 : (Cert.Pre_finite_down.fn x mod a w).2.2 = fun _ => 1#1) :
    (∀ (b : Fin 4) (n : Fin 4096), ∃ r : ℝ, mod (ix2 ⟨b.val, by omega⟩ ⟨20480 + n.val, by omega⟩) = (r : EReal))
      ∧ (∀ i, ∃ r : ℝ, a i = (r : EReal)) ∧ ∀ i, ∃ r : ℝ, w i = (r : EReal) := by
  refine ⟨fun b n => ?_, fun i => real_of_bf16 _ (congrFun h1 i), fun i => real_of_f32 _ (congrFun h2 i)⟩
  have h := real_of_f32 _ (congrFun h0 (ix2 b n))
  have e : extractStridedSlice Cert.Pre_finite_down.S4x4096 ![0, 20480] mod Cert.Pre_finite_down.Facts.slices_S8x24576_S4x4096_0_20480 (ix2 b n)
      = mod (ix2 ⟨b.val, by omega⟩ ⟨20480 + n.val, by omega⟩) := by pointwise
  exact (congrArg (fun y => ∃ r : ℝ, y = (r : EReal)) e).mp h

/-- The kernel at the extended reals computes what the reference computes. -/
theorem algebraic : Cert.algebraic_Kernel2Ideal_Reference2Ideal_pre_finite_down (hPre_finite_down := pre_facts) := fun m ρ m' ρ' hpre hin => by
  haveI := pre_facts
  refine ⟨fun c => two (m (((c.tc : Thread _ _)).loc Cert.Kernel2Ideal.main_arg0)) (m (((c.tc : Thread _ _)).loc Cert.Kernel2Ideal.main_arg1)) (m (((c.tc : Thread _ _)).loc Cert.Kernel2Ideal.main_arg2)) (m (((c.tc : Thread _ _)).loc Cert.Kernel2Ideal.main_arg3)),
    (θ_run Cert.Kernel2Ideal.defs _ _).mono (fun _ h c => ⟨(h c).1.trans (arr_eq m ρ c), (h c).2⟩) (run m ρ),
    (θ_run Cert.Reference2Ideal.defs _ _).mono (fun _ h c => ⟨(h c).1.trans ?_, (h c).2⟩) (Cert.Reference2Ideal.Value.run m' ρ')⟩
  obtain ⟨hm, ha, hw⟩ := pre_real _ _ _ _ (hpre c).1 (hpre c).2.1 (hpre c).2.2
  rw [(hin c).1, (hin c).2.1, (hin c).2.2.1, (hin c).2.2.2]
  exact ref_eq _ _ _ _ hm ha hw

/-- The printed program's body table is the idealized one's, the texts being the same. -/
theorem defs_eq : Cert.Kernel2.defs (F := Bits) = Cert.Kernel2Ideal.defs (F := Bits) :=
  congrArg (Pipeline.defs _) (congrArg Defs.onTc (funext fun l => match l with | 0 => funext fun _ => rfl | 1 => funext fun _ => rfl))

/-- The frames. -/
theorem frame_kernel : Cert.quiescent_Kernel2 := fun m ρ _ => by
  rw [defs_eq]; exact Cert.Kernel2Ideal.Gen.frame (F := Bits) m ρ
theorem frame_ideal : Cert.quiescent_Kernel2Ideal := fun m ρ _ => Cert.Kernel2Ideal.Gen.frame (F := Ideal) m ρ
theorem frame_ideal_pre : Cert.quiescent_Kernel2Ideal_pre_finite_down (hPre_finite_down := pre_facts) := fun m ρ _ => Cert.Kernel2Ideal.Gen.frame (F := Ideal) m ρ
theorem frame_ref : Cert.quiescent_Reference2Ideal := fun m ρ _ =>
  (θ_run Cert.Reference2Ideal.defs _ _).mono (fun r h => ⟨fun c => (h c).2, Idealize.ShloMosaic.sem_eq_zero_of_no_sems (by decide) r.2⟩) (Cert.Reference2Ideal.Value.run (F := Ideal) m ρ)
theorem frame_ref_pre : Cert.quiescent_Reference2Ideal_pre_finite_down (hPre_finite_down := pre_facts) := fun m ρ _ =>
  (θ_run Cert.Reference2Ideal.defs _ _).mono (fun r h => ⟨fun c => (h c).2, Idealize.ShloMosaic.sem_eq_zero_of_no_sems (by decide) r.2⟩) (Cert.Reference2Ideal.Value.run (F := Ideal) m ρ)

end Cert.Down

end
-- ==== Proof.Up.Conv.lean ====
/-
  The causal convolution of three taps as a formula, and a block moved down its rows by a rotation behind eight rows of the block
  before it, read at an index.
-/
module

public import proofs.«01_k».proof.Defs
public import proofs.«01_k».proof.Proof.Gen.Kernel3Ideal.Frame
public import Idealize.ShloMosaic.Lib.Pipeline.Value
public import Idealize.ShloMosaic.Lib.Pointwise
public import Idealize.ShloMosaic.Lib.ValueLayout
public import Idealize.ShloMosaic.Lib.IdealHost
public import Idealize.ShloMosaic.Lib.KernelVsHost

@[expose] public section

set_option maxRecDepth 16384

noncomputable section

namespace Cert.Up

open Cert.Kernel3Ideal Cert.Kernel3Ideal.Gen Idealize.ShloMosaic Idealize.ShloMosaic.TcCoe Idealize.SL.Sem
open scoped BigOperators

/-- The row `s` before row `y`, zero before the sequence. -/
def tap (A : Fin 2048 → EReal) (s : ℕ) (y : Fin 2048) : EReal :=
  if s ≤ y.val then A ⟨y.val - s, by omega⟩ else 0

/-- The convolution at a row: the bias, then the taps two rows back, one row back and at the row. -/
def conv (A : Fin 2048 → EReal) (b c0 c1 c2 : EReal) (y : Fin 2048) : EReal :=
  ((b + tap A 2 y * c0) + tap A 1 y * c1) + A y * c2

/-- The gate times its sigmoid, times the value. -/
def act (g v : EReal) : EReal := g * Ideal.logistic g * v

theorem conv_congr {A A' : Fin 2048 → EReal} {b b' c0 c0' c1 c1' c2 c2' : EReal} (hA : ∀ y, A y = A' y) (hb : b = b') (h0 : c0 = c0')
    (h1 : c1 = c1') (h2 : c2 = c2') (y : Fin 2048) : conv A b c0 c1 c2 y = conv A' b' c0' c1' c2' y := by
  obtain rfl : A = A' := funext hA
  subst hb h0 h1 h2
  rfl

/-- A block under the eight rows before it, rotated down and cut back. -/
def rolled (sb : BitVec 32) (a : FVec Ideal S512x256 .f32) (h : FVec Ideal S8x256 .f32) : FVec Ideal S512x256 .f32 :=
  extractStridedSlice S512x256 ![8, 0] (dynamicRotate 0 sb none (concatenate S520x256 0 [⟨S8x256, h⟩, ⟨S512x256, a⟩] concatenates_S8x256_S512x256_S520x256_d0) rotates_S520x256_d0) slices_S520x256_o8_0_S512x256

theorem rolled_apply (sb : BitVec 32) (s : ℕ) (hsb : sb.toNat = s) (hs : s ≤ 8) (a : FVec Ideal S512x256 .f32) (h : FVec Ideal S8x256 .f32) (r : Fin 512) (n : Fin 256) :
    rolled sb a h (ix2 r n) = if hr : s ≤ r.val then a (ix2 ⟨r.val - s, by omega⟩ n) else h (ix2 ⟨8 + r.val - s, by omega⟩ n) := by
  unfold rolled
  refine (extractStridedSlice_apply _ _ slices_S520x256_o8_0_S512x256 (ix2 r n) (ix2 (⟨8 + r.val, by omega⟩ : Fin 520) n) (by
    intro b
    match b with
    | ⟨0, _⟩ => rfl
    | ⟨1, _⟩ => show n.val = 0 + n.val; omega)).trans ?_
  refine (dynamicRotate_apply (0 : Fin 2) sb _ rotates_S520x256_d0 _ (ix2 (⟨8 + r.val - s, by omega⟩ : Fin 520) n) (by
      intro b
      match b with
      | ⟨0, _⟩ => show 8 + r.val - s = (8 + r.val + 520 - sb.toNat % 520) % 520; rw [hsb]; omega
      | ⟨1, _⟩ => rfl)).trans ?_
  by_cases hr : s ≤ r.val
  · rw [dif_pos hr]
    exact concatenate_pair_apply_right (t := S520x256) (s₁ := S8x256) (s₂ := S512x256) (0 : Fin 2) _ _ concatenates_S8x256_S512x256_S520x256_d0 _ rfl rfl
      (ix2 (⟨r.val - s, by omega⟩ : Fin 512) n) (by
        intro b hb
        match b with
        | ⟨0, _⟩ => exact absurd rfl hb
        | ⟨1, _⟩ => rfl) (by
        show r.val - s + 8 = 8 + r.val - s; omega)
  · rw [dif_neg hr]
    exact concatenate_pair_apply_left (t := S520x256) (s₁ := S8x256) (s₂ := S512x256) (0 : Fin 2) _ _ concatenates_S8x256_S512x256_S520x256_d0 _ rfl
      (ix2 (⟨8 + r.val - s, by omega⟩ : Fin 8) n) (by
        intro b
        match b with
        | ⟨0, _⟩ => rfl
        | ⟨1, _⟩ => rfl)

/-- The rotated block is the column's earlier row, where the eight rows above it are the column's rows before the block. -/
theorem rolled_tap (sb : BitVec 32) (s : ℕ) (hsb : sb.toNat = s) (hs : s ≤ 8) (A : Fin 2048 → EReal) (o : ℕ) (ho : o + 512 ≤ 2048)
    (a : FVec Ideal S512x256 .f32) (h : FVec Ideal S8x256 .f32) (n : Fin 256)
    (ha : ∀ r : Fin 512, a (ix2 r n) = A ⟨o + r.val, by omega⟩)
    (hh : ∀ q : Fin 8, h (ix2 q n) = if hq : 8 ≤ o + q.val then A ⟨o + q.val - 8, by omega⟩ else 0)
    (ho8 : o = 0 ∨ 8 ≤ o) (r : Fin 512) : rolled sb a h (ix2 r n) = tap A s ⟨o + r.val, by omega⟩ := by
  rw [rolled_apply sb s hsb hs]
  unfold tap
  by_cases hr : s ≤ r.val
  · rw [dif_pos hr, ha, if_pos (by show s ≤ o + r.val; omega)]
    exact congrArg A (Fin.ext (by show o + (r.val - s) = o + r.val - s; omega))
  · rw [dif_neg hr, hh]
    by_cases h8 : 8 ≤ o
    · rw [dif_pos (by show 8 ≤ o + (8 + r.val - s); omega), if_pos (by show s ≤ o + r.val; omega)]
      exact congrArg A (Fin.ext (by show o + (8 + r.val - s) - 8 = o + r.val - s; omega))
    · rw [dif_neg (by show ¬ 8 ≤ o + (8 + r.val - s); omega), if_neg (by show ¬ s ≤ o + r.val; omega)]

/-- A row of the block as every sub-block computes it: the two products with the eight rows before each, the biases and the taps. -/
def term (a : FVec Ideal S512x256 .f32) (ha : FVec Ideal S8x256 .f32) (b : FVec Ideal S512x256 .f32) (hb : FVec Ideal S8x256 .f32)
    (cb c0 c1 c2 db d0 d1 d2 : Vec Ideal S1x1x256 .f32) : FVec Ideal S512x256 .bf16 :=
  let row (v : Vec Ideal S1x1x256 .f32) : FVec Ideal S512x256 .f32 := broadcastTo S512x256 (shapeCast S1x256 v shapeCasts_S1x1x256_S1x256) broadcasts_S1x256_S512x256
  let g : FVec Ideal S512x256 .bf16 := truncf .bf16 (addf (addf (addf (row cb) (mulf (rolled 2#32 a ha) (row c0))) (mulf (rolled 1#32 a ha) (row c1))) (mulf a (row c2))) bitsLt_bf16_f32
  let v : FVec Ideal S512x256 .bf16 := truncf .bf16 (addf (addf (addf (row db) (mulf (rolled 2#32 b hb) (row d0))) (mulf (rolled 1#32 b hb) (row d1))) (mulf b (row d2))) bitsLt_bf16_f32
  mulf (mulf g (logistic g)) v

theorem term_apply (A B : Fin 2048 → EReal) (o : ℕ) (ho : o + 512 ≤ 2048) (ho8 : o = 0 ∨ 8 ≤ o) (n : Fin 256)
    (a : FVec Ideal S512x256 .f32) (ha : FVec Ideal S8x256 .f32) (b : FVec Ideal S512x256 .f32) (hb : FVec Ideal S8x256 .f32)
    (cb c0 c1 c2 db d0 d1 d2 : Vec Ideal S1x1x256 .f32)
    (pa : ∀ r : Fin 512, a (ix2 r n) = A ⟨o + r.val, by omega⟩)
    (qa : ∀ q : Fin 8, ha (ix2 q n) = if hq : 8 ≤ o + q.val then A ⟨o + q.val - 8, by omega⟩ else 0)
    (pb : ∀ r : Fin 512, b (ix2 r n) = B ⟨o + r.val, by omega⟩)
    (qb : ∀ q : Fin 8, hb (ix2 q n) = if hq : 8 ≤ o + q.val then B ⟨o + q.val - 8, by omega⟩ else 0) (r : Fin 512) :
    term a ha b hb cb c0 c1 c2 db d0 d1 d2 (ix2 r n)
      = act (conv A (cb (ix3 0 0 n)) (c0 (ix3 0 0 n)) (c1 (ix3 0 0 n)) (c2 (ix3 0 0 n)) ⟨o + r.val, by omega⟩)
          (conv B (db (ix3 0 0 n)) (d0 (ix3 0 0 n)) (d1 (ix3 0 0 n)) (d2 (ix3 0 0 n)) ⟨o + r.val, by omega⟩) := by
  unfold conv
  rw [← rolled_tap 2#32 2 rfl (by omega) A o ho a ha n pa qa ho8 r, ← rolled_tap 1#32 1 rfl (by omega) A o ho a ha n pa qa ho8 r,
    ← rolled_tap 2#32 2 rfl (by omega) B o ho b hb n pb qb ho8 r, ← rolled_tap 1#32 1 rfl (by omega) B o ho b hb n pb qb ho8 r, ← pa r, ← pb r]
  pointwise [term, act]

end Cert.Up

end
-- ==== Proof.Up.Blk.lean ====
/-
  The up projection's block: each sub-block of its four stores is the formula, element by element.
-/
module

public import proofs.«01_k».proof.Defs
public import proofs.«01_k».proof.Proof.Gen.Kernel3Ideal.Value
public import Idealize.ShloMosaic.Lib.Pipeline.Value
public import Idealize.ShloMosaic.Lib.Pipeline.ValueKit.Geometry
public import Idealize.ShloMosaic.Lib.Pipeline.ValueKit.Tiles
public import Idealize.ShloMosaic.Lib.Pointwise
public import Idealize.ShloMosaic.Lib.ValueLayout
public import Idealize.ShloMosaic.Lib.IdealHost
public import proofs.«01_k».proof.Proof.Up.Conv

@[expose] public section

set_option maxRecDepth 16384

noncomputable section

namespace Cert.Up

open Cert.Kernel3Ideal Cert.Kernel3Ideal.Gen Idealize.ShloMosaic Idealize.ShloMosaic.TcCoe Idealize.SL.Sem
open Idealize.ShloMosaic.Pipeline (Dat)
open scoped BigOperators

/-- The product of a column of the block. -/
def col (x0 : Vec Ideal S2048x4096 .bf16) (w : Vec Ideal S1x4096x256 .f32) (n : Fin 256) (y : Fin 2048) : EReal :=
  ∑ k : Fin 4096, x0 (ix2 y k) * w (ix3 0 k n)

/-- The block, from the input blocks. -/
def out (x0 : Vec Ideal S2048x4096 .bf16) (x1 x2 : Vec Ideal S1x4096x256 .f32) (x3 x4 : Vec Ideal S1x3x256 .f32) (x5 x6 : Vec Ideal S1x1x256 .f32) : Vec Ideal S2048x256 .bf16 := fun y =>
  let s : Fin 2048 := ⟨(y 0).val, ValueIdx.idx2_lt0 y⟩
  let n : Fin 256 := ⟨(y 1).val, ValueIdx.idx2_lt1 y⟩
  act (conv (col x0 x1 n) (x5 (ix3 0 0 n)) (x3 (ix3 0 0 n)) (x3 (ix3 0 1 n)) (x3 (ix3 0 2 n)) s)
    (conv (col x0 x2 n) (x6 (ix3 0 0 n)) (x4 (ix3 0 0 n)) (x4 (ix3 0 1 n)) (x4 (ix3 0 2 n)) s)

theorem prod_apply (w : Vec Ideal S1x4096x256 .f32) (v : Vec Ideal S512x4096 .bf16) (r : Fin 512) (n : Fin 256) :
    k0_pay7 (F := Ideal) w v (ix2 r n) = ∑ k : Fin 4096, v (ix2 r k) * w (ix3 0 k n) := by
  pointwise [k0_pay7, k0_pay6, k0_pay3]

theorem prev_apply (a : FVec Ideal S512x256 .f32) (q : Fin 8) (n : Fin 256) : k0_pay14 (F := Ideal) a (ix2 q n) = a (ix2 ⟨504 + q.val, by omega⟩ n) := by
  pointwise [k0_pay14]

theorem zero_apply (q : Fin 8) (n : Fin 256) : k0_pay5 (F := Ideal) (ix2 q n) = 0 := by
  pointwise [k0_pay5]

theorem ldw (X : Vec Ideal S1x4096x256 .f32) : View.ld X r0_2 = X :=
  View.ld_unit_zero (funext fun a => by fin_cases a <;> rfl) _ _

theorem ld3 (x0 : Vec Ideal S2048x4096 .bf16) (r : Fin 512) (k : Fin 4096) : View.ld x0 r0_3 (ix2 r k) = x0 (ix2 ⟨0 + r.val, by omega⟩ k) :=
  congrArg x0 (funext fun a => Fin.ext (by match a with | ⟨0, _⟩ => (show 0 + 1 * r.val = 0 + r.val; omega) | ⟨1, _⟩ => (show 0 + 1 * k.val = k.val; omega)))
theorem col3 (x0 : Vec Ideal S2048x4096 .bf16) (w : Vec Ideal S1x4096x256 .f32) (r : Fin 512) (n : Fin 256) :
    k0_pay7 (F := Ideal) (View.ld w r0_2) (View.ld x0 r0_3) (ix2 r n) = col x0 w n ⟨0 + r.val, by omega⟩ := by
  rw [prod_apply, ldw]
  exact Finset.sum_congr rfl fun k _ => congrArg (· * _) (ld3 x0 r k)
theorem ld9 (x0 : Vec Ideal S2048x4096 .bf16) (r : Fin 512) (k : Fin 4096) : View.ld x0 r0_9 (ix2 r k) = x0 (ix2 ⟨512 + r.val, by omega⟩ k) :=
  congrArg x0 (funext fun a => Fin.ext (by match a with | ⟨0, _⟩ => (show 512 + 1 * r.val = 512 + r.val; omega) | ⟨1, _⟩ => (show 0 + 1 * k.val = k.val; omega)))
theorem col9 (x0 : Vec Ideal S2048x4096 .bf16) (w : Vec Ideal S1x4096x256 .f32) (r : Fin 512) (n : Fin 256) :
    k0_pay7 (F := Ideal) (View.ld w r0_2) (View.ld x0 r0_9) (ix2 r n) = col x0 w n ⟨512 + r.val, by omega⟩ := by
  rw [prod_apply, ldw]
  exact Finset.sum_congr rfl fun k _ => congrArg (· * _) (ld9 x0 r k)
theorem ld11 (x0 : Vec Ideal S2048x4096 .bf16) (r : Fin 512) (k : Fin 4096) : View.ld x0 r0_11 (ix2 r k) = x0 (ix2 ⟨1024 + r.val, by omega⟩ k) :=
  congrArg x0 (funext fun a => Fin.ext (by match a with | ⟨0, _⟩ => (show 1024 + 1 * r.val = 1024 + r.val; omega) | ⟨1, _⟩ => (show 0 + 1 * k.val = k.val; omega)))
theorem col11 (x0 : Vec Ideal S2048x4096 .bf16) (w : Vec Ideal S1x4096x256 .f32) (r : Fin 512) (n : Fin 256) :
    k0_pay7 (F := Ideal) (View.ld w r0_2) (View.ld x0 r0_11) (ix2 r n) = col x0 w n ⟨1024 + r.val, by omega⟩ := by
  rw [prod_apply, ldw]
  exact Finset.sum_congr rfl fun k _ => congrArg (· * _) (ld11 x0 r k)
theorem ld13 (x0 : Vec Ideal S2048x4096 .bf16) (r : Fin 512) (k : Fin 4096) : View.ld x0 r0_13 (ix2 r k) = x0 (ix2 ⟨1536 + r.val, by omega⟩ k) :=
  congrArg x0 (funext fun a => Fin.ext (by match a with | ⟨0, _⟩ => (show 1536 + 1 * r.val = 1536 + r.val; omega) | ⟨1, _⟩ => (show 0 + 1 * k.val = k.val; omega)))
theorem col13 (x0 : Vec Ideal S2048x4096 .bf16) (w : Vec Ideal S1x4096x256 .f32) (r : Fin 512) (n : Fin 256) :
    k0_pay7 (F := Ideal) (View.ld w r0_2) (View.ld x0 r0_13) (ix2 r n) = col x0 w n ⟨1536 + r.val, by omega⟩ := by
  rw [prod_apply, ldw]
  exact Finset.sum_congr rfl fun k _ => congrArg (· * _) (ld13 x0 r k)
theorem tap0 (x : Vec Ideal S1x3x256 .f32) (n : Fin 256) : View.ld x r0_5 (ix3 0 0 n) = x (ix3 0 0 n) :=
  congrArg x (funext fun a => Fin.ext (by match a with | ⟨0, _⟩ => rfl | ⟨1, _⟩ => rfl | ⟨2, _⟩ => (show 0 + 1 * n.val = n.val; omega)))
theorem tap1 (x : Vec Ideal S1x3x256 .f32) (n : Fin 256) : View.ld x r0_6 (ix3 0 0 n) = x (ix3 0 1 n) :=
  congrArg x (funext fun a => Fin.ext (by match a with | ⟨0, _⟩ => rfl | ⟨1, _⟩ => rfl | ⟨2, _⟩ => (show 0 + 1 * n.val = n.val; omega)))
theorem tap2 (x : Vec Ideal S1x3x256 .f32) (n : Fin 256) : View.ld x r0_7 (ix3 0 0 n) = x (ix3 0 2 n) :=
  congrArg x (funext fun a => Fin.ext (by match a with | ⟨0, _⟩ => rfl | ⟨1, _⟩ => rfl | ⟨2, _⟩ => (show 0 + 1 * n.val = n.val; omega)))
theorem bias (x : Vec Ideal S1x1x256 .f32) : View.ld x r0_4 = x :=
  View.ld_unit_zero (funext fun a => by fin_cases a <;> rfl) _ _

/-- The four stores are the block's four parts of 512 rows. -/
theorem out_eq (x0 : Vec Ideal S2048x4096 .bf16) (x1 x2 : Vec Ideal S1x4096x256 .f32) (x3 x4 : Vec Ideal S1x3x256 .f32) (x5 x6 : Vec Ideal S1x1x256 .f32) (x7 : Vec Ideal S1x64x4096 .f32) (y : S2048x256.Idx) :
    out0_8 x0 x1 x2 x3 x4 x5 x6 x7 y = out x0 x1 x2 x3 x4 x5 x6 y := by
  unfold out0_8
  refine View.canon_apply_of_pieces (out x0 x1 x2 x3 x4 x5 x6) _ ?_ y (cover0_8 _ _ _ _ y)
  intro p hp x
  simp only [List.mem_cons, List.not_mem_nil, or_false] at hp
  rcases hp with rfl | rfl | rfl | rfl
  · obtain ⟨r, n, rfl⟩ : ∃ (r : Fin 512) (n : Fin 256), x = ix2 r n := ⟨x 0, x 1, eq_ix2 x⟩
    have he : r0_14.emb (ix2 r n) = (ix2 (⟨1536 + r.val, by omega⟩ : Fin 2048) n : S2048x256.Idx) := funext fun a => Fin.ext (by
      match a with | ⟨0, _⟩ => (show 1536 + 1 * r.val = 1536 + r.val; omega) | ⟨1, _⟩ => (show 0 + 1 * n.val = n.val; omega))
    show term (k0_pay7 (View.ld x1 r0_2) (View.ld x0 r0_13)) (k0_pay14 (k0_pay7 (View.ld x1 r0_2) (View.ld x0 r0_11))) (k0_pay7 (View.ld x2 r0_2) (View.ld x0 r0_13)) (k0_pay14 (k0_pay7 (View.ld x2 r0_2) (View.ld x0 r0_11)))
      (View.ld x5 r0_4) (View.ld x3 r0_5) (View.ld x3 r0_6) (View.ld x3 r0_7) (View.ld x6 r0_4) (View.ld x4 r0_5) (View.ld x4 r0_6) (View.ld x4 r0_7) (ix2 r n) = _
    rw [he]
    refine (term_apply (col x0 x1 n) (col x0 x2 n) 1536 (by omega) (by omega) n _ _ _ _ _ _ _ _ _ _ _ _ (fun r => col13 x0 x1 r n) (fun q => by rw [prev_apply, col11, dif_pos (by omega)]; exact congrArg _ (Fin.ext (by show 1024 + (504 + q.val) = 1536 + q.val - 8; omega))) (fun r => col13 x0 x2 r n) (fun q => by rw [prev_apply, col11, dif_pos (by omega)]; exact congrArg _ (Fin.ext (by show 1024 + (504 + q.val) = 1536 + q.val - 8; omega))) r).trans ?_
    rw [tap0, tap1, tap2, tap0, tap1, tap2, bias, bias]
    rfl
  · obtain ⟨r, n, rfl⟩ : ∃ (r : Fin 512) (n : Fin 256), x = ix2 r n := ⟨x 0, x 1, eq_ix2 x⟩
    have he : r0_12.emb (ix2 r n) = (ix2 (⟨1024 + r.val, by omega⟩ : Fin 2048) n : S2048x256.Idx) := funext fun a => Fin.ext (by
      match a with | ⟨0, _⟩ => (show 1024 + 1 * r.val = 1024 + r.val; omega) | ⟨1, _⟩ => (show 0 + 1 * n.val = n.val; omega))
    show term (k0_pay7 (View.ld x1 r0_2) (View.ld x0 r0_11)) (k0_pay14 (k0_pay7 (View.ld x1 r0_2) (View.ld x0 r0_9))) (k0_pay7 (View.ld x2 r0_2) (View.ld x0 r0_11)) (k0_pay14 (k0_pay7 (View.ld x2 r0_2) (View.ld x0 r0_9)))
      (View.ld x5 r0_4) (View.ld x3 r0_5) (View.ld x3 r0_6) (View.ld x3 r0_7) (View.ld x6 r0_4) (View.ld x4 r0_5) (View.ld x4 r0_6) (View.ld x4 r0_7) (ix2 r n) = _
    rw [he]
    refine (term_apply (col x0 x1 n) (col x0 x2 n) 1024 (by omega) (by omega) n _ _ _ _ _ _ _ _ _ _ _ _ (fun r => col11 x0 x1 r n) (fun q => by rw [prev_apply, col9, dif_pos (by omega)]; exact congrArg _ (Fin.ext (by show 512 + (504 + q.val) = 1024 + q.val - 8; omega))) (fun r => col11 x0 x2 r n) (fun q => by rw [prev_apply, col9, dif_pos (by omega)]; exact congrArg _ (Fin.ext (by show 512 + (504 + q.val) = 1024 + q.val - 8; omega))) r).trans ?_
    rw [tap0, tap1, tap2, tap0, tap1, tap2, bias, bias]
    rfl
  · obtain ⟨r, n, rfl⟩ : ∃ (r : Fin 512) (n : Fin 256), x = ix2 r n := ⟨x 0, x 1, eq_ix2 x⟩
    have he : r0_10.emb (ix2 r n) = (ix2 (⟨512 + r.val, by omega⟩ : Fin 2048) n : S2048x256.Idx) := funext fun a => Fin.ext (by
      match a with | ⟨0, _⟩ => (show 512 + 1 * r.val = 512 + r.val; omega) | ⟨1, _⟩ => (show 0 + 1 * n.val = n.val; omega))
    show term (k0_pay7 (View.ld x1 r0_2) (View.ld x0 r0_9)) (k0_pay14 (k0_pay7 (View.ld x1 r0_2) (View.ld x0 r0_3))) (k0_pay7 (View.ld x2 r0_2) (View.ld x0 r0_9)) (k0_pay14 (k0_pay7 (View.ld x2 r0_2) (View.ld x0 r0_3)))
      (View.ld x5 r0_4) (View.ld x3 r0_5) (View.ld x3 r0_6) (View.ld x3 r0_7) (View.ld x6 r0_4) (View.ld x4 r0_5) (View.ld x4 r0_6) (View.ld x4 r0_7) (ix2 r n) = _
    rw [he]
    refine (term_apply (col x0 x1 n) (col x0 x2 n) 512 (by omega) (by omega) n _ _ _ _ _ _ _ _ _ _ _ _ (fun r => col9 x0 x1 r n) (fun q => by rw [prev_apply, col3, dif_pos (by omega)]; exact congrArg _ (Fin.ext (by show 0 + (504 + q.val) = 512 + q.val - 8; omega))) (fun r => col9 x0 x2 r n) (fun q => by rw [prev_apply, col3, dif_pos (by omega)]; exact congrArg _ (Fin.ext (by show 0 + (504 + q.val) = 512 + q.val - 8; omega))) r).trans ?_
    rw [tap0, tap1, tap2, tap0, tap1, tap2, bias, bias]
    rfl
  · obtain ⟨r, n, rfl⟩ : ∃ (r : Fin 512) (n : Fin 256), x = ix2 r n := ⟨x 0, x 1, eq_ix2 x⟩
    have he : r0_8.emb (ix2 r n) = (ix2 (⟨0 + r.val, by omega⟩ : Fin 2048) n : S2048x256.Idx) := funext fun a => Fin.ext (by
      match a with | ⟨0, _⟩ => (show 0 + 1 * r.val = 0 + r.val; omega) | ⟨1, _⟩ => (show 0 + 1 * n.val = n.val; omega))
    show term (k0_pay7 (View.ld x1 r0_2) (View.ld x0 r0_3)) (k0_pay5 (F := Ideal)) (k0_pay7 (View.ld x2 r0_2) (View.ld x0 r0_3)) (k0_pay5 (F := Ideal))
      (View.ld x5 r0_4) (View.ld x3 r0_5) (View.ld x3 r0_6) (View.ld x3 r0_7) (View.ld x6 r0_4) (View.ld x4 r0_5) (View.ld x4 r0_6) (View.ld x4 r0_7) (ix2 r n) = _
    rw [he]
    refine (term_apply (col x0 x1 n) (col x0 x2 n) 0 (by omega) (by omega) n _ _ _ _ _ _ _ _ _ _ _ _ (fun r => col3 x0 x1 r n) (fun q => by rw [zero_apply, dif_neg (by omega)]) (fun r => col3 x0 x2 r n) (fun q => by rw [zero_apply, dif_neg (by omega)]) r).trans ?_
    rw [tap0, tap1, tap2, tap0, tap1, tap2, bias, bias]
    rfl

end Cert.Up

end
-- ==== Proof.Up.Val.lean ====
/-
  The up projection with its convolution and gate: what each point of the grid writes back, and the two arrays after the run.
-/
module

public import proofs.«01_k».proof.Defs
public import proofs.«01_k».proof.Proof.Gen.Kernel3Ideal.Value
public import Idealize.ShloMosaic.Lib.Pipeline.Value
public import Idealize.ShloMosaic.Lib.Pipeline.ValueKit.Geometry
public import Idealize.ShloMosaic.Lib.Pipeline.ValueKit.Tiles
public import Idealize.ShloMosaic.Lib.Pointwise
public import Idealize.ShloMosaic.Lib.ValueLayout
public import Idealize.ShloMosaic.Lib.IdealHost
public import proofs.«01_k».proof.Proof.Up.Blk

@[expose] public section

set_option maxRecDepth 16384

noncomputable section

namespace Cert.Up

open Cert.Kernel3Ideal Cert.Kernel3Ideal.Gen Idealize.ShloMosaic Idealize.ShloMosaic.TcCoe Idealize.SL.Sem
open Idealize.ShloMosaic.Pipeline (Dat)
open scoped BigOperators

/-- The product at a sequence, a row and a column. -/
def colg (h : FVec Ideal S4x2048x4096 .bf16) (w : FVec Ideal S1x4096x22016 .f32) (b : Fin 4) (n : Fin 22016) (y : Fin 2048) : EReal :=
  ∑ k : Fin 4096, h (ix3 b y k) * w (ix3 0 k n)

/-- The convolution at a sequence, a row and a column. -/
def convg (h : FVec Ideal S4x2048x4096 .bf16) (w : FVec Ideal S1x4096x22016 .f32) (cw : FVec Ideal S1x3x22016 .f32) (cb : FVec Ideal S1x22016 .f32)
    (b : Fin 4) (n : Fin 22016) (s : Fin 2048) : EReal :=
  conv (colg h w b n) (cb (ix2 0 n)) (cw (ix3 0 0 n)) (cw (ix3 0 1 n)) (cw (ix3 0 2 n)) s

/-- The result at a row and a column. -/
def up (h : FVec Ideal S4x2048x4096 .bf16) (w : FVec Ideal S1x4096x22016 .f32) (cw : FVec Ideal S1x3x22016 .f32) (cb : FVec Ideal S1x22016 .f32) : FVec Ideal S8192x11008 .bf16 := fun i =>
  let b : Fin 4 := ⟨(i 0).val / 2048, by have := ValueIdx.idx2_lt0 i; omega⟩
  let s : Fin 2048 := ⟨(i 0).val % 2048, by omega⟩
  let n : Fin 11008 := ⟨(i 1).val, ValueIdx.idx2_lt1 i⟩
  act (convg h w cw cb b ⟨n.val, by omega⟩ s) (convg h w cw cb b ⟨11008 + n.val, by omega⟩ s)

theorem up_at (h : FVec Ideal S4x2048x4096 .bf16) (w : FVec Ideal S1x4096x22016 .f32) (cw : FVec Ideal S1x3x22016 .f32) (cb : FVec Ideal S1x22016 .f32)
    (q j : ℕ) (hq : q < 4) (hj : j < 43) (r : Fin 2048) (n : Fin 256) :
    up h w cw cb (ix2 (⟨q * 2048 + r.val, by omega⟩ : Fin 8192) (⟨j * 256 + n.val, by omega⟩ : Fin 11008))
      = act (convg h w cw cb ⟨q, hq⟩ ⟨j * 256 + n.val, by omega⟩ r) (convg h w cw cb ⟨q, hq⟩ ⟨(j + 43) * 256 + n.val, by omega⟩ r) := by
  have h1 : (q * 2048 + r.val) / 2048 = q := by omega
  have h2 : (q * 2048 + r.val) % 2048 = r.val := by omega
  have h3 : 11008 + (j * 256 + n.val) = (j + 43) * 256 + n.val := by omega
  show act (convg h w cw cb ⟨(q * 2048 + r.val) / 2048, _⟩ ⟨j * 256 + n.val, _⟩ ⟨(q * 2048 + r.val) % 2048, _⟩) (convg h w cw cb ⟨(q * 2048 + r.val) / 2048, _⟩ ⟨11008 + (j * 256 + n.val), _⟩ ⟨(q * 2048 + r.val) % 2048, _⟩) = _
  simp only [h1, h2, h3]

/-- The second result: the down projection's weights. -/
def wd (w : FVec Ideal S1x11008x4096 .f32) : FVec Ideal S11008x4096 .bf16 := fun i =>
  w (ix3 0 (⟨(i 0).val, ValueIdx.idx2_lt0 i⟩ : Fin 11008) (⟨(i 1).val, ValueIdx.idx2_lt1 i⟩ : Fin 4096))

variable (m : (ℓ : Loc nD τ sig) → Buf (Elt Ideal) ℓ) (ρ : Dev nD → PrngReg)

theorem V0 (c : Dev nD) : V m c main_v0 = shapeCast _ (m ((c : Thread nD τ).loc main_arg0)) shapeCasts_S4x2048x4096_S8192x4096 := by
  unfold V hostOps0; after_results <;> rfl
theorem V1 (c : Dev nD) : V m c main_v1 = shapeCast _ (m ((c : Thread nD τ).loc main_arg3)) shapeCasts_S1x22016_S1x1x22016 := by
  unfold V hostOps0; after_results <;> rfl
theorem V2 (c : Dev nD) : V m c main_v2 = shapeCast _ (m ((c : Thread nD τ).loc main_arg3)) shapeCasts_S1x22016_S1x1x22016 := by
  unfold V hostOps0; after_results <;> rfl
theorem Va1 (c : Dev nD) : V m c main_arg1 = m ((c : Thread nD τ).loc main_arg1) := by
  unfold V hostOps0; after_results <;> rfl
theorem Va2 (c : Dev nD) : V m c main_arg2 = m ((c : Thread nD τ).loc main_arg2) := by
  unfold V hostOps0; after_results <;> rfl
theorem Va4 (c : Dev nD) : V m c main_arg4 = m ((c : Thread nD τ).loc main_arg4) := by
  unfold V hostOps0; after_results <;> rfl
theorem castX (a : FVec Ideal S4x2048x4096 .bf16) (r : Fin 8192) (k : Fin 4096) :
    shapeCast S8192x4096 a shapeCasts_S4x2048x4096_S8192x4096 (ix2 r k) = a (ix3 ⟨r.val / 2048, by omega⟩ ⟨r.val % 2048, by omega⟩ k) := by pointwise
theorem castB (a : FVec Ideal S1x22016 .f32) (n : Fin 22016) :
    shapeCast S1x1x22016 a shapeCasts_S1x22016_S1x1x22016 (ix3 0 0 n) = a (ix2 0 n) := by pointwise

theorem t_lt (t : Fin cfg0.N) : t.val < 172 := lt_of_lt_of_eq t.isLt N_0

/-- The blocks' places, decided over the grid. -/
theorem idx_facts : ∀ t : Fin cfg0.N,
    win0_0.index t 0 = t.val / 43
    ∧ win0_0.index t 1 = 0
    ∧ win0_1.index t 0 = 0
    ∧ win0_1.index t 1 = 0
    ∧ win0_1.index t 2 = t.val % 43
    ∧ win0_2.index t 0 = 0
    ∧ win0_2.index t 1 = 0
    ∧ win0_2.index t 2 = t.val % 43 + 43
    ∧ win0_3.index t 0 = 0
    ∧ win0_3.index t 1 = 0
    ∧ win0_3.index t 2 = t.val % 43
    ∧ win0_4.index t 0 = 0
    ∧ win0_4.index t 1 = 0
    ∧ win0_4.index t 2 = t.val % 43 + 43
    ∧ win0_5.index t 0 = 0
    ∧ win0_5.index t 1 = 0
    ∧ win0_5.index t 2 = t.val % 43
    ∧ win0_6.index t 0 = 0
    ∧ win0_6.index t 1 = 0
    ∧ win0_6.index t 2 = t.val % 43 + 43
    ∧ win0_7.index t 0 = 0
    ∧ win0_7.index t 1 = t.val
    ∧ win0_7.index t 2 = 0
    ∧ win0_8.index t 0 = t.val / 43
    ∧ win0_8.index t 1 = t.val % 43
    ∧ win0_9.index t 0 = t.val
    ∧ win0_9.index t 1 = 0 :=
  (by decide +kernel : ∀ t : Fin grid0.N, _)

theorem blk0 (c : Dev nD) (t : Fin cfg0.N) (i0 : Fin 2048) (i1 : Fin 4096) :
    (iblk m c 0 t : S2048x4096.Idx → EReal) (ix2 i0 i1) = V m c main_v0 (ix2 ⟨t.val / 43 * 2048 + i0.val, by have := t_lt t; omega⟩ i1) := by
  obtain ⟨h0, h1, -, -, -, -, -, -, -, -, -, -, -, -, -, -, -, -, -, -, -, -, -, -, -, -, -⟩ := idx_facts t
  refine congrArg (V m c main_v0) (funext fun a => Fin.ext ?_)
  match a with
  | ⟨0, _⟩ => show win0_0.index t 0 * 2048 + 1 * i0.val = _; rw [h0]; first | rfl | (simp; done) | (simp only [ix2, ix3, ix4]; have := t_lt t; simp; omega)
  | ⟨1, _⟩ => show win0_0.index t 1 * 4096 + 1 * i1.val = _; rw [h1]; first | rfl | (simp; done) | (simp only [ix2, ix3, ix4]; have := t_lt t; simp; omega)

theorem blk1 (c : Dev nD) (t : Fin cfg0.N) (i0 : Fin 1) (i1 : Fin 4096) (i2 : Fin 256) :
    (iblk m c 1 t : S1x4096x256.Idx → EReal) (ix3 i0 i1 i2) = V m c main_arg1 (ix3 i0 i1 ⟨t.val % 43 * 256 + i2.val, by have := t_lt t; omega⟩) := by
  obtain ⟨-, -, h0, h1, h2, -, -, -, -, -, -, -, -, -, -, -, -, -, -, -, -, -, -, -, -, -, -⟩ := idx_facts t
  refine congrArg (V m c main_arg1) (funext fun a => Fin.ext ?_)
  match a with
  | ⟨0, _⟩ => show win0_1.index t 0 * 1 + 1 * i0.val = _; rw [h0]; first | rfl | (simp; done) | (simp only [ix2, ix3, ix4]; have := t_lt t; simp; omega)
  | ⟨1, _⟩ => show win0_1.index t 1 * 4096 + 1 * i1.val = _; rw [h1]; first | rfl | (simp; done) | (simp only [ix2, ix3, ix4]; have := t_lt t; simp; omega)
  | ⟨2, _⟩ => show win0_1.index t 2 * 256 + 1 * i2.val = _; rw [h2]; first | rfl | (simp; done) | (simp only [ix2, ix3, ix4]; have := t_lt t; simp; omega)

theorem blk2 (c : Dev nD) (t : Fin cfg0.N) (i0 : Fin 1) (i1 : Fin 4096) (i2 : Fin 256) :
    (iblk m c 2 t : S1x4096x256.Idx → EReal) (ix3 i0 i1 i2) = V m c main_arg1 (ix3 i0 i1 ⟨(t.val % 43 + 43) * 256 + i2.val, by have := t_lt t; omega⟩) := by
  obtain ⟨-, -, -, -, -, h0, h1, h2, -, -, -, -, -, -, -, -, -, -, -, -, -, -, -, -, -, -, -⟩ := idx_facts t
  refine congrArg (V m c main_arg1) (funext fun a => Fin.ext ?_)
  match a with
  | ⟨0, _⟩ => show win0_2.index t 0 * 1 + 1 * i0.val = _; rw [h0]; first | rfl | (simp; done) | (simp only [ix2, ix3, ix4]; have := t_lt t; simp; omega)
  | ⟨1, _⟩ => show win0_2.index t 1 * 4096 + 1 * i1.val = _; rw [h1]; first | rfl | (simp; done) | (simp only [ix2, ix3, ix4]; have := t_lt t; simp; omega)
  | ⟨2, _⟩ => show win0_2.index t 2 * 256 + 1 * i2.val = _; rw [h2]; first | rfl | (simp; done) | (simp only [ix2, ix3, ix4]; have := t_lt t; simp; omega)

theorem blk3 (c : Dev nD) (t : Fin cfg0.N) (i0 : Fin 1) (i1 : Fin 3) (i2 : Fin 256) :
    (iblk m c 3 t : S1x3x256.Idx → EReal) (ix3 i0 i1 i2) = V m c main_arg2 (ix3 i0 i1 ⟨t.val % 43 * 256 + i2.val, by have := t_lt t; omega⟩) := by
  obtain ⟨-, -, -, -, -, -, -, -, h0, h1, h2, -, -, -, -, -, -, -, -, -, -, -, -, -, -, -, -⟩ := idx_facts t
  refine congrArg (V m c main_arg2) (funext fun a => Fin.ext ?_)
  match a with
  | ⟨0, _⟩ => show win0_3.index t 0 * 1 + 1 * i0.val = _; rw [h0]; first | rfl | (simp; done) | (simp only [ix2, ix3, ix4]; have := t_lt t; simp; omega)
  | ⟨1, _⟩ => show win0_3.index t 1 * 3 + 1 * i1.val = _; rw [h1]; first | rfl | (simp; done) | (simp only [ix2, ix3, ix4]; have := t_lt t; simp; omega)
  | ⟨2, _⟩ => show win0_3.index t 2 * 256 + 1 * i2.val = _; rw [h2]; first | rfl | (simp; done) | (simp only [ix2, ix3, ix4]; have := t_lt t; simp; omega)

theorem blk4 (c : Dev nD) (t : Fin cfg0.N) (i0 : Fin 1) (i1 : Fin 3) (i2 : Fin 256) :
    (iblk m c 4 t : S1x3x256.Idx → EReal) (ix3 i0 i1 i2) = V m c main_arg2 (ix3 i0 i1 ⟨(t.val % 43 + 43) * 256 + i2.val, by have := t_lt t; omega⟩) := by
  obtain ⟨-, -, -, -, -, -, -, -, -, -, -, h0, h1, h2, -, -, -, -, -, -, -, -, -, -, -, -, -⟩ := idx_facts t
  refine congrArg (V m c main_arg2) (funext fun a => Fin.ext ?_)
  match a with
  | ⟨0, _⟩ => show win0_4.index t 0 * 1 + 1 * i0.val = _; rw [h0]; first | rfl | (simp; done) | (simp only [ix2, ix3, ix4]; have := t_lt t; simp; omega)
  | ⟨1, _⟩ => show win0_4.index t 1 * 3 + 1 * i1.val = _; rw [h1]; first | rfl | (simp; done) | (simp only [ix2, ix3, ix4]; have := t_lt t; simp; omega)
  | ⟨2, _⟩ => show win0_4.index t 2 * 256 + 1 * i2.val = _; rw [h2]; first | rfl | (simp; done) | (simp only [ix2, ix3, ix4]; have := t_lt t; simp; omega)

theorem blk5 (c : Dev nD) (t : Fin cfg0.N) (i0 : Fin 1) (i1 : Fin 1) (i2 : Fin 256) :
    (iblk m c 5 t : S1x1x256.Idx → EReal) (ix3 i0 i1 i2) = V m c main_v1 (ix3 i0 i1 ⟨t.val % 43 * 256 + i2.val, by have := t_lt t; omega⟩) := by
  obtain ⟨-, -, -, -, -, -, -, -, -, -, -, -, -, -, h0, h1, h2, -, -, -, -, -, -, -, -, -, -⟩ := idx_facts t
  refine congrArg (V m c main_v1) (funext fun a => Fin.ext ?_)
  match a with
  | ⟨0, _⟩ => show win0_5.index t 0 * 1 + 1 * i0.val = _; rw [h0]; first | rfl | (simp; done) | (simp only [ix2, ix3, ix4]; have := t_lt t; simp; omega)
  | ⟨1, _⟩ => show win0_5.index t 1 * 1 + 1 * i1.val = _; rw [h1]; first | rfl | (simp; done) | (simp only [ix2, ix3, ix4]; have := t_lt t; simp; omega)
  | ⟨2, _⟩ => show win0_5.index t 2 * 256 + 1 * i2.val = _; rw [h2]; first | rfl | (simp; done) | (simp only [ix2, ix3, ix4]; have := t_lt t; simp; omega)

theorem blk6 (c : Dev nD) (t : Fin cfg0.N) (i0 : Fin 1) (i1 : Fin 1) (i2 : Fin 256) :
    (iblk m c 6 t : S1x1x256.Idx → EReal) (ix3 i0 i1 i2) = V m c main_v2 (ix3 i0 i1 ⟨(t.val % 43 + 43) * 256 + i2.val, by have := t_lt t; omega⟩) := by
  obtain ⟨-, -, -, -, -, -, -, -, -, -, -, -, -, -, -, -, -, h0, h1, h2, -, -, -, -, -, -, -⟩ := idx_facts t
  refine congrArg (V m c main_v2) (funext fun a => Fin.ext ?_)
  match a with
  | ⟨0, _⟩ => show win0_6.index t 0 * 1 + 1 * i0.val = _; rw [h0]; first | rfl | (simp; done) | (simp only [ix2, ix3, ix4]; have := t_lt t; simp; omega)
  | ⟨1, _⟩ => show win0_6.index t 1 * 1 + 1 * i1.val = _; rw [h1]; first | rfl | (simp; done) | (simp only [ix2, ix3, ix4]; have := t_lt t; simp; omega)
  | ⟨2, _⟩ => show win0_6.index t 2 * 256 + 1 * i2.val = _; rw [h2]; first | rfl | (simp; done) | (simp only [ix2, ix3, ix4]; have := t_lt t; simp; omega)

theorem blk7 (c : Dev nD) (t : Fin cfg0.N) (i0 : Fin 1) (i1 : Fin 64) (i2 : Fin 4096) :
    (iblk m c 7 t : S1x64x4096.Idx → EReal) (ix3 i0 i1 i2) = V m c main_arg4 (ix3 i0 ⟨t.val * 64 + i1.val, by have := t_lt t; omega⟩ i2) := by
  obtain ⟨-, -, -, -, -, -, -, -, -, -, -, -, -, -, -, -, -, -, -, -, h0, h1, h2, -, -, -, -⟩ := idx_facts t
  refine congrArg (V m c main_arg4) (funext fun a => Fin.ext ?_)
  match a with
  | ⟨0, _⟩ => show win0_7.index t 0 * 1 + 1 * i0.val = _; rw [h0]; first | rfl | (simp; done) | (simp only [ix2, ix3, ix4]; have := t_lt t; simp; omega)
  | ⟨1, _⟩ => show win0_7.index t 1 * 64 + 1 * i1.val = _; rw [h1]; first | rfl | (simp; done) | (simp only [ix2, ix3, ix4]; have := t_lt t; simp; omega)
  | ⟨2, _⟩ => show win0_7.index t 2 * 4096 + 1 * i2.val = _; rw [h2]; first | rfl | (simp; done) | (simp only [ix2, ix3, ix4]; have := t_lt t; simp; omega)

/-- The kernel's result arrays, from the arguments. -/
abbrev res (c : Dev nD) : FVec Ideal S8192x11008 .bf16 :=
  up (m ((c : Thread nD τ).loc main_arg0)) (m ((c : Thread nD τ).loc main_arg1)) (m ((c : Thread nD τ).loc main_arg2)) (m ((c : Thread nD τ).loc main_arg3))
abbrev resw (c : Dev nD) : FVec Ideal S11008x4096 .bf16 := wd (m ((c : Thread nD τ).loc main_arg4))

/-- A column of the block, from the arguments. -/
theorem col_eq (c : Dev nD) (t : Fin cfg0.N) (n : Fin 256) (y : Fin 2048) :
    col (iblk m c 0 t) (iblk m c 1 t) n y = colg (m ((c : Thread nD τ).loc main_arg0)) (m ((c : Thread nD τ).loc main_arg1)) ⟨t.val / 43, by have := t_lt t; omega⟩ ⟨t.val % 43 * 256 + n.val, by omega⟩ y := by
  have ht := t_lt t
  refine Finset.sum_congr rfl fun k _ => congr_arg₂ (· * ·) ?_ ?_
  · refine (blk0 m c t y k).trans ?_
    rw [V0]
    refine (castX ..).trans ?_
    have h1 : (t.val / 43 * 2048 + y.val) / 2048 = t.val / 43 := by omega
    have h2 : (t.val / 43 * 2048 + y.val) % 2048 = y.val := by omega
    simp only [h1, h2]
  · refine (blk1 m c t 0 k n).trans ?_
    rw [Va1]

theorem col_eq' (c : Dev nD) (t : Fin cfg0.N) (n : Fin 256) (y : Fin 2048) :
    col (iblk m c 0 t) (iblk m c 2 t) n y = colg (m ((c : Thread nD τ).loc main_arg0)) (m ((c : Thread nD τ).loc main_arg1)) ⟨t.val / 43, by have := t_lt t; omega⟩ ⟨(t.val % 43 + 43) * 256 + n.val, by omega⟩ y := by
  have ht := t_lt t
  refine Finset.sum_congr rfl fun k _ => congr_arg₂ (· * ·) ?_ ?_
  · refine (blk0 m c t y k).trans ?_
    rw [V0]
    refine (castX ..).trans ?_
    have h1 : (t.val / 43 * 2048 + y.val) / 2048 = t.val / 43 := by omega
    have h2 : (t.val / 43 * 2048 + y.val) % 2048 = y.val := by omega
    simp only [h1, h2]
  · refine (blk2 m c t 0 k n).trans ?_
    rw [Va1]

/-- What a point writes back is its block of the result. -/
theorem flushed_eq (c : Dev nD) (t : Fin cfg0.N) :
    (dats m 0 c).flushed 8 t = ((cfg0.win 8).blk t).view.read (Elt Ideal) (res m c) := by
  rw [Value.flushed8]
  obtain ⟨-, -, -, -, -, -, -, -, -, -, -, -, -, -, -, -, -, -, -, -, -, -, -, h0, h1, -, -⟩ := idx_facts t
  have ht := t_lt t
  funext j
  obtain ⟨r, n, rfl⟩ : ∃ (r : Fin 2048) (n : Fin 256), j = ix2 r n := ⟨j 0, j 1, eq_ix2 j⟩
  have hr : ((cfg0.win 8).blk t).view.read (Elt Ideal) (res m c) (ix2 r n) = res m c (ix2 ⟨t.val / 43 * 2048 + r.val, by omega⟩ ⟨t.val % 43 * 256 + n.val, by omega⟩) := by
    refine congrArg (res m c) (funext fun a => Fin.ext ?_)
    match a with
    | ⟨0, _⟩ => show win0_8.index t 0 * 2048 + 1 * r.val = _; rw [h0]; simp
    | ⟨1, _⟩ => show win0_8.index t 1 * 256 + 1 * n.val = _; rw [h1]; simp
  rw [hr, res, up_at _ _ _ _ (t.val / 43) (t.val % 43) (by omega) (by omega) r n]
  refine (out_eq (iblk m c 0 t) (iblk m c 1 t) (iblk m c 2 t) (iblk m c 3 t) (iblk m c 4 t) (iblk m c 5 t) (iblk m c 6 t) (iblk m c 7 t) (ix2 r n)).trans ?_
  refine congr_arg₂ act (conv_congr (col_eq m c t n) ?_ ?_ ?_ ?_ r) (conv_congr (col_eq' m c t n) ?_ ?_ ?_ ?_ r)
  · refine (blk5 m c t 0 0 n).trans ?_; rw [V1]; exact castB ..
  · refine (blk3 m c t 0 0 n).trans ?_; rw [Va2]
  · refine (blk3 m c t 0 1 n).trans ?_; rw [Va2]
  · refine (blk3 m c t 0 2 n).trans ?_; rw [Va2]
  · refine (blk6 m c t 0 0 n).trans ?_; rw [V2]; exact castB ..
  · refine (blk4 m c t 0 0 n).trans ?_; rw [Va2]
  · refine (blk4 m c t 0 1 n).trans ?_; rw [Va2]
  · refine (blk4 m c t 0 2 n).trans ?_; rw [Va2]

theorem flushed_eqw (c : Dev nD) (t : Fin cfg0.N) :
    (dats m 0 c).flushed 9 t = ((cfg0.win 9).blk t).view.read (Elt Ideal) (resw m c) := by
  rw [Value.flushed9]
  obtain ⟨-, -, -, -, -, -, -, -, -, -, -, -, -, -, -, -, -, -, -, -, -, -, -, -, -, h0, h1⟩ := idx_facts t
  have ht := t_lt t
  funext j
  obtain ⟨r, n, rfl⟩ : ∃ (r : Fin 64) (n : Fin 4096), j = ix2 r n := ⟨j 0, j 1, eq_ix2 j⟩
  have hr : ((cfg0.win 9).blk t).view.read (Elt Ideal) (resw m c) (ix2 r n) = resw m c (ix2 ⟨t.val * 64 + r.val, by omega⟩ n) := by
    refine congrArg (resw m c) (funext fun a => Fin.ext ?_)
    match a with
    | ⟨0, _⟩ => show win0_9.index t 0 * 64 + 1 * r.val = _; rw [h0]; simp
    | ⟨1, _⟩ => show win0_9.index t 1 * 4096 + 1 * n.val = _; rw [h1]; simp
  rw [hr]
  have hz2 : (![0, 0] : Fin 2 → Nat) = fun _ => 0 := funext fun a => by fin_cases a <;> rfl
  have hz3 : (![0, 0, 0] : Fin 3 → Nat) = fun _ => 0 := funext fun a => by fin_cases a <;> rfl
  show out0_9 (iblk m c 0 t) (iblk m c 1 t) (iblk m c 2 t) (iblk m c 3 t) (iblk m c 4 t) (iblk m c 5 t) (iblk m c 6 t) (iblk m c 7 t) (ix2 r n) = _
  unfold out0_9
  rw [View.canon_unit_zero hz2, View.ld_unit_zero hz3]
  pointwise [k0_pay2, resw, wd]
  refine (blk7 m c t 0 r n).trans ?_
  rw [Va4]

/-- The array after the run. -/
theorem arr_eq (c : Dev nD) : (dats m 0 c).arrAt 8 cfg0.N = res m c := by
  have hc : (cfg0.win 8).Covers := by decide +kernel
  exact (dats m 0 c).arrAt_eq_of_cover 8 (res m c) (fun t _ => flushed_eq m c t) (Pipeline.Window.Covers.cover (cfg0.win 8) hc (Memref.isWhole_whole main_v3_0))

/-- The array after the run. -/
theorem arr_eqw (c : Dev nD) : (dats m 0 c).arrAt 9 cfg0.N = resw m c := by
  have hc : (cfg0.win 9).Covers := by decide +kernel
  exact (dats m 0 c).arrAt_eq_of_cover 9 (resw m c) (fun t _ => flushed_eqw m c t) (Pipeline.Window.Covers.cover (cfg0.win 9) hc (Memref.isWhole_whole main_v3_1))

end Cert.Up

end
-- ==== Proof.Up.Ref.lean ====
/-
  What the reference of the up projection computes, element by element, and the two runs side by side.
-/
module

public import proofs.«01_k».proof.Proof.Up.Val
public import proofs.«01_k».proof.Proof.Gen.Kernel3
public import proofs.«01_k».proof.Proof.Gen.Reference3Ideal.Run
public import Idealize.ShloMosaic.Lib.Quiescent

@[expose] public section

set_option maxRecDepth 16384

noncomputable section

namespace Cert.Up

open Idealize.ShloMosaic Idealize.ShloMosaic.TcCoe Idealize.SL.Sem
open scoped BigOperators

section
open Cert.Reference3Ideal Cert.Reference3Ideal.Gen

/-- The reference's convolution. -/
def rconv (h : FVec Ideal S4x2048x4096 .bf16) (w : FVec Ideal S1x4096x22016 .f32) (cw : FVec Ideal S1x3x22016 .f32) (cb : FVec Ideal S1x22016 .f32) : FVec Ideal S4x2048x22016 .f32 :=
  (addf (addf (addf (broadcastInDim S4x2048x22016 ![0, 1, 2] bcast_S1x1x22016_S4x2048x22016_0_1_2 (broadcastInDim S1x1x22016 ![2] bcast_S22016_S1x1x22016_2 (shapeCast _ cb shapeCasts_S1x22016_S22016))) (mulf (extractStridedSlice S4x2048x22016 ![0, 0, 0] (pad S4x2050x22016 ![0, 2, 0] ![0, 0, 0] ![0, 0, 0] (Host.dotGeneral dot_S4x2048x4096_S4096x22016_S4x2048x22016_2_0_01_1_n_n none (extf .f32 h bitsLt_bf16_f32) (shapeCast _ w shapeCasts_S1x4096x22016_S4096x22016)) (sitofp .f32 (constantI S_ 32 0#32)) pads_S4x2048x22016_S4x2050x22016_000_200_000 h_S_) slices_S4x2050x22016_S4x2048x22016_0_0_0) (broadcastInDim S4x2048x22016 ![0, 1, 2] bcast_S1x1x22016_S4x2048x22016_0_1_2 (broadcastInDim S1x1x22016 ![2] bcast_S22016_S1x1x22016_2 (shapeCast _ (extractStridedSlice S1x1x22016 ![0, 0, 0] cw slices_S1x3x22016_S1x1x22016_0_0_0) shapeCasts_S1x1x22016_S22016))))) (mulf (extractStridedSlice S4x2048x22016 ![0, 1, 0] (pad S4x2050x22016 ![0, 2, 0] ![0, 0, 0] ![0, 0, 0] (Host.dotGeneral dot_S4x2048x4096_S4096x22016_S4x2048x22016_2_0_01_1_n_n none (extf .f32 h bitsLt_bf16_f32) (shapeCast _ w shapeCasts_S1x4096x22016_S4096x22016)) (sitofp .f32 (constantI S_ 32 0#32)) pads_S4x2048x22016_S4x2050x22016_000_200_000 h_S_) slices_S4x2050x22016_S4x2048x22016_0_1_0) (broadcastInDim S4x2048x22016 ![0, 1, 2] bcast_S1x1x22016_S4x2048x22016_0_1_2 (broadcastInDim S1x1x22016 ![2] bcast_S22016_S1x1x22016_2 (shapeCast _ (extractStridedSlice S1x1x22016 ![0, 1, 0] cw slices_S1x3x22016_S1x1x22016_0_1_0) shapeCasts_S1x1x22016_S22016))))) (mulf (extractStridedSlice S4x2048x22016 ![0, 2, 0] (pad S4x2050x22016 ![0, 2, 0] ![0, 0, 0] ![0, 0, 0] (Host.dotGeneral dot_S4x2048x4096_S4096x22016_S4x2048x22016_2_0_01_1_n_n none (extf .f32 h bitsLt_bf16_f32) (shapeCast _ w shapeCasts_S1x4096x22016_S4096x22016)) (sitofp .f32 (constantI S_ 32 0#32)) pads_S4x2048x22016_S4x2050x22016_000_200_000 h_S_) slices_S4x2050x22016_S4x2048x22016_0_2_0) (broadcastInDim S4x2048x22016 ![0, 1, 2] bcast_S1x1x22016_S4x2048x22016_0_1_2 (broadcastInDim S1x1x22016 ![2] bcast_S22016_S1x1x22016_2 (shapeCast _ (extractStridedSlice S1x1x22016 ![0, 2, 0] cw slices_S1x3x22016_S1x1x22016_0_2_0) shapeCasts_S1x1x22016_S22016)))))

/-- The padded product, at a row of the padded array: the row two before it, zero before the sequence. -/
theorem pad_eq (a : FVec Ideal S4x2048x22016 .f32) (b : Fin 4) (y : Fin 2050) (n : Fin 22016) :
    pad S4x2050x22016 ![0, 2, 0] ![0, 0, 0] ![0, 0, 0] a (sitofp (F := Ideal) .f32 (constantI S_ 32 0#32)) pads_S4x2048x22016_S4x2050x22016_000_200_000 h_S_ (ix3 b y n)
      = if h : 2 ≤ y.val then a (ix3 b ⟨y.val - 2, by omega⟩ n) else 0 := by
  by_cases h : 2 ≤ y.val
  · rw [dif_pos h]
    refine pad_apply_of_inside _ _ _ _ _ _ _ _ (ix3 b (⟨y.val - 2, by omega⟩ : Fin 2048) n) fun x => ?_
    match x with
    | ⟨0, _⟩ => show b.val = 0 + b.val * (0 + 1); omega
    | ⟨1, _⟩ => show y.val = 2 + (y.val - 2) * (0 + 1); omega
    | ⟨2, _⟩ => show n.val = 0 + n.val * (0 + 1); omega
  · rw [dif_neg h]
    refine (pad_apply_of_not_inside _ _ _ _ _ _ _ _ (1 : Fin 3) fun hx => h ?_).trans ?_
    · exact hx.1
    · pointwise
      exact sitofp_zero

theorem rconv_apply (h : FVec Ideal S4x2048x4096 .bf16) (w : FVec Ideal S1x4096x22016 .f32) (cw : FVec Ideal S1x3x22016 .f32) (cb : FVec Ideal S1x22016 .f32)
    (b : Fin 4) (s : Fin 2048) (n : Fin 22016) :
    rconv h w cw cb (ix3 b s n) = convg h w cw cb b n s := by
  have hd : ∀ y : Fin 2048, Host.dotGeneral dot_S4x2048x4096_S4096x22016_S4x2048x22016_2_0_01_1_n_n none (extf .f32 h bitsLt_bf16_f32) (shapeCast S4096x22016 w shapeCasts_S1x4096x22016_S4096x22016) (ix3 b y n) = colg h w b n y := by
    intro y; pointwise [colg]
  unfold rconv
  generalize Host.dotGeneral dot_S4x2048x4096_S4096x22016_S4x2048x22016_2_0_01_1_n_n none (extf .f32 h bitsLt_bf16_f32) (shapeCast S4096x22016 w shapeCasts_S1x4096x22016_S4096x22016) = a at hd ⊢
  have hp := pad_eq a b
  generalize pad S4x2050x22016 ![0, 2, 0] ![0, 0, 0] ![0, 0, 0] a (sitofp (F := Ideal) .f32 (constantI S_ 32 0#32)) pads_S4x2048x22016_S4x2050x22016_000_200_000 h_S_ = P at hp ⊢
  pointwise
  rw [hp, hp, hp]
  unfold convg conv tap
  simp only [hd]
  have h1 : (2 ≤ 1 + s.val) = (1 ≤ s.val) := propext (by omega)
  have h2 : (2 ≤ 2 + s.val) = True := propext (by simp)
  have e1 : 1 + s.val - 2 = s.val - 1 := by omega
  have e2 : 2 + s.val - 2 = s.val := by omega
  simp only [h1, h2, e1, e2]
  refine congr_arg₂ (· + ·) (congr_arg₂ (· + ·) (congrArg (_ + ·) (congrArg (· * _) ?_)) (congrArg (· * _) ?_)) (congrArg (· * _) ?_)
  · split_ifs <;> rfl
  · split_ifs <;> rfl
  · rw [dif_pos trivial]

/-- The reference's result, element by element. -/
theorem ref_eq (h : FVec Ideal S4x2048x4096 .bf16) (w : FVec Ideal S1x4096x22016 .f32) (cw : FVec Ideal S1x3x22016 .f32) (cb : FVec Ideal S1x22016 .f32) :
    truncf .bf16 (shapeCast _ (mulf (mulf (extractStridedSlice S4x2048x11008 ![0, 0, 0] (rconv h w cw cb) slices_S4x2048x22016_S4x2048x11008_0_0_0) (Host.divf (broadcastInDim S4x2048x11008 ![] bcast_S_S4x2048x11008 (constant S_ .f32 0x3F800000#32)) (addf (broadcastInDim S4x2048x11008 ![] bcast_S_S4x2048x11008 (constant S_ .f32 0x3F800000#32)) (Host.exp (Host.negf (extractStridedSlice S4x2048x11008 ![0, 0, 0] (rconv h w cw cb) slices_S4x2048x22016_S4x2048x11008_0_0_0)))))) (extractStridedSlice S4x2048x11008 ![0, 0, 11008] (rconv h w cw cb) slices_S4x2048x22016_S4x2048x11008_0_0_11008)) shapeCasts_S4x2048x11008_S8192x11008) bitsLt_bf16_f32 = up h w cw cb := by
  funext i
  obtain ⟨r, n, rfl⟩ : ∃ (r : Fin 8192) (n : Fin 11008), i = ix2 r n := ⟨i 0, i 1, eq_ix2 i⟩
  pointwise [up, act]
  simp only [rconv_apply]
  rfl

theorem refw_eq (w : FVec Ideal S1x11008x4096 .f32) : truncf (F := Ideal) .bf16 (shapeCast S11008x4096 w shapeCasts_S1x11008x4096_S11008x4096) bitsLt_bf16_f32 = wd w := by
  funext i
  obtain ⟨r, n, rfl⟩ : ∃ (r : Fin 11008) (n : Fin 4096), i = ix2 r n := ⟨i 0, i 1, eq_ix2 i⟩
  pointwise [wd]

end

/-- The kernel at the extended reals computes what the reference computes. -/
theorem algebraic : Cert.algebraic_Kernel3Ideal_Reference3Ideal := fun m ρ m' ρ' _ hin =>
  ⟨fun c => res m c, fun c => resw m c,
    (θ_run Cert.Kernel3Ideal.defs _ _).mono (fun _ h c => ⟨(h c).1.trans (arr_eq m c), (h c).2.1.trans (arr_eqw m c), (h c).2.2⟩) (Cert.Kernel3Ideal.Value.run_blocks m ρ),
    (θ_run Cert.Reference3Ideal.defs _ _).mono (fun _ h c => ⟨(h c).1.trans ((ref_eq _ _ _ _).trans
      (by rw [(hin c).1, (hin c).2.1, (hin c).2.2.1, (hin c).2.2.2.1])), (h c).2.1.trans ((refw_eq _).trans (by rw [(hin c).2.2.2.2])), (h c).2.2⟩) (Cert.Reference3Ideal.Value.run m' ρ')⟩

/-- The printed program's body table is the idealized one's, the texts being the same. -/
theorem defs_eq : Cert.Kernel3.defs (F := Bits) = Cert.Kernel3Ideal.defs (F := Bits) :=
  congrArg (Pipeline.defs _) (congrArg Defs.onTc (funext fun l => match l with | 0 => funext fun _ => rfl))

/-- The frames. -/
theorem frame_kernel : Cert.quiescent_Kernel3 := fun m ρ _ => by
  rw [defs_eq]; exact Cert.Kernel3Ideal.Gen.frame (F := Bits) m ρ
theorem frame_ideal : Cert.quiescent_Kernel3Ideal := fun m ρ _ => Cert.Kernel3Ideal.Gen.frame (F := Ideal) m ρ
theorem frame_ref : Cert.quiescent_Reference3Ideal := fun m ρ _ =>
  (θ_run Cert.Reference3Ideal.defs _ _).mono (fun r h => ⟨fun c => (h c).2.2, Idealize.ShloMosaic.sem_eq_zero_of_no_sems (by decide) r.2⟩) (Cert.Reference3Ideal.Value.run (F := Ideal) m ρ)

end Cert.Up

end
-- ==== Proof.Merge.Val.lean ====
/-
  The two branches merged: what each point of the grid writes back, and the array after the run, element by element.
-/
module

public import proofs.«01_k».proof.Defs
public import proofs.«01_k».proof.Proof.Gen.Kernel4Ideal.Value
public import Idealize.ShloMosaic.Lib.Pipeline.Value
public import Idealize.ShloMosaic.Lib.Pipeline.ValueKit.Geometry
public import Idealize.ShloMosaic.Lib.Pipeline.ValueKit.Tiles
public import Idealize.ShloMosaic.Lib.Pointwise
public import Idealize.ShloMosaic.Lib.ValueLayout
public import Idealize.ShloMosaic.Lib.IdealHost

@[expose] public section

set_option maxRecDepth 16384

noncomputable section

namespace Cert.Merge

open Cert.Kernel4Ideal Cert.Kernel4Ideal.Gen Idealize.ShloMosaic Idealize.ShloMosaic.TcCoe Idealize.SL.Sem
open Idealize.ShloMosaic.Pipeline (Dat)
open scoped BigOperators

/-- The result at a row and a column: each branch's product with its weights, times the sigmoid of its gate, added. -/
def mrg (ya yb : FVec Ideal S4x2048x2048 .bf16) (wa wb : FVec Ideal S1x2048x4096 .f32) (g : FVec Ideal S4x2048x8192 .bf16) : FVec Ideal S8192x4096 .bf16 := fun i =>
  let b : Fin 4 := ⟨(i 0).val / 2048, by have := ValueIdx.idx2_lt0 i; omega⟩
  let s : Fin 2048 := ⟨(i 0).val % 2048, by omega⟩
  let n : Fin 4096 := ⟨(i 1).val, ValueIdx.idx2_lt1 i⟩
  Ideal.logistic (g (ix3 b s ⟨n.val, by omega⟩)) * (∑ k : Fin 2048, ya (ix3 b s k) * wa (ix3 0 k n))
    + Ideal.logistic (g (ix3 b s ⟨4096 + n.val, by omega⟩)) * (∑ k : Fin 2048, yb (ix3 b s k) * wb (ix3 0 k n))

variable (m : (ℓ : Loc nD τ sig) → Buf (Elt Ideal) ℓ) (ρ : Dev nD → PrngReg)

theorem V0 (c : Dev nD) : V m c main_v0 = shapeCast _ (m ((c : Thread nD τ).loc main_arg0)) shapeCasts_S4x2048x2048_S8192x2048 := by
  unfold V hostOps0; after_results <;> rfl
theorem V1 (c : Dev nD) : V m c main_v1 = shapeCast _ (m ((c : Thread nD τ).loc main_arg1)) shapeCasts_S4x2048x2048_S8192x2048 := by
  unfold V hostOps0; after_results <;> rfl
theorem V3 (c : Dev nD) : V m c main_v3 = truncf (F := Ideal) (φ := .f32) .bf16 (shapeCast _ (m ((c : Thread nD τ).loc main_arg2)) shapeCasts_S1x2048x4096_S2048x4096) bitsLt_bf16_f32 := by
  unfold V hostOps0; after_results <;> rfl
theorem V5 (c : Dev nD) : V m c main_v5 = truncf (F := Ideal) (φ := .f32) .bf16 (shapeCast _ (m ((c : Thread nD τ).loc main_arg3)) shapeCasts_S1x2048x4096_S2048x4096) bitsLt_bf16_f32 := by
  unfold V hostOps0; after_results <;> rfl
theorem V6 (c : Dev nD) : V m c main_v6 = shapeCast _ (m ((c : Thread nD τ).loc main_arg4)) shapeCasts_S4x2048x8192_S8192x8192 := by
  unfold V hostOps0; after_results <;> rfl
theorem castY (a : FVec Ideal S4x2048x2048 .bf16) (r : Fin 8192) (k : Fin 2048) :
    shapeCast S8192x2048 a shapeCasts_S4x2048x2048_S8192x2048 (ix2 r k) = a (ix3 ⟨r.val / 2048, by omega⟩ ⟨r.val % 2048, by omega⟩ k) := by pointwise
theorem castW (w : FVec Ideal S1x2048x4096 .f32) (k : Fin 2048) (n : Fin 4096) :
    truncf (F := Ideal) .bf16 (shapeCast S2048x4096 w shapeCasts_S1x2048x4096_S2048x4096) bitsLt_bf16_f32 (ix2 k n) = w (ix3 0 k n) := by pointwise
theorem castG (x : FVec Ideal S4x2048x8192 .bf16) (r : Fin 8192) (k : Fin 8192) :
    shapeCast S8192x8192 x shapeCasts_S4x2048x8192_S8192x8192 (ix2 r k) = x (ix3 ⟨r.val / 2048, by omega⟩ ⟨r.val % 2048, by omega⟩ k) := by pointwise

theorem t_lt (t : Fin cfg0.N) : t.val < 64 := lt_of_lt_of_eq t.isLt N_0

/-- The blocks' places, decided over the grid. -/
theorem idx_facts : ∀ t : Fin cfg0.N,
    win0_0.index t 0 = t.val / 8
    ∧ win0_0.index t 1 = 0
    ∧ win0_1.index t 0 = t.val / 8
    ∧ win0_1.index t 1 = 0
    ∧ win0_2.index t 0 = 0
    ∧ win0_2.index t 1 = t.val % 8
    ∧ win0_3.index t 0 = 0
    ∧ win0_3.index t 1 = t.val % 8
    ∧ win0_4.index t 0 = t.val / 8
    ∧ win0_4.index t 1 = t.val % 8
    ∧ win0_5.index t 0 = t.val / 8
    ∧ win0_5.index t 1 = 8 + t.val % 8
    ∧ win0_6.index t 0 = t.val / 8
    ∧ win0_6.index t 1 = t.val % 8 :=
  (by decide +kernel : ∀ t : Fin grid0.N, _)

theorem blk0 (c : Dev nD) (t : Fin cfg0.N) (i0 : Fin 1024) (i1 : Fin 2048) :
    (iblk m c 0 t : S1024x2048.Idx → EReal) (ix2 i0 i1) = V m c main_v0 (ix2 ⟨t.val / 8 * 1024 + i0.val, by have := t_lt t; omega⟩ i1) := by
  obtain ⟨h0, h1, -, -, -, -, -, -, -, -, -, -, -, -⟩ := idx_facts t
  refine congrArg (V m c main_v0) (funext fun a => Fin.ext ?_)
  match a with
  | ⟨0, _⟩ => show win0_0.index t 0 * 1024 + 1 * i0.val = _; rw [h0]; first | rfl | (simp; done) | (simp only [ix2, ix3, ix4]; have := t_lt t; simp; omega)
  | ⟨1, _⟩ => show win0_0.index t 1 * 2048 + 1 * i1.val = _; rw [h1]; first | rfl | (simp; done) | (simp only [ix2, ix3, ix4]; have := t_lt t; simp; omega)

theorem blk1 (c : Dev nD) (t : Fin cfg0.N) (i0 : Fin 1024) (i1 : Fin 2048) :
    (iblk m c 1 t : S1024x2048.Idx → EReal) (ix2 i0 i1) = V m c main_v1 (ix2 ⟨t.val / 8 * 1024 + i0.val, by have := t_lt t; omega⟩ i1) := by
  obtain ⟨-, -, h0, h1, -, -, -, -, -, -, -, -, -, -⟩ := idx_facts t
  refine congrArg (V m c main_v1) (funext fun a => Fin.ext ?_)
  match a with
  | ⟨0, _⟩ => show win0_1.index t 0 * 1024 + 1 * i0.val = _; rw [h0]; first | rfl | (simp; done) | (simp only [ix2, ix3, ix4]; have := t_lt t; simp; omega)
  | ⟨1, _⟩ => show win0_1.index t 1 * 2048 + 1 * i1.val = _; rw [h1]; first | rfl | (simp; done) | (simp only [ix2, ix3, ix4]; have := t_lt t; simp; omega)

theorem blk2 (c : Dev nD) (t : Fin cfg0.N) (i0 : Fin 2048) (i1 : Fin 512) :
    (iblk m c 2 t : S2048x512.Idx → EReal) (ix2 i0 i1) = V m c main_v3 (ix2 i0 ⟨t.val % 8 * 512 + i1.val, by have := t_lt t; omega⟩) := by
  obtain ⟨-, -, -, -, h0, h1, -, -, -, -, -, -, -, -⟩ := idx_facts t
  refine congrArg (V m c main_v3) (funext fun a => Fin.ext ?_)
  match a with
  | ⟨0, _⟩ => show win0_2.index t 0 * 2048 + 1 * i0.val = _; rw [h0]; first | rfl | (simp; done) | (simp only [ix2, ix3, ix4]; have := t_lt t; simp; omega)
  | ⟨1, _⟩ => show win0_2.index t 1 * 512 + 1 * i1.val = _; rw [h1]; first | rfl | (simp; done) | (simp only [ix2, ix3, ix4]; have := t_lt t; simp; omega)

theorem blk3 (c : Dev nD) (t : Fin cfg0.N) (i0 : Fin 2048) (i1 : Fin 512) :
    (iblk m c 3 t : S2048x512.Idx → EReal) (ix2 i0 i1) = V m c main_v5 (ix2 i0 ⟨t.val % 8 * 512 + i1.val, by have := t_lt t; omega⟩) := by
  obtain ⟨-, -, -, -, -, -, h0, h1, -, -, -, -, -, -⟩ := idx_facts t
  refine congrArg (V m c main_v5) (funext fun a => Fin.ext ?_)
  match a with
  | ⟨0, _⟩ => show win0_3.index t 0 * 2048 + 1 * i0.val = _; rw [h0]; first | rfl | (simp; done) | (simp only [ix2, ix3, ix4]; have := t_lt t; simp; omega)
  | ⟨1, _⟩ => show win0_3.index t 1 * 512 + 1 * i1.val = _; rw [h1]; first | rfl | (simp; done) | (simp only [ix2, ix3, ix4]; have := t_lt t; simp; omega)

theorem blk4 (c : Dev nD) (t : Fin cfg0.N) (i0 : Fin 1024) (i1 : Fin 512) :
    (iblk m c 4 t : S1024x512.Idx → EReal) (ix2 i0 i1) = V m c main_v6 (ix2 ⟨t.val / 8 * 1024 + i0.val, by have := t_lt t; omega⟩ ⟨t.val % 8 * 512 + i1.val, by have := t_lt t; omega⟩) := by
  obtain ⟨-, -, -, -, -, -, -, -, h0, h1, -, -, -, -⟩ := idx_facts t
  refine congrArg (V m c main_v6) (funext fun a => Fin.ext ?_)
  match a with
  | ⟨0, _⟩ => show win0_4.index t 0 * 1024 + 1 * i0.val = _; rw [h0]; first | rfl | (simp; done) | (simp only [ix2, ix3, ix4]; have := t_lt t; simp; omega)
  | ⟨1, _⟩ => show win0_4.index t 1 * 512 + 1 * i1.val = _; rw [h1]; first | rfl | (simp; done) | (simp only [ix2, ix3, ix4]; have := t_lt t; simp; omega)

theorem blk5 (c : Dev nD) (t : Fin cfg0.N) (i0 : Fin 1024) (i1 : Fin 512) :
    (iblk m c 5 t : S1024x512.Idx → EReal) (ix2 i0 i1) = V m c main_v6 (ix2 ⟨t.val / 8 * 1024 + i0.val, by have := t_lt t; omega⟩ ⟨(8 + t.val % 8) * 512 + i1.val, by have := t_lt t; omega⟩) := by
  obtain ⟨-, -, -, -, -, -, -, -, -, -, h0, h1, -, -⟩ := idx_facts t
  refine congrArg (V m c main_v6) (funext fun a => Fin.ext ?_)
  match a with
  | ⟨0, _⟩ => show win0_5.index t 0 * 1024 + 1 * i0.val = _; rw [h0]; first | rfl | (simp; done) | (simp only [ix2, ix3, ix4]; have := t_lt t; simp; omega)
  | ⟨1, _⟩ => show win0_5.index t 1 * 512 + 1 * i1.val = _; rw [h1]; first | rfl | (simp; done) | (simp only [ix2, ix3, ix4]; have := t_lt t; simp; omega)

/-- The kernel's result array, from the arguments. -/
abbrev res (c : Dev nD) : FVec Ideal S8192x4096 .bf16 :=
  mrg (m ((c : Thread nD τ).loc main_arg0)) (m ((c : Thread nD τ).loc main_arg1)) (m ((c : Thread nD τ).loc main_arg2)) (m ((c : Thread nD τ).loc main_arg3)) (m ((c : Thread nD τ).loc main_arg4))

/-- The block's element from the input blocks. -/
def out (x0 x1 : Vec Ideal S1024x2048 .bf16) (x2 x3 : Vec Ideal S2048x512 .bf16) (x4 x5 : Vec Ideal S1024x512 .bf16) : Vec Ideal S1024x512 .bf16 := fun y =>
  Ideal.logistic (x4 y) * (∑ k : Fin 2048, x0 (ix2 (⟨(y 0).val, ValueIdx.idx2_lt0 y⟩ : Fin 1024) k) * x2 (ix2 k (⟨(y 1).val, ValueIdx.idx2_lt1 y⟩ : Fin 512)))
    + Ideal.logistic (x5 y) * (∑ k : Fin 2048, x1 (ix2 (⟨(y 0).val, ValueIdx.idx2_lt0 y⟩ : Fin 1024) k) * x3 (ix2 k (⟨(y 1).val, ValueIdx.idx2_lt1 y⟩ : Fin 512)))

theorem ldw {e : EltTy} (X : S2048x512.Idx → Elt Ideal e) : View.ld X r0_0 = X :=
  View.ld_unit_zero (funext fun a => by fin_cases a <;> rfl) _ _

/-- The two stores are the two halves of the block. -/
theorem out_eq (x0 x1 : Vec Ideal S1024x2048 .bf16) (x2 x3 : Vec Ideal S2048x512 .bf16) (x4 x5 : Vec Ideal S1024x512 .bf16) (y : S1024x512.Idx) :
    out0_6 x0 x1 x2 x3 x4 x5 y = out x0 x1 x2 x3 x4 x5 y := by
  unfold out0_6
  refine View.canon_apply_of_pieces (out x0 x1 x2 x3 x4 x5) _ ?_ y (cover0_6 _ _ y)
  intro p hp x
  simp only [List.mem_cons, List.not_mem_nil, or_false] at hp
  rcases hp with rfl | rfl
  · obtain ⟨r, n, rfl⟩ : ∃ (r : Fin 512) (n : Fin 512), x = ix2 r n := ⟨x 0, x 1, eq_ix2 x⟩
    have he : r0_4.emb (ix2 r n) = (ix2 (⟨512 + r.val, by omega⟩ : Fin 1024) n : S1024x512.Idx) := funext fun a => Fin.ext (by
      match a with | ⟨0, _⟩ => (show 512 + 1 * r.val = 512 + r.val; omega) | ⟨1, _⟩ => (show 0 + 1 * n.val = n.val; omega))
    show k0_pay1 (k0_pay5 (View.ld x2 r0_0) (View.ld x0 r0_3)) (k0_pay6 (View.ld x3 r0_0) (View.ld x1 r0_3)) (k0_pay7 (View.ld x4 r0_4)) (View.ld x5 r0_4) (ix2 r n) = _
    rw [he, ldw, ldw]
    pointwise [k0_pay1, k0_pay5, k0_pay6, k0_pay7, k0_pay2, k0_pay3, out]
  · obtain ⟨r, n, rfl⟩ : ∃ (r : Fin 512) (n : Fin 512), x = ix2 r n := ⟨x 0, x 1, eq_ix2 x⟩
    have he : r0_2.emb (ix2 r n) = (ix2 (⟨r.val, by omega⟩ : Fin 1024) n : S1024x512.Idx) := funext fun a => Fin.ext (by
      match a with | ⟨0, _⟩ => (show 0 + 1 * r.val = r.val; omega) | ⟨1, _⟩ => (show 0 + 1 * n.val = n.val; omega))
    show k0_pay4 (View.ld x2 r0_0) (View.ld x3 r0_0) (View.ld x0 r0_1) (View.ld x1 r0_1) (View.ld x4 r0_2) (View.ld x5 r0_2) (ix2 r n) = _
    rw [he, ldw, ldw]
    pointwise [k0_pay4, k0_pay2, k0_pay3, out]

/-- What a point writes back is its block of the result. -/
theorem flushed_eq (c : Dev nD) (t : Fin cfg0.N) :
    (dats m 0 c).flushed 6 t = ((cfg0.win 6).blk t).view.read (Elt Ideal) (res m c) := by
  rw [Value.flushed6]
  obtain ⟨-, -, -, -, -, -, -, -, -, -, -, -, h0, h1⟩ := idx_facts t
  have ht := t_lt t
  funext j
  obtain ⟨r, n, rfl⟩ : ∃ (r : Fin 1024) (n : Fin 512), j = ix2 r n := ⟨j 0, j 1, eq_ix2 j⟩
  have hr : ((cfg0.win 6).blk t).view.read (Elt Ideal) (res m c) (ix2 r n) = res m c (ix2 ⟨t.val / 8 * 1024 + r.val, by omega⟩ ⟨t.val % 8 * 512 + n.val, by omega⟩) := by
    refine congrArg (res m c) (funext fun a => Fin.ext ?_)
    match a with
    | ⟨0, _⟩ => show win0_6.index t 0 * 1024 + 1 * r.val = _; rw [h0]; simp
    | ⟨1, _⟩ => show win0_6.index t 1 * 512 + 1 * n.val = _; rw [h1]; simp
  rw [hr]
  show out0_6 (iblk m c 0 t) (iblk m c 1 t) (iblk m c 2 t) (iblk m c 3 t) (iblk m c 4 t) (iblk m c 5 t) (ix2 r n) = _
  rw [out_eq]
  pointwise [out, res, mrg]
  simp only [blk0, blk1, blk2, blk3, blk4, blk5]
  rw [V0, V1, V3, V5, V6]
  have hg : (8 + t.val % 8) * 512 + n.val = 4096 + (t.val % 8 * 512 + n.val) := by omega
  refine congr_arg₂ (· + ·)
    (congr_arg₂ (· * ·) (congrArg Ideal.logistic (castG ..)) (Finset.sum_congr rfl fun k _ => congr_arg₂ (· * ·) (castY ..) (castW ..)))
    (congr_arg₂ (· * ·) (congrArg Ideal.logistic ((castG ..).trans ?_)) (Finset.sum_congr rfl fun k _ => congr_arg₂ (· * ·) (castY ..) (castW ..)))
  simp only [hg]

/-- The array after the run. -/
theorem arr_eq (c : Dev nD) : (dats m 0 c).arrAt 6 cfg0.N = res m c := by
  have hc : (cfg0.win 6).Covers := by decide +kernel
  exact (dats m 0 c).arrAt_eq_of_cover 6 (res m c) (fun t _ => flushed_eq m c t) (Pipeline.Window.Covers.cover (cfg0.win 6) hc (Memref.isWhole_whole main_v7))

end Cert.Merge

end
-- ==== Proof.Merge.Ref.lean ====
/-
  What the reference of the merge computes, element by element, and the two runs side by side.
-/
module

public import proofs.«01_k».proof.Proof.Merge.Val
public import proofs.«01_k».proof.Proof.Gen.Kernel4
public import proofs.«01_k».proof.Proof.Gen.Reference4Ideal.Run
public import Idealize.ShloMosaic.Lib.Quiescent

@[expose] public section

set_option maxRecDepth 16384

noncomputable section

namespace Cert.Merge

open Idealize.ShloMosaic Idealize.ShloMosaic.TcCoe Idealize.SL.Sem
open scoped BigOperators

section
open Cert.Reference4Ideal Cert.Reference4Ideal.Gen

/-- The reference's result, element by element. -/
theorem ref_eq (y_a y_b : FVec Ideal S4x2048x2048 .bf16) (w_a w_b : FVec Ideal S1x2048x4096 .f32) (g : FVec Ideal S4x2048x8192 .bf16) :
    truncf .bf16 (shapeCast S8192x4096 (addf (mulf (Host.divf (F := Ideal) (broadcastInDim S4x2048x4096 ![] bcast_S_S4x2048x4096 (constant S_ .f32 0x3F800000#32)) (addf (broadcastInDim S4x2048x4096 ![] bcast_S_S4x2048x4096 (constant S_ .f32 0x3F800000#32)) (Host.exp (Host.negf (extractStridedSlice S4x2048x4096 ![0, 0, 0] (extf .f32 g bitsLt_bf16_f32) slices_S4x2048x8192_S4x2048x4096_0_0_0))))) (Host.dotGeneral dot_S4x2048x2048_S2048x4096_S4x2048x4096_2_0_01_1_n_n none (extf .f32 y_a bitsLt_bf16_f32) (shapeCast _ w_a shapeCasts_S1x2048x4096_S2048x4096))) (mulf (Host.divf (broadcastInDim S4x2048x4096 ![] bcast_S_S4x2048x4096 (constant S_ .f32 0x3F800000#32)) (addf (broadcastInDim S4x2048x4096 ![] bcast_S_S4x2048x4096 (constant S_ .f32 0x3F800000#32)) (Host.exp (Host.negf (extractStridedSlice S4x2048x4096 ![0, 0, 4096] (extf .f32 g bitsLt_bf16_f32) slices_S4x2048x8192_S4x2048x4096_0_0_4096))))) (Host.dotGeneral dot_S4x2048x2048_S2048x4096_S4x2048x4096_2_0_01_1_n_n none (extf .f32 y_b bitsLt_bf16_f32) (shapeCast _ w_b shapeCasts_S1x2048x4096_S2048x4096)))) shapeCasts_S4x2048x4096_S8192x4096) bitsLt_bf16_f32
      = mrg y_a y_b w_a w_b g := by
  funext i
  obtain ⟨r, n, rfl⟩ : ∃ (r : Fin 8192) (n : Fin 4096), i = ix2 r n := ⟨i 0, i 1, eq_ix2 i⟩
  pointwise [mrg]
  rfl

end

/-- The kernel at the extended reals computes what the reference computes. -/
theorem algebraic : Cert.algebraic_Kernel4Ideal_Reference4Ideal := fun m ρ m' ρ' _ hin =>
  ⟨fun c => res m c,
    (θ_run Cert.Kernel4Ideal.defs _ _).mono (fun _ h c => ⟨(h c).1.trans (arr_eq m c), (h c).2⟩) (Cert.Kernel4Ideal.Value.run_blocks m ρ),
    (θ_run Cert.Reference4Ideal.defs _ _).mono (fun _ h c => ⟨(h c).1.trans ((ref_eq _ _ _ _ _).trans
      (by rw [(hin c).1, (hin c).2.1, (hin c).2.2.1, (hin c).2.2.2.1, (hin c).2.2.2.2])), (h c).2⟩) (Cert.Reference4Ideal.Value.run m' ρ')⟩

/-- The printed program's body table is the idealized one's, the texts being the same. -/
theorem defs_eq : Cert.Kernel4.defs (F := Bits) = Cert.Kernel4Ideal.defs (F := Bits) :=
  congrArg (Pipeline.defs _) (congrArg Defs.onTc (funext fun l => match l with | 0 => funext fun _ => rfl))

/-- The frames. -/
theorem frame_kernel : Cert.quiescent_Kernel4 := fun m ρ _ => by
  rw [defs_eq]; exact Cert.Kernel4Ideal.Gen.frame (F := Bits) m ρ
theorem frame_ideal : Cert.quiescent_Kernel4Ideal := fun m ρ _ => Cert.Kernel4Ideal.Gen.frame (F := Ideal) m ρ
theorem frame_ref : Cert.quiescent_Reference4Ideal := fun m ρ _ =>
  (θ_run Cert.Reference4Ideal.defs _ _).mono (fun r h => ⟨fun c => (h c).2, Idealize.ShloMosaic.sem_eq_zero_of_no_sems (by decide) r.2⟩) (Cert.Reference4Ideal.Value.run (F := Ideal) m ρ)

end Cert.Merge

end
-- ==== Proof.Out.Val.lean ====
/-
  The output projection's result, element by element: what each point of the grid writes back, and the array after the run.
-/
module

public import proofs.«01_k».proof.Defs
public import proofs.«01_k».proof.Proof.Gen.Kernel5Ideal.Value
public import Idealize.ShloMosaic.Lib.Pipeline.Value
public import Idealize.ShloMosaic.Lib.Pipeline.ValueKit.Geometry
public import Idealize.ShloMosaic.Lib.Pointwise
public import Idealize.ShloMosaic.Lib.ValueLayout
public import Idealize.ShloMosaic.Lib.IdealHost

@[expose] public section

set_option maxRecDepth 16384

noncomputable section

namespace Cert.Out

open Cert.Kernel5Ideal Cert.Kernel5Ideal.Gen Idealize.ShloMosaic Idealize.ShloMosaic.TcCoe Idealize.SL.Sem
open Idealize.ShloMosaic.Pipeline (Dat)
open Idealize.ShloMosaic.ValueIdx hiding ix2 ix3 ix4 eq_ix2 eq_ix3
open scoped BigOperators

/-- The result at a row and a column. -/
def out (x : FVec Ideal S4x2048x4096 .f32) (mod : FVec Ideal S8x24576 .f32) (a : FVec Ideal S4x2048x4096 .bf16)
    (w : FVec Ideal S1x4096x4096 .f32) : FVec Ideal S8192x4096 .f32 := fun i =>
  let b : Fin 4 := ⟨(i 0).val / 2048, by have := idx2_lt0 i; omega⟩
  let s : Fin 2048 := ⟨(i 0).val % 2048, by omega⟩
  let n : Fin 4096 := ⟨(i 1).val, idx2_lt1 i⟩
  x (ix3 b s n) + mod (ix2 ⟨b.val, by omega⟩ ⟨8192 + n.val, by omega⟩) * ∑ k : Fin 4096, a (ix3 b s k) * w (ix3 0 k n)

variable (m : (ℓ : Loc nD τ sig) → Buf (Elt Ideal) ℓ) (ρ : Dev nD → PrngReg)

theorem V0 (c : Dev nD) : V m c main_v0 = shapeCast _ (m ((c : Thread nD τ).loc main_arg2)) shapeCasts_S4x2048x4096_S8192x4096 := by
  unfold V hostOps0; after_results <;> rfl
theorem V2 (c : Dev nD) : V m c main_v2 = truncf (F := Ideal) (φ := .f32) .bf16 (shapeCast _ (m ((c : Thread nD τ).loc main_arg3)) shapeCasts_S1x4096x4096_S4096x4096) bitsLt_bf16_f32 := by
  unfold V hostOps0; after_results <;> rfl
theorem V3 (c : Dev nD) : V m c main_v3 = shapeCast _ (m ((c : Thread nD τ).loc main_arg0)) shapeCasts_S4x2048x4096_S8192x4096 := by
  unfold V hostOps0; after_results <;> rfl
theorem V4 (c : Dev nD) : V m c main_v4 = shapeCast _ (m ((c : Thread nD τ).loc main_arg1)) shapeCasts_S8x24576_S8x1x24576 := by
  unfold V hostOps0; after_results <;> rfl

theorem cast0 (a : FVec Ideal S4x2048x4096 .bf16) (r : Fin 8192) (k : Fin 4096) :
    shapeCast S8192x4096 a shapeCasts_S4x2048x4096_S8192x4096 (ix2 r k) = a (ix3 ⟨r.val / 2048, by omega⟩ ⟨r.val % 2048, by omega⟩ k) := by pointwise
theorem cast2 (w : FVec Ideal S1x4096x4096 .f32) (k n : Fin 4096) :
    truncf (F := Ideal) .bf16 (shapeCast S4096x4096 w shapeCasts_S1x4096x4096_S4096x4096) bitsLt_bf16_f32 (ix2 k n) = w (ix3 0 k n) := by pointwise
theorem cast3 (x : FVec Ideal S4x2048x4096 .f32) (r : Fin 8192) (k : Fin 4096) :
    shapeCast S8192x4096 x shapeCasts_S4x2048x4096_S8192x4096 (ix2 r k) = x (ix3 ⟨r.val / 2048, by omega⟩ ⟨r.val % 2048, by omega⟩ k) := by pointwise
theorem cast4 (g : FVec Ideal S8x24576 .f32) (b : Fin 8) (n : Fin 24576) :
    shapeCast S8x1x24576 g shapeCasts_S8x24576_S8x1x24576 (ix3 b 0 n) = g (ix2 b n) := by pointwise

/-- The blocks' places, decided over the grid. -/
theorem idx_facts : ∀ t : Fin cfg0.N,
    win0_0.index t 0 = t.val / 8 ∧ win0_0.index t 1 = 0 ∧ win0_1.index t 0 = 0 ∧ win0_1.index t 1 = t.val % 8
    ∧ win0_2.index t 0 = t.val / 8 ∧ win0_2.index t 1 = t.val % 8
    ∧ win0_3.index t 0 = t.val / 16 ∧ win0_3.index t 1 = 0 ∧ win0_3.index t 2 = 16 + t.val % 8
    ∧ win0_4.index t 0 = t.val / 8 ∧ win0_4.index t 1 = t.val % 8 :=
  (by decide +kernel : ∀ t : Fin grid0.N, _)

theorem hz2 : (![0, 0] : Fin 2 → Nat) = fun _ => 0 := funext fun a => by fin_cases a <;> rfl
theorem hz3 : (![0, 0, 0] : Fin 3 → Nat) = fun _ => 0 := funext fun a => by fin_cases a <;> rfl

theorem t_lt (t : Fin cfg0.N) : t.val < 64 := lt_of_lt_of_eq t.isLt N_0

theorem blk0 (c : Dev nD) (t : Fin cfg0.N) (r : Fin 1024) (k : Fin 4096) :
    (iblk m c 0 t : S1024x4096.Idx → EReal) (ix2 r k) = V m c main_v0 (ix2 ⟨t.val / 8 * 1024 + r.val, by have := t_lt t; omega⟩ k) := by
  obtain ⟨h0, h1, -⟩ := idx_facts t
  refine congrArg (V m c main_v0) (funext fun a => Fin.ext ?_)
  match a with
  | ⟨0, _⟩ => show win0_0.index t 0 * 1024 + 1 * r.val = _; rw [h0]; simp
  | ⟨1, _⟩ => show win0_0.index t 1 * 4096 + 1 * k.val = _; rw [h1]; simp

theorem blk1 (c : Dev nD) (t : Fin cfg0.N) (r : Fin 4096) (k : Fin 512) :
    (iblk m c 1 t : S4096x512.Idx → EReal) (ix2 r k) = V m c main_v2 (ix2 r ⟨t.val % 8 * 512 + k.val, by omega⟩) := by
  obtain ⟨-, -, h0, h1, -⟩ := idx_facts t
  refine congrArg (V m c main_v2) (funext fun a => Fin.ext ?_)
  match a with
  | ⟨0, _⟩ => show win0_1.index t 0 * 4096 + 1 * r.val = _; rw [h0]; simp
  | ⟨1, _⟩ => show win0_1.index t 1 * 512 + 1 * k.val = _; rw [h1]; simp

theorem blk2 (c : Dev nD) (t : Fin cfg0.N) (r : Fin 1024) (k : Fin 512) :
    (iblk m c 2 t : S1024x512.Idx → EReal) (ix2 r k) = V m c main_v3 (ix2 ⟨t.val / 8 * 1024 + r.val, by have := t_lt t; omega⟩ ⟨t.val % 8 * 512 + k.val, by omega⟩) := by
  obtain ⟨-, -, -, -, h0, h1, -⟩ := idx_facts t
  refine congrArg (V m c main_v3) (funext fun a => Fin.ext ?_)
  match a with
  | ⟨0, _⟩ => show win0_2.index t 0 * 1024 + 1 * r.val = _; rw [h0]; simp
  | ⟨1, _⟩ => show win0_2.index t 1 * 512 + 1 * k.val = _; rw [h1]; simp

theorem blk3 (c : Dev nD) (t : Fin cfg0.N) (u : Fin 1) (v : Fin 1) (k : Fin 512) :
    (iblk m c 3 t : S1x1x512.Idx → EReal) (ix3 u v k) = V m c main_v4 (ix3 ⟨t.val / 16, by have := t_lt t; omega⟩ 0 ⟨(16 + t.val % 8) * 512 + k.val, by omega⟩) := by
  obtain ⟨-, -, -, -, -, -, h0, h1, h2, -⟩ := idx_facts t
  refine congrArg (V m c main_v4) (funext fun a => Fin.ext ?_)
  match a with
  | ⟨0, _⟩ => show win0_3.index t 0 * 1 + 1 * u.val = _; rw [h0]; simp
  | ⟨1, _⟩ => show win0_3.index t 1 * 1 + 1 * v.val = _; rw [h1]; simp
  | ⟨2, _⟩ => show win0_3.index t 2 * 512 + 1 * k.val = _; rw [h2]; simp

/-- The kernel's result array, from the arguments. -/
abbrev res (c : Dev nD) : FVec Ideal S8192x4096 .f32 :=
  out (m ((c : Thread nD τ).loc main_arg0)) (m ((c : Thread nD τ).loc main_arg1)) (m ((c : Thread nD τ).loc main_arg2)) (m ((c : Thread nD τ).loc main_arg3))

/-- What a point writes back is its block of the result. -/
theorem flushed_eq (c : Dev nD) (t : Fin cfg0.N) :
    (dats m 0 c).flushed 4 t = ((cfg0.win 4).blk t).view.read (Elt Ideal) (res m c) := by
  rw [Value.flushed4]
  obtain ⟨-, -, -, -, -, -, -, -, -, h0, h1⟩ := idx_facts t
  have ht := t_lt t
  funext j
  obtain ⟨r, n, rfl⟩ : ∃ (r : Fin 1024) (n : Fin 512), j = ix2 r n := ⟨j 0, j 1, eq_ix2 j⟩
  have hr : ((cfg0.win 4).blk t).view.read (Elt Ideal) (res m c) (ix2 r n) = res m c (ix2 ⟨t.val / 8 * 1024 + r.val, by omega⟩ ⟨t.val % 8 * 512 + n.val, by omega⟩) := by
    refine congrArg (res m c) (funext fun a => Fin.ext ?_)
    match a with
    | ⟨0, _⟩ => show win0_4.index t 0 * 1024 + 1 * r.val = _; rw [h0]; simp
    | ⟨1, _⟩ => show win0_4.index t 1 * 512 + 1 * n.val = _; rw [h1]; simp
  rw [hr]
  show out0_4 (iblk m c 0 t) (iblk m c 1 t) (iblk m c 2 t) (iblk m c 3 t) (ix2 r n) = _
  unfold out0_4
  rw [View.canon_unit_zero hz2, View.ld_unit_zero hz2, View.ld_unit_zero hz2, View.ld_unit_zero hz2, View.ld_unit_zero hz3]
  pointwise [k0_pay1, res, out]
  simp only [blk0, blk1, blk2, blk3]
  rw [V0, V2, V3, V4]
  have hb : (t.val / 8 * 1024 + r.val) / 2048 = t.val / 16 := by omega
  have hg : (16 + t.val % 8) * 512 + n.val = 8192 + (t.val % 8 * 512 + n.val) := by omega
  refine congr_arg₂ (· + ·) ((cast3 ..).trans ?_) (congr_arg₂ (· * ·) ((cast4 ..).trans ?_) (Finset.sum_congr rfl fun k _ => congr_arg₂ (· * ·) ((cast0 ..).trans ?_) ((cast2 ..).trans ?_)))
  · rfl
  · simp only [hb, hg]
  · rfl
  · rfl

/-- The array after the run. -/
theorem arr_eq (c : Dev nD) : (dats m 0 c).arrAt 4 cfg0.N = res m c := by
  have hc : (cfg0.win 4).Covers := by decide +kernel
  exact (dats m 0 c).arrAt_eq_of_cover 4 (res m c) (fun t _ => flushed_eq m c t) (Pipeline.Window.Covers.cover (cfg0.win 4) hc (Memref.isWhole_whole main_v5))

end Cert.Out

end
-- ==== Proof.Out.Ref.lean ====
/-
  What the reference of the output projection computes, element by element, and the two runs side by side.
-/
module

public import proofs.«01_k».proof.Proof.Out.Val
public import proofs.«01_k».proof.Proof.Gen.Reference5Ideal.Run
public import proofs.«01_k».proof.Proof.Gen.Kernel5
public import Idealize.ShloMosaic.Lib.Quiescent

@[expose] public section

set_option maxRecDepth 16384

noncomputable section

namespace Cert.Out

open Idealize.ShloMosaic Idealize.ShloMosaic.TcCoe Idealize.SL.Sem

section
open Cert.Reference5Ideal Cert.Reference5Ideal.Gen

/-- The reference's result, element by element. -/
theorem ref_eq (x : FVec Ideal S4x2048x4096 .f32) (mod : FVec Ideal S8x24576 .f32) (a : FVec Ideal S4x2048x4096 .bf16)
    (w : FVec Ideal S1x4096x4096 .f32) :
    shapeCast S8192x4096 (addf x (mulf (broadcastInDim S4x2048x4096 ![0, 1, 2] bcast_S4x1x4096_S4x2048x4096_0_1_2 (broadcastInDim S4x1x4096 ![0, 2] bcast_S4x4096_S4x1x4096_0_2 (extractStridedSlice S4x4096 ![0, 8192] (extractStridedSlice S4x24576 ![0, 0] mod slices_S8x24576_S4x24576_0_0) slices_S4x24576_S4x4096_0_8192))) (Host.dotGeneral (F := Ideal) dot_S4x2048x4096_S4096x4096_S4x2048x4096_2_0_01_1_n_n none (extf .f32 a bitsLt_bf16_f32) (shapeCast S4096x4096 w shapeCasts_S1x4096x4096_S4096x4096)))) shapeCasts_S4x2048x4096_S8192x4096
      = out x mod a w := by
  funext i
  obtain ⟨r, n, rfl⟩ : ∃ (r : Fin 8192) (n : Fin 4096), i = ix2 r n := ⟨i 0, i 1, eq_ix2 i⟩
  pointwise [out]

end

/-- The kernel at the extended reals computes what the reference computes. -/
theorem algebraic : Cert.algebraic_Kernel5Ideal_Reference5Ideal := fun m ρ m' ρ' _ hin =>
  ⟨fun c => res m c,
    (θ_run Cert.Kernel5Ideal.defs _ _).mono (fun _ h c => ⟨(h c).1.trans (arr_eq m c), (h c).2⟩) (Cert.Kernel5Ideal.Value.run_blocks m ρ),
    (θ_run Cert.Reference5Ideal.defs _ _).mono (fun _ h c => ⟨(h c).1.trans ((ref_eq _ _ _ _).trans
      (by rw [(hin c).1, (hin c).2.1, (hin c).2.2.1, (hin c).2.2.2])), (h c).2⟩) (Cert.Reference5Ideal.Value.run m' ρ')⟩

/-- The printed program's body table is the idealized one's, the texts being the same. -/
theorem defs_eq : Cert.Kernel5.defs (F := Bits) = Cert.Kernel5Ideal.defs (F := Bits) :=
  congrArg (Pipeline.defs _) (congrArg Defs.onTc (funext fun l => match l with | 0 => funext fun _ => rfl))

/-- The frames. -/
theorem frame_kernel : Cert.quiescent_Kernel5 := fun m ρ _ => by
  rw [defs_eq]; exact Cert.Kernel5Ideal.Gen.frame (F := Bits) m ρ
theorem frame_ideal : Cert.quiescent_Kernel5Ideal := fun m ρ _ => Cert.Kernel5Ideal.Gen.frame (F := Ideal) m ρ
theorem frame_ref : Cert.quiescent_Reference5Ideal := fun m ρ _ =>
  (θ_run Cert.Reference5Ideal.defs _ _).mono (fun r h => ⟨fun c => (h c).2, Idealize.ShloMosaic.sem_eq_zero_of_no_sems (by decide) r.2⟩) (Cert.Reference5Ideal.Value.run (F := Ideal) m ρ)

end Cert.Out

end
-- ==== Proof.Gates.Val.lean ====
/-
  The values of the projection to the gates: each point of the grid multiplies a block of rows with a block of the weight's columns, in two halves of the rows.
-/
module

public import proofs.«01_k».proof.Defs
public import proofs.«01_k».proof.Proof.Gen.Kernel6Ideal.Value
public import Idealize.ShloMosaic.Lib.Pipeline.Value
public import Idealize.ShloMosaic.Lib.Pipeline.ValueKit.Geometry
public import Idealize.ShloMosaic.Lib.Pipeline.ValueKit.Tiles
public import Idealize.ShloMosaic.Lib.Pointwise
public import Idealize.ShloMosaic.Lib.ValueLayout
public import Idealize.ShloMosaic.Lib.IdealHost

@[expose] public section

set_option maxRecDepth 16384

noncomputable section

namespace Cert.Gates

open Cert.Kernel6Ideal Cert.Kernel6Ideal.Gen Idealize.ShloMosaic Idealize.ShloMosaic.TcCoe Idealize.SL.Sem
open Idealize.ShloMosaic.Pipeline (Dat)
open scoped BigOperators

/-- The result at a row and a column: the row of the activations times the weight's column 9312 places on. -/
def lin (h : FVec Ideal S4x2048x4096 .bf16) (w : FVec Ideal S1x4096x17504 .f32) : FVec Ideal S8192x8192 .bf16 := fun i =>
  let b : Fin 4 := ⟨(i 0).val / 2048, by have := ValueIdx.idx2_lt0 i; omega⟩
  let s : Fin 2048 := ⟨(i 0).val % 2048, by omega⟩
  let n : Fin 17504 := ⟨9312 + (i 1).val, by have := ValueIdx.idx2_lt1 i; omega⟩
  ∑ k : Fin 4096, h (ix3 b s k) * w (ix3 0 k n)

variable (m : (ℓ : Loc nD τ sig) → Buf (Elt Ideal) ℓ) (ρ : Dev nD → PrngReg)

theorem V0 (c : Dev nD) : V m c main_v0 = shapeCast _ (m ((c : Thread nD τ).loc main_arg0)) shapeCasts_S4x2048x4096_S8192x4096 := by
  unfold V hostOps0; after_results <;> rfl
theorem V1 (c : Dev nD) : V m c main_v1 = transpose S1x17504x4096 [0, 2, 1] (m ((c : Thread nD τ).loc main_arg1)) transposes_S1x4096x17504_S1x17504x4096_0_2_1 := by
  unfold V hostOps0; after_results <;> rfl
theorem castH (h : FVec Ideal S4x2048x4096 .bf16) (r : Fin 8192) (k : Fin 4096) :
    shapeCast S8192x4096 h shapeCasts_S4x2048x4096_S8192x4096 (ix2 r k) = h (ix3 ⟨r.val / 2048, by omega⟩ ⟨r.val % 2048, by omega⟩ k) := by pointwise
theorem castW (w : FVec Ideal S1x4096x17504 .f32) (k : Fin 4096) (n : Fin 17504) :
    transpose S1x17504x4096 [0, 2, 1] w transposes_S1x4096x17504_S1x17504x4096_0_2_1 (ix3 0 n k) = w (ix3 0 k n) := by pointwise

theorem t_lt (t : Fin cfg0.N) : t.val < 128 := lt_of_lt_of_eq t.isLt N_0

/-- The blocks' places, decided over the grid. -/
theorem idx_facts : ∀ t : Fin cfg0.N,
    win0_0.index t 0 = t.val / 16
    ∧ win0_0.index t 1 = 0
    ∧ win0_1.index t 0 = 0
    ∧ win0_1.index t 1 = 9312 + t.val % 16 * 512
    ∧ win0_1.index t 2 = 0
    ∧ win0_2.index t 0 = t.val / 16
    ∧ win0_2.index t 1 = t.val % 16 :=
  (by decide +kernel : ∀ t : Fin grid0.N, _)

theorem blk0 (c : Dev nD) (t : Fin cfg0.N) (i0 : Fin 1024) (i1 : Fin 4096) :
    (iblk m c 0 t : S1024x4096.Idx → EReal) (ix2 i0 i1) = V m c main_v0 (ix2 ⟨t.val / 16 * 1024 + i0.val, by have := t_lt t; omega⟩ i1) := by
  obtain ⟨h0, h1, -, -, -, -, -⟩ := idx_facts t
  refine congrArg (V m c main_v0) (funext fun a => Fin.ext ?_)
  match a with
  | ⟨0, _⟩ => show win0_0.index t 0 * 1024 + 1 * i0.val = _; rw [h0]; first | rfl | (simp; done) | (simp only [ix2, ix3, ix4]; have := t_lt t; simp; omega)
  | ⟨1, _⟩ => show win0_0.index t 1 * 4096 + 1 * i1.val = _; rw [h1]; first | rfl | (simp; done) | (simp only [ix2, ix3, ix4]; have := t_lt t; simp; omega)

theorem blk1 (c : Dev nD) (t : Fin cfg0.N) (i0 : Fin 1) (i1 : Fin 512) (i2 : Fin 4096) :
    (iblk m c 1 t : S1x512x4096.Idx → EReal) (ix3 i0 i1 i2) = V m c main_v1 (ix3 0 ⟨9312 + t.val % 16 * 512 + i1.val, by have := t_lt t; omega⟩ i2) := by
  obtain ⟨-, -, h0, h1, h2, -, -⟩ := idx_facts t
  refine congrArg (V m c main_v1) (funext fun a => Fin.ext ?_)
  match a with
  | ⟨0, _⟩ => show win0_1.index t 0 + 1 * i0.val = _; rw [h0]; first | rfl | (simp; done) | (simp only [ix2, ix3, ix4]; have := t_lt t; simp; omega)
  | ⟨1, _⟩ => show win0_1.index t 1 + 1 * i1.val = _; rw [h1]; first | rfl | (simp; done) | (simp only [ix2, ix3, ix4]; have := t_lt t; simp; omega)
  | ⟨2, _⟩ => show win0_1.index t 2 + 1 * i2.val = _; rw [h2]; first | rfl | (simp; done) | (simp only [ix2, ix3, ix4]; have := t_lt t; simp; omega)

/-- The kernel's result array, from the arguments. -/
abbrev res (c : Dev nD) : FVec Ideal S8192x8192 .bf16 :=
  lin (m ((c : Thread nD τ).loc main_arg0)) (m ((c : Thread nD τ).loc main_arg1))

/-- The block's element from the input blocks. -/
def out (x0 : Vec Ideal S1024x4096 .bf16) (x1 : Vec Ideal S1x512x4096 .f32) : Vec Ideal S1024x512 .bf16 := fun y =>
  ∑ k : Fin 4096, x0 (ix2 (⟨(y 0).val, ValueIdx.idx2_lt0 y⟩ : Fin 1024) k) * x1 (ix3 0 (⟨(y 1).val, ValueIdx.idx2_lt1 y⟩ : Fin 512) k)

theorem ldw {e : EltTy} (X : S1x512x4096.Idx → Elt Ideal e) : View.ld X r0_0 = X :=
  View.ld_unit_zero (funext fun a => by fin_cases a <;> rfl) _ _

/-- The two stores are the two halves of the block. -/
theorem out_eq (x0 : Vec Ideal S1024x4096 .bf16) (x1 : Vec Ideal S1x512x4096 .f32) (y : S1024x512.Idx) :
    out0_2 x0 x1 y = out x0 x1 y := by
  unfold out0_2
  refine View.canon_apply_of_pieces (out x0 x1) _ ?_ y (cover0_2 _ _ y)
  intro p hp x
  simp only [List.mem_cons, List.not_mem_nil, or_false] at hp
  rcases hp with rfl | rfl
  · obtain ⟨r, n, rfl⟩ : ∃ (r : Fin 512) (n : Fin 512), x = ix2 r n := ⟨x 0, x 1, eq_ix2 x⟩
    have he : r0_4.emb (ix2 r n) = (ix2 (⟨512 + r.val, by omega⟩ : Fin 1024) n : S1024x512.Idx) := funext fun a => Fin.ext (by
      match a with | ⟨0, _⟩ => (show 512 + 1 * r.val = 512 + r.val; omega) | ⟨1, _⟩ => (show 0 + 1 * n.val = n.val; omega))
    show k0_pay3 (View.ld x1 r0_0) (View.ld x0 r0_3) (ix2 r n) = _
    rw [he, ldw]
    pointwise [k0_pay3, k0_pay1, out]
  · obtain ⟨r, n, rfl⟩ : ∃ (r : Fin 512) (n : Fin 512), x = ix2 r n := ⟨x 0, x 1, eq_ix2 x⟩
    have he : r0_2.emb (ix2 r n) = (ix2 (⟨r.val, by omega⟩ : Fin 1024) n : S1024x512.Idx) := funext fun a => Fin.ext (by
      match a with | ⟨0, _⟩ => (show 0 + 1 * r.val = r.val; omega) | ⟨1, _⟩ => (show 0 + 1 * n.val = n.val; omega))
    show k0_pay2 (View.ld x1 r0_0) (View.ld x0 r0_1) (ix2 r n) = _
    rw [he, ldw]
    pointwise [k0_pay2, k0_pay1, out]

/-- What a point writes back is its block of the result. -/
theorem flushed_eq (c : Dev nD) (t : Fin cfg0.N) :
    (dats m 0 c).flushed 2 t = ((cfg0.win 2).blk t).view.read (Elt Ideal) (res m c) := by
  rw [Value.flushed2]
  obtain ⟨-, -, -, -, -, h0, h1⟩ := idx_facts t
  have ht := t_lt t
  funext j
  obtain ⟨r, n, rfl⟩ : ∃ (r : Fin 1024) (n : Fin 512), j = ix2 r n := ⟨j 0, j 1, eq_ix2 j⟩
  have hr : ((cfg0.win 2).blk t).view.read (Elt Ideal) (res m c) (ix2 r n) = res m c (ix2 ⟨t.val / 16 * 1024 + r.val, by omega⟩ ⟨t.val % 16 * 512 + n.val, by omega⟩) := by
    refine congrArg (res m c) (funext fun a => Fin.ext ?_)
    match a with
    | ⟨0, _⟩ => show win0_2.index t 0 * 1024 + 1 * r.val = _; rw [h0]; simp
    | ⟨1, _⟩ => show win0_2.index t 1 * 512 + 1 * n.val = _; rw [h1]; simp
  rw [hr]
  show out0_2 (iblk m c 0 t) (iblk m c 1 t) (ix2 r n) = _
  rw [out_eq]
  unfold out
  refine Finset.sum_congr rfl fun k _ => congr_arg₂ (· * ·) ((blk0 m c t _ _).trans ?_) ((blk1 m c t _ _ _).trans ?_)
  · rw [V0]; exact castH ..
  · rw [V1]
    refine (castW ..).trans (congrArg (m ((c : Thread nD τ).loc main_arg1)) ?_)
    funext a
    match a with
    | ⟨0, _⟩ => rfl
    | ⟨1, _⟩ => rfl
    | ⟨2, _⟩ => exact Fin.ext (by simp [ix3]; try omega)

/-- The array after the run. -/
theorem arr_eq (c : Dev nD) : (dats m 0 c).arrAt 2 cfg0.N = res m c := by
  have hc : (cfg0.win 2).Covers := by decide +kernel
  exact (dats m 0 c).arrAt_eq_of_cover 2 (res m c) (fun t _ => flushed_eq m c t) (Pipeline.Window.Covers.cover (cfg0.win 2) hc (Memref.isWhole_whole main_v2))

end Cert.Gates

end
-- ==== Proof.Gates.Ref.lean ====
/-
  What the reference of the projection computes, element by element, and the two runs side by side.
-/
module

public import proofs.«01_k».proof.Proof.Gates.Val
public import proofs.«01_k».proof.Proof.Gen.Kernel6
public import proofs.«01_k».proof.Proof.Gen.Reference6Ideal.Run
public import Idealize.ShloMosaic.Lib.Quiescent

@[expose] public section

set_option maxRecDepth 16384

noncomputable section

namespace Cert.Gates

open Idealize.ShloMosaic Idealize.ShloMosaic.TcCoe Idealize.SL.Sem
open scoped BigOperators

section
open Cert.Reference6Ideal Cert.Reference6Ideal.Gen

/-- The reference's result, element by element. -/
theorem ref_eq (h : FVec Ideal S4x2048x4096 .bf16) (w : FVec Ideal S1x4096x17504 .f32) :
    truncf .bf16 (shapeCast S8192x8192 (concatenate S4x2048x8192 2 [⟨S4x2048x4096, (extractStridedSlice S4x2048x4096 ![0, 0, 9312] (Host.dotGeneral (F := Ideal) dot_S4x2048x4096_S4096x17504_S4x2048x17504_2_0_01_1_n_n none (extf .f32 h bitsLt_bf16_f32) (shapeCast S4096x17504 w shapeCasts_S1x4096x17504_S4096x17504)) slices_S4x2048x17504_S4x2048x4096_0_0_9312)⟩, ⟨S4x2048x4096, (extractStridedSlice S4x2048x4096 ![0, 0, 13408] (Host.dotGeneral (F := Ideal) dot_S4x2048x4096_S4096x17504_S4x2048x17504_2_0_01_1_n_n none (extf .f32 h bitsLt_bf16_f32) (shapeCast S4096x17504 w shapeCasts_S1x4096x17504_S4096x17504)) slices_S4x2048x17504_S4x2048x4096_0_0_13408)⟩] concatenates_S4x2048x4096_S4x2048x4096_S4x2048x8192_d2) shapeCasts_S4x2048x8192_S8192x8192) bitsLt_bf16_f32
      = lin h w := by
  funext i
  obtain ⟨r, n, rfl⟩ : ∃ (r : Fin 8192) (n : Fin 8192), i = ix2 r n := ⟨i 0, i 1, eq_ix2 i⟩
  pointwise [lin]
  split_ifs <;> first
    | with_reducible rfl
    | exact Finset.sum_congr rfl fun k _ => congrArg (h _ * ·) (congrArg w (congrArg (ix3 0 k) (Fin.ext (by dsimp only; omega))))
    | (exfalso; omega)

end

/-- The kernel at the extended reals computes what the reference computes. -/
theorem algebraic : Cert.algebraic_Kernel6Ideal_Reference6Ideal := fun m ρ m' ρ' _ hin =>
  ⟨fun c => res m c,
    (θ_run Cert.Kernel6Ideal.defs _ _).mono (fun _ h c => ⟨(h c).1.trans (arr_eq m c), (h c).2⟩) (Cert.Kernel6Ideal.Value.run_blocks m ρ),
    (θ_run Cert.Reference6Ideal.defs _ _).mono (fun _ h c => ⟨(h c).1.trans ((ref_eq _ _).trans
      (by rw [(hin c).1, (hin c).2])), (h c).2⟩) (Cert.Reference6Ideal.Value.run m' ρ')⟩

/-- The printed program's body table is the idealized one's, the texts being the same. -/
theorem defs_eq : Cert.Kernel6.defs (F := Bits) = Cert.Kernel6Ideal.defs (F := Bits) :=
  congrArg (Pipeline.defs _) (congrArg Defs.onTc (funext fun l => match l with | 0 => funext fun _ => rfl))

/-- The frames. -/
theorem frame_kernel : Cert.quiescent_Kernel6 := fun m ρ _ => by
  rw [defs_eq]; exact Cert.Kernel6Ideal.Gen.frame (F := Bits) m ρ
theorem frame_ideal : Cert.quiescent_Kernel6Ideal := fun m ρ _ => Cert.Kernel6Ideal.Gen.frame (F := Ideal) m ρ
theorem frame_ref : Cert.quiescent_Reference6Ideal := fun m ρ _ =>
  (θ_run Cert.Reference6Ideal.defs _ _).mono (fun r h => ⟨fun c => (h c).2, Idealize.ShloMosaic.sem_eq_zero_of_no_sems (by decide) r.2⟩) (Cert.Reference6Ideal.Value.run (F := Ideal) m ρ)

end Cert.Gates

end
-- ==== Proof.Uv.Val.lean ====
/-
  The values of the projection to the gating unit's two inputs: each point of the grid multiplies a block of rows with a
  block of the weight's columns, in two halves of the rows, and applies the exact gelu.
-/
module

public import proofs.«01_k».proof.Defs
public import proofs.«01_k».proof.Proof.Gen.Kernel7Ideal.Value
public import Idealize.ShloMosaic.Lib.Pipeline.Value
public import Idealize.ShloMosaic.Lib.Pipeline.ValueKit.Geometry
public import Idealize.ShloMosaic.Lib.Pipeline.ValueKit.Tiles
public import Idealize.ShloMosaic.Lib.Pointwise
public import Idealize.ShloMosaic.Lib.ValueLayout
public import Idealize.ShloMosaic.Lib.IdealHost

@[expose] public section

set_option maxRecDepth 16384

noncomputable section

namespace Cert.Uv

open Cert.Kernel7Ideal Cert.Kernel7Ideal.Gen Idealize.ShloMosaic Idealize.ShloMosaic.TcCoe Idealize.SL.Sem
open Idealize.ShloMosaic.Pipeline (Dat)
open scoped BigOperators

/-- The exact gelu, `x` times the normal distribution function of `x`, at the constants' values. -/
def gelu (x : EReal) : EReal := Ideal.ofBits .f32 0x3F000000#32 * x * (1 + Ideal.erf (x * Ideal.ofBits .f32 0x3F3504F3#32))

/-- The result at a row and a column: the gelu of the row of the activations times the weight's column 5216 places on. -/
def lin (h : FVec Ideal S4x2048x4096 .bf16) (w : FVec Ideal S1x4096x17504 .f32) : FVec Ideal S8192x4096 .bf16 := fun i =>
  let b : Fin 4 := ⟨(i 0).val / 2048, by have := ValueIdx.idx2_lt0 i; omega⟩
  let s : Fin 2048 := ⟨(i 0).val % 2048, by omega⟩
  let n : Fin 17504 := ⟨5216 + (i 1).val, by have := ValueIdx.idx2_lt1 i; omega⟩
  gelu (∑ k : Fin 4096, h (ix3 b s k) * w (ix3 0 k n))

variable (m : (ℓ : Loc nD τ sig) → Buf (Elt Ideal) ℓ) (ρ : Dev nD → PrngReg)

theorem V0 (c : Dev nD) : V m c main_v0 = shapeCast _ (m ((c : Thread nD τ).loc main_arg0)) shapeCasts_S4x2048x4096_S8192x4096 := by
  unfold V hostOps0; after_results <;> rfl
theorem V1 (c : Dev nD) : V m c main_v1 = transpose S1x17504x4096 [0, 2, 1] (m ((c : Thread nD τ).loc main_arg1)) transposes_S1x4096x17504_S1x17504x4096_0_2_1 := by
  unfold V hostOps0; after_results <;> rfl
theorem castH (h : FVec Ideal S4x2048x4096 .bf16) (r : Fin 8192) (k : Fin 4096) :
    shapeCast S8192x4096 h shapeCasts_S4x2048x4096_S8192x4096 (ix2 r k) = h (ix3 ⟨r.val / 2048, by omega⟩ ⟨r.val % 2048, by omega⟩ k) := by pointwise
theorem castW (w : FVec Ideal S1x4096x17504 .f32) (k : Fin 4096) (n : Fin 17504) :
    transpose S1x17504x4096 [0, 2, 1] w transposes_S1x4096x17504_S1x17504x4096_0_2_1 (ix3 0 n k) = w (ix3 0 k n) := by pointwise

theorem t_lt (t : Fin cfg0.N) : t.val < 64 := lt_of_lt_of_eq t.isLt N_0

/-- The blocks' places, decided over the grid. -/
theorem idx_facts : ∀ t : Fin cfg0.N,
    win0_0.index t 0 = t.val / 8
    ∧ win0_0.index t 1 = 0
    ∧ win0_1.index t 0 = 0
    ∧ win0_1.index t 1 = 5216 + t.val % 8 * 512
    ∧ win0_1.index t 2 = 0
    ∧ win0_2.index t 0 = t.val / 8
    ∧ win0_2.index t 1 = t.val % 8 :=
  (by decide +kernel : ∀ t : Fin grid0.N, _)

theorem blk0 (c : Dev nD) (t : Fin cfg0.N) (i0 : Fin 1024) (i1 : Fin 4096) :
    (iblk m c 0 t : S1024x4096.Idx → EReal) (ix2 i0 i1) = V m c main_v0 (ix2 ⟨t.val / 8 * 1024 + i0.val, by have := t_lt t; omega⟩ i1) := by
  obtain ⟨h0, h1, -, -, -, -, -⟩ := idx_facts t
  refine congrArg (V m c main_v0) (funext fun a => Fin.ext ?_)
  match a with
  | ⟨0, _⟩ => show win0_0.index t 0 * 1024 + 1 * i0.val = _; rw [h0]; first | rfl | (simp; done) | (simp only [ix2, ix3, ix4]; have := t_lt t; simp; omega)
  | ⟨1, _⟩ => show win0_0.index t 1 * 4096 + 1 * i1.val = _; rw [h1]; first | rfl | (simp; done) | (simp only [ix2, ix3, ix4]; have := t_lt t; simp; omega)

theorem blk1 (c : Dev nD) (t : Fin cfg0.N) (i0 : Fin 1) (i1 : Fin 512) (i2 : Fin 4096) :
    (iblk m c 1 t : S1x512x4096.Idx → EReal) (ix3 i0 i1 i2) = V m c main_v1 (ix3 0 ⟨5216 + t.val % 8 * 512 + i1.val, by have := t_lt t; omega⟩ i2) := by
  obtain ⟨-, -, h0, h1, h2, -, -⟩ := idx_facts t
  refine congrArg (V m c main_v1) (funext fun a => Fin.ext ?_)
  match a with
  | ⟨0, _⟩ => show win0_1.index t 0 + 1 * i0.val = _; rw [h0]; first | rfl | (simp; done) | (simp only [ix2, ix3, ix4]; have := t_lt t; simp; omega)
  | ⟨1, _⟩ => show win0_1.index t 1 + 1 * i1.val = _; rw [h1]; first | rfl | (simp; done) | (simp only [ix2, ix3, ix4]; have := t_lt t; simp; omega)
  | ⟨2, _⟩ => show win0_1.index t 2 + 1 * i2.val = _; rw [h2]; first | rfl | (simp; done) | (simp only [ix2, ix3, ix4]; have := t_lt t; simp; omega)

/-- The kernel's result array, from the arguments. -/
abbrev res (c : Dev nD) : FVec Ideal S8192x4096 .bf16 :=
  lin (m ((c : Thread nD τ).loc main_arg0)) (m ((c : Thread nD τ).loc main_arg1))

/-- The block's element from the input blocks. -/
def out (x0 : Vec Ideal S1024x4096 .bf16) (x1 : Vec Ideal S1x512x4096 .f32) : Vec Ideal S1024x512 .bf16 := fun y =>
  gelu (∑ k : Fin 4096, x0 (ix2 (⟨(y 0).val, ValueIdx.idx2_lt0 y⟩ : Fin 1024) k) * x1 (ix3 0 (⟨(y 1).val, ValueIdx.idx2_lt1 y⟩ : Fin 512) k))

theorem ldw {e : EltTy} (X : S1x512x4096.Idx → Elt Ideal e) : View.ld X r0_0 = X :=
  View.ld_unit_zero (funext fun a => by fin_cases a <;> rfl) _ _

/-- The two stores are the two halves of the block. -/
theorem out_eq (x0 : Vec Ideal S1024x4096 .bf16) (x1 : Vec Ideal S1x512x4096 .f32) (y : S1024x512.Idx) :
    out0_2 x0 x1 y = out x0 x1 y := by
  unfold out0_2
  refine View.canon_apply_of_pieces (out x0 x1) _ ?_ y (cover0_2 _ _ y)
  intro p hp x
  simp only [List.mem_cons, List.not_mem_nil, or_false] at hp
  rcases hp with rfl | rfl
  · obtain ⟨r, n, rfl⟩ : ∃ (r : Fin 512) (n : Fin 512), x = ix2 r n := ⟨x 0, x 1, eq_ix2 x⟩
    have he : r0_4.emb (ix2 r n) = (ix2 (⟨512 + r.val, by omega⟩ : Fin 1024) n : S1024x512.Idx) := funext fun a => Fin.ext (by
      match a with | ⟨0, _⟩ => (show 512 + 1 * r.val = 512 + r.val; omega) | ⟨1, _⟩ => (show 0 + 1 * n.val = n.val; omega))
    show k0_pay3 (View.ld x1 r0_0) (View.ld x0 r0_3) (ix2 r n) = _
    rw [he, ldw]
    pointwise [k0_pay3, k0_pay1, out, gelu]
    rfl
  · obtain ⟨r, n, rfl⟩ : ∃ (r : Fin 512) (n : Fin 512), x = ix2 r n := ⟨x 0, x 1, eq_ix2 x⟩
    have he : r0_2.emb (ix2 r n) = (ix2 (⟨r.val, by omega⟩ : Fin 1024) n : S1024x512.Idx) := funext fun a => Fin.ext (by
      match a with | ⟨0, _⟩ => (show 0 + 1 * r.val = r.val; omega) | ⟨1, _⟩ => (show 0 + 1 * n.val = n.val; omega))
    show k0_pay2 (View.ld x1 r0_0) (View.ld x0 r0_1) (ix2 r n) = _
    rw [he, ldw]
    pointwise [k0_pay2, k0_pay1, out, gelu]
    rfl

/-- What a point writes back is its block of the result. -/
theorem flushed_eq (c : Dev nD) (t : Fin cfg0.N) :
    (dats m 0 c).flushed 2 t = ((cfg0.win 2).blk t).view.read (Elt Ideal) (res m c) := by
  rw [Value.flushed2]
  obtain ⟨-, -, -, -, -, h0, h1⟩ := idx_facts t
  have ht := t_lt t
  funext j
  obtain ⟨r, n, rfl⟩ : ∃ (r : Fin 1024) (n : Fin 512), j = ix2 r n := ⟨j 0, j 1, eq_ix2 j⟩
  have hr : ((cfg0.win 2).blk t).view.read (Elt Ideal) (res m c) (ix2 r n) = res m c (ix2 ⟨t.val / 8 * 1024 + r.val, by omega⟩ ⟨t.val % 8 * 512 + n.val, by omega⟩) := by
    refine congrArg (res m c) (funext fun a => Fin.ext ?_)
    match a with
    | ⟨0, _⟩ => show win0_2.index t 0 * 1024 + 1 * r.val = _; rw [h0]; simp
    | ⟨1, _⟩ => show win0_2.index t 1 * 512 + 1 * n.val = _; rw [h1]; simp
  rw [hr]
  show out0_2 (iblk m c 0 t) (iblk m c 1 t) (ix2 r n) = _
  rw [out_eq]
  unfold out
  refine congrArg gelu (Finset.sum_congr rfl fun k _ => congr_arg₂ (· * ·) ((blk0 m c t _ _).trans ?_) ((blk1 m c t _ _ _).trans ?_))
  · rw [V0]; exact castH ..
  · rw [V1]
    refine (castW ..).trans (congrArg (m ((c : Thread nD τ).loc main_arg1)) ?_)
    funext a
    match a with
    | ⟨0, _⟩ => rfl
    | ⟨1, _⟩ => rfl
    | ⟨2, _⟩ => exact Fin.ext (by simp [ix3]; try omega)

/-- The array after the run. -/
theorem arr_eq (c : Dev nD) : (dats m 0 c).arrAt 2 cfg0.N = res m c := by
  have hc : (cfg0.win 2).Covers := by decide +kernel
  exact (dats m 0 c).arrAt_eq_of_cover 2 (res m c) (fun t _ => flushed_eq m c t) (Pipeline.Window.Covers.cover (cfg0.win 2) hc (Memref.isWhole_whole main_v2))

end Cert.Uv

end
-- ==== Proof.Uv.Ref.lean ====
/-
  What the reference of the projection computes, element by element, and the two runs side by side.
-/
module

public import proofs.«01_k».proof.Proof.Uv.Val
public import proofs.«01_k».proof.Proof.Gen.Kernel7
public import proofs.«01_k».proof.Proof.Gen.Reference7Ideal.Run
public import Idealize.ShloMosaic.Lib.Quiescent

@[expose] public section

set_option maxRecDepth 16384

noncomputable section

namespace Cert.Uv

open Idealize.ShloMosaic Idealize.ShloMosaic.TcCoe Idealize.SL.Sem
open scoped BigOperators

section
open Cert.Reference7Ideal Cert.Reference7Ideal.Gen

/-- The reference's result, element by element. -/
theorem ref_eq (h : FVec Ideal S4x2048x4096 .bf16) (w : FVec Ideal S1x4096x17504 .f32) :
    truncf .bf16 (shapeCast S8192x4096 (concatenate S4x2048x4096 2 [⟨S4x2048x2048, (mulf (mulf (broadcastInDim S4x2048x2048 ![] bcast_S_S4x2048x2048 (constant S_ .f32 0x3F000000#32)) (extractStridedSlice S4x2048x2048 ![0, 0, 5216] (Host.dotGeneral (F := Ideal) dot_S4x2048x4096_S4096x17504_S4x2048x17504_2_0_01_1_n_n none (extf .f32 h bitsLt_bf16_f32) (shapeCast S4096x17504 w shapeCasts_S1x4096x17504_S4096x17504)) slices_S4x2048x17504_S4x2048x2048_0_0_5216)) (Host.erfc (mulf (Host.negf (extractStridedSlice S4x2048x2048 ![0, 0, 5216] (Host.dotGeneral (F := Ideal) dot_S4x2048x4096_S4096x17504_S4x2048x17504_2_0_01_1_n_n none (extf .f32 h bitsLt_bf16_f32) (shapeCast S4096x17504 w shapeCasts_S1x4096x17504_S4096x17504)) slices_S4x2048x17504_S4x2048x2048_0_0_5216)) (broadcastInDim S4x2048x2048 ![] bcast_S_S4x2048x2048 (constant S_ .f32 0x3F3504F3#32)))))⟩, ⟨S4x2048x2048, (mulf (mulf (broadcastInDim S4x2048x2048 ![] bcast_S_S4x2048x2048 (constant S_ .f32 0x3F000000#32)) (extractStridedSlice S4x2048x2048 ![0, 0, 7264] (Host.dotGeneral (F := Ideal) dot_S4x2048x4096_S4096x17504_S4x2048x17504_2_0_01_1_n_n none (extf .f32 h bitsLt_bf16_f32) (shapeCast S4096x17504 w shapeCasts_S1x4096x17504_S4096x17504)) slices_S4x2048x17504_S4x2048x2048_0_0_7264)) (Host.erfc (mulf (Host.negf (extractStridedSlice S4x2048x2048 ![0, 0, 7264] (Host.dotGeneral (F := Ideal) dot_S4x2048x4096_S4096x17504_S4x2048x17504_2_0_01_1_n_n none (extf .f32 h bitsLt_bf16_f32) (shapeCast S4096x17504 w shapeCasts_S1x4096x17504_S4096x17504)) slices_S4x2048x17504_S4x2048x2048_0_0_7264)) (broadcastInDim S4x2048x2048 ![] bcast_S_S4x2048x2048 (constant S_ .f32 0x3F3504F3#32)))))⟩] concatenates_S4x2048x2048_S4x2048x2048_S4x2048x4096_d2) shapeCasts_S4x2048x4096_S8192x4096) bitsLt_bf16_f32
      = lin h w := by
  funext i
  obtain ⟨r, n, rfl⟩ : ∃ (r : Fin 8192) (n : Fin 4096), i = ix2 r n := ⟨i 0, i 1, eq_ix2 i⟩
  have e : ∀ a b : EReal, Ideal.erfc (-a * b) = 1 + Ideal.erf (a * b) := fun a b => by rw [EReal.neg_mul, Ideal.erfc_neg]
  pointwise [lin, gelu]
  simp only [e]
  split_ifs <;> first
    | with_reducible rfl
    | exact congrArg gelu (Finset.sum_congr rfl fun k _ => congrArg (h _ * ·) (congrArg w (congrArg (ix3 0 k) (Fin.ext (by dsimp only; omega)))))
    | (exfalso; omega)

end

/-- The kernel at the extended reals computes what the reference computes. -/
theorem algebraic : Cert.algebraic_Kernel7Ideal_Reference7Ideal := fun m ρ m' ρ' _ hin =>
  ⟨fun c => res m c,
    (θ_run Cert.Kernel7Ideal.defs _ _).mono (fun _ h c => ⟨(h c).1.trans (arr_eq m c), (h c).2⟩) (Cert.Kernel7Ideal.Value.run_blocks m ρ),
    (θ_run Cert.Reference7Ideal.defs _ _).mono (fun _ h c => ⟨(h c).1.trans ((ref_eq _ _).trans
      (by rw [(hin c).1, (hin c).2])), (h c).2⟩) (Cert.Reference7Ideal.Value.run m' ρ')⟩

/-- The printed program's body table is the idealized one's, the texts being the same. -/
theorem defs_eq : Cert.Kernel7.defs (F := Bits) = Cert.Kernel7Ideal.defs (F := Bits) :=
  congrArg (Pipeline.defs _) (congrArg Defs.onTc (funext fun l => match l with | 0 => funext fun _ => rfl))

/-- The frames. -/
theorem frame_kernel : Cert.quiescent_Kernel7 := fun m ρ _ => by
  rw [defs_eq]; exact Cert.Kernel7Ideal.Gen.frame (F := Bits) m ρ
theorem frame_ideal : Cert.quiescent_Kernel7Ideal := fun m ρ _ => Cert.Kernel7Ideal.Gen.frame (F := Ideal) m ρ
theorem frame_ref : Cert.quiescent_Reference7Ideal := fun m ρ _ =>
  (θ_run Cert.Reference7Ideal.defs _ _).mono (fun r h => ⟨fun c => (h c).2, Idealize.ShloMosaic.sem_eq_zero_of_no_sems (by decide) r.2⟩) (Cert.Reference7Ideal.Value.run (F := Ideal) m ρ)

end Cert.Uv

end
-- ==== Proof.Q.Val.lean ====
/-
  The values of the projection to the queries: each point of the grid multiplies a block of rows with a block of four heads' columns of the
  weight, in two halves of the rows, and normalizes each head.
-/
module

public import proofs.«01_k».proof.Defs
public import proofs.«01_k».proof.Proof.Gen.Kernel8Ideal.Value
public import Idealize.ShloMosaic.Lib.Pipeline.Value
public import Idealize.ShloMosaic.Lib.Pipeline.ValueKit.Geometry
public import Idealize.ShloMosaic.Lib.Pipeline.ValueKit.Tiles
public import Idealize.ShloMosaic.Lib.Pointwise
public import Idealize.ShloMosaic.Lib.ValueLayout
public import Idealize.ShloMosaic.Lib.IdealHost

@[expose] public section

set_option maxRecDepth 16384

noncomputable section

namespace Cert.Q

open Cert.Kernel8Ideal Cert.Kernel8Ideal.Gen Idealize.ShloMosaic Idealize.ShloMosaic.TcCoe Idealize.SL.Sem
open Idealize.ShloMosaic.Pipeline (Dat)
open scoped BigOperators

/-- One head's normalization at a feature: the entry over the root mean square of the head's 128 entries, times the gain
    times a constant. -/
def hnorm (x g : Fin 128 → EReal) (d : Fin 128) : EReal :=
  x d * Ideal.rsqrt (Ideal.div (∑ j, x j * x j) (Ideal.ofBits .f32 0x43000000#32) + Ideal.ofBits .f32 0x358637BD#32) * (g d * Ideal.ofBits .f32 0x3E0293EE#32)

/-- The result at a row and a column: the column's head of the projection, normalized. -/
def nrm (h : FVec Ideal S4x2048x4096 .bf16) (w : FVec Ideal S1x4096x17504 .f32) (g : FVec Ideal S1x128 .f32) : FVec Ideal S8192x2048 .bf16 := fun i =>
  hnorm (fun j => ∑ k : Fin 4096, h (ix3 (⟨(i 0).val / 2048, by have := ValueIdx.idx2_lt0 i; omega⟩ : Fin 4) (⟨(i 0).val % 2048, by omega⟩ : Fin 2048) k)
      * w (ix3 0 k (⟨0 + ((i 1).val / 128 * 128 + j.val), by have := ValueIdx.idx2_lt1 i; omega⟩ : Fin 17504)))
    (fun j => g (ix2 0 j)) ⟨(i 1).val % 128, by omega⟩

variable (m : (ℓ : Loc nD τ sig) → Buf (Elt Ideal) ℓ) (ρ : Dev nD → PrngReg)

theorem V0 (c : Dev nD) : V m c main_v0 = shapeCast _ (m ((c : Thread nD τ).loc main_arg0)) shapeCasts_S4x2048x4096_S8192x4096 := by
  unfold V hostOps0; after_results <;> rfl
theorem V1 (c : Dev nD) : V m c main_v1 = transpose S1x17504x4096 [0, 2, 1] (m ((c : Thread nD τ).loc main_arg1)) transposes_S1x4096x17504_S1x17504x4096_0_2_1 := by
  unfold V hostOps0; after_results <;> rfl
theorem V3 (c : Dev nD) : V m c main_v3 = shapeCast _ (shapeCast S128 (m ((c : Thread nD τ).loc main_arg2)) shapeCasts_S1x128_S128) shapeCasts_S128_S1x128 := by
  unfold V hostOps0; after_results <;> rfl
theorem castH (h : FVec Ideal S4x2048x4096 .bf16) (r : Fin 8192) (k : Fin 4096) :
    shapeCast S8192x4096 h shapeCasts_S4x2048x4096_S8192x4096 (ix2 r k) = h (ix3 ⟨r.val / 2048, by omega⟩ ⟨r.val % 2048, by omega⟩ k) := by pointwise
theorem castW (w : FVec Ideal S1x4096x17504 .f32) (k : Fin 4096) (n : Fin 17504) :
    transpose S1x17504x4096 [0, 2, 1] w transposes_S1x4096x17504_S1x17504x4096_0_2_1 (ix3 0 n k) = w (ix3 0 k n) := by pointwise
theorem castG (g : FVec Ideal S1x128 .f32) (j : Fin 128) :
    shapeCast S1x128 (shapeCast S128 g shapeCasts_S1x128_S128) shapeCasts_S128_S1x128 (ix2 0 j) = g (ix2 0 j) := by pointwise

theorem t_lt (t : Fin cfg0.N) : t.val < 32 := lt_of_lt_of_eq t.isLt N_0

/-- The blocks' places, decided over the grid. -/
theorem idx_facts : ∀ t : Fin cfg0.N,
    win0_0.index t 0 = t.val / 4
    ∧ win0_0.index t 1 = 0
    ∧ win0_1.index t 0 = 0
    ∧ win0_1.index t 1 = 0 + t.val % 4 * 512
    ∧ win0_1.index t 2 = 0
    ∧ win0_2.index t 0 = 0
    ∧ win0_2.index t 1 = 0
    ∧ win0_3.index t 0 = t.val / 4
    ∧ win0_3.index t 1 = t.val % 4 :=
  (by decide +kernel : ∀ t : Fin grid0.N, _)

theorem blk0 (c : Dev nD) (t : Fin cfg0.N) (i0 : Fin 1024) (i1 : Fin 4096) :
    (iblk m c 0 t : S1024x4096.Idx → EReal) (ix2 i0 i1) = V m c main_v0 (ix2 ⟨t.val / 4 * 1024 + i0.val, by have := t_lt t; omega⟩ i1) := by
  obtain ⟨h0, h1, -, -, -, -, -, -, -⟩ := idx_facts t
  refine congrArg (V m c main_v0) (funext fun a => Fin.ext ?_)
  match a with
  | ⟨0, _⟩ => show win0_0.index t 0 * 1024 + 1 * i0.val = _; rw [h0]; first | rfl | (simp; done) | (simp only [ix2, ix3, ix4]; have := t_lt t; simp; omega)
  | ⟨1, _⟩ => show win0_0.index t 1 * 4096 + 1 * i1.val = _; rw [h1]; first | rfl | (simp; done) | (simp only [ix2, ix3, ix4]; have := t_lt t; simp; omega)

theorem blk1 (c : Dev nD) (t : Fin cfg0.N) (i0 : Fin 1) (i1 : Fin 512) (i2 : Fin 4096) :
    (iblk m c 1 t : S1x512x4096.Idx → EReal) (ix3 i0 i1 i2) = V m c main_v1 (ix3 0 ⟨0 + t.val % 4 * 512 + i1.val, by have := t_lt t; omega⟩ i2) := by
  obtain ⟨-, -, h0, h1, h2, -, -, -, -⟩ := idx_facts t
  refine congrArg (V m c main_v1) (funext fun a => Fin.ext ?_)
  match a with
  | ⟨0, _⟩ => show win0_1.index t 0 + 1 * i0.val = _; rw [h0]; first | rfl | (simp; done) | (simp only [ix2, ix3, ix4]; have := t_lt t; simp; omega)
  | ⟨1, _⟩ => show win0_1.index t 1 + 1 * i1.val = _; rw [h1]; first | rfl | (simp; done) | (simp only [ix2, ix3, ix4]; have := t_lt t; simp; omega)
  | ⟨2, _⟩ => show win0_1.index t 2 + 1 * i2.val = _; rw [h2]; first | rfl | (simp; done) | (simp only [ix2, ix3, ix4]; have := t_lt t; simp; omega)

theorem blk2 (c : Dev nD) (t : Fin cfg0.N) (i0 : Fin 1) (i1 : Fin 128) :
    (iblk m c 2 t : S1x128.Idx → EReal) (ix2 i0 i1) = V m c main_v3 (ix2 0 i1) := by
  obtain ⟨-, -, -, -, -, h0, h1, -, -⟩ := idx_facts t
  refine congrArg (V m c main_v3) (funext fun a => Fin.ext ?_)
  match a with
  | ⟨0, _⟩ => show win0_2.index t 0 * 1 + 1 * i0.val = _; rw [h0]; first | rfl | (simp; done) | (simp only [ix2, ix3, ix4]; have := t_lt t; simp; omega)
  | ⟨1, _⟩ => show win0_2.index t 1 * 128 + 1 * i1.val = _; rw [h1]; first | rfl | (simp; done) | (simp only [ix2, ix3, ix4]; have := t_lt t; simp; omega)

/-- The kernel's result array, from the arguments. -/
abbrev res (c : Dev nD) : FVec Ideal S8192x2048 .bf16 :=
  nrm (m ((c : Thread nD τ).loc main_arg0)) (m ((c : Thread nD τ).loc main_arg1)) (m ((c : Thread nD τ).loc main_arg2))

/-- The block's element from the input blocks. -/
def out (x0 : Vec Ideal S1024x4096 .bf16) (x1 : Vec Ideal S1x512x4096 .f32) (x2 : Vec Ideal S1x128 .f32) : Vec Ideal S1024x512 .bf16 := fun y =>
  hnorm (fun j => ∑ k : Fin 4096, x0 (ix2 (⟨(y 0).val, ValueIdx.idx2_lt0 y⟩ : Fin 1024) k) * x1 (ix3 0 (⟨(y 1).val / 128 * 128 + j.val, by have := ValueIdx.idx2_lt1 y; omega⟩ : Fin 512) k))
    (fun j => x2 (ix2 0 j)) ⟨(y 1).val % 128, by omega⟩

/-- One head of the body: its columns of the product, normalized. -/
def chunk (b : FVec Ideal S512x128 .f32) (g : FVec Ideal S1x128 .f32) : FVec Ideal S512x128 .f32 :=
  mulf (mulf b (broadcastTo S512x128 (rsqrt (addf (divf (shapeCast S512x1 (multiReduction .add [1] S512 (mulf b b) 0x00000000#32 reduces_S512x128_S512 (.inl rfl) rfl) shapeCasts_S512_S512x1) (broadcast S512x1 (Scalar.ofBits .f32 0x43000000#32))) (broadcast S512x1 (Scalar.ofBits .f32 0x358637BD#32)))) broadcasts_S512x1_S512x128))
    (broadcastTo S512x128 (mulf g (broadcast S1x128 (Scalar.ofBits .f32 0x3E0293EE#32))) broadcasts_S1x128_S512x128)

theorem chunk_apply (b : FVec Ideal S512x128 .f32) (g : FVec Ideal S1x128 .f32) (r : Fin 512) (d : Fin 128) :
    chunk b g (ix2 r d) = hnorm (fun j => b (ix2 r j)) (fun j => g (ix2 0 j)) d := by
  pointwise [chunk, hnorm]

/-- The four heads side by side. -/
def heads (a : FVec Ideal S512x512 .f32) (g : FVec Ideal S1x128 .f32) : FVec Ideal S512x512 .bf16 :=
  truncf .bf16 (concatenate S512x512 1 [⟨S512x128, chunk (extractStridedSlice S512x128 ![0, 0] a slices_S512x512_o0_0_S512x128) g⟩, ⟨S512x128, chunk (extractStridedSlice S512x128 ![0, 128] a slices_S512x512_o0_128_S512x128) g⟩, ⟨S512x128, chunk (extractStridedSlice S512x128 ![0, 256] a slices_S512x512_o0_256_S512x128) g⟩, ⟨S512x128, chunk (extractStridedSlice S512x128 ![0, 384] a slices_S512x512_o0_384_S512x128) g⟩] concatenates_S512x128_S512x128_S512x128_S512x128_S512x512_d1) bitsLt_bf16_f32

theorem heads_apply (a : FVec Ideal S512x512 .f32) (g : FVec Ideal S1x128 .f32) (r n : Fin 512) :
    heads a g (ix2 r n) = hnorm (fun j => a (ix2 r ⟨n.val / 128 * 128 + j.val, by omega⟩)) (fun j => g (ix2 0 j)) ⟨n.val % 128, by omega⟩ := by
  have hs : ∀ (o : ℕ) (hq : n.val / 128 * 128 = o) (b : FVec Ideal S512x128 .f32) (d : Fin 128), d.val + o = n.val →
      (∀ j : Fin 128, ∀ h, b (ix2 r j) = a (ix2 r ⟨o + j.val, h⟩)) →
      chunk b g (ix2 r d) = hnorm (fun j => a (ix2 r ⟨n.val / 128 * 128 + j.val, by omega⟩)) (fun j => g (ix2 0 j)) ⟨n.val % 128, by omega⟩ := by
    intro o hq b d hd hb
    rw [chunk_apply]
    have e1 : (⟨n.val % 128, by omega⟩ : Fin 128) = d := Fin.ext (by dsimp only; omega)
    rw [e1]
    refine congrArg (fun x => hnorm x (fun j => g (ix2 0 j)) d) (funext fun j => (hb j (by omega)).trans (congrArg (fun y => a (ix2 r y)) (Fin.ext ?_)))
    dsimp only; omega
  pointwise [heads]
  split_ifs <;> first
    | (rename_i h; exact absurd rfl h)
    | exact hs 0 (by omega) _ _ (by dsimp only; omega) fun j _ => by pointwise
    | exact hs 128 (by omega) _ _ (by dsimp only; omega) fun j _ => by pointwise
    | exact hs 256 (by omega) _ _ (by dsimp only; omega) fun j _ => by pointwise
    | exact hs 384 (by omega) _ _ (by dsimp only; omega) fun j _ => by pointwise

/-- The product of a block of rows with a block of the weight. -/
theorem acc_apply (x1 : Vec Ideal S1x512x4096 .f32) (a : Vec Ideal S512x4096 .bf16) (r n : Fin 512) :
    k0_pay3 x1 a (ix2 r n) = ∑ k : Fin 4096, a (ix2 r k) * x1 (ix3 0 n k) := by
  pointwise [k0_pay3, k0_pay2]

theorem ldw {e : EltTy} (X : S1x512x4096.Idx → Elt Ideal e) : View.ld X r0_0 = X :=
  View.ld_unit_zero (funext fun a => by fin_cases a <;> rfl) _ _
theorem ldg {e : EltTy} (X : S1x128.Idx → Elt Ideal e) : View.ld X r0_2 = X :=
  View.ld_unit_zero (funext fun a => by fin_cases a <;> rfl) _ _
theorem castg (g : Vec Ideal S1x128 .f32) : shapeCast S1x128 g shapeCasts_S1x128_S1x128 = g := by
  funext i
  obtain ⟨a, j, rfl⟩ : ∃ (a : Fin 1) (j : Fin 128), i = ix2 a j := ⟨i 0, i 1, eq_ix2 i⟩
  pointwise

/-- The two stores are the two halves of the block. -/
theorem out_eq (x0 : Vec Ideal S1024x4096 .bf16) (x1 : Vec Ideal S1x512x4096 .f32) (x2 : Vec Ideal S1x128 .f32) (y : S1024x512.Idx) :
    out0_3 x0 x1 x2 y = out x0 x1 x2 y := by
  unfold out0_3
  refine View.canon_apply_of_pieces (out x0 x1 x2) _ ?_ y (cover0_3 _ _ y)
  intro p hp x
  simp only [List.mem_cons, List.not_mem_nil, or_false] at hp
  rcases hp with rfl | rfl
  · obtain ⟨r, n, rfl⟩ : ∃ (r : Fin 512) (n : Fin 512), x = ix2 r n := ⟨x 0, x 1, eq_ix2 x⟩
    have he : r0_5.emb (ix2 r n) = (ix2 (⟨512 + r.val, by omega⟩ : Fin 1024) n : S1024x512.Idx) := funext fun a => Fin.ext (by
      match a with | ⟨0, _⟩ => (show 512 + 1 * r.val = 512 + r.val; omega) | ⟨1, _⟩ => (show 0 + 1 * n.val = n.val; omega))
    show heads (k0_pay3 (View.ld x1 r0_0) (View.ld x0 r0_4)) (shapeCast S1x128 (View.ld x2 r0_2) shapeCasts_S1x128_S1x128) (ix2 r n) = _
    rw [he, ldw, ldg, castg, heads_apply]
    simp only [acc_apply]
    refine congrArg (fun x => hnorm x _ _) (funext fun j => Finset.sum_congr rfl fun k _ => congrArg (· * _) ?_)
    show x0 (r0_4.emb (ix2 r k)) = _
    refine congrArg x0 (funext fun a => Fin.ext ?_)
    match a with
    | ⟨0, _⟩ => show 512 + 1 * r.val = 512 + r.val; omega
    | ⟨1, _⟩ => show 0 + 1 * k.val = k.val; omega
  · obtain ⟨r, n, rfl⟩ : ∃ (r : Fin 512) (n : Fin 512), x = ix2 r n := ⟨x 0, x 1, eq_ix2 x⟩
    have he : r0_3.emb (ix2 r n) = (ix2 (⟨r.val, by omega⟩ : Fin 1024) n : S1024x512.Idx) := funext fun a => Fin.ext (by
      match a with | ⟨0, _⟩ => (show 0 + 1 * r.val = r.val; omega) | ⟨1, _⟩ => (show 0 + 1 * n.val = n.val; omega))
    show heads (k0_pay3 (View.ld x1 r0_0) (View.ld x0 r0_1)) (shapeCast S1x128 (View.ld x2 r0_2) shapeCasts_S1x128_S1x128) (ix2 r n) = _
    rw [he, ldw, ldg, castg, heads_apply]
    simp only [acc_apply]
    refine congrArg (fun x => hnorm x _ _) (funext fun j => Finset.sum_congr rfl fun k _ => congrArg (· * _) ?_)
    show x0 (r0_1.emb (ix2 r k)) = _
    refine congrArg x0 (funext fun a => Fin.ext ?_)
    match a with
    | ⟨0, _⟩ => show 0 + 1 * r.val = r.val; omega
    | ⟨1, _⟩ => show 0 + 1 * k.val = k.val; omega

/-- What a point writes back is its block of the result. -/
theorem flushed_eq (c : Dev nD) (t : Fin cfg0.N) :
    (dats m 0 c).flushed 3 t = ((cfg0.win 3).blk t).view.read (Elt Ideal) (res m c) := by
  rw [Value.flushed3]
  obtain ⟨-, -, -, -, -, -, -, h0, h1⟩ := idx_facts t
  have ht := t_lt t
  funext j
  obtain ⟨r, n, rfl⟩ : ∃ (r : Fin 1024) (n : Fin 512), j = ix2 r n := ⟨j 0, j 1, eq_ix2 j⟩
  have hr : ((cfg0.win 3).blk t).view.read (Elt Ideal) (res m c) (ix2 r n) = res m c (ix2 ⟨t.val / 4 * 1024 + r.val, by omega⟩ ⟨t.val % 4 * 512 + n.val, by omega⟩) := by
    refine congrArg (res m c) (funext fun a => Fin.ext ?_)
    match a with
    | ⟨0, _⟩ => show win0_3.index t 0 * 1024 + 1 * r.val = _; rw [h0]; simp
    | ⟨1, _⟩ => show win0_3.index t 1 * 512 + 1 * n.val = _; rw [h1]; simp
  rw [hr]
  show out0_3 (iblk m c 0 t) (iblk m c 1 t) (iblk m c 2 t) (ix2 r n) = _
  rw [out_eq]
  unfold out
  have eg : (fun j : Fin 128 => (iblk m c 2 t : S1x128.Idx → EReal) (ix2 0 j)) = fun j => (m ((c : Thread nD τ).loc main_arg2) : S1x128.Idx → EReal) (ix2 0 j) :=
    funext fun j => (blk2 m c t _ _).trans (by rw [V3]; exact castG ..)
  show hnorm _ _ _ = hnorm _ _ _
  refine congr (congr_arg₂ hnorm (funext fun j => Finset.sum_congr rfl fun k _ => congr_arg₂ (· * ·) ((blk0 m c t _ _).trans ?_) ((blk1 m c t _ _ _).trans ?_)) eg)
    (Fin.ext (by show n.val % 128 = (t.val % 4 * 512 + n.val) % 128; omega))
  · rw [V0]; exact castH ..
  · rw [V1]
    refine (castW ..).trans (congrArg (m ((c : Thread nD τ).loc main_arg1)) ?_)
    funext a
    match a with
    | ⟨0, _⟩ => rfl
    | ⟨1, _⟩ => rfl
    | ⟨2, _⟩ => exact Fin.ext (by simp [ix3]; try omega)

/-- The array after the run. -/
theorem arr_eq (c : Dev nD) : (dats m 0 c).arrAt 3 cfg0.N = res m c := by
  have hc : (cfg0.win 3).Covers := by decide +kernel
  exact (dats m 0 c).arrAt_eq_of_cover 3 (res m c) (fun t _ => flushed_eq m c t) (Pipeline.Window.Covers.cover (cfg0.win 3) hc (Memref.isWhole_whole main_v4))

end Cert.Q

end
-- ==== Proof.Q.Ref.lean ====
/-
  What the reference of the normalized projection computes, element by element, and the two runs side by side.
-/
module

public import proofs.«01_k».proof.Proof.Q.Val
public import proofs.«01_k».proof.Proof.Gen.Kernel8
public import proofs.«01_k».proof.Proof.Gen.Reference8Ideal.Run
public import Idealize.ShloMosaic.Lib.Quiescent

@[expose] public section

set_option maxRecDepth 16384

noncomputable section

namespace Cert.Q

open Idealize.ShloMosaic Idealize.ShloMosaic.TcCoe Idealize.SL.Sem
open scoped BigOperators

section
open Cert.Reference8Ideal Cert.Reference8Ideal.Gen

/-- The projection by heads. -/
def rproj (h : FVec Ideal S4x2048x4096 .bf16) (w : FVec Ideal S1x4096x17504 .f32) : FVec Ideal S4x2048x16x128 .f32 :=
  shapeCast S4x2048x16x128 (extractStridedSlice S4x2048x2048 ![0, 0, 0] (Host.dotGeneral (F := Ideal) dot_S4x2048x4096_S4096x17504_S4x2048x17504_2_0_01_1_n_n none (extf .f32 h bitsLt_bf16_f32) (shapeCast S4096x17504 w shapeCasts_S1x4096x17504_S4096x17504)) slices_S4x2048x17504_S4x2048x2048_0_0_0) shapeCasts_S4x2048x2048_S4x2048x16x128

theorem rproj_apply (h : FVec Ideal S4x2048x4096 .bf16) (w : FVec Ideal S1x4096x17504 .f32) (b : Fin 4) (s : Fin 2048) (q : Fin 16) (j : Fin 128) :
    rproj h w (ix4 b s q j) = ∑ k : Fin 4096, h (ix3 b s k) * w (ix3 0 k ⟨0 + (q.val * 128 + j.val), by omega⟩) := by
  pointwise [rproj]

/-- The reference's normalization of an array by heads. -/
def rnrm (X : FVec Ideal S4x2048x16x128 .f32) (g : FVec Ideal S1x128 .f32) : FVec Ideal S8192x2048 .bf16 :=
  truncf .bf16 (shapeCast S8192x2048 (mulf (mulf (mulf X (broadcastInDim S4x2048x16x128 ![0, 1, 2, 3] bcast_S4x2048x16x1_S4x2048x16x128_0_1_2_3 (Host.rsqrt (addf (Host.divf (broadcastInDim S4x2048x16x1 ![0, 1, 2] bcast_S4x2048x16_S4x2048x16x1_0_1_2 (Host.reduceAdd (mulf X X) (constant S_ .f32 0x00000000#32) reducesTo_S4x2048x16x128_S4x2048x16_d3 h_S_)) (broadcastInDim S4x2048x16x1 ![] bcast_S_S4x2048x16x1 (constant S_ .f32 0x43000000#32))) (broadcastInDim S4x2048x16x1 ![] bcast_S_S4x2048x16x1 (constant S_ .f32 0x358637BD#32)))))) (broadcastInDim S4x2048x16x128 ![0, 1, 2, 3] bcast_S1x1x1x128_S4x2048x16x128_0_1_2_3 (broadcastInDim S1x1x1x128 ![3] bcast_S128_S1x1x1x128_3 (shapeCast S128 g shapeCasts_S1x128_S128)))) (broadcastInDim S4x2048x16x128 ![] bcast_S_S4x2048x16x128 (constant S_ .f32 0x3E0293EE#32))) shapeCasts_S4x2048x16x128_S8192x2048) bitsLt_bf16_f32

theorem rnrm_apply (X : FVec Ideal S4x2048x16x128 .f32) (g : FVec Ideal S1x128 .f32) (r : Fin 8192) (n : Fin 2048) :
    rnrm X g (ix2 r n) = hnorm (fun j => X (ix4 ⟨r.val / 2048, by omega⟩ ⟨r.val % 2048, by omega⟩ ⟨n.val / 128, by omega⟩ j)) (fun j => g (ix2 0 j)) ⟨n.val % 128, by omega⟩ := by
  pointwise [rnrm, hnorm] <;> exact mul_assoc ..

/-- The reference's result, element by element. -/
theorem ref_eq (h : FVec Ideal S4x2048x4096 .bf16) (w : FVec Ideal S1x4096x17504 .f32) (g : FVec Ideal S1x128 .f32) :
    rnrm (rproj h w) g = nrm h w g := by
  funext i
  obtain ⟨r, n, rfl⟩ : ∃ (r : Fin 8192) (n : Fin 2048), i = ix2 r n := ⟨i 0, i 1, eq_ix2 i⟩
  rw [rnrm_apply]
  simp only [rproj_apply]
  rfl

end

/-- The kernel at the extended reals computes what the reference computes. -/
theorem algebraic : Cert.algebraic_Kernel8Ideal_Reference8Ideal := fun m ρ m' ρ' _ hin =>
  ⟨fun c => res m c,
    (θ_run Cert.Kernel8Ideal.defs _ _).mono (fun _ h c => ⟨(h c).1.trans (arr_eq m c), (h c).2⟩) (Cert.Kernel8Ideal.Value.run_blocks m ρ),
    (θ_run Cert.Reference8Ideal.defs _ _).mono (fun _ h c => ⟨(h c).1.trans ((ref_eq _ _ _).trans
      (by rw [(hin c).1, (hin c).2.1, (hin c).2.2])), (h c).2⟩) (Cert.Reference8Ideal.Value.run m' ρ')⟩

/-- The printed program's body table is the idealized one's, the texts being the same. -/
theorem defs_eq : Cert.Kernel8.defs (F := Bits) = Cert.Kernel8Ideal.defs (F := Bits) :=
  congrArg (Pipeline.defs _) (congrArg Defs.onTc (funext fun l => match l with | 0 => funext fun _ => rfl))

/-- The frames. -/
theorem frame_kernel : Cert.quiescent_Kernel8 := fun m ρ _ => by
  rw [defs_eq]; exact Cert.Kernel8Ideal.Gen.frame (F := Bits) m ρ
theorem frame_ideal : Cert.quiescent_Kernel8Ideal := fun m ρ _ => Cert.Kernel8Ideal.Gen.frame (F := Ideal) m ρ
theorem frame_ref : Cert.quiescent_Reference8Ideal := fun m ρ _ =>
  (θ_run Cert.Reference8Ideal.defs _ _).mono (fun r h => ⟨fun c => (h c).2, Idealize.ShloMosaic.sem_eq_zero_of_no_sems (by decide) r.2⟩) (Cert.Reference8Ideal.Value.run (F := Ideal) m ρ)

end Cert.Q

end
-- ==== Proof.K.Val.lean ====
/-
  The values of the projection to the keys: each point of the grid multiplies a block of rows with a block of four heads' columns of the
  weight, in two halves of the rows, and normalizes each head.
-/
module

public import proofs.«01_k».proof.Defs
public import proofs.«01_k».proof.Proof.Gen.Kernel9Ideal.Value
public import Idealize.ShloMosaic.Lib.Pipeline.Value
public import Idealize.ShloMosaic.Lib.Pipeline.ValueKit.Geometry
public import Idealize.ShloMosaic.Lib.Pipeline.ValueKit.Tiles
public import Idealize.ShloMosaic.Lib.Pointwise
public import Idealize.ShloMosaic.Lib.ValueLayout
public import Idealize.ShloMosaic.Lib.IdealHost

@[expose] public section

set_option maxRecDepth 16384

noncomputable section

namespace Cert.K

open Cert.Kernel9Ideal Cert.Kernel9Ideal.Gen Idealize.ShloMosaic Idealize.ShloMosaic.TcCoe Idealize.SL.Sem
open Idealize.ShloMosaic.Pipeline (Dat)
open scoped BigOperators

/-- One head's normalization at a feature: the entry over the root mean square of the head's 128 entries, times the gain
    times a constant. -/
def hnorm (x g : Fin 128 → EReal) (d : Fin 128) : EReal :=
  x d * Ideal.rsqrt (Ideal.div (∑ j, x j * x j) (Ideal.ofBits .f32 0x43000000#32) + Ideal.ofBits .f32 0x358637BD#32) * (g d * Ideal.ofBits .f32 0x3F800000#32)

/-- The result at a row and a column: the column's head of the projection, normalized. -/
def nrm (h : FVec Ideal S4x2048x4096 .bf16) (w : FVec Ideal S1x4096x17504 .f32) (g : FVec Ideal S1x128 .f32) : FVec Ideal S8192x512 .bf16 := fun i =>
  hnorm (fun j => ∑ k : Fin 4096, h (ix3 (⟨(i 0).val / 2048, by have := ValueIdx.idx2_lt0 i; omega⟩ : Fin 4) (⟨(i 0).val % 2048, by omega⟩ : Fin 2048) k)
      * w (ix3 0 k (⟨2048 + ((i 1).val / 128 * 128 + j.val), by have := ValueIdx.idx2_lt1 i; omega⟩ : Fin 17504)))
    (fun j => g (ix2 0 j)) ⟨(i 1).val % 128, by omega⟩

variable (m : (ℓ : Loc nD τ sig) → Buf (Elt Ideal) ℓ) (ρ : Dev nD → PrngReg)

theorem V0 (c : Dev nD) : V m c main_v0 = shapeCast _ (m ((c : Thread nD τ).loc main_arg0)) shapeCasts_S4x2048x4096_S8192x4096 := by
  unfold V hostOps0; after_results <;> rfl
theorem V1 (c : Dev nD) : V m c main_v1 = transpose S1x17504x4096 [0, 2, 1] (m ((c : Thread nD τ).loc main_arg1)) transposes_S1x4096x17504_S1x17504x4096_0_2_1 := by
  unfold V hostOps0; after_results <;> rfl
theorem V3 (c : Dev nD) : V m c main_v3 = shapeCast _ (shapeCast S128 (m ((c : Thread nD τ).loc main_arg2)) shapeCasts_S1x128_S128) shapeCasts_S128_S1x128 := by
  unfold V hostOps0; after_results <;> rfl
theorem castH (h : FVec Ideal S4x2048x4096 .bf16) (r : Fin 8192) (k : Fin 4096) :
    shapeCast S8192x4096 h shapeCasts_S4x2048x4096_S8192x4096 (ix2 r k) = h (ix3 ⟨r.val / 2048, by omega⟩ ⟨r.val % 2048, by omega⟩ k) := by pointwise
theorem castW (w : FVec Ideal S1x4096x17504 .f32) (k : Fin 4096) (n : Fin 17504) :
    transpose S1x17504x4096 [0, 2, 1] w transposes_S1x4096x17504_S1x17504x4096_0_2_1 (ix3 0 n k) = w (ix3 0 k n) := by pointwise
theorem castG (g : FVec Ideal S1x128 .f32) (j : Fin 128) :
    shapeCast S1x128 (shapeCast S128 g shapeCasts_S1x128_S128) shapeCasts_S128_S1x128 (ix2 0 j) = g (ix2 0 j) := by pointwise

theorem t_lt (t : Fin cfg0.N) : t.val < 8 := lt_of_lt_of_eq t.isLt N_0

/-- The blocks' places, decided over the grid. -/
theorem idx_facts : ∀ t : Fin cfg0.N,
    win0_0.index t 0 = t.val
    ∧ win0_0.index t 1 = 0
    ∧ win0_1.index t 0 = 0
    ∧ win0_1.index t 1 = 2048
    ∧ win0_1.index t 2 = 0
    ∧ win0_2.index t 0 = 0
    ∧ win0_2.index t 1 = 0
    ∧ win0_3.index t 0 = t.val
    ∧ win0_3.index t 1 = 0 :=
  (by decide +kernel : ∀ t : Fin grid0.N, _)

theorem blk0 (c : Dev nD) (t : Fin cfg0.N) (i0 : Fin 1024) (i1 : Fin 4096) :
    (iblk m c 0 t : S1024x4096.Idx → EReal) (ix2 i0 i1) = V m c main_v0 (ix2 ⟨t.val * 1024 + i0.val, by have := t_lt t; omega⟩ i1) := by
  obtain ⟨h0, h1, -, -, -, -, -, -, -⟩ := idx_facts t
  refine congrArg (V m c main_v0) (funext fun a => Fin.ext ?_)
  match a with
  | ⟨0, _⟩ => show win0_0.index t 0 * 1024 + 1 * i0.val = _; rw [h0]; first | rfl | (simp; done) | (simp only [ix2, ix3, ix4]; have := t_lt t; simp; omega)
  | ⟨1, _⟩ => show win0_0.index t 1 * 4096 + 1 * i1.val = _; rw [h1]; first | rfl | (simp; done) | (simp only [ix2, ix3, ix4]; have := t_lt t; simp; omega)

theorem blk1 (c : Dev nD) (t : Fin cfg0.N) (i0 : Fin 1) (i1 : Fin 512) (i2 : Fin 4096) :
    (iblk m c 1 t : S1x512x4096.Idx → EReal) (ix3 i0 i1 i2) = V m c main_v1 (ix3 0 ⟨2048 + i1.val, by have := t_lt t; omega⟩ i2) := by
  obtain ⟨-, -, h0, h1, h2, -, -, -, -⟩ := idx_facts t
  refine congrArg (V m c main_v1) (funext fun a => Fin.ext ?_)
  match a with
  | ⟨0, _⟩ => show win0_1.index t 0 + 1 * i0.val = _; rw [h0]; first | rfl | (simp; done) | (simp only [ix2, ix3, ix4]; have := t_lt t; simp; omega)
  | ⟨1, _⟩ => show win0_1.index t 1 + 1 * i1.val = _; rw [h1]; first | rfl | (simp; done) | (simp only [ix2, ix3, ix4]; have := t_lt t; simp; omega)
  | ⟨2, _⟩ => show win0_1.index t 2 + 1 * i2.val = _; rw [h2]; first | rfl | (simp; done) | (simp only [ix2, ix3, ix4]; have := t_lt t; simp; omega)

theorem blk2 (c : Dev nD) (t : Fin cfg0.N) (i0 : Fin 1) (i1 : Fin 128) :
    (iblk m c 2 t : S1x128.Idx → EReal) (ix2 i0 i1) = V m c main_v3 (ix2 0 i1) := by
  obtain ⟨-, -, -, -, -, h0, h1, -, -⟩ := idx_facts t
  refine congrArg (V m c main_v3) (funext fun a => Fin.ext ?_)
  match a with
  | ⟨0, _⟩ => show win0_2.index t 0 * 1 + 1 * i0.val = _; rw [h0]; first | rfl | (simp; done) | (simp only [ix2, ix3, ix4]; have := t_lt t; simp; omega)
  | ⟨1, _⟩ => show win0_2.index t 1 * 128 + 1 * i1.val = _; rw [h1]; first | rfl | (simp; done) | (simp only [ix2, ix3, ix4]; have := t_lt t; simp; omega)

/-- The kernel's result array, from the arguments. -/
abbrev res (c : Dev nD) : FVec Ideal S8192x512 .bf16 :=
  nrm (m ((c : Thread nD τ).loc main_arg0)) (m ((c : Thread nD τ).loc main_arg1)) (m ((c : Thread nD τ).loc main_arg2))

/-- The block's element from the input blocks. -/
def out (x0 : Vec Ideal S1024x4096 .bf16) (x1 : Vec Ideal S1x512x4096 .f32) (x2 : Vec Ideal S1x128 .f32) : Vec Ideal S1024x512 .bf16 := fun y =>
  hnorm (fun j => ∑ k : Fin 4096, x0 (ix2 (⟨(y 0).val, ValueIdx.idx2_lt0 y⟩ : Fin 1024) k) * x1 (ix3 0 (⟨(y 1).val / 128 * 128 + j.val, by have := ValueIdx.idx2_lt1 y; omega⟩ : Fin 512) k))
    (fun j => x2 (ix2 0 j)) ⟨(y 1).val % 128, by omega⟩

/-- One head of the body: its columns of the product, normalized. -/
def chunk (b : FVec Ideal S512x128 .f32) (g : FVec Ideal S1x128 .f32) : FVec Ideal S512x128 .f32 :=
  mulf (mulf b (broadcastTo S512x128 (rsqrt (addf (divf (shapeCast S512x1 (multiReduction .add [1] S512 (mulf b b) 0x00000000#32 reduces_S512x128_S512 (.inl rfl) rfl) shapeCasts_S512_S512x1) (broadcast S512x1 (Scalar.ofBits .f32 0x43000000#32))) (broadcast S512x1 (Scalar.ofBits .f32 0x358637BD#32)))) broadcasts_S512x1_S512x128))
    (broadcastTo S512x128 (mulf g (broadcast S1x128 (Scalar.ofBits .f32 0x3F800000#32))) broadcasts_S1x128_S512x128)

theorem chunk_apply (b : FVec Ideal S512x128 .f32) (g : FVec Ideal S1x128 .f32) (r : Fin 512) (d : Fin 128) :
    chunk b g (ix2 r d) = hnorm (fun j => b (ix2 r j)) (fun j => g (ix2 0 j)) d := by
  pointwise [chunk, hnorm]

/-- The four heads side by side. -/
def heads (a : FVec Ideal S512x512 .f32) (g : FVec Ideal S1x128 .f32) : FVec Ideal S512x512 .bf16 :=
  truncf .bf16 (concatenate S512x512 1 [⟨S512x128, chunk (extractStridedSlice S512x128 ![0, 0] a slices_S512x512_o0_0_S512x128) g⟩, ⟨S512x128, chunk (extractStridedSlice S512x128 ![0, 128] a slices_S512x512_o0_128_S512x128) g⟩, ⟨S512x128, chunk (extractStridedSlice S512x128 ![0, 256] a slices_S512x512_o0_256_S512x128) g⟩, ⟨S512x128, chunk (extractStridedSlice S512x128 ![0, 384] a slices_S512x512_o0_384_S512x128) g⟩] concatenates_S512x128_S512x128_S512x128_S512x128_S512x512_d1) bitsLt_bf16_f32

theorem heads_apply (a : FVec Ideal S512x512 .f32) (g : FVec Ideal S1x128 .f32) (r n : Fin 512) :
    heads a g (ix2 r n) = hnorm (fun j => a (ix2 r ⟨n.val / 128 * 128 + j.val, by omega⟩)) (fun j => g (ix2 0 j)) ⟨n.val % 128, by omega⟩ := by
  have hs : ∀ (o : ℕ) (hq : n.val / 128 * 128 = o) (b : FVec Ideal S512x128 .f32) (d : Fin 128), d.val + o = n.val →
      (∀ j : Fin 128, ∀ h, b (ix2 r j) = a (ix2 r ⟨o + j.val, h⟩)) →
      chunk b g (ix2 r d) = hnorm (fun j => a (ix2 r ⟨n.val / 128 * 128 + j.val, by omega⟩)) (fun j => g (ix2 0 j)) ⟨n.val % 128, by omega⟩ := by
    intro o hq b d hd hb
    rw [chunk_apply]
    have e1 : (⟨n.val % 128, by omega⟩ : Fin 128) = d := Fin.ext (by dsimp only; omega)
    rw [e1]
    refine congrArg (fun x => hnorm x (fun j => g (ix2 0 j)) d) (funext fun j => (hb j (by omega)).trans (congrArg (fun y => a (ix2 r y)) (Fin.ext ?_)))
    dsimp only; omega
  pointwise [heads]
  split_ifs <;> first
    | (rename_i h; exact absurd rfl h)
    | exact hs 0 (by omega) _ _ (by dsimp only; omega) fun j _ => by pointwise
    | exact hs 128 (by omega) _ _ (by dsimp only; omega) fun j _ => by pointwise
    | exact hs 256 (by omega) _ _ (by dsimp only; omega) fun j _ => by pointwise
    | exact hs 384 (by omega) _ _ (by dsimp only; omega) fun j _ => by pointwise

/-- The product of a block of rows with a block of the weight. -/
theorem acc_apply (x1 : Vec Ideal S1x512x4096 .f32) (a : Vec Ideal S512x4096 .bf16) (r n : Fin 512) :
    k0_pay3 x1 a (ix2 r n) = ∑ k : Fin 4096, a (ix2 r k) * x1 (ix3 0 n k) := by
  pointwise [k0_pay3, k0_pay2]

theorem ldw {e : EltTy} (X : S1x512x4096.Idx → Elt Ideal e) : View.ld X r0_0 = X :=
  View.ld_unit_zero (funext fun a => by fin_cases a <;> rfl) _ _
theorem ldg {e : EltTy} (X : S1x128.Idx → Elt Ideal e) : View.ld X r0_2 = X :=
  View.ld_unit_zero (funext fun a => by fin_cases a <;> rfl) _ _
theorem castg (g : Vec Ideal S1x128 .f32) : shapeCast S1x128 g shapeCasts_S1x128_S1x128 = g := by
  funext i
  obtain ⟨a, j, rfl⟩ : ∃ (a : Fin 1) (j : Fin 128), i = ix2 a j := ⟨i 0, i 1, eq_ix2 i⟩
  pointwise

/-- The two stores are the two halves of the block. -/
theorem out_eq (x0 : Vec Ideal S1024x4096 .bf16) (x1 : Vec Ideal S1x512x4096 .f32) (x2 : Vec Ideal S1x128 .f32) (y : S1024x512.Idx) :
    out0_3 x0 x1 x2 y = out x0 x1 x2 y := by
  unfold out0_3
  refine View.canon_apply_of_pieces (out x0 x1 x2) _ ?_ y (cover0_3 _ _ y)
  intro p hp x
  simp only [List.mem_cons, List.not_mem_nil, or_false] at hp
  rcases hp with rfl | rfl
  · obtain ⟨r, n, rfl⟩ : ∃ (r : Fin 512) (n : Fin 512), x = ix2 r n := ⟨x 0, x 1, eq_ix2 x⟩
    have he : r0_5.emb (ix2 r n) = (ix2 (⟨512 + r.val, by omega⟩ : Fin 1024) n : S1024x512.Idx) := funext fun a => Fin.ext (by
      match a with | ⟨0, _⟩ => (show 512 + 1 * r.val = 512 + r.val; omega) | ⟨1, _⟩ => (show 0 + 1 * n.val = n.val; omega))
    show heads (k0_pay3 (View.ld x1 r0_0) (View.ld x0 r0_4)) (shapeCast S1x128 (View.ld x2 r0_2) shapeCasts_S1x128_S1x128) (ix2 r n) = _
    rw [he, ldw, ldg, castg, heads_apply]
    simp only [acc_apply]
    refine congrArg (fun x => hnorm x _ _) (funext fun j => Finset.sum_congr rfl fun k _ => congrArg (· * _) ?_)
    show x0 (r0_4.emb (ix2 r k)) = _
    refine congrArg x0 (funext fun a => Fin.ext ?_)
    match a with
    | ⟨0, _⟩ => show 512 + 1 * r.val = 512 + r.val; omega
    | ⟨1, _⟩ => show 0 + 1 * k.val = k.val; omega
  · obtain ⟨r, n, rfl⟩ : ∃ (r : Fin 512) (n : Fin 512), x = ix2 r n := ⟨x 0, x 1, eq_ix2 x⟩
    have he : r0_3.emb (ix2 r n) = (ix2 (⟨r.val, by omega⟩ : Fin 1024) n : S1024x512.Idx) := funext fun a => Fin.ext (by
      match a with | ⟨0, _⟩ => (show 0 + 1 * r.val = r.val; omega) | ⟨1, _⟩ => (show 0 + 1 * n.val = n.val; omega))
    show heads (k0_pay3 (View.ld x1 r0_0) (View.ld x0 r0_1)) (shapeCast S1x128 (View.ld x2 r0_2) shapeCasts_S1x128_S1x128) (ix2 r n) = _
    rw [he, ldw, ldg, castg, heads_apply]
    simp only [acc_apply]
    refine congrArg (fun x => hnorm x _ _) (funext fun j => Finset.sum_congr rfl fun k _ => congrArg (· * _) ?_)
    show x0 (r0_1.emb (ix2 r k)) = _
    refine congrArg x0 (funext fun a => Fin.ext ?_)
    match a with
    | ⟨0, _⟩ => show 0 + 1 * r.val = r.val; omega
    | ⟨1, _⟩ => show 0 + 1 * k.val = k.val; omega

/-- What a point writes back is its block of the result. -/
theorem flushed_eq (c : Dev nD) (t : Fin cfg0.N) :
    (dats m 0 c).flushed 3 t = ((cfg0.win 3).blk t).view.read (Elt Ideal) (res m c) := by
  rw [Value.flushed3]
  obtain ⟨-, -, -, -, -, -, -, h0, h1⟩ := idx_facts t
  have ht := t_lt t
  funext j
  obtain ⟨r, n, rfl⟩ : ∃ (r : Fin 1024) (n : Fin 512), j = ix2 r n := ⟨j 0, j 1, eq_ix2 j⟩
  have hr : ((cfg0.win 3).blk t).view.read (Elt Ideal) (res m c) (ix2 r n) = res m c (ix2 ⟨t.val * 1024 + r.val, by omega⟩ ⟨n.val, by omega⟩) := by
    refine congrArg (res m c) (funext fun a => Fin.ext ?_)
    match a with
    | ⟨0, _⟩ => show win0_3.index t 0 * 1024 + 1 * r.val = _; rw [h0]; simp
    | ⟨1, _⟩ => show win0_3.index t 1 * 512 + 1 * n.val = _; rw [h1]; simp
  rw [hr]
  show out0_3 (iblk m c 0 t) (iblk m c 1 t) (iblk m c 2 t) (ix2 r n) = _
  rw [out_eq]
  unfold out
  have eg : (fun j : Fin 128 => (iblk m c 2 t : S1x128.Idx → EReal) (ix2 0 j)) = fun j => (m ((c : Thread nD τ).loc main_arg2) : S1x128.Idx → EReal) (ix2 0 j) :=
    funext fun j => (blk2 m c t _ _).trans (by rw [V3]; exact castG ..)
  show hnorm _ _ _ = hnorm _ _ _
  refine congr (congr_arg₂ hnorm (funext fun j => Finset.sum_congr rfl fun k _ => congr_arg₂ (· * ·) ((blk0 m c t _ _).trans ?_) ((blk1 m c t _ _ _).trans ?_)) eg)
    (Fin.ext (by show n.val % 128 = (n.val) % 128; omega))
  · rw [V0]; exact castH ..
  · rw [V1]
    refine (castW ..).trans (congrArg (m ((c : Thread nD τ).loc main_arg1)) ?_)
    funext a
    match a with
    | ⟨0, _⟩ => rfl
    | ⟨1, _⟩ => rfl
    | ⟨2, _⟩ => exact Fin.ext (by simp [ix3]; try omega)

/-- The array after the run. -/
theorem arr_eq (c : Dev nD) : (dats m 0 c).arrAt 3 cfg0.N = res m c := by
  have hc : (cfg0.win 3).Covers := by decide +kernel
  exact (dats m 0 c).arrAt_eq_of_cover 3 (res m c) (fun t _ => flushed_eq m c t) (Pipeline.Window.Covers.cover (cfg0.win 3) hc (Memref.isWhole_whole main_v4))

end Cert.K

end
-- ==== Proof.K.Ref.lean ====
/-
  What the reference of the normalized projection computes, element by element, and the two runs side by side.
-/
module

public import proofs.«01_k».proof.Proof.K.Val
public import proofs.«01_k».proof.Proof.Gen.Kernel9
public import proofs.«01_k».proof.Proof.Gen.Reference9Ideal.Run
public import Idealize.ShloMosaic.Lib.Quiescent

@[expose] public section

set_option maxRecDepth 16384

noncomputable section

namespace Cert.K

open Idealize.ShloMosaic Idealize.ShloMosaic.TcCoe Idealize.SL.Sem
open scoped BigOperators

section
open Cert.Reference9Ideal Cert.Reference9Ideal.Gen

/-- The projection by heads. -/
def rproj (h : FVec Ideal S4x2048x4096 .bf16) (w : FVec Ideal S1x4096x17504 .f32) : FVec Ideal S4x2048x4x128 .f32 :=
  shapeCast S4x2048x4x128 (extractStridedSlice S4x2048x512 ![0, 0, 2048] (Host.dotGeneral (F := Ideal) dot_S4x2048x4096_S4096x17504_S4x2048x17504_2_0_01_1_n_n none (extf .f32 h bitsLt_bf16_f32) (shapeCast S4096x17504 w shapeCasts_S1x4096x17504_S4096x17504)) slices_S4x2048x17504_S4x2048x512_0_0_2048) shapeCasts_S4x2048x512_S4x2048x4x128

theorem rproj_apply (h : FVec Ideal S4x2048x4096 .bf16) (w : FVec Ideal S1x4096x17504 .f32) (b : Fin 4) (s : Fin 2048) (q : Fin 4) (j : Fin 128) :
    rproj h w (ix4 b s q j) = ∑ k : Fin 4096, h (ix3 b s k) * w (ix3 0 k ⟨2048 + (q.val * 128 + j.val), by omega⟩) := by
  pointwise [rproj]

/-- The reference's normalization of an array by heads. -/
def rnrm (X : FVec Ideal S4x2048x4x128 .f32) (g : FVec Ideal S1x128 .f32) : FVec Ideal S8192x512 .bf16 :=
  truncf .bf16 (shapeCast S8192x512 (mulf (mulf X (broadcastInDim S4x2048x4x128 ![0, 1, 2, 3] bcast_S4x2048x4x1_S4x2048x4x128_0_1_2_3 (Host.rsqrt (addf (Host.divf (broadcastInDim S4x2048x4x1 ![0, 1, 2] bcast_S4x2048x4_S4x2048x4x1_0_1_2 (Host.reduceAdd (mulf X X) (constant S_ .f32 0x00000000#32) reducesTo_S4x2048x4x128_S4x2048x4_d3 h_S_)) (broadcastInDim S4x2048x4x1 ![] bcast_S_S4x2048x4x1 (constant S_ .f32 0x43000000#32))) (broadcastInDim S4x2048x4x1 ![] bcast_S_S4x2048x4x1 (constant S_ .f32 0x358637BD#32)))))) (broadcastInDim S4x2048x4x128 ![0, 1, 2, 3] bcast_S1x1x1x128_S4x2048x4x128_0_1_2_3 (broadcastInDim S1x1x1x128 ![3] bcast_S128_S1x1x1x128_3 (shapeCast S128 g shapeCasts_S1x128_S128)))) shapeCasts_S4x2048x4x128_S8192x512) bitsLt_bf16_f32

theorem rnrm_apply (X : FVec Ideal S4x2048x4x128 .f32) (g : FVec Ideal S1x128 .f32) (r : Fin 8192) (n : Fin 512) :
    rnrm X g (ix2 r n) = hnorm (fun j => X (ix4 ⟨r.val / 2048, by omega⟩ ⟨r.val % 2048, by omega⟩ ⟨n.val / 128, by omega⟩ j)) (fun j => g (ix2 0 j)) ⟨n.val % 128, by omega⟩ := by
  pointwise [rnrm, hnorm] <;> exact mul_assoc ..

/-- The reference's result, element by element. -/
theorem ref_eq (h : FVec Ideal S4x2048x4096 .bf16) (w : FVec Ideal S1x4096x17504 .f32) (g : FVec Ideal S1x128 .f32) :
    rnrm (rproj h w) g = nrm h w g := by
  funext i
  obtain ⟨r, n, rfl⟩ : ∃ (r : Fin 8192) (n : Fin 512), i = ix2 r n := ⟨i 0, i 1, eq_ix2 i⟩
  rw [rnrm_apply]
  simp only [rproj_apply]
  rfl

end

/-- The kernel at the extended reals computes what the reference computes. -/
theorem algebraic : Cert.algebraic_Kernel9Ideal_Reference9Ideal := fun m ρ m' ρ' _ hin =>
  ⟨fun c => res m c,
    (θ_run Cert.Kernel9Ideal.defs _ _).mono (fun _ h c => ⟨(h c).1.trans (arr_eq m c), (h c).2⟩) (Cert.Kernel9Ideal.Value.run_blocks m ρ),
    (θ_run Cert.Reference9Ideal.defs _ _).mono (fun _ h c => ⟨(h c).1.trans ((ref_eq _ _ _).trans
      (by rw [(hin c).1, (hin c).2.1, (hin c).2.2])), (h c).2⟩) (Cert.Reference9Ideal.Value.run m' ρ')⟩

/-- The printed program's body table is the idealized one's, the texts being the same. -/
theorem defs_eq : Cert.Kernel9.defs (F := Bits) = Cert.Kernel9Ideal.defs (F := Bits) :=
  congrArg (Pipeline.defs _) (congrArg Defs.onTc (funext fun l => match l with | 0 => funext fun _ => rfl))

/-- The frames. -/
theorem frame_kernel : Cert.quiescent_Kernel9 := fun m ρ _ => by
  rw [defs_eq]; exact Cert.Kernel9Ideal.Gen.frame (F := Bits) m ρ
theorem frame_ideal : Cert.quiescent_Kernel9Ideal := fun m ρ _ => Cert.Kernel9Ideal.Gen.frame (F := Ideal) m ρ
theorem frame_ref : Cert.quiescent_Reference9Ideal := fun m ρ _ =>
  (θ_run Cert.Reference9Ideal.defs _ _).mono (fun r h => ⟨fun c => (h c).2, Idealize.ShloMosaic.sem_eq_zero_of_no_sems (by decide) r.2⟩) (Cert.Reference9Ideal.Value.run (F := Ideal) m ρ)

end Cert.K

end
-- ==== Proof.Vproj.Val.lean ====
/-
  The values of the projection to the values: each point of the grid multiplies a block of rows with a block of the weight's columns, in two halves of the rows.
-/
module

public import proofs.«01_k».proof.Defs
public import proofs.«01_k».proof.Proof.Gen.Kernel10Ideal.Value
public import Idealize.ShloMosaic.Lib.Pipeline.Value
public import Idealize.ShloMosaic.Lib.Pipeline.ValueKit.Geometry
public import Idealize.ShloMosaic.Lib.Pipeline.ValueKit.Tiles
public import Idealize.ShloMosaic.Lib.Pointwise
public import Idealize.ShloMosaic.Lib.ValueLayout
public import Idealize.ShloMosaic.Lib.IdealHost

@[expose] public section

set_option maxRecDepth 16384

noncomputable section

namespace Cert.Vproj

open Cert.Kernel10Ideal Cert.Kernel10Ideal.Gen Idealize.ShloMosaic Idealize.ShloMosaic.TcCoe Idealize.SL.Sem
open Idealize.ShloMosaic.Pipeline (Dat)
open scoped BigOperators

/-- The result at a row and a column: the row of the activations times the weight's column 2560 places on. -/
def lin (h : FVec Ideal S4x2048x4096 .bf16) (w : FVec Ideal S1x4096x17504 .f32) : FVec Ideal S8192x512 .bf16 := fun i =>
  let b : Fin 4 := ⟨(i 0).val / 2048, by have := ValueIdx.idx2_lt0 i; omega⟩
  let s : Fin 2048 := ⟨(i 0).val % 2048, by omega⟩
  let n : Fin 17504 := ⟨2560 + (i 1).val, by have := ValueIdx.idx2_lt1 i; omega⟩
  ∑ k : Fin 4096, h (ix3 b s k) * w (ix3 0 k n)

variable (m : (ℓ : Loc nD τ sig) → Buf (Elt Ideal) ℓ) (ρ : Dev nD → PrngReg)

theorem V0 (c : Dev nD) : V m c main_v0 = shapeCast _ (m ((c : Thread nD τ).loc main_arg0)) shapeCasts_S4x2048x4096_S8192x4096 := by
  unfold V hostOps0; after_results <;> rfl
theorem V1 (c : Dev nD) : V m c main_v1 = transpose S1x17504x4096 [0, 2, 1] (m ((c : Thread nD τ).loc main_arg1)) transposes_S1x4096x17504_S1x17504x4096_0_2_1 := by
  unfold V hostOps0; after_results <;> rfl
theorem castH (h : FVec Ideal S4x2048x4096 .bf16) (r : Fin 8192) (k : Fin 4096) :
    shapeCast S8192x4096 h shapeCasts_S4x2048x4096_S8192x4096 (ix2 r k) = h (ix3 ⟨r.val / 2048, by omega⟩ ⟨r.val % 2048, by omega⟩ k) := by pointwise
theorem castW (w : FVec Ideal S1x4096x17504 .f32) (k : Fin 4096) (n : Fin 17504) :
    transpose S1x17504x4096 [0, 2, 1] w transposes_S1x4096x17504_S1x17504x4096_0_2_1 (ix3 0 n k) = w (ix3 0 k n) := by pointwise

theorem t_lt (t : Fin cfg0.N) : t.val < 8 := lt_of_lt_of_eq t.isLt N_0

/-- The blocks' places, decided over the grid. -/
theorem idx_facts : ∀ t : Fin cfg0.N,
    win0_0.index t 0 = t.val
    ∧ win0_0.index t 1 = 0
    ∧ win0_1.index t 0 = 0
    ∧ win0_1.index t 1 = 2560
    ∧ win0_1.index t 2 = 0
    ∧ win0_2.index t 0 = t.val
    ∧ win0_2.index t 1 = 0 :=
  (by decide +kernel : ∀ t : Fin grid0.N, _)

theorem blk0 (c : Dev nD) (t : Fin cfg0.N) (i0 : Fin 1024) (i1 : Fin 4096) :
    (iblk m c 0 t : S1024x4096.Idx → EReal) (ix2 i0 i1) = V m c main_v0 (ix2 ⟨t.val * 1024 + i0.val, by have := t_lt t; omega⟩ i1) := by
  obtain ⟨h0, h1, -, -, -, -, -⟩ := idx_facts t
  refine congrArg (V m c main_v0) (funext fun a => Fin.ext ?_)
  match a with
  | ⟨0, _⟩ => show win0_0.index t 0 * 1024 + 1 * i0.val = _; rw [h0]; first | rfl | (simp; done) | (simp only [ix2, ix3, ix4]; have := t_lt t; simp; omega)
  | ⟨1, _⟩ => show win0_0.index t 1 * 4096 + 1 * i1.val = _; rw [h1]; first | rfl | (simp; done) | (simp only [ix2, ix3, ix4]; have := t_lt t; simp; omega)

theorem blk1 (c : Dev nD) (t : Fin cfg0.N) (i0 : Fin 1) (i1 : Fin 512) (i2 : Fin 4096) :
    (iblk m c 1 t : S1x512x4096.Idx → EReal) (ix3 i0 i1 i2) = V m c main_v1 (ix3 0 ⟨2560 + i1.val, by have := t_lt t; omega⟩ i2) := by
  obtain ⟨-, -, h0, h1, h2, -, -⟩ := idx_facts t
  refine congrArg (V m c main_v1) (funext fun a => Fin.ext ?_)
  match a with
  | ⟨0, _⟩ => show win0_1.index t 0 + 1 * i0.val = _; rw [h0]; first | rfl | (simp; done) | (simp only [ix2, ix3, ix4]; have := t_lt t; simp; omega)
  | ⟨1, _⟩ => show win0_1.index t 1 + 1 * i1.val = _; rw [h1]; first | rfl | (simp; done) | (simp only [ix2, ix3, ix4]; have := t_lt t; simp; omega)
  | ⟨2, _⟩ => show win0_1.index t 2 + 1 * i2.val = _; rw [h2]; first | rfl | (simp; done) | (simp only [ix2, ix3, ix4]; have := t_lt t; simp; omega)

/-- The kernel's result array, from the arguments. -/
abbrev res (c : Dev nD) : FVec Ideal S8192x512 .bf16 :=
  lin (m ((c : Thread nD τ).loc main_arg0)) (m ((c : Thread nD τ).loc main_arg1))

/-- The block's element from the input blocks. -/
def out (x0 : Vec Ideal S1024x4096 .bf16) (x1 : Vec Ideal S1x512x4096 .f32) : Vec Ideal S1024x512 .bf16 := fun y =>
  ∑ k : Fin 4096, x0 (ix2 (⟨(y 0).val, ValueIdx.idx2_lt0 y⟩ : Fin 1024) k) * x1 (ix3 0 (⟨(y 1).val, ValueIdx.idx2_lt1 y⟩ : Fin 512) k)

theorem ldw {e : EltTy} (X : S1x512x4096.Idx → Elt Ideal e) : View.ld X r0_0 = X :=
  View.ld_unit_zero (funext fun a => by fin_cases a <;> rfl) _ _

/-- The two stores are the two halves of the block. -/
theorem out_eq (x0 : Vec Ideal S1024x4096 .bf16) (x1 : Vec Ideal S1x512x4096 .f32) (y : S1024x512.Idx) :
    out0_2 x0 x1 y = out x0 x1 y := by
  unfold out0_2
  refine View.canon_apply_of_pieces (out x0 x1) _ ?_ y (cover0_2 _ _ y)
  intro p hp x
  simp only [List.mem_cons, List.not_mem_nil, or_false] at hp
  rcases hp with rfl | rfl
  · obtain ⟨r, n, rfl⟩ : ∃ (r : Fin 512) (n : Fin 512), x = ix2 r n := ⟨x 0, x 1, eq_ix2 x⟩
    have he : r0_4.emb (ix2 r n) = (ix2 (⟨512 + r.val, by omega⟩ : Fin 1024) n : S1024x512.Idx) := funext fun a => Fin.ext (by
      match a with | ⟨0, _⟩ => (show 512 + 1 * r.val = 512 + r.val; omega) | ⟨1, _⟩ => (show 0 + 1 * n.val = n.val; omega))
    show k0_pay3 (View.ld x1 r0_0) (View.ld x0 r0_3) (ix2 r n) = _
    rw [he, ldw]
    pointwise [k0_pay3, k0_pay1, out]
  · obtain ⟨r, n, rfl⟩ : ∃ (r : Fin 512) (n : Fin 512), x = ix2 r n := ⟨x 0, x 1, eq_ix2 x⟩
    have he : r0_2.emb (ix2 r n) = (ix2 (⟨r.val, by omega⟩ : Fin 1024) n : S1024x512.Idx) := funext fun a => Fin.ext (by
      match a with | ⟨0, _⟩ => (show 0 + 1 * r.val = r.val; omega) | ⟨1, _⟩ => (show 0 + 1 * n.val = n.val; omega))
    show k0_pay2 (View.ld x1 r0_0) (View.ld x0 r0_1) (ix2 r n) = _
    rw [he, ldw]
    pointwise [k0_pay2, k0_pay1, out]

/-- What a point writes back is its block of the result. -/
theorem flushed_eq (c : Dev nD) (t : Fin cfg0.N) :
    (dats m 0 c).flushed 2 t = ((cfg0.win 2).blk t).view.read (Elt Ideal) (res m c) := by
  rw [Value.flushed2]
  obtain ⟨-, -, -, -, -, h0, h1⟩ := idx_facts t
  have ht := t_lt t
  funext j
  obtain ⟨r, n, rfl⟩ : ∃ (r : Fin 1024) (n : Fin 512), j = ix2 r n := ⟨j 0, j 1, eq_ix2 j⟩
  have hr : ((cfg0.win 2).blk t).view.read (Elt Ideal) (res m c) (ix2 r n) = res m c (ix2 ⟨t.val * 1024 + r.val, by omega⟩ ⟨n.val, by omega⟩) := by
    refine congrArg (res m c) (funext fun a => Fin.ext ?_)
    match a with
    | ⟨0, _⟩ => show win0_2.index t 0 * 1024 + 1 * r.val = _; rw [h0]; simp
    | ⟨1, _⟩ => show win0_2.index t 1 * 512 + 1 * n.val = _; rw [h1]; simp
  rw [hr]
  show out0_2 (iblk m c 0 t) (iblk m c 1 t) (ix2 r n) = _
  rw [out_eq]
  unfold out
  refine Finset.sum_congr rfl fun k _ => congr_arg₂ (· * ·) ((blk0 m c t _ _).trans ?_) ((blk1 m c t _ _ _).trans ?_)
  · rw [V0]; exact castH ..
  · rw [V1]
    refine (castW ..).trans (congrArg (m ((c : Thread nD τ).loc main_arg1)) ?_)
    funext a
    match a with
    | ⟨0, _⟩ => rfl
    | ⟨1, _⟩ => rfl
    | ⟨2, _⟩ => exact Fin.ext (by simp [ix3]; try omega)

/-- The array after the run. -/
theorem arr_eq (c : Dev nD) : (dats m 0 c).arrAt 2 cfg0.N = res m c := by
  have hc : (cfg0.win 2).Covers := by decide +kernel
  exact (dats m 0 c).arrAt_eq_of_cover 2 (res m c) (fun t _ => flushed_eq m c t) (Pipeline.Window.Covers.cover (cfg0.win 2) hc (Memref.isWhole_whole main_v2))

end Cert.Vproj

end
-- ==== Proof.Vproj.Ref.lean ====
/-
  What the reference of the projection computes, element by element, and the two runs side by side.
-/
module

public import proofs.«01_k».proof.Proof.Vproj.Val
public import proofs.«01_k».proof.Proof.Gen.Kernel10
public import proofs.«01_k».proof.Proof.Gen.Reference10Ideal.Run
public import Idealize.ShloMosaic.Lib.Quiescent

@[expose] public section

set_option maxRecDepth 16384

noncomputable section

namespace Cert.Vproj

open Idealize.ShloMosaic Idealize.ShloMosaic.TcCoe Idealize.SL.Sem
open scoped BigOperators

section
open Cert.Reference10Ideal Cert.Reference10Ideal.Gen

/-- The reference's result, element by element. -/
theorem ref_eq (h : FVec Ideal S4x2048x4096 .bf16) (w : FVec Ideal S1x4096x17504 .f32) :
    truncf .bf16 (shapeCast S8192x512 (extractStridedSlice S4x2048x512 ![0, 0, 2560] (Host.dotGeneral (F := Ideal) dot_S4x2048x4096_S4096x17504_S4x2048x17504_2_0_01_1_n_n none (extf .f32 h bitsLt_bf16_f32) (shapeCast S4096x17504 w shapeCasts_S1x4096x17504_S4096x17504)) slices_S4x2048x17504_S4x2048x512_0_0_2560) shapeCasts_S4x2048x512_S8192x512) bitsLt_bf16_f32
      = lin h w := by
  funext i
  obtain ⟨r, n, rfl⟩ : ∃ (r : Fin 8192) (n : Fin 512), i = ix2 r n := ⟨i 0, i 1, eq_ix2 i⟩
  pointwise [lin]

end

/-- The kernel at the extended reals computes what the reference computes. -/
theorem algebraic : Cert.algebraic_Kernel10Ideal_Reference10Ideal := fun m ρ m' ρ' _ hin =>
  ⟨fun c => res m c,
    (θ_run Cert.Kernel10Ideal.defs _ _).mono (fun _ h c => ⟨(h c).1.trans (arr_eq m c), (h c).2⟩) (Cert.Kernel10Ideal.Value.run_blocks m ρ),
    (θ_run Cert.Reference10Ideal.defs _ _).mono (fun _ h c => ⟨(h c).1.trans ((ref_eq _ _).trans
      (by rw [(hin c).1, (hin c).2])), (h c).2⟩) (Cert.Reference10Ideal.Value.run m' ρ')⟩

/-- The printed program's body table is the idealized one's, the texts being the same. -/
theorem defs_eq : Cert.Kernel10.defs (F := Bits) = Cert.Kernel10Ideal.defs (F := Bits) :=
  congrArg (Pipeline.defs _) (congrArg Defs.onTc (funext fun l => match l with | 0 => funext fun _ => rfl))

/-- The frames. -/
theorem frame_kernel : Cert.quiescent_Kernel10 := fun m ρ _ => by
  rw [defs_eq]; exact Cert.Kernel10Ideal.Gen.frame (F := Bits) m ρ
theorem frame_ideal : Cert.quiescent_Kernel10Ideal := fun m ρ _ => Cert.Kernel10Ideal.Gen.frame (F := Ideal) m ρ
theorem frame_ref : Cert.quiescent_Reference10Ideal := fun m ρ _ =>
  (θ_run Cert.Reference10Ideal.defs _ _).mono (fun r h => ⟨fun c => (h c).2, Idealize.ShloMosaic.sem_eq_zero_of_no_sems (by decide) r.2⟩) (Cert.Reference10Ideal.Value.run (F := Ideal) m ρ)

end Cert.Vproj

end
-- ==== Proof.Qi.Val.lean ====
/-
  The values of the projection to the indexer's queries: each point of the grid multiplies a block of rows with a block of the weight's columns, in two halves of the rows.
-/
module

public import proofs.«01_k».proof.Defs
public import proofs.«01_k».proof.Proof.Gen.Kernel11Ideal.Value
public import Idealize.ShloMosaic.Lib.Pipeline.Value
public import Idealize.ShloMosaic.Lib.Pipeline.ValueKit.Geometry
public import Idealize.ShloMosaic.Lib.Pipeline.ValueKit.Tiles
public import Idealize.ShloMosaic.Lib.Pointwise
public import Idealize.ShloMosaic.Lib.ValueLayout
public import Idealize.ShloMosaic.Lib.IdealHost

@[expose] public section

set_option maxRecDepth 16384

noncomputable section

namespace Cert.Qi

open Cert.Kernel11Ideal Cert.Kernel11Ideal.Gen Idealize.ShloMosaic Idealize.ShloMosaic.TcCoe Idealize.SL.Sem
open Idealize.ShloMosaic.Pipeline (Dat)
open scoped BigOperators

/-- The result at a row and a column: the row of the activations times the weight's column 3072 places on. -/
def lin (h : FVec Ideal S4x2048x4096 .bf16) (w : FVec Ideal S1x4096x17504 .f32) : FVec Ideal S8192x2048 .bf16 := fun i =>
  let b : Fin 4 := ⟨(i 0).val / 2048, by have := ValueIdx.idx2_lt0 i; omega⟩
  let s : Fin 2048 := ⟨(i 0).val % 2048, by omega⟩
  let n : Fin 17504 := ⟨3072 + (i 1).val, by have := ValueIdx.idx2_lt1 i; omega⟩
  ∑ k : Fin 4096, h (ix3 b s k) * w (ix3 0 k n)

variable (m : (ℓ : Loc nD τ sig) → Buf (Elt Ideal) ℓ) (ρ : Dev nD → PrngReg)

theorem V0 (c : Dev nD) : V m c main_v0 = shapeCast _ (m ((c : Thread nD τ).loc main_arg0)) shapeCasts_S4x2048x4096_S8192x4096 := by
  unfold V hostOps0; after_results <;> rfl
theorem V1 (c : Dev nD) : V m c main_v1 = transpose S1x17504x4096 [0, 2, 1] (m ((c : Thread nD τ).loc main_arg1)) transposes_S1x4096x17504_S1x17504x4096_0_2_1 := by
  unfold V hostOps0; after_results <;> rfl
theorem castH (h : FVec Ideal S4x2048x4096 .bf16) (r : Fin 8192) (k : Fin 4096) :
    shapeCast S8192x4096 h shapeCasts_S4x2048x4096_S8192x4096 (ix2 r k) = h (ix3 ⟨r.val / 2048, by omega⟩ ⟨r.val % 2048, by omega⟩ k) := by pointwise
theorem castW (w : FVec Ideal S1x4096x17504 .f32) (k : Fin 4096) (n : Fin 17504) :
    transpose S1x17504x4096 [0, 2, 1] w transposes_S1x4096x17504_S1x17504x4096_0_2_1 (ix3 0 n k) = w (ix3 0 k n) := by pointwise

theorem t_lt (t : Fin cfg0.N) : t.val < 32 := lt_of_lt_of_eq t.isLt N_0

/-- The blocks' places, decided over the grid. -/
theorem idx_facts : ∀ t : Fin cfg0.N,
    win0_0.index t 0 = t.val / 4
    ∧ win0_0.index t 1 = 0
    ∧ win0_1.index t 0 = 0
    ∧ win0_1.index t 1 = 3072 + t.val % 4 * 512
    ∧ win0_1.index t 2 = 0
    ∧ win0_2.index t 0 = t.val / 4
    ∧ win0_2.index t 1 = t.val % 4 :=
  (by decide +kernel : ∀ t : Fin grid0.N, _)

theorem blk0 (c : Dev nD) (t : Fin cfg0.N) (i0 : Fin 1024) (i1 : Fin 4096) :
    (iblk m c 0 t : S1024x4096.Idx → EReal) (ix2 i0 i1) = V m c main_v0 (ix2 ⟨t.val / 4 * 1024 + i0.val, by have := t_lt t; omega⟩ i1) := by
  obtain ⟨h0, h1, -, -, -, -, -⟩ := idx_facts t
  refine congrArg (V m c main_v0) (funext fun a => Fin.ext ?_)
  match a with
  | ⟨0, _⟩ => show win0_0.index t 0 * 1024 + 1 * i0.val = _; rw [h0]; first | rfl | (simp; done) | (simp only [ix2, ix3, ix4]; have := t_lt t; simp; omega)
  | ⟨1, _⟩ => show win0_0.index t 1 * 4096 + 1 * i1.val = _; rw [h1]; first | rfl | (simp; done) | (simp only [ix2, ix3, ix4]; have := t_lt t; simp; omega)

theorem blk1 (c : Dev nD) (t : Fin cfg0.N) (i0 : Fin 1) (i1 : Fin 512) (i2 : Fin 4096) :
    (iblk m c 1 t : S1x512x4096.Idx → EReal) (ix3 i0 i1 i2) = V m c main_v1 (ix3 0 ⟨3072 + t.val % 4 * 512 + i1.val, by have := t_lt t; omega⟩ i2) := by
  obtain ⟨-, -, h0, h1, h2, -, -⟩ := idx_facts t
  refine congrArg (V m c main_v1) (funext fun a => Fin.ext ?_)
  match a with
  | ⟨0, _⟩ => show win0_1.index t 0 + 1 * i0.val = _; rw [h0]; first | rfl | (simp; done) | (simp only [ix2, ix3, ix4]; have := t_lt t; simp; omega)
  | ⟨1, _⟩ => show win0_1.index t 1 + 1 * i1.val = _; rw [h1]; first | rfl | (simp; done) | (simp only [ix2, ix3, ix4]; have := t_lt t; simp; omega)
  | ⟨2, _⟩ => show win0_1.index t 2 + 1 * i2.val = _; rw [h2]; first | rfl | (simp; done) | (simp only [ix2, ix3, ix4]; have := t_lt t; simp; omega)

/-- The kernel's result array, from the arguments. -/
abbrev res (c : Dev nD) : FVec Ideal S8192x2048 .bf16 :=
  lin (m ((c : Thread nD τ).loc main_arg0)) (m ((c : Thread nD τ).loc main_arg1))

/-- The block's element from the input blocks. -/
def out (x0 : Vec Ideal S1024x4096 .bf16) (x1 : Vec Ideal S1x512x4096 .f32) : Vec Ideal S1024x512 .bf16 := fun y =>
  ∑ k : Fin 4096, x0 (ix2 (⟨(y 0).val, ValueIdx.idx2_lt0 y⟩ : Fin 1024) k) * x1 (ix3 0 (⟨(y 1).val, ValueIdx.idx2_lt1 y⟩ : Fin 512) k)

theorem ldw {e : EltTy} (X : S1x512x4096.Idx → Elt Ideal e) : View.ld X r0_0 = X :=
  View.ld_unit_zero (funext fun a => by fin_cases a <;> rfl) _ _

/-- The two stores are the two halves of the block. -/
theorem out_eq (x0 : Vec Ideal S1024x4096 .bf16) (x1 : Vec Ideal S1x512x4096 .f32) (y : S1024x512.Idx) :
    out0_2 x0 x1 y = out x0 x1 y := by
  unfold out0_2
  refine View.canon_apply_of_pieces (out x0 x1) _ ?_ y (cover0_2 _ _ y)
  intro p hp x
  simp only [List.mem_cons, List.not_mem_nil, or_false] at hp
  rcases hp with rfl | rfl
  · obtain ⟨r, n, rfl⟩ : ∃ (r : Fin 512) (n : Fin 512), x = ix2 r n := ⟨x 0, x 1, eq_ix2 x⟩
    have he : r0_4.emb (ix2 r n) = (ix2 (⟨512 + r.val, by omega⟩ : Fin 1024) n : S1024x512.Idx) := funext fun a => Fin.ext (by
      match a with | ⟨0, _⟩ => (show 512 + 1 * r.val = 512 + r.val; omega) | ⟨1, _⟩ => (show 0 + 1 * n.val = n.val; omega))
    show k0_pay3 (View.ld x1 r0_0) (View.ld x0 r0_3) (ix2 r n) = _
    rw [he, ldw]
    pointwise [k0_pay3, k0_pay1, out]
  · obtain ⟨r, n, rfl⟩ : ∃ (r : Fin 512) (n : Fin 512), x = ix2 r n := ⟨x 0, x 1, eq_ix2 x⟩
    have he : r0_2.emb (ix2 r n) = (ix2 (⟨r.val, by omega⟩ : Fin 1024) n : S1024x512.Idx) := funext fun a => Fin.ext (by
      match a with | ⟨0, _⟩ => (show 0 + 1 * r.val = r.val; omega) | ⟨1, _⟩ => (show 0 + 1 * n.val = n.val; omega))
    show k0_pay2 (View.ld x1 r0_0) (View.ld x0 r0_1) (ix2 r n) = _
    rw [he, ldw]
    pointwise [k0_pay2, k0_pay1, out]

/-- What a point writes back is its block of the result. -/
theorem flushed_eq (c : Dev nD) (t : Fin cfg0.N) :
    (dats m 0 c).flushed 2 t = ((cfg0.win 2).blk t).view.read (Elt Ideal) (res m c) := by
  rw [Value.flushed2]
  obtain ⟨-, -, -, -, -, h0, h1⟩ := idx_facts t
  have ht := t_lt t
  funext j
  obtain ⟨r, n, rfl⟩ : ∃ (r : Fin 1024) (n : Fin 512), j = ix2 r n := ⟨j 0, j 1, eq_ix2 j⟩
  have hr : ((cfg0.win 2).blk t).view.read (Elt Ideal) (res m c) (ix2 r n) = res m c (ix2 ⟨t.val / 4 * 1024 + r.val, by omega⟩ ⟨t.val % 4 * 512 + n.val, by omega⟩) := by
    refine congrArg (res m c) (funext fun a => Fin.ext ?_)
    match a with
    | ⟨0, _⟩ => show win0_2.index t 0 * 1024 + 1 * r.val = _; rw [h0]; simp
    | ⟨1, _⟩ => show win0_2.index t 1 * 512 + 1 * n.val = _; rw [h1]; simp
  rw [hr]
  show out0_2 (iblk m c 0 t) (iblk m c 1 t) (ix2 r n) = _
  rw [out_eq]
  unfold out
  refine Finset.sum_congr rfl fun k _ => congr_arg₂ (· * ·) ((blk0 m c t _ _).trans ?_) ((blk1 m c t _ _ _).trans ?_)
  · rw [V0]; exact castH ..
  · rw [V1]
    refine (castW ..).trans (congrArg (m ((c : Thread nD τ).loc main_arg1)) ?_)
    funext a
    match a with
    | ⟨0, _⟩ => rfl
    | ⟨1, _⟩ => rfl
    | ⟨2, _⟩ => exact Fin.ext (by simp [ix3]; try omega)

/-- The array after the run. -/
theorem arr_eq (c : Dev nD) : (dats m 0 c).arrAt 2 cfg0.N = res m c := by
  have hc : (cfg0.win 2).Covers := by decide +kernel
  exact (dats m 0 c).arrAt_eq_of_cover 2 (res m c) (fun t _ => flushed_eq m c t) (Pipeline.Window.Covers.cover (cfg0.win 2) hc (Memref.isWhole_whole main_v2))

end Cert.Qi

end
-- ==== Proof.Qi.Ref.lean ====
/-
  What the reference of the projection computes, element by element, and the two runs side by side.
-/
module

public import proofs.«01_k».proof.Proof.Qi.Val
public import proofs.«01_k».proof.Proof.Gen.Kernel11
public import proofs.«01_k».proof.Proof.Gen.Reference11Ideal.Run
public import Idealize.ShloMosaic.Lib.Quiescent

@[expose] public section

set_option maxRecDepth 16384

noncomputable section

namespace Cert.Qi

open Idealize.ShloMosaic Idealize.ShloMosaic.TcCoe Idealize.SL.Sem
open scoped BigOperators

section
open Cert.Reference11Ideal Cert.Reference11Ideal.Gen

/-- The reference's result, element by element. -/
theorem ref_eq (h : FVec Ideal S4x2048x4096 .bf16) (w : FVec Ideal S1x4096x17504 .f32) :
    truncf .bf16 (shapeCast S8192x2048 (extractStridedSlice S4x2048x2048 ![0, 0, 3072] (Host.dotGeneral (F := Ideal) dot_S4x2048x4096_S4096x17504_S4x2048x17504_2_0_01_1_n_n none (extf .f32 h bitsLt_bf16_f32) (shapeCast S4096x17504 w shapeCasts_S1x4096x17504_S4096x17504)) slices_S4x2048x17504_S4x2048x2048_0_0_3072) shapeCasts_S4x2048x2048_S8192x2048) bitsLt_bf16_f32
      = lin h w := by
  funext i
  obtain ⟨r, n, rfl⟩ : ∃ (r : Fin 8192) (n : Fin 2048), i = ix2 r n := ⟨i 0, i 1, eq_ix2 i⟩
  pointwise [lin]

end

/-- The kernel at the extended reals computes what the reference computes. -/
theorem algebraic : Cert.algebraic_Kernel11Ideal_Reference11Ideal := fun m ρ m' ρ' _ hin =>
  ⟨fun c => res m c,
    (θ_run Cert.Kernel11Ideal.defs _ _).mono (fun _ h c => ⟨(h c).1.trans (arr_eq m c), (h c).2⟩) (Cert.Kernel11Ideal.Value.run_blocks m ρ),
    (θ_run Cert.Reference11Ideal.defs _ _).mono (fun _ h c => ⟨(h c).1.trans ((ref_eq _ _).trans
      (by rw [(hin c).1, (hin c).2])), (h c).2⟩) (Cert.Reference11Ideal.Value.run m' ρ')⟩

/-- The printed program's body table is the idealized one's, the texts being the same. -/
theorem defs_eq : Cert.Kernel11.defs (F := Bits) = Cert.Kernel11Ideal.defs (F := Bits) :=
  congrArg (Pipeline.defs _) (congrArg Defs.onTc (funext fun l => match l with | 0 => funext fun _ => rfl))

/-- The frames. -/
theorem frame_kernel : Cert.quiescent_Kernel11 := fun m ρ _ => by
  rw [defs_eq]; exact Cert.Kernel11Ideal.Gen.frame (F := Bits) m ρ
theorem frame_ideal : Cert.quiescent_Kernel11Ideal := fun m ρ _ => Cert.Kernel11Ideal.Gen.frame (F := Ideal) m ρ
theorem frame_ref : Cert.quiescent_Reference11Ideal := fun m ρ _ =>
  (θ_run Cert.Reference11Ideal.defs _ _).mono (fun r h => ⟨fun c => (h c).2, Idealize.ShloMosaic.sem_eq_zero_of_no_sems (by decide) r.2⟩) (Cert.Reference11Ideal.Value.run (F := Ideal) m ρ)

end Cert.Qi

end
-- ==== Proof.Kw.Val.lean ====
/-
  The values of the projection to the indexer's keys and weights: each point of the grid multiplies a block of rows with a block of the weight's columns, in two halves of the rows.
-/
module

public import proofs.«01_k».proof.Defs
public import proofs.«01_k».proof.Proof.Gen.Kernel12Ideal.Value
public import Idealize.ShloMosaic.Lib.Pipeline.Value
public import Idealize.ShloMosaic.Lib.Pipeline.ValueKit.Geometry
public import Idealize.ShloMosaic.Lib.Pipeline.ValueKit.Tiles
public import Idealize.ShloMosaic.Lib.Pointwise
public import Idealize.ShloMosaic.Lib.ValueLayout
public import Idealize.ShloMosaic.Lib.IdealHost

@[expose] public section

set_option maxRecDepth 16384

noncomputable section

namespace Cert.Kw

open Cert.Kernel12Ideal Cert.Kernel12Ideal.Gen Idealize.ShloMosaic Idealize.ShloMosaic.TcCoe Idealize.SL.Sem
open Idealize.ShloMosaic.Pipeline (Dat)
open scoped BigOperators

/-- The result at a row and a column: the row of the activations times the weight's column 5120 places on. -/
def lin (h : FVec Ideal S4x2048x4096 .bf16) (w : FVec Ideal S1x4096x17504 .f32) : FVec Ideal S8192x128 .f32 := fun i =>
  let b : Fin 4 := ⟨(i 0).val / 2048, by have := ValueIdx.idx2_lt0 i; omega⟩
  let s : Fin 2048 := ⟨(i 0).val % 2048, by omega⟩
  let n : Fin 17504 := ⟨5120 + (i 1).val, by have := ValueIdx.idx2_lt1 i; omega⟩
  ∑ k : Fin 4096, h (ix3 b s k) * w (ix3 0 k n)

variable (m : (ℓ : Loc nD τ sig) → Buf (Elt Ideal) ℓ) (ρ : Dev nD → PrngReg)

theorem V0 (c : Dev nD) : V m c main_v0 = shapeCast _ (m ((c : Thread nD τ).loc main_arg0)) shapeCasts_S4x2048x4096_S8192x4096 := by
  unfold V hostOps0; after_results <;> rfl
theorem V1 (c : Dev nD) : V m c main_v1 = transpose S1x17504x4096 [0, 2, 1] (m ((c : Thread nD τ).loc main_arg1)) transposes_S1x4096x17504_S1x17504x4096_0_2_1 := by
  unfold V hostOps0; after_results <;> rfl
theorem castH (h : FVec Ideal S4x2048x4096 .bf16) (r : Fin 8192) (k : Fin 4096) :
    shapeCast S8192x4096 h shapeCasts_S4x2048x4096_S8192x4096 (ix2 r k) = h (ix3 ⟨r.val / 2048, by omega⟩ ⟨r.val % 2048, by omega⟩ k) := by pointwise
theorem castW (w : FVec Ideal S1x4096x17504 .f32) (k : Fin 4096) (n : Fin 17504) :
    transpose S1x17504x4096 [0, 2, 1] w transposes_S1x4096x17504_S1x17504x4096_0_2_1 (ix3 0 n k) = w (ix3 0 k n) := by pointwise

theorem t_lt (t : Fin cfg0.N) : t.val < 8 := lt_of_lt_of_eq t.isLt N_0

/-- The blocks' places, decided over the grid. -/
theorem idx_facts : ∀ t : Fin cfg0.N,
    win0_0.index t 0 = t.val
    ∧ win0_0.index t 1 = 0
    ∧ win0_1.index t 0 = 0
    ∧ win0_1.index t 1 = 5120
    ∧ win0_1.index t 2 = 0
    ∧ win0_2.index t 0 = t.val
    ∧ win0_2.index t 1 = 0 :=
  (by decide +kernel : ∀ t : Fin grid0.N, _)

theorem blk0 (c : Dev nD) (t : Fin cfg0.N) (i0 : Fin 1024) (i1 : Fin 4096) :
    (iblk m c 0 t : S1024x4096.Idx → EReal) (ix2 i0 i1) = V m c main_v0 (ix2 ⟨t.val * 1024 + i0.val, by have := t_lt t; omega⟩ i1) := by
  obtain ⟨h0, h1, -, -, -, -, -⟩ := idx_facts t
  refine congrArg (V m c main_v0) (funext fun a => Fin.ext ?_)
  match a with
  | ⟨0, _⟩ => show win0_0.index t 0 * 1024 + 1 * i0.val = _; rw [h0]; first | rfl | (simp; done) | (simp only [ix2, ix3, ix4]; have := t_lt t; simp; omega)
  | ⟨1, _⟩ => show win0_0.index t 1 * 4096 + 1 * i1.val = _; rw [h1]; first | rfl | (simp; done) | (simp only [ix2, ix3, ix4]; have := t_lt t; simp; omega)

theorem blk1 (c : Dev nD) (t : Fin cfg0.N) (i0 : Fin 1) (i1 : Fin 128) (i2 : Fin 4096) :
    (iblk m c 1 t : S1x128x4096.Idx → EReal) (ix3 i0 i1 i2) = V m c main_v1 (ix3 0 ⟨5120 + i1.val, by have := t_lt t; omega⟩ i2) := by
  obtain ⟨-, -, h0, h1, h2, -, -⟩ := idx_facts t
  refine congrArg (V m c main_v1) (funext fun a => Fin.ext ?_)
  match a with
  | ⟨0, _⟩ => show win0_1.index t 0 + 1 * i0.val = _; rw [h0]; first | rfl | (simp; done) | (simp only [ix2, ix3, ix4]; have := t_lt t; simp; omega)
  | ⟨1, _⟩ => show win0_1.index t 1 + 1 * i1.val = _; rw [h1]; first | rfl | (simp; done) | (simp only [ix2, ix3, ix4]; have := t_lt t; simp; omega)
  | ⟨2, _⟩ => show win0_1.index t 2 + 1 * i2.val = _; rw [h2]; first | rfl | (simp; done) | (simp only [ix2, ix3, ix4]; have := t_lt t; simp; omega)

/-- The kernel's result array, from the arguments. -/
abbrev res (c : Dev nD) : FVec Ideal S8192x128 .f32 :=
  lin (m ((c : Thread nD τ).loc main_arg0)) (m ((c : Thread nD τ).loc main_arg1))

/-- The block's element from the input blocks. -/
def out (x0 : Vec Ideal S1024x4096 .bf16) (x1 : Vec Ideal S1x128x4096 .f32) : Vec Ideal S1024x128 .f32 := fun y =>
  ∑ k : Fin 4096, x0 (ix2 (⟨(y 0).val, ValueIdx.idx2_lt0 y⟩ : Fin 1024) k) * x1 (ix3 0 (⟨(y 1).val, ValueIdx.idx2_lt1 y⟩ : Fin 128) k)

theorem ldw {e : EltTy} (X : S1x128x4096.Idx → Elt Ideal e) : View.ld X r0_0 = X :=
  View.ld_unit_zero (funext fun a => by fin_cases a <;> rfl) _ _

/-- The two stores are the two halves of the block. -/
theorem out_eq (x0 : Vec Ideal S1024x4096 .bf16) (x1 : Vec Ideal S1x128x4096 .f32) (y : S1024x128.Idx) :
    out0_2 x0 x1 y = out x0 x1 y := by
  unfold out0_2
  refine View.canon_apply_of_pieces (out x0 x1) _ ?_ y (cover0_2 _ _ y)
  intro p hp x
  simp only [List.mem_cons, List.not_mem_nil, or_false] at hp
  rcases hp with rfl | rfl
  · obtain ⟨r, n, rfl⟩ : ∃ (r : Fin 512) (n : Fin 128), x = ix2 r n := ⟨x 0, x 1, eq_ix2 x⟩
    have he : r0_4.emb (ix2 r n) = (ix2 (⟨512 + r.val, by omega⟩ : Fin 1024) n : S1024x128.Idx) := funext fun a => Fin.ext (by
      match a with | ⟨0, _⟩ => (show 512 + 1 * r.val = 512 + r.val; omega) | ⟨1, _⟩ => (show 0 + 1 * n.val = n.val; omega))
    show k0_pay3 (View.ld x1 r0_0) (View.ld x0 r0_3) (ix2 r n) = _
    rw [he, ldw]
    pointwise [k0_pay3, k0_pay1, out]
  · obtain ⟨r, n, rfl⟩ : ∃ (r : Fin 512) (n : Fin 128), x = ix2 r n := ⟨x 0, x 1, eq_ix2 x⟩
    have he : r0_2.emb (ix2 r n) = (ix2 (⟨r.val, by omega⟩ : Fin 1024) n : S1024x128.Idx) := funext fun a => Fin.ext (by
      match a with | ⟨0, _⟩ => (show 0 + 1 * r.val = r.val; omega) | ⟨1, _⟩ => (show 0 + 1 * n.val = n.val; omega))
    show k0_pay2 (View.ld x1 r0_0) (View.ld x0 r0_1) (ix2 r n) = _
    rw [he, ldw]
    pointwise [k0_pay2, k0_pay1, out]

/-- What a point writes back is its block of the result. -/
theorem flushed_eq (c : Dev nD) (t : Fin cfg0.N) :
    (dats m 0 c).flushed 2 t = ((cfg0.win 2).blk t).view.read (Elt Ideal) (res m c) := by
  rw [Value.flushed2]
  obtain ⟨-, -, -, -, -, h0, h1⟩ := idx_facts t
  have ht := t_lt t
  funext j
  obtain ⟨r, n, rfl⟩ : ∃ (r : Fin 1024) (n : Fin 128), j = ix2 r n := ⟨j 0, j 1, eq_ix2 j⟩
  have hr : ((cfg0.win 2).blk t).view.read (Elt Ideal) (res m c) (ix2 r n) = res m c (ix2 ⟨t.val * 1024 + r.val, by omega⟩ ⟨n.val, by omega⟩) := by
    refine congrArg (res m c) (funext fun a => Fin.ext ?_)
    match a with
    | ⟨0, _⟩ => show win0_2.index t 0 * 1024 + 1 * r.val = _; rw [h0]; simp
    | ⟨1, _⟩ => show win0_2.index t 1 * 128 + 1 * n.val = _; rw [h1]; simp
  rw [hr]
  show out0_2 (iblk m c 0 t) (iblk m c 1 t) (ix2 r n) = _
  rw [out_eq]
  unfold out
  refine Finset.sum_congr rfl fun k _ => congr_arg₂ (· * ·) ((blk0 m c t _ _).trans ?_) ((blk1 m c t _ _ _).trans ?_)
  · rw [V0]; exact castH ..
  · rw [V1]
    refine (castW ..).trans (congrArg (m ((c : Thread nD τ).loc main_arg1)) ?_)
    funext a
    match a with
    | ⟨0, _⟩ => rfl
    | ⟨1, _⟩ => rfl
    | ⟨2, _⟩ => exact Fin.ext (by simp [ix3]; try omega)

/-- The array after the run. -/
theorem arr_eq (c : Dev nD) : (dats m 0 c).arrAt 2 cfg0.N = res m c := by
  have hc : (cfg0.win 2).Covers := by decide +kernel
  exact (dats m 0 c).arrAt_eq_of_cover 2 (res m c) (fun t _ => flushed_eq m c t) (Pipeline.Window.Covers.cover (cfg0.win 2) hc (Memref.isWhole_whole main_v2))

end Cert.Kw

end
-- ==== Proof.Kw.Ref.lean ====
/-
  What the reference of the projection computes, element by element, and the two runs side by side.
-/
module

public import proofs.«01_k».proof.Proof.Kw.Val
public import proofs.«01_k».proof.Proof.Gen.Kernel12
public import proofs.«01_k».proof.Proof.Gen.Reference12Ideal.Run
public import Idealize.ShloMosaic.Lib.Quiescent

@[expose] public section

set_option maxRecDepth 16384

noncomputable section

namespace Cert.Kw

open Idealize.ShloMosaic Idealize.ShloMosaic.TcCoe Idealize.SL.Sem
open scoped BigOperators

section
open Cert.Reference12Ideal Cert.Reference12Ideal.Gen

/-- The reference's result, element by element. -/
theorem ref_eq (h : FVec Ideal S4x2048x4096 .bf16) (w : FVec Ideal S1x4096x17504 .f32) :
    shapeCast S8192x128 ((concatenate S4x2048x128 2 [⟨S4x2048x64, ((extractStridedSlice S4x2048x64 ![0, 0, 5120] (Host.dotGeneral (F := Ideal) dot_S4x2048x4096_S4096x17504_S4x2048x17504_2_0_01_1_n_n none (extf .f32 h bitsLt_bf16_f32) (shapeCast S4096x17504 w shapeCasts_S1x4096x17504_S4096x17504)) slices_S4x2048x17504_S4x2048x64_0_0_5120) : (⟨S4x2048x64, .f32⟩ : BufTy).Contents (Elt Ideal))⟩, ⟨S4x2048x32, ((extractStridedSlice S4x2048x32 ![0, 0, 5184] (Host.dotGeneral (F := Ideal) dot_S4x2048x4096_S4096x17504_S4x2048x17504_2_0_01_1_n_n none (extf .f32 h bitsLt_bf16_f32) (shapeCast S4096x17504 w shapeCasts_S1x4096x17504_S4096x17504)) slices_S4x2048x17504_S4x2048x32_0_0_5184) : (⟨S4x2048x32, .f32⟩ : BufTy).Contents (Elt Ideal))⟩, ⟨S4x2048x32, ((extractStridedSlice S4x2048x32 ![0, 0, 0] (extractStridedSlice S4x2048x2048 ![0, 0, 5216] (Host.dotGeneral (F := Ideal) dot_S4x2048x4096_S4096x17504_S4x2048x17504_2_0_01_1_n_n none (extf .f32 h bitsLt_bf16_f32) (shapeCast S4096x17504 w shapeCasts_S1x4096x17504_S4096x17504)) slices_S4x2048x17504_S4x2048x2048_0_0_5216) slices_S4x2048x2048_S4x2048x32_0_0_0) : (⟨S4x2048x32, .f32⟩ : BufTy).Contents (Elt Ideal))⟩] concatenates_S4x2048x64_S4x2048x32_S4x2048x32_S4x2048x128_d2 : (⟨S4x2048x128, .f32⟩ : BufTy).Contents (Elt Ideal))) shapeCasts_S4x2048x128_S8192x128
      = lin h w := by
  funext i
  obtain ⟨r, n, rfl⟩ : ∃ (r : Fin 8192) (n : Fin 128), i = ix2 r n := ⟨i 0, i 1, eq_ix2 i⟩
  pointwise [lin]
  split_ifs <;> first
    | with_reducible rfl
    | exact Finset.sum_congr rfl fun k _ => congrArg (h _ * ·) (congrArg w (congrArg (ix3 0 k) (Fin.ext (by dsimp only; omega))))
    | (exfalso; omega)

end

/-- The kernel at the extended reals computes what the reference computes. -/
theorem algebraic : Cert.algebraic_Kernel12Ideal_Reference12Ideal := fun m ρ m' ρ' _ hin =>
  ⟨fun c => res m c,
    (θ_run Cert.Kernel12Ideal.defs _ _).mono (fun _ h c => ⟨(h c).1.trans (arr_eq m c), (h c).2⟩) (Cert.Kernel12Ideal.Value.run_blocks m ρ),
    (θ_run Cert.Reference12Ideal.defs _ _).mono (fun _ h c => ⟨(h c).1.trans ((ref_eq _ _).trans
      (by rw [(hin c).1, (hin c).2])), (h c).2⟩) (Cert.Reference12Ideal.Value.run m' ρ')⟩

/-- The printed program's body table is the idealized one's, the texts being the same. -/
theorem defs_eq : Cert.Kernel12.defs (F := Bits) = Cert.Kernel12Ideal.defs (F := Bits) :=
  congrArg (Pipeline.defs _) (congrArg Defs.onTc (funext fun l => match l with | 0 => funext fun _ => rfl))

/-- The frames. -/
theorem frame_kernel : Cert.quiescent_Kernel12 := fun m ρ _ => by
  rw [defs_eq]; exact Cert.Kernel12Ideal.Gen.frame (F := Bits) m ρ
theorem frame_ideal : Cert.quiescent_Kernel12Ideal := fun m ρ _ => Cert.Kernel12Ideal.Gen.frame (F := Ideal) m ρ
theorem frame_ref : Cert.quiescent_Reference12Ideal := fun m ρ _ =>
  (θ_run Cert.Reference12Ideal.defs _ _).mono (fun r h => ⟨fun c => (h c).2, Idealize.ShloMosaic.sem_eq_zero_of_no_sems (by decide) r.2⟩) (Cert.Reference12Ideal.Value.run (F := Ideal) m ρ)

end Cert.Kw

end
-- ==== Proof.Sgu.Val.lean ====
/-
  The values of the gating unit: each point of the grid takes four chunks of 128 rows, normalizes the second half of their
  features, mixes each chunk's rows by a triangular matrix a group of features at a time, and multiplies with the first half.
-/
module

public import proofs.«01_k».proof.Defs
public import proofs.«01_k».proof.Proof.Gen.Kernel13Ideal.Value
public import Idealize.ShloMosaic.Lib.Pipeline.Value
public import Idealize.ShloMosaic.Lib.Pipeline.ValueKit.Geometry
public import Idealize.ShloMosaic.Lib.Pipeline.ValueKit.Tiles
public import Idealize.ShloMosaic.Lib.Pointwise
public import Idealize.ShloMosaic.Lib.ValueLayout
public import Idealize.ShloMosaic.Lib.IdealHost

@[expose] public section

set_option maxRecDepth 16384

noncomputable section

namespace Cert.Sgu

open Cert.Kernel13Ideal Cert.Kernel13Ideal.Gen Idealize.ShloMosaic Idealize.ShloMosaic.TcCoe Idealize.SL.Sem
open Idealize.ShloMosaic.Pipeline (Dat)
open scoped BigOperators

/-- A row's entry over the row's root mean square, times the gain. -/
def vnorm (x g : Fin 2048 → EReal) (d : Fin 2048) : EReal :=
  x d * Ideal.rsqrt (Ideal.div (∑ j, x j * x j) (Ideal.ofBits .f32 0x45000000#32) + Ideal.ofBits .f32 0x358637BD#32) * g d

/-- One element: the gate times the mixed column, the matrix below its diagonal, plus the bias. -/
def mix (u : EReal) (p : Fin 128) (w v : Fin 128 → EReal) (b : EReal) : EReal :=
  u * ((∑ j : Fin 128, (if j.val ≤ p.val then w j else 0) * v j) + b)

/-- The result at a row and a feature. -/
def sgu (uv : FVec Ideal S4x2048x4096 .bf16) (g : FVec Ideal S1x2048 .f32) (w : FVec Ideal S1x8x128x128 .f32) (b : FVec Ideal S1x8x128 .f32) : FVec Ideal S8192x2048 .bf16 := fun i =>
  let r := (i 0).val
  have hr : r < 8192 := ValueIdx.idx2_lt0 i
  let d : Fin 2048 := ⟨(i 1).val, ValueIdx.idx2_lt1 i⟩
  let p : Fin 128 := ⟨r % 128, by omega⟩
  let q : Fin 8 := ⟨d.val / 256, by omega⟩
  mix (uv (ix3 (⟨r / 2048, by omega⟩ : Fin 4) (⟨r % 2048, by omega⟩ : Fin 2048) (⟨d.val, by omega⟩ : Fin 4096))) p (fun j => w (ix4 0 q p j))
    (fun j => vnorm (fun k => uv (ix3 (⟨r / 2048, by omega⟩ : Fin 4) (⟨r % 2048 / 128 * 128 + j.val, by omega⟩ : Fin 2048) (⟨2048 + k.val, by omega⟩ : Fin 4096))) (fun k => g (ix2 0 k)) d)
    (b (ix3 0 q p))

variable (m : (ℓ : Loc nD τ sig) → Buf (Elt Ideal) ℓ) (ρ : Dev nD → PrngReg)

theorem V0 (c : Dev nD) : V m c main_v0 = shapeCast _ (m ((c : Thread nD τ).loc main_arg0)) shapeCasts_S4x2048x4096_S8192x4096 := by
  unfold V hostOps0; after_results <;> rfl
theorem V4 (c : Dev nD) : V m c main_v4 = shapeCast _ (shapeCast S2048 (m ((c : Thread nD τ).loc main_arg1)) shapeCasts_S1x2048_S2048) shapeCasts_S2048_S1x2048 := by
  unfold V hostOps0; after_results <;> rfl
theorem V2 (c : Dev nD) : V m c main_v2 = shapeCast _ (m ((c : Thread nD τ).loc main_arg2)) shapeCasts_S1x8x128x128_S8x128x128 := by
  unfold V hostOps0; after_results <;> rfl
theorem V5 (c : Dev nD) : V m c main_v5 = transpose S128x8 [1, 0] (shapeCast S8x128 (m ((c : Thread nD τ).loc main_arg3)) shapeCasts_S1x8x128_S8x128) transposes_S8x128_S128x8_1_0 := by
  unfold V hostOps0; after_results <;> rfl
theorem castX (x : FVec Ideal S4x2048x4096 .bf16) (r : Fin 8192) (k : Fin 4096) :
    shapeCast S8192x4096 x shapeCasts_S4x2048x4096_S8192x4096 (ix2 r k) = x (ix3 ⟨r.val / 2048, by omega⟩ ⟨r.val % 2048, by omega⟩ k) := by pointwise
theorem castG (g : FVec Ideal S1x2048 .f32) (j : Fin 2048) :
    shapeCast S1x2048 (shapeCast S2048 g shapeCasts_S1x2048_S2048) shapeCasts_S2048_S1x2048 (ix2 0 j) = g (ix2 0 j) := by pointwise
theorem castW (w : FVec Ideal S1x8x128x128 .f32) (q : Fin 8) (p j : Fin 128) :
    shapeCast S8x128x128 w shapeCasts_S1x8x128x128_S8x128x128 (ix3 q p j) = w (ix4 0 q p j) := by pointwise
theorem castB (b : FVec Ideal S1x8x128 .f32) (q : Fin 8) (p : Fin 128) :
    transpose S128x8 [1, 0] (shapeCast S8x128 b shapeCasts_S1x8x128_S8x128) transposes_S8x128_S128x8_1_0 (ix2 p q) = b (ix3 0 q p) := by pointwise

theorem t_lt (t : Fin cfg0.N) : t.val < 16 := lt_of_lt_of_eq t.isLt N_0

/-- The blocks' places, decided over the grid. -/
theorem idx_facts : ∀ t : Fin cfg0.N,
    win0_0.index t 0 = t.val
    ∧ win0_0.index t 1 = 0
    ∧ win0_1.index t 0 = t.val
    ∧ win0_1.index t 1 = 1
    ∧ win0_2.index t 0 = 0
    ∧ win0_2.index t 1 = 0
    ∧ win0_3.index t 0 = 0
    ∧ win0_3.index t 1 = 0
    ∧ win0_3.index t 2 = 0
    ∧ win0_4.index t 0 = 0
    ∧ win0_4.index t 1 = 0
    ∧ win0_5.index t 0 = t.val
    ∧ win0_5.index t 1 = 0 :=
  (by decide +kernel : ∀ t : Fin grid0.N, _)

theorem blk0 (c : Dev nD) (t : Fin cfg0.N) (i0 : Fin 512) (i1 : Fin 2048) :
    (iblk m c 0 t : S512x2048.Idx → EReal) (ix2 i0 i1) = V m c main_v0 (ix2 ⟨t.val * 512 + i0.val, by have := t_lt t; omega⟩ ⟨i1.val, by have := t_lt t; omega⟩) := by
  obtain ⟨h0, h1, -, -, -, -, -, -, -, -, -, -, -⟩ := idx_facts t
  refine congrArg (V m c main_v0) (funext fun a => Fin.ext ?_)
  match a with
  | ⟨0, _⟩ => show win0_0.index t 0 * 512 + 1 * i0.val = _; rw [h0]; first | rfl | (simp; done) | (simp only [ix2, ix3, ix4]; have := t_lt t; simp; omega)
  | ⟨1, _⟩ => show win0_0.index t 1 * 2048 + 1 * i1.val = _; rw [h1]; first | rfl | (simp; done) | (simp only [ix2, ix3, ix4]; have := t_lt t; simp; omega)

theorem blk1 (c : Dev nD) (t : Fin cfg0.N) (i0 : Fin 512) (i1 : Fin 2048) :
    (iblk m c 1 t : S512x2048.Idx → EReal) (ix2 i0 i1) = V m c main_v0 (ix2 ⟨t.val * 512 + i0.val, by have := t_lt t; omega⟩ ⟨2048 + i1.val, by have := t_lt t; omega⟩) := by
  obtain ⟨-, -, h0, h1, -, -, -, -, -, -, -, -, -⟩ := idx_facts t
  refine congrArg (V m c main_v0) (funext fun a => Fin.ext ?_)
  match a with
  | ⟨0, _⟩ => show win0_1.index t 0 * 512 + 1 * i0.val = _; rw [h0]; first | rfl | (simp; done) | (simp only [ix2, ix3, ix4]; have := t_lt t; simp; omega)
  | ⟨1, _⟩ => show win0_1.index t 1 * 2048 + 1 * i1.val = _; rw [h1]; first | rfl | (simp; done) | (simp only [ix2, ix3, ix4]; have := t_lt t; simp; omega)

theorem blk2 (c : Dev nD) (t : Fin cfg0.N) (i0 : Fin 1) (i1 : Fin 2048) :
    (iblk m c 2 t : S1x2048.Idx → EReal) (ix2 i0 i1) = V m c main_v4 (ix2 0 i1) := by
  obtain ⟨-, -, -, -, h0, h1, -, -, -, -, -, -, -⟩ := idx_facts t
  refine congrArg (V m c main_v4) (funext fun a => Fin.ext ?_)
  match a with
  | ⟨0, _⟩ => show win0_2.index t 0 * 1 + 1 * i0.val = _; rw [h0]; first | rfl | (simp; done) | (simp only [ix2, ix3, ix4]; have := t_lt t; simp; omega)
  | ⟨1, _⟩ => show win0_2.index t 1 * 2048 + 1 * i1.val = _; rw [h1]; first | rfl | (simp; done) | (simp only [ix2, ix3, ix4]; have := t_lt t; simp; omega)

theorem blk3 (c : Dev nD) (t : Fin cfg0.N) (i0 : Fin 8) (i1 : Fin 128) (i2 : Fin 128) :
    (iblk m c 3 t : S8x128x128.Idx → EReal) (ix3 i0 i1 i2) = V m c main_v2 (ix3 i0 i1 i2) := by
  obtain ⟨-, -, -, -, -, -, h0, h1, h2, -, -, -, -⟩ := idx_facts t
  refine congrArg (V m c main_v2) (funext fun a => Fin.ext ?_)
  match a with
  | ⟨0, _⟩ => show win0_3.index t 0 * 8 + 1 * i0.val = _; rw [h0]; first | rfl | (simp; done) | (simp only [ix2, ix3, ix4]; have := t_lt t; simp; omega)
  | ⟨1, _⟩ => show win0_3.index t 1 * 128 + 1 * i1.val = _; rw [h1]; first | rfl | (simp; done) | (simp only [ix2, ix3, ix4]; have := t_lt t; simp; omega)
  | ⟨2, _⟩ => show win0_3.index t 2 * 128 + 1 * i2.val = _; rw [h2]; first | rfl | (simp; done) | (simp only [ix2, ix3, ix4]; have := t_lt t; simp; omega)

theorem blk4 (c : Dev nD) (t : Fin cfg0.N) (i0 : Fin 128) (i1 : Fin 8) :
    (iblk m c 4 t : S128x8.Idx → EReal) (ix2 i0 i1) = V m c main_v5 (ix2 i0 i1) := by
  obtain ⟨-, -, -, -, -, -, -, -, -, h0, h1, -, -⟩ := idx_facts t
  refine congrArg (V m c main_v5) (funext fun a => Fin.ext ?_)
  match a with
  | ⟨0, _⟩ => show win0_4.index t 0 * 128 + 1 * i0.val = _; rw [h0]; first | rfl | (simp; done) | (simp only [ix2, ix3, ix4]; have := t_lt t; simp; omega)
  | ⟨1, _⟩ => show win0_4.index t 1 * 8 + 1 * i1.val = _; rw [h1]; first | rfl | (simp; done) | (simp only [ix2, ix3, ix4]; have := t_lt t; simp; omega)

/-- The kernel's result array, from the arguments. -/
abbrev res (c : Dev nD) : FVec Ideal S8192x2048 .bf16 :=
  sgu (m ((c : Thread nD τ).loc main_arg0)) (m ((c : Thread nD τ).loc main_arg1)) (m ((c : Thread nD τ).loc main_arg2)) (m ((c : Thread nD τ).loc main_arg3))

/-- The block's element from the input blocks. -/
def out (x0 x1 : Vec Ideal S512x2048 .bf16) (x2 : Vec Ideal S1x2048 .f32) (x3 : Vec Ideal S8x128x128 .f32) (x4 : Vec Ideal S128x8 .f32) : Vec Ideal S512x2048 .bf16 := fun i =>
  let r := (i 0).val
  have hr : r < 512 := ValueIdx.idx2_lt0 i
  let d : Fin 2048 := ⟨(i 1).val, ValueIdx.idx2_lt1 i⟩
  let p : Fin 128 := ⟨r % 128, by omega⟩
  let q : Fin 8 := ⟨d.val / 256, by omega⟩
  mix (x0 (ix2 (⟨r, hr⟩ : Fin 512) d)) p (fun j => x3 (ix3 q p j))
    (fun j => vnorm (fun k => x1 (ix2 (⟨r / 128 * 128 + j.val, by omega⟩ : Fin 512) k)) (fun k => x2 (ix2 0 k)) d) (x4 (ix2 p q))

theorem pay1_apply (x1 : Vec Ideal S512x2048 .bf16) (x2 : Vec Ideal S1x2048 .f32) (r : Fin 512) (d : Fin 2048) :
    k0_pay1 x1 x2 (ix2 r d) = vnorm (fun k => x1 (ix2 r k)) (fun k => x2 (ix2 0 k)) d := by
  pointwise [k0_pay1, vnorm]

/-- The weight's matrix below its diagonal. -/
def low (w : FVec Ideal S128x128 .f32) : FVec Ideal S128x128 .f32 :=
  select (cmpi .sge (iota .tc S128x128 32 [0] iota_S128x128_d0_w32) (iota .tc S128x128 32 [1] iota_S128x128_d1_w32)) w (broadcast S128x128 (Scalar.ofBits .f32 0x00000000#32))

theorem low_apply (w : FVec Ideal S128x128 .f32) (p j : Fin 128) : low w (ix2 p j) = if j.val ≤ p.val then w (ix2 p j) else 0 := by
  pointwise [low]
  rw [WordCmp.cmpi_sge_ofNat (by have := p.isLt; omega) (by have := j.isLt; omega), WordCmp.ofBool_decide_eq_ite]
  by_cases h : j.val ≤ p.val
  · rw [if_pos h, if_pos h]; rfl
  · rw [if_neg h, if_neg h]; rfl

/-- One store of the body: a chunk's rows and a group's features. -/
def cell (w : Vec Ideal S1x128x128 .f32) (b : Vec Ideal S128x1 .f32) (v u : Vec Ideal S128x256 .bf16) : FVec Ideal S128x256 .bf16 :=
  truncf .bf16 (mulf (extf .f32 (shapeCast S128x256 u shapeCasts_S128x256_S128x256 : FVec Ideal S128x256 .bf16) bitsLt_bf16_f32)
    (addf (matmul (φ₂ := .bf16) dot_S128x128_S128x256_S128x256_1_0_0_1_n_n none (truncf .bf16 (low (shapeCast S128x128 w shapeCasts_S1x128x128_S128x128)) bitsLt_bf16_f32) v (constant S128x256 .f32 0x00000000#32))
      (broadcastTo S128x256 (shapeCast S128x1 b shapeCasts_S128x1_S128x1) broadcasts_S128x1_S128x256))) bitsLt_bf16_f32

theorem cell_apply (w : Vec Ideal S1x128x128 .f32) (b : Vec Ideal S128x1 .f32) (v u : Vec Ideal S128x256 .bf16) (p : Fin 128) (q : Fin 256) :
    cell w b v u (ix2 p q) = mix (u (ix2 p q)) p (fun j => w (ix3 0 p j)) (fun j => v (ix2 j q)) (b (ix2 p 0)) := by
  have hl := low_apply (shapeCast S128x128 w shapeCasts_S1x128x128_S128x128)
  unfold cell
  generalize low (shapeCast S128x128 w shapeCasts_S1x128x128_S128x128) = L at hl ⊢
  pointwise [mix]
  simp only [hl]
  pointwise

/-- A store is its rectangle of the block. -/
theorem piece_eq (x0 x1 : Vec Ideal S512x2048 .bf16) (x2 : Vec Ideal S1x2048 .f32) (x3 : Vec Ideal S8x128x128 .f32) (x4 : Vec Ideal S128x8 .f32)
    (n g : ℕ) (hn : n < 4) (hg : g < 8) (h0 : ∀ a, (![128 * n, 256 * g] : Fin 2 → ℕ) a + S128x256.size a ≤ S512x2048.size a)
    (h3 : ∀ a, (![g, 0, 0] : Fin 3 → ℕ) a + S1x128x128.size a ≤ S8x128x128.size a) (h4 : ∀ a, (![0, g] : Fin 2 → ℕ) a + S128x1.size a ≤ S128x8.size a)
    (h1 : S512x2048.Slices ![128 * n, 256 * g] S128x256) (x : S128x256.Idx) :
    cell (View.ld x3 (Rect.unit (s := S8x128x128) ![g, 0, 0] S1x128x128.size h3)) (View.ld x4 (Rect.unit (s := S128x8) ![0, g] S128x1.size h4))
        (extractStridedSlice S128x256 ![128 * n, 256 * g] (k0_pay1 (View.ld x1 r0_0) (View.ld x2 r0_1)) h1)
        (View.ld x0 (Rect.unit (s := S512x2048) ![128 * n, 256 * g] S128x256.size h0)) x
      = out x0 x1 x2 x3 x4 ((Rect.unit (s := S512x2048) ![128 * n, 256 * g] S128x256.size h0).emb x) := by
  obtain ⟨p, q, rfl⟩ : ∃ (p : Fin 128) (q : Fin 256), x = ix2 p q := ⟨x 0, x 1, eq_ix2 x⟩
  have hz2 : (![0, 0] : Fin 2 → ℕ) = fun _ => 0 := funext fun a => by fin_cases a <;> rfl
  have he : (Rect.unit (s := S512x2048) ![128 * n, 256 * g] S128x256.size h0).emb (ix2 p q) = (ix2 (⟨128 * n + p.val, by omega⟩ : Fin 512) (⟨256 * g + q.val, by omega⟩ : Fin 2048) : S512x2048.Idx) :=
    funext fun a => Fin.ext (by
      match a with | ⟨0, _⟩ => (show 128 * n + 1 * p.val = 128 * n + p.val; omega) | ⟨1, _⟩ => (show 256 * g + 1 * q.val = 256 * g + q.val; omega))
  have e1 : View.ld x1 r0_0 = x1 := View.ld_unit_zero hz2 _ _
  have e2 : View.ld x2 r0_1 = x2 := View.ld_unit_zero hz2 _ _
  rw [cell_apply, he, e1, e2]
  have hp : (128 * n + p.val) % 128 = p.val := by omega
  have hq : (256 * g + q.val) / 256 = g := by omega
  show mix _ _ _ _ _ = mix _ _ _ _ _
  refine congr (congr (congr (congr_arg₂ mix ?_ (Fin.ext hp.symm)) (funext fun j => ?_)) (funext fun j => ?_)) ?_
  · exact congrArg x0 he
  · refine congrArg x3 (funext fun a => Fin.ext ?_)
    match a with
    | ⟨0, _⟩ => show g + 1 * 0 = (256 * g + q.val) / 256; omega
    | ⟨1, _⟩ => show 0 + 1 * p.val = (128 * n + p.val) % 128; omega
    | ⟨2, _⟩ => show 0 + 1 * j.val = j.val; omega
  · refine Eq.trans ?_ ((pay1_apply x1 x2 (⟨128 * n + j.val, by omega⟩ : Fin 512) (⟨256 * g + q.val, by omega⟩ : Fin 2048)).trans ?_)
    · refine congrArg (k0_pay1 x1 x2) (funext fun a => Fin.ext ?_)
      match a with
      | ⟨0, _⟩ => rfl
      | ⟨1, _⟩ => rfl
    · refine congrArg (fun f => vnorm f _ _) (funext fun k => congrArg (fun y => x1 (ix2 y k)) (Fin.ext ?_))
      show 128 * n + j.val = (128 * n + p.val) / 128 * 128 + j.val; omega
  · refine congrArg x4 (funext fun a => Fin.ext ?_)
    match a with
    | ⟨0, _⟩ => show 0 + 1 * p.val = (128 * n + p.val) % 128; omega
    | ⟨1, _⟩ => show g + 1 * 0 = (256 * g + q.val) / 256; omega

/-- The stores are the block's rectangles. -/
theorem out_eq (x0 x1 : Vec Ideal S512x2048 .bf16) (x2 : Vec Ideal S1x2048 .f32) (x3 : Vec Ideal S8x128x128 .f32) (x4 : Vec Ideal S128x8 .f32) (y : S512x2048.Idx) :
    out0_5 x0 x1 x2 x3 x4 y = out x0 x1 x2 x3 x4 y := by
  unfold out0_5
  refine View.canon_apply_of_pieces (out x0 x1 x2 x3 x4) _ ?_ y (cover0_5 _ _ _ _ _ _ _ _ _ _ _ _ _ _ _ _ _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact piece_eq x0 x1 x2 x3 x4 3 7 (by decide) (by decide) inb_S512x2048_S128x256_384_1792 inb_S8x128x128_S1x128x128_7_0_0 inb_S128x8_S128x1_0_7 slices_S512x2048_o384_1792_S128x256 x
  · exact piece_eq x0 x1 x2 x3 x4 2 7 (by decide) (by decide) inb_S512x2048_S128x256_256_1792 inb_S8x128x128_S1x128x128_7_0_0 inb_S128x8_S128x1_0_7 slices_S512x2048_o256_1792_S128x256 x
  · exact piece_eq x0 x1 x2 x3 x4 1 7 (by decide) (by decide) inb_S512x2048_S128x256_128_1792 inb_S8x128x128_S1x128x128_7_0_0 inb_S128x8_S128x1_0_7 slices_S512x2048_o128_1792_S128x256 x
  · exact piece_eq x0 x1 x2 x3 x4 0 7 (by decide) (by decide) inb_S512x2048_S128x256_0_1792 inb_S8x128x128_S1x128x128_7_0_0 inb_S128x8_S128x1_0_7 slices_S512x2048_o0_1792_S128x256 x
  · exact piece_eq x0 x1 x2 x3 x4 3 6 (by decide) (by decide) inb_S512x2048_S128x256_384_1536 inb_S8x128x128_S1x128x128_6_0_0 inb_S128x8_S128x1_0_6 slices_S512x2048_o384_1536_S128x256 x
  · exact piece_eq x0 x1 x2 x3 x4 2 6 (by decide) (by decide) inb_S512x2048_S128x256_256_1536 inb_S8x128x128_S1x128x128_6_0_0 inb_S128x8_S128x1_0_6 slices_S512x2048_o256_1536_S128x256 x
  · exact piece_eq x0 x1 x2 x3 x4 1 6 (by decide) (by decide) inb_S512x2048_S128x256_128_1536 inb_S8x128x128_S1x128x128_6_0_0 inb_S128x8_S128x1_0_6 slices_S512x2048_o128_1536_S128x256 x
  · exact piece_eq x0 x1 x2 x3 x4 0 6 (by decide) (by decide) inb_S512x2048_S128x256_0_1536 inb_S8x128x128_S1x128x128_6_0_0 inb_S128x8_S128x1_0_6 slices_S512x2048_o0_1536_S128x256 x
  · exact piece_eq x0 x1 x2 x3 x4 3 5 (by decide) (by decide) inb_S512x2048_S128x256_384_1280 inb_S8x128x128_S1x128x128_5_0_0 inb_S128x8_S128x1_0_5 slices_S512x2048_o384_1280_S128x256 x
  · exact piece_eq x0 x1 x2 x3 x4 2 5 (by decide) (by decide) inb_S512x2048_S128x256_256_1280 inb_S8x128x128_S1x128x128_5_0_0 inb_S128x8_S128x1_0_5 slices_S512x2048_o256_1280_S128x256 x
  · exact piece_eq x0 x1 x2 x3 x4 1 5 (by decide) (by decide) inb_S512x2048_S128x256_128_1280 inb_S8x128x128_S1x128x128_5_0_0 inb_S128x8_S128x1_0_5 slices_S512x2048_o128_1280_S128x256 x
  · exact piece_eq x0 x1 x2 x3 x4 0 5 (by decide) (by decide) inb_S512x2048_S128x256_0_1280 inb_S8x128x128_S1x128x128_5_0_0 inb_S128x8_S128x1_0_5 slices_S512x2048_o0_1280_S128x256 x
  · exact piece_eq x0 x1 x2 x3 x4 3 4 (by decide) (by decide) inb_S512x2048_S128x256_384_1024 inb_S8x128x128_S1x128x128_4_0_0 inb_S128x8_S128x1_0_4 slices_S512x2048_o384_1024_S128x256 x
  · exact piece_eq x0 x1 x2 x3 x4 2 4 (by decide) (by decide) inb_S512x2048_S128x256_256_1024 inb_S8x128x128_S1x128x128_4_0_0 inb_S128x8_S128x1_0_4 slices_S512x2048_o256_1024_S128x256 x
  · exact piece_eq x0 x1 x2 x3 x4 1 4 (by decide) (by decide) inb_S512x2048_S128x256_128_1024 inb_S8x128x128_S1x128x128_4_0_0 inb_S128x8_S128x1_0_4 slices_S512x2048_o128_1024_S128x256 x
  · exact piece_eq x0 x1 x2 x3 x4 0 4 (by decide) (by decide) inb_S512x2048_S128x256_0_1024 inb_S8x128x128_S1x128x128_4_0_0 inb_S128x8_S128x1_0_4 slices_S512x2048_o0_1024_S128x256 x
  · exact piece_eq x0 x1 x2 x3 x4 3 3 (by decide) (by decide) inb_S512x2048_S128x256_384_768 inb_S8x128x128_S1x128x128_3_0_0 inb_S128x8_S128x1_0_3 slices_S512x2048_o384_768_S128x256 x
  · exact piece_eq x0 x1 x2 x3 x4 2 3 (by decide) (by decide) inb_S512x2048_S128x256_256_768 inb_S8x128x128_S1x128x128_3_0_0 inb_S128x8_S128x1_0_3 slices_S512x2048_o256_768_S128x256 x
  · exact piece_eq x0 x1 x2 x3 x4 1 3 (by decide) (by decide) inb_S512x2048_S128x256_128_768 inb_S8x128x128_S1x128x128_3_0_0 inb_S128x8_S128x1_0_3 slices_S512x2048_o128_768_S128x256 x
  · exact piece_eq x0 x1 x2 x3 x4 0 3 (by decide) (by decide) inb_S512x2048_S128x256_0_768 inb_S8x128x128_S1x128x128_3_0_0 inb_S128x8_S128x1_0_3 slices_S512x2048_o0_768_S128x256 x
  · exact piece_eq x0 x1 x2 x3 x4 3 2 (by decide) (by decide) inb_S512x2048_S128x256_384_512 inb_S8x128x128_S1x128x128_2_0_0 inb_S128x8_S128x1_0_2 slices_S512x2048_o384_512_S128x256 x
  · exact piece_eq x0 x1 x2 x3 x4 2 2 (by decide) (by decide) inb_S512x2048_S128x256_256_512 inb_S8x128x128_S1x128x128_2_0_0 inb_S128x8_S128x1_0_2 slices_S512x2048_o256_512_S128x256 x
  · exact piece_eq x0 x1 x2 x3 x4 1 2 (by decide) (by decide) inb_S512x2048_S128x256_128_512 inb_S8x128x128_S1x128x128_2_0_0 inb_S128x8_S128x1_0_2 slices_S512x2048_o128_512_S128x256 x
  · exact piece_eq x0 x1 x2 x3 x4 0 2 (by decide) (by decide) inb_S512x2048_S128x256_0_512 inb_S8x128x128_S1x128x128_2_0_0 inb_S128x8_S128x1_0_2 slices_S512x2048_o0_512_S128x256 x
  · exact piece_eq x0 x1 x2 x3 x4 3 1 (by decide) (by decide) inb_S512x2048_S128x256_384_256 inb_S8x128x128_S1x128x128_1_0_0 inb_S128x8_S128x1_0_1 slices_S512x2048_o384_256_S128x256 x
  · exact piece_eq x0 x1 x2 x3 x4 2 1 (by decide) (by decide) inb_S512x2048_S128x256_256_256 inb_S8x128x128_S1x128x128_1_0_0 inb_S128x8_S128x1_0_1 slices_S512x2048_o256_256_S128x256 x
  · exact piece_eq x0 x1 x2 x3 x4 1 1 (by decide) (by decide) inb_S512x2048_S128x256_128_256 inb_S8x128x128_S1x128x128_1_0_0 inb_S128x8_S128x1_0_1 slices_S512x2048_o128_256_S128x256 x
  · exact piece_eq x0 x1 x2 x3 x4 0 1 (by decide) (by decide) inb_S512x2048_S128x256_0_256 inb_S8x128x128_S1x128x128_1_0_0 inb_S128x8_S128x1_0_1 slices_S512x2048_o0_256_S128x256 x
  · exact piece_eq x0 x1 x2 x3 x4 3 0 (by decide) (by decide) inb_S512x2048_S128x256_384_0 inb_S8x128x128_S1x128x128_0_0_0 inb_S128x8_S128x1_0_0 slices_S512x2048_o384_0_S128x256 x
  · exact piece_eq x0 x1 x2 x3 x4 2 0 (by decide) (by decide) inb_S512x2048_S128x256_256_0 inb_S8x128x128_S1x128x128_0_0_0 inb_S128x8_S128x1_0_0 slices_S512x2048_o256_0_S128x256 x
  · exact piece_eq x0 x1 x2 x3 x4 1 0 (by decide) (by decide) inb_S512x2048_S128x256_128_0 inb_S8x128x128_S1x128x128_0_0_0 inb_S128x8_S128x1_0_0 slices_S512x2048_o128_0_S128x256 x
  · exact piece_eq x0 x1 x2 x3 x4 0 0 (by decide) (by decide) inb_S512x2048_S128x256_0_0 inb_S8x128x128_S1x128x128_0_0_0 inb_S128x8_S128x1_0_0 slices_S512x2048_o0_0_S128x256 x

/-- What a point writes back is its block of the result. -/
theorem flushed_eq (c : Dev nD) (t : Fin cfg0.N) :
    (dats m 0 c).flushed 5 t = ((cfg0.win 5).blk t).view.read (Elt Ideal) (res m c) := by
  rw [Value.flushed5]
  obtain ⟨-, -, -, -, -, -, -, -, -, -, -, h0, h1⟩ := idx_facts t
  have ht := t_lt t
  funext j
  obtain ⟨r, n, rfl⟩ : ∃ (r : Fin 512) (n : Fin 2048), j = ix2 r n := ⟨j 0, j 1, eq_ix2 j⟩
  have hr : ((cfg0.win 5).blk t).view.read (Elt Ideal) (res m c) (ix2 r n) = res m c (ix2 ⟨t.val * 512 + r.val, by omega⟩ n) := by
    refine congrArg (res m c) (funext fun a => Fin.ext ?_)
    match a with
    | ⟨0, _⟩ => show win0_5.index t 0 * 512 + 1 * r.val = _; rw [h0]; simp
    | ⟨1, _⟩ => show win0_5.index t 1 * 2048 + 1 * n.val = _; rw [h1]; simp
  rw [hr]
  show out0_5 (iblk m c 0 t) (iblk m c 1 t) (iblk m c 2 t) (iblk m c 3 t) (iblk m c 4 t) (ix2 r n) = _
  rw [out_eq]
  have hp : r.val % 128 = (t.val * 512 + r.val) % 128 := by omega
  show mix _ _ _ _ _ = mix _ _ _ _ _
  refine congr (congr (congr (congr_arg₂ mix ((blk0 m c t _ _).trans ?_) (Fin.ext hp)) (funext fun j => (blk3 m c t _ _ _).trans ?_))
    (funext fun j => congrArg₂ (fun x g => vnorm x g _) (funext fun k => (blk1 m c t _ _).trans ?_) (funext fun k => (blk2 m c t _ _).trans ?_))) ((blk4 m c t _ _).trans ?_)
  · rw [V0]; exact castX ..
  · rw [V2]
    exact (castW ..).trans (congrArg (m ((c : Thread nD τ).loc main_arg2)) (congrArg (fun y => ix4 0 _ y j) (Fin.ext hp)))
  · rw [V0]
    refine (castX ..).trans (congrArg (m ((c : Thread nD τ).loc main_arg0)) (congr_arg₂ (fun y z => ix3 y z _) (Fin.ext ?_) (Fin.ext ?_)))
    · show (t.val * 512 + (r.val / 128 * 128 + j.val)) / 2048 = (t.val * 512 + r.val) / 2048; omega
    · show (t.val * 512 + (r.val / 128 * 128 + j.val)) % 2048 = (t.val * 512 + r.val) % 2048 / 128 * 128 + j.val; omega
  · rw [V4]; exact castG ..
  · rw [V5]
    exact (castB ..).trans (congrArg (m ((c : Thread nD τ).loc main_arg3)) (congrArg (fun y => ix3 0 _ y) (Fin.ext hp)))

/-- The array after the run. -/
theorem arr_eq (c : Dev nD) : (dats m 0 c).arrAt 5 cfg0.N = res m c := by
  have hc : (cfg0.win 5).Covers := by decide +kernel
  exact (dats m 0 c).arrAt_eq_of_cover 5 (res m c) (fun t _ => flushed_eq m c t) (Pipeline.Window.Covers.cover (cfg0.win 5) hc (Memref.isWhole_whole main_v6))

end Cert.Sgu

end
-- ==== Proof.Sgu.Ref.lean ====
/-
  What the reference of the gate over the mixed columns computes, element by element, and the two runs side by side.
-/
module

public import proofs.«01_k».proof.Proof.Sgu.Val
public import proofs.«01_k».proof.Proof.Gen.Kernel13
public import proofs.«01_k».proof.Proof.Gen.Reference13Ideal.Run
public import Idealize.ShloMosaic.Lib.Quiescent

@[expose] public section

set_option maxRecDepth 16384

noncomputable section

namespace Cert.Sgu

open Idealize.ShloMosaic Idealize.ShloMosaic.TcCoe Idealize.SL.Sem
open scoped BigOperators

section
open Cert.Reference13Ideal Cert.Reference13Ideal.Gen

/-- The reference's normalized values. -/
def rvn (uv : FVec Ideal S4x2048x4096 .bf16) (g : FVec Ideal S1x2048 .f32) : FVec Ideal S4x2048x2048 .f32 :=
  (mulf (mulf (extractStridedSlice S4x2048x2048 ![0, 0, 2048] (extf .f32 uv bitsLt_bf16_f32) slices_S4x2048x4096_S4x2048x2048_0_0_2048) (broadcastInDim S4x2048x2048 ![0, 1, 2] bcast_S4x2048x1_S4x2048x2048_0_1_2 (Host.rsqrt (F := Ideal) (addf (Host.divf (broadcastInDim S4x2048x1 ![0, 1] bcast_S4x2048_S4x2048x1_0_1 (Host.reduceAdd (mulf (extractStridedSlice S4x2048x2048 ![0, 0, 2048] (extf .f32 uv bitsLt_bf16_f32) slices_S4x2048x4096_S4x2048x2048_0_0_2048) (extractStridedSlice S4x2048x2048 ![0, 0, 2048] (extf .f32 uv bitsLt_bf16_f32) slices_S4x2048x4096_S4x2048x2048_0_0_2048)) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast S2048 g shapeCasts_S1x2048_S2048))))

theorem rvn_apply (uv : FVec Ideal S4x2048x4096 .bf16) (g : FVec Ideal S1x2048 .f32) (b : Fin 4) (s d : Fin 2048) :
    rvn uv g (ix3 b s d) = vnorm (fun k => uv (ix3 b s (⟨2048 + k.val, by omega⟩ : Fin 4096))) (fun k => g (ix2 0 k)) d := by
  pointwise [rvn, vnorm]

/-- The reference's triangle of ones. -/
def rmask : IVec S128x128 1 :=
  (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))

theorem rmask_apply (p j : Fin 128) : rmask (ix2 p j) = if j.val ≤ p.val then 1#1 else 0#1 := by
  pointwise [rmask]
  rw [show IntOp.addi (BitVec.ofNat 32 p.val) 0#32 = BitVec.ofNat 32 p.val from BitVec.add_zero _,
    WordCmp.cmpi_sge_ofNat (by have := p.isLt; omega) (by have := j.isLt; omega), WordCmp.ofBool_decide_eq_ite]
  by_cases h : j.val ≤ p.val
  · rw [if_pos h]; rfl
  · rw [if_neg h]; rfl

/-- The reference's mixing matrices below their diagonals, for a mask. -/
def mlow (mask : IVec S128x128 1) (w : FVec Ideal S1x8x128x128 .f32) : FVec Ideal S8x128x128 .f32 :=
  (select (broadcastInDim S8x128x128 ![0, 1, 2] bcast_S1x128x128_S8x128x128_0_1_2 (broadcastInDim S1x128x128 ![1, 2] bcast_S128x128_S1x128x128_1_2 mask)) (shapeCast S8x128x128 w shapeCasts_S1x8x128x128_S8x128x128) (broadcastInDim S8x128x128 ![] bcast_S_S8x128x128 (constant S_ .f32 0x00000000#32)))

theorem mlow_apply (mask : IVec S128x128 1) (w : FVec Ideal S1x8x128x128 .f32) (q : Fin 8) (p j : Fin 128) :
    mlow mask w (ix3 q p j) = Scalar.select (mask (ix2 p j)) (w (ix4 0 q p j)) 0 := by
  pointwise [mlow]

theorem rlow_apply (w : FVec Ideal S1x8x128x128 .f32) (q : Fin 8) (p j : Fin 128) :
    mlow rmask w (ix3 q p j) = if j.val ≤ p.val then w (ix4 0 q p j) else 0 := by
  rw [mlow_apply, rmask_apply]
  by_cases h : j.val ≤ p.val
  · rw [if_pos h, if_pos h]; rfl
  · rw [if_neg h, if_neg h]; rfl

/-- The reference's mixed columns and their bias. -/
def rmix (v : FVec Ideal S4x2048x2048 .f32) (w : FVec Ideal S8x128x128 .f32) (b : FVec Ideal S1x8x128 .f32) : FVec Ideal S4x16x128x8x256 .f32 :=
  (addf (transpose S4x16x128x8x256 [1, 2, 4, 0, 3] (Host.dotGeneral dot_S4x16x128x8x256_S8x128x128_S8x4x16x256x128_2_2_014_1_3_0 none (shapeCast S4x16x128x8x256 v shapeCasts_S4x2048x2048_S4x16x128x8x256) w) transposes_S8x4x16x256x128_S4x16x128x8x256_1_2_4_0_3) (broadcastInDim S4x16x128x8x256 ![0, 1, 2, 3, 4] bcast_S1x1x128x8x1_S4x16x128x8x256_0_1_2_3_4 (broadcastInDim S1x1x128x8x1 ![2, 3] bcast_S128x8_S1x1x128x8x1_2_3 (transpose S128x8 [1, 0] (shapeCast S8x128 b shapeCasts_S1x8x128_S8x128) transposes_S8x128_S128x8_1_0))))

theorem rmix_apply (v : FVec Ideal S4x2048x2048 .f32) (w : FVec Ideal S8x128x128 .f32) (b : FVec Ideal S1x8x128 .f32)
    (x : Fin 4) (n : Fin 16) (p : Fin 128) (q : Fin 8) (e : Fin 256) :
    rmix v w b (ix5 x n p q e) = (∑ j : Fin 128, v (ix3 x (⟨n.val * 128 + j.val, by omega⟩ : Fin 2048) (⟨q.val * 256 + e.val, by omega⟩ : Fin 2048)) * w (ix3 q p j)) + b (ix3 0 q p) := by
  pointwise [rmix]

/-- The reference's gate over a mixed array. -/
theorem gate_apply (uv : FVec Ideal S4x2048x4096 .bf16) (y : FVec Ideal S4x16x128x8x256 .f32) (r : Fin 8192) (d : Fin 2048) :
    truncf .bf16 (shapeCast S8192x2048 (mulf (extractStridedSlice S4x2048x2048 ![0, 0, 0] (extf .f32 uv bitsLt_bf16_f32) slices_S4x2048x4096_S4x2048x2048_0_0_0) (shapeCast S4x2048x2048 y shapeCasts_S4x16x128x8x256_S4x2048x2048)) shapeCasts_S4x2048x2048_S8192x2048) bitsLt_bf16_f32 (ix2 r d)
      = uv (ix3 (⟨r.val / 2048, by omega⟩ : Fin 4) (⟨r.val % 2048, by omega⟩ : Fin 2048) (⟨d.val, by omega⟩ : Fin 4096))
        * y (ix5 (⟨r.val / 2048, by omega⟩ : Fin 4) (⟨r.val % 2048 / 128, by omega⟩ : Fin 16) (⟨r.val % 128, by omega⟩ : Fin 128) (⟨d.val / 256, by omega⟩ : Fin 8) (⟨d.val % 256, by omega⟩ : Fin 256)) := by
  have h : r.val % 2048 % 128 = r.val % 128 := by omega
  pointwise
  simp only [h]

/-- The reference's result, element by element. -/
theorem ref_eq (uv : FVec Ideal S4x2048x4096 .bf16) (g : FVec Ideal S1x2048 .f32) (w : FVec Ideal S1x8x128x128 .f32) (b : FVec Ideal S1x8x128 .f32) :
    truncf .bf16 (shapeCast S8192x2048 (mulf (extractStridedSlice S4x2048x2048 ![0, 0, 0] (extf .f32 uv bitsLt_bf16_f32) slices_S4x2048x4096_S4x2048x2048_0_0_0) (shapeCast S4x2048x2048 (rmix (rvn uv g) (mlow rmask w) b) shapeCasts_S4x16x128x8x256_S4x2048x2048)) shapeCasts_S4x2048x2048_S8192x2048) bitsLt_bf16_f32
      = sgu uv g w b := by
  funext i
  obtain ⟨r, d, rfl⟩ : ∃ (r : Fin 8192) (d : Fin 2048), i = ix2 r d := ⟨i 0, i 1, eq_ix2 i⟩
  rw [gate_apply, rmix_apply]
  refine congrArg (_ * ·) (congrArg (· + _) (Finset.sum_congr rfl fun j _ => ?_))
  rw [rvn_apply, rlow_apply, mul_comm]
  refine congrArg (_ * ·) (congrArg (vnorm _ _) (Fin.ext ?_))
  show d.val / 256 * 256 + d.val % 256 = d.val; omega

end

/-- The kernel at the extended reals computes what the reference computes. -/
theorem algebraic : Cert.algebraic_Kernel13Ideal_Reference13Ideal := fun m ρ m' ρ' _ hin =>
  ⟨fun c => res m c,
    (θ_run Cert.Kernel13Ideal.defs _ _).mono (fun _ h c => ⟨(h c).1.trans (arr_eq m c), (h c).2⟩) (Cert.Kernel13Ideal.Value.run_blocks m ρ),
    (θ_run Cert.Reference13Ideal.defs _ _).mono (fun _ h c => ⟨(h c).1.trans ((ref_eq _ _ _ _).trans
      (by rw [(hin c).1, (hin c).2.1, (hin c).2.2.1, (hin c).2.2.2])), (h c).2⟩) (Cert.Reference13Ideal.Value.run m' ρ')⟩

/-- The printed program's body table is the idealized one's, the texts being the same. -/
theorem defs_eq : Cert.Kernel13.defs (F := Bits) = Cert.Kernel13Ideal.defs (F := Bits) :=
  congrArg (Pipeline.defs _) (congrArg Defs.onTc (funext fun l => match l with | 0 => funext fun _ => rfl))

/-- The frames. -/
theorem frame_kernel : Cert.quiescent_Kernel13 := fun m ρ _ => by
  rw [defs_eq]; exact Cert.Kernel13Ideal.Gen.frame (F := Bits) m ρ
theorem frame_ideal : Cert.quiescent_Kernel13Ideal := fun m ρ _ => Cert.Kernel13Ideal.Gen.frame (F := Ideal) m ρ
theorem frame_ref : Cert.quiescent_Reference13Ideal := fun m ρ _ =>
  (θ_run Cert.Reference13Ideal.defs _ _).mono (fun r h => ⟨fun c => (h c).2, Idealize.ShloMosaic.sem_eq_zero_of_no_sems (by decide) r.2⟩) (Cert.Reference13Ideal.Value.run (F := Ideal) m ρ)

end Cert.Sgu

end
-- ==== Proof.NormA.Val.lean ====
/-
  The values of the modulated norm ahead of the attention: each point of the grid normalizes a block of rows.
-/
module

public import proofs.«01_k».proof.Defs
public import proofs.«01_k».proof.Proof.Gen.Kernel14Ideal.Value
public import Idealize.ShloMosaic.Lib.Pipeline.Value
public import Idealize.ShloMosaic.Lib.Pipeline.ValueKit.Geometry
public import Idealize.ShloMosaic.Lib.Pipeline.ValueKit.Tiles
public import Idealize.ShloMosaic.Lib.Pointwise
public import Idealize.ShloMosaic.Lib.ValueLayout
public import Idealize.ShloMosaic.Lib.IdealHost

@[expose] public section

set_option maxRecDepth 16384

noncomputable section

namespace Cert.NormA

open Cert.Kernel14Ideal Cert.Kernel14Ideal.Gen Idealize.ShloMosaic Idealize.ShloMosaic.TcCoe Idealize.SL.Sem
open Idealize.ShloMosaic.Pipeline (Dat)
open scoped BigOperators

/-- A row's entry over the row's root mean square, times the gain, scaled and shifted. -/
def nmod (x g sc sh : Fin 4096 → EReal) (d : Fin 4096) : EReal :=
  x d * Ideal.rsqrt (Ideal.div (∑ j, x j * x j) (Ideal.ofBits .f32 0x45800000#32) + Ideal.ofBits .f32 0x358637BD#32) * g d
    * (Ideal.ofBits .f32 0x3F800000#32 + sc d) + sh d

/-- The result at a row and a feature. -/
def nrm (x : FVec Ideal S4x2048x4096 .f32) (mo : FVec Ideal S8x24576 .f32) (g : FVec Ideal S1x4096 .f32) : FVec Ideal S8192x4096 .bf16 := fun i =>
  nmod (fun j => x (ix3 (⟨(i 0).val / 2048, by have := ValueIdx.idx2_lt0 i; omega⟩ : Fin 4) (⟨(i 0).val % 2048, by omega⟩ : Fin 2048) j))
    (fun j => g (ix2 0 j)) (fun j => mo (ix2 (⟨(i 0).val / 2048, by have := ValueIdx.idx2_lt0 i; omega⟩ : Fin 8) ⟨4096 + j.val, by omega⟩))
    (fun j => mo (ix2 (⟨(i 0).val / 2048, by have := ValueIdx.idx2_lt0 i; omega⟩ : Fin 8) ⟨0 + j.val, by omega⟩)) ⟨(i 1).val, ValueIdx.idx2_lt1 i⟩

variable (m : (ℓ : Loc nD τ sig) → Buf (Elt Ideal) ℓ) (ρ : Dev nD → PrngReg)

theorem V0 (c : Dev nD) : V m c main_v0 = shapeCast _ (m ((c : Thread nD τ).loc main_arg0)) shapeCasts_S4x2048x4096_S8192x4096 := by
  unfold V hostOps0; after_results <;> rfl
theorem V2 (c : Dev nD) : V m c main_v2 = shapeCast _ (m ((c : Thread nD τ).loc main_arg1)) shapeCasts_S8x24576_S8x1x24576 := by
  unfold V hostOps0; after_results <;> rfl
theorem V3 (c : Dev nD) : V m c main_v3 = shapeCast _ (shapeCast S4096 (m ((c : Thread nD τ).loc main_arg2)) shapeCasts_S1x4096_S4096) shapeCasts_S4096_S1x4096 := by
  unfold V hostOps0; after_results <;> rfl
theorem castX (x : FVec Ideal S4x2048x4096 .f32) (r : Fin 8192) (k : Fin 4096) :
    shapeCast S8192x4096 x shapeCasts_S4x2048x4096_S8192x4096 (ix2 r k) = x (ix3 ⟨r.val / 2048, by omega⟩ ⟨r.val % 2048, by omega⟩ k) := by pointwise
theorem castM (mo : FVec Ideal S8x24576 .f32) (b : Fin 8) (k : Fin 24576) :
    shapeCast S8x1x24576 mo shapeCasts_S8x24576_S8x1x24576 (ix3 b 0 k) = mo (ix2 b k) := by pointwise
theorem castG (g : FVec Ideal S1x4096 .f32) (j : Fin 4096) :
    shapeCast S1x4096 (shapeCast S4096 g shapeCasts_S1x4096_S4096) shapeCasts_S4096_S1x4096 (ix2 0 j) = g (ix2 0 j) := by pointwise

theorem t_lt (t : Fin cfg0.N) : t.val < 16 := lt_of_lt_of_eq t.isLt N_0

/-- The blocks' places, decided over the grid. -/
theorem idx_facts : ∀ t : Fin cfg0.N,
    win0_0.index t 0 = t.val
    ∧ win0_0.index t 1 = 0
    ∧ win0_1.index t 0 = 0
    ∧ win0_1.index t 1 = 0
    ∧ win0_2.index t 0 = t.val / 4
    ∧ win0_2.index t 1 = 0
    ∧ win0_2.index t 2 = 1
    ∧ win0_3.index t 0 = t.val / 4
    ∧ win0_3.index t 1 = 0
    ∧ win0_3.index t 2 = 0
    ∧ win0_4.index t 0 = t.val
    ∧ win0_4.index t 1 = 0 :=
  (by decide +kernel : ∀ t : Fin grid0.N, _)

theorem blk0 (c : Dev nD) (t : Fin cfg0.N) (i0 : Fin 512) (i1 : Fin 4096) :
    (iblk m c 0 t : S512x4096.Idx → EReal) (ix2 i0 i1) = V m c main_v0 (ix2 ⟨t.val * 512 + i0.val, by have := t_lt t; omega⟩ i1) := by
  obtain ⟨h0, h1, -, -, -, -, -, -, -, -, -, -⟩ := idx_facts t
  refine congrArg (V m c main_v0) (funext fun a => Fin.ext ?_)
  match a with
  | ⟨0, _⟩ => show win0_0.index t 0 * 512 + 1 * i0.val = _; rw [h0]; first | rfl | (simp; done) | (simp only [ix2, ix3, ix4]; have := t_lt t; simp; omega)
  | ⟨1, _⟩ => show win0_0.index t 1 * 4096 + 1 * i1.val = _; rw [h1]; first | rfl | (simp; done) | (simp only [ix2, ix3, ix4]; have := t_lt t; simp; omega)

theorem blk1 (c : Dev nD) (t : Fin cfg0.N) (i0 : Fin 1) (i1 : Fin 4096) :
    (iblk m c 1 t : S1x4096.Idx → EReal) (ix2 i0 i1) = V m c main_v3 (ix2 0 i1) := by
  obtain ⟨-, -, h0, h1, -, -, -, -, -, -, -, -⟩ := idx_facts t
  refine congrArg (V m c main_v3) (funext fun a => Fin.ext ?_)
  match a with
  | ⟨0, _⟩ => show win0_1.index t 0 * 1 + 1 * i0.val = _; rw [h0]; first | rfl | (simp; done) | (simp only [ix2, ix3, ix4]; have := t_lt t; simp; omega)
  | ⟨1, _⟩ => show win0_1.index t 1 * 4096 + 1 * i1.val = _; rw [h1]; first | rfl | (simp; done) | (simp only [ix2, ix3, ix4]; have := t_lt t; simp; omega)

theorem blk2 (c : Dev nD) (t : Fin cfg0.N) (i0 : Fin 1) (i1 : Fin 1) (i2 : Fin 4096) :
    (iblk m c 2 t : S1x1x4096.Idx → EReal) (ix3 i0 i1 i2) = V m c main_v2 (ix3 ⟨t.val / 4, by have := t_lt t; omega⟩ 0 ⟨4096 + i2.val, by have := t_lt t; omega⟩) := by
  obtain ⟨-, -, -, -, h0, h1, h2, -, -, -, -, -⟩ := idx_facts t
  refine congrArg (V m c main_v2) (funext fun a => Fin.ext ?_)
  match a with
  | ⟨0, _⟩ => show win0_2.index t 0 * 1 + 1 * i0.val = _; rw [h0]; first | rfl | (simp; done) | (simp only [ix2, ix3, ix4]; have := t_lt t; simp; omega)
  | ⟨1, _⟩ => show win0_2.index t 1 * 1 + 1 * i1.val = _; rw [h1]; first | rfl | (simp; done) | (simp only [ix2, ix3, ix4]; have := t_lt t; simp; omega)
  | ⟨2, _⟩ => show win0_2.index t 2 * 4096 + 1 * i2.val = _; rw [h2]; first | rfl | (simp; done) | (simp only [ix2, ix3, ix4]; have := t_lt t; simp; omega)

theorem blk3 (c : Dev nD) (t : Fin cfg0.N) (i0 : Fin 1) (i1 : Fin 1) (i2 : Fin 4096) :
    (iblk m c 3 t : S1x1x4096.Idx → EReal) (ix3 i0 i1 i2) = V m c main_v2 (ix3 ⟨t.val / 4, by have := t_lt t; omega⟩ 0 ⟨0 + i2.val, by have := t_lt t; omega⟩) := by
  obtain ⟨-, -, -, -, -, -, -, h0, h1, h2, -, -⟩ := idx_facts t
  refine congrArg (V m c main_v2) (funext fun a => Fin.ext ?_)
  match a with
  | ⟨0, _⟩ => show win0_3.index t 0 * 1 + 1 * i0.val = _; rw [h0]; first | rfl | (simp; done) | (simp only [ix2, ix3, ix4]; have := t_lt t; simp; omega)
  | ⟨1, _⟩ => show win0_3.index t 1 * 1 + 1 * i1.val = _; rw [h1]; first | rfl | (simp; done) | (simp only [ix2, ix3, ix4]; have := t_lt t; simp; omega)
  | ⟨2, _⟩ => show win0_3.index t 2 * 4096 + 1 * i2.val = _; rw [h2]; first | rfl | (simp; done) | (simp only [ix2, ix3, ix4]; have := t_lt t; simp; omega)

/-- The kernel's result array, from the arguments. -/
abbrev res (c : Dev nD) : FVec Ideal S8192x4096 .bf16 :=
  nrm (m ((c : Thread nD τ).loc main_arg0)) (m ((c : Thread nD τ).loc main_arg1)) (m ((c : Thread nD τ).loc main_arg2))

theorem hz2 : (![0, 0] : Fin 2 → ℕ) = fun _ => 0 := funext fun a => by fin_cases a <;> rfl
theorem hz3 : (![0, 0, 0] : Fin 3 → ℕ) = fun _ => 0 := funext fun a => by fin_cases a <;> rfl

/-- The block's element from the input blocks. -/
theorem out_apply (x0 : Vec Ideal S512x4096 .f32) (x1 : Vec Ideal S1x4096 .f32) (x2 x3 : Vec Ideal S1x1x4096 .f32) (r : Fin 512) (d : Fin 4096) :
    out0_4 x0 x1 x2 x3 (ix2 r d) = nmod (fun j => x0 (ix2 r j)) (fun j => x1 (ix2 0 j)) (fun j => x2 (ix3 0 0 j)) (fun j => x3 (ix3 0 0 j)) d := by
  unfold out0_4
  rw [View.canon_unit_zero hz2, View.ld_unit_zero hz2, View.ld_unit_zero hz2, View.ld_unit_zero hz3, View.ld_unit_zero hz3]
  pointwise [k0_pay1, nmod]

/-- What a point writes back is its block of the result. -/
theorem flushed_eq (c : Dev nD) (t : Fin cfg0.N) :
    (dats m 0 c).flushed 4 t = ((cfg0.win 4).blk t).view.read (Elt Ideal) (res m c) := by
  rw [Value.flushed4]
  obtain ⟨-, -, -, -, -, -, -, -, -, -, h0, h1⟩ := idx_facts t
  have ht := t_lt t
  funext j
  obtain ⟨r, n, rfl⟩ : ∃ (r : Fin 512) (n : Fin 4096), j = ix2 r n := ⟨j 0, j 1, eq_ix2 j⟩
  have hr : ((cfg0.win 4).blk t).view.read (Elt Ideal) (res m c) (ix2 r n) = res m c (ix2 ⟨t.val * 512 + r.val, by omega⟩ n) := by
    refine congrArg (res m c) (funext fun a => Fin.ext ?_)
    match a with
    | ⟨0, _⟩ => show win0_4.index t 0 * 512 + 1 * r.val = _; rw [h0]; simp
    | ⟨1, _⟩ => show win0_4.index t 1 * 4096 + 1 * n.val = _; rw [h1]; simp
  rw [hr]
  show out0_4 (iblk m c 0 t) (iblk m c 1 t) (iblk m c 2 t) (iblk m c 3 t) (ix2 r n) = _
  rw [out_apply]
  show nmod _ _ _ _ _ = nmod _ _ _ _ _
  refine congr (congr (congr (congr_arg₂ nmod (funext fun j => (blk0 m c t _ _).trans ?_) (funext fun j => (blk1 m c t _ _).trans ?_))
    (funext fun j => (blk2 m c t _ _ _).trans ?_)) (funext fun j => (blk3 m c t _ _ _).trans ?_)) rfl
  · rw [V0]; exact castX ..
  · rw [V3]; exact castG ..
  · rw [V2]
    refine (castM ..).trans (congrArg (m ((c : Thread nD τ).loc main_arg1)) (congrArg (fun b => ix2 b _) (Fin.ext ?_)))
    show t.val / 4 = (t.val * 512 + r.val) / 2048; omega
  · rw [V2]
    refine (castM ..).trans (congrArg (m ((c : Thread nD τ).loc main_arg1)) (congrArg (fun b => ix2 b _) (Fin.ext ?_)))
    show t.val / 4 = (t.val * 512 + r.val) / 2048; omega

/-- The array after the run. -/
theorem arr_eq (c : Dev nD) : (dats m 0 c).arrAt 4 cfg0.N = res m c := by
  have hc : (cfg0.win 4).Covers := by decide +kernel
  exact (dats m 0 c).arrAt_eq_of_cover 4 (res m c) (fun t _ => flushed_eq m c t) (Pipeline.Window.Covers.cover (cfg0.win 4) hc (Memref.isWhole_whole main_v4))

end Cert.NormA

end
-- ==== Proof.NormA.Ref.lean ====
/-
  What the reference of the modulated norm computes, element by element, and the two runs side by side.
-/
module

public import proofs.«01_k».proof.Proof.NormA.Val
public import proofs.«01_k».proof.Proof.Gen.Kernel14
public import proofs.«01_k».proof.Proof.Gen.Reference14Ideal.Run
public import Idealize.ShloMosaic.Lib.Quiescent

@[expose] public section

set_option maxRecDepth 16384

noncomputable section

namespace Cert.NormA

open Idealize.ShloMosaic Idealize.ShloMosaic.TcCoe Idealize.SL.Sem
open scoped BigOperators

section
open Cert.Reference14Ideal Cert.Reference14Ideal.Gen

/-- The reference's result, element by element. -/
theorem ref_eq (x : FVec Ideal S4x2048x4096 .f32) (mo : FVec Ideal S8x24576 .f32) (g : FVec Ideal S1x4096 .f32) :
    truncf .bf16 (shapeCast S8192x4096 (addf (mulf (mulf (mulf x (broadcastInDim S4x2048x4096 ![0, 1, 2] bcast_S4x2048x1_S4x2048x4096_0_1_2 (Host.rsqrt (F := Ideal) (addf (Host.divf (broadcastInDim S4x2048x1 ![0, 1] bcast_S4x2048_S4x2048x1_0_1 (Host.reduceAdd (mulf x x) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 (shapeCast S4096 g shapeCasts_S1x4096_S4096)))) (broadcastInDim S4x2048x4096 ![0, 1, 2] bcast_S4x1x4096_S4x2048x4096_0_1_2 (addf (broadcastInDim S4x1x4096 ![] bcast_S_S4x1x4096 (constant S_ .f32 0x3F800000#32)) (broadcastInDim S4x1x4096 ![0, 2] bcast_S4x4096_S4x1x4096_0_2 (extractStridedSlice S4x4096 ![0, 4096] (extractStridedSlice S4x24576 ![0, 0] mo slices_S8x24576_S4x24576_0_0) slices_S4x24576_S4x4096_0_4096))))) (broadcastInDim S4x2048x4096 ![0, 1, 2] bcast_S4x1x4096_S4x2048x4096_0_1_2 (broadcastInDim S4x1x4096 ![0, 2] bcast_S4x4096_S4x1x4096_0_2 (extractStridedSlice S4x4096 ![0, 0] (extractStridedSlice S4x24576 ![0, 0] mo slices_S8x24576_S4x24576_0_0) slices_S4x24576_S4x4096_0_0)))) shapeCasts_S4x2048x4096_S8192x4096) bitsLt_bf16_f32
      = nrm x mo g := by
  funext i
  obtain ⟨r, n, rfl⟩ : ∃ (r : Fin 8192) (n : Fin 4096), i = ix2 r n := ⟨i 0, i 1, eq_ix2 i⟩
  pointwise [nrm, nmod]

end

/-- The kernel at the extended reals computes what the reference computes. -/
theorem algebraic : Cert.algebraic_Kernel14Ideal_Reference14Ideal := fun m ρ m' ρ' _ hin =>
  ⟨fun c => res m c,
    (θ_run Cert.Kernel14Ideal.defs _ _).mono (fun _ h c => ⟨(h c).1.trans (arr_eq m c), (h c).2⟩) (Cert.Kernel14Ideal.Value.run_blocks m ρ),
    (θ_run Cert.Reference14Ideal.defs _ _).mono (fun _ h c => ⟨(h c).1.trans ((ref_eq _ _ _).trans
      (by rw [(hin c).1, (hin c).2.1, (hin c).2.2])), (h c).2⟩) (Cert.Reference14Ideal.Value.run m' ρ')⟩

/-- The printed program's body table is the idealized one's, the texts being the same. -/
theorem defs_eq : Cert.Kernel14.defs (F := Bits) = Cert.Kernel14Ideal.defs (F := Bits) :=
  congrArg (Pipeline.defs _) (congrArg Defs.onTc (funext fun l => match l with | 0 => funext fun _ => rfl))

/-- The frames. -/
theorem frame_kernel : Cert.quiescent_Kernel14 := fun m ρ _ => by
  rw [defs_eq]; exact Cert.Kernel14Ideal.Gen.frame (F := Bits) m ρ
theorem frame_ideal : Cert.quiescent_Kernel14Ideal := fun m ρ _ => Cert.Kernel14Ideal.Gen.frame (F := Ideal) m ρ
theorem frame_ref : Cert.quiescent_Reference14Ideal := fun m ρ _ =>
  (θ_run Cert.Reference14Ideal.defs _ _).mono (fun r h => ⟨fun c => (h c).2, Idealize.ShloMosaic.sem_eq_zero_of_no_sems (by decide) r.2⟩) (Cert.Reference14Ideal.Value.run (F := Ideal) m ρ)

end Cert.NormA

end
-- ==== Proof.NormB.Val.lean ====
/-
  The values of the modulated norm ahead of the feed-forward: each point of the grid normalizes a block of rows.
-/
module

public import proofs.«01_k».proof.Defs
public import proofs.«01_k».proof.Proof.Gen.Kernel15Ideal.Value
public import Idealize.ShloMosaic.Lib.Pipeline.Value
public import Idealize.ShloMosaic.Lib.Pipeline.ValueKit.Geometry
public import Idealize.ShloMosaic.Lib.Pipeline.ValueKit.Tiles
public import Idealize.ShloMosaic.Lib.Pointwise
public import Idealize.ShloMosaic.Lib.ValueLayout
public import Idealize.ShloMosaic.Lib.IdealHost

@[expose] public section

set_option maxRecDepth 16384

noncomputable section

namespace Cert.NormB

open Cert.Kernel15Ideal Cert.Kernel15Ideal.Gen Idealize.ShloMosaic Idealize.ShloMosaic.TcCoe Idealize.SL.Sem
open Idealize.ShloMosaic.Pipeline (Dat)
open scoped BigOperators

/-- A row's entry over the row's root mean square, times the gain, scaled and shifted. -/
def nmod (x g sc sh : Fin 4096 → EReal) (d : Fin 4096) : EReal :=
  x d * Ideal.rsqrt (Ideal.div (∑ j, x j * x j) (Ideal.ofBits .f32 0x45800000#32) + Ideal.ofBits .f32 0x358637BD#32) * g d
    * (Ideal.ofBits .f32 0x3F800000#32 + sc d) + sh d

/-- The result at a row and a feature. -/
def nrm (x : FVec Ideal S4x2048x4096 .f32) (mo : FVec Ideal S8x24576 .f32) (g : FVec Ideal S1x4096 .f32) : FVec Ideal S8192x4096 .bf16 := fun i =>
  nmod (fun j => x (ix3 (⟨(i 0).val / 2048, by have := ValueIdx.idx2_lt0 i; omega⟩ : Fin 4) (⟨(i 0).val % 2048, by omega⟩ : Fin 2048) j))
    (fun j => g (ix2 0 j)) (fun j => mo (ix2 (⟨(i 0).val / 2048, by have := ValueIdx.idx2_lt0 i; omega⟩ : Fin 8) ⟨16384 + j.val, by omega⟩))
    (fun j => mo (ix2 (⟨(i 0).val / 2048, by have := ValueIdx.idx2_lt0 i; omega⟩ : Fin 8) ⟨12288 + j.val, by omega⟩)) ⟨(i 1).val, ValueIdx.idx2_lt1 i⟩

variable (m : (ℓ : Loc nD τ sig) → Buf (Elt Ideal) ℓ) (ρ : Dev nD → PrngReg)

theorem V0 (c : Dev nD) : V m c main_v0 = shapeCast _ (m ((c : Thread nD τ).loc main_arg0)) shapeCasts_S4x2048x4096_S8192x4096 := by
  unfold V hostOps0; after_results <;> rfl
theorem V2 (c : Dev nD) : V m c main_v2 = shapeCast _ (m ((c : Thread nD τ).loc main_arg1)) shapeCasts_S8x24576_S8x1x24576 := by
  unfold V hostOps0; after_results <;> rfl
theorem V3 (c : Dev nD) : V m c main_v3 = shapeCast _ (shapeCast S4096 (m ((c : Thread nD τ).loc main_arg2)) shapeCasts_S1x4096_S4096) shapeCasts_S4096_S1x4096 := by
  unfold V hostOps0; after_results <;> rfl
theorem castX (x : FVec Ideal S4x2048x4096 .f32) (r : Fin 8192) (k : Fin 4096) :
    shapeCast S8192x4096 x shapeCasts_S4x2048x4096_S8192x4096 (ix2 r k) = x (ix3 ⟨r.val / 2048, by omega⟩ ⟨r.val % 2048, by omega⟩ k) := by pointwise
theorem castM (mo : FVec Ideal S8x24576 .f32) (b : Fin 8) (k : Fin 24576) :
    shapeCast S8x1x24576 mo shapeCasts_S8x24576_S8x1x24576 (ix3 b 0 k) = mo (ix2 b k) := by pointwise
theorem castG (g : FVec Ideal S1x4096 .f32) (j : Fin 4096) :
    shapeCast S1x4096 (shapeCast S4096 g shapeCasts_S1x4096_S4096) shapeCasts_S4096_S1x4096 (ix2 0 j) = g (ix2 0 j) := by pointwise

theorem t_lt (t : Fin cfg0.N) : t.val < 16 := lt_of_lt_of_eq t.isLt N_0

/-- The blocks' places, decided over the grid. -/
theorem idx_facts : ∀ t : Fin cfg0.N,
    win0_0.index t 0 = t.val
    ∧ win0_0.index t 1 = 0
    ∧ win0_1.index t 0 = 0
    ∧ win0_1.index t 1 = 0
    ∧ win0_2.index t 0 = t.val / 4
    ∧ win0_2.index t 1 = 0
    ∧ win0_2.index t 2 = 4
    ∧ win0_3.index t 0 = t.val / 4
    ∧ win0_3.index t 1 = 0
    ∧ win0_3.index t 2 = 3
    ∧ win0_4.index t 0 = t.val
    ∧ win0_4.index t 1 = 0 :=
  (by decide +kernel : ∀ t : Fin grid0.N, _)

theorem blk0 (c : Dev nD) (t : Fin cfg0.N) (i0 : Fin 512) (i1 : Fin 4096) :
    (iblk m c 0 t : S512x4096.Idx → EReal) (ix2 i0 i1) = V m c main_v0 (ix2 ⟨t.val * 512 + i0.val, by have := t_lt t; omega⟩ i1) := by
  obtain ⟨h0, h1, -, -, -, -, -, -, -, -, -, -⟩ := idx_facts t
  refine congrArg (V m c main_v0) (funext fun a => Fin.ext ?_)
  match a with
  | ⟨0, _⟩ => show win0_0.index t 0 * 512 + 1 * i0.val = _; rw [h0]; first | rfl | (simp; done) | (simp only [ix2, ix3, ix4]; have := t_lt t; simp; omega)
  | ⟨1, _⟩ => show win0_0.index t 1 * 4096 + 1 * i1.val = _; rw [h1]; first | rfl | (simp; done) | (simp only [ix2, ix3, ix4]; have := t_lt t; simp; omega)

theorem blk1 (c : Dev nD) (t : Fin cfg0.N) (i0 : Fin 1) (i1 : Fin 4096) :
    (iblk m c 1 t : S1x4096.Idx → EReal) (ix2 i0 i1) = V m c main_v3 (ix2 0 i1) := by
  obtain ⟨-, -, h0, h1, -, -, -, -, -, -, -, -⟩ := idx_facts t
  refine congrArg (V m c main_v3) (funext fun a => Fin.ext ?_)
  match a with
  | ⟨0, _⟩ => show win0_1.index t 0 * 1 + 1 * i0.val = _; rw [h0]; first | rfl | (simp; done) | (simp only [ix2, ix3, ix4]; have := t_lt t; simp; omega)
  | ⟨1, _⟩ => show win0_1.index t 1 * 4096 + 1 * i1.val = _; rw [h1]; first | rfl | (simp; done) | (simp only [ix2, ix3, ix4]; have := t_lt t; simp; omega)

theorem blk2 (c : Dev nD) (t : Fin cfg0.N) (i0 : Fin 1) (i1 : Fin 1) (i2 : Fin 4096) :
    (iblk m c 2 t : S1x1x4096.Idx → EReal) (ix3 i0 i1 i2) = V m c main_v2 (ix3 ⟨t.val / 4, by have := t_lt t; omega⟩ 0 ⟨16384 + i2.val, by have := t_lt t; omega⟩) := by
  obtain ⟨-, -, -, -, h0, h1, h2, -, -, -, -, -⟩ := idx_facts t
  refine congrArg (V m c main_v2) (funext fun a => Fin.ext ?_)
  match a with
  | ⟨0, _⟩ => show win0_2.index t 0 * 1 + 1 * i0.val = _; rw [h0]; first | rfl | (simp; done) | (simp only [ix2, ix3, ix4]; have := t_lt t; simp; omega)
  | ⟨1, _⟩ => show win0_2.index t 1 * 1 + 1 * i1.val = _; rw [h1]; first | rfl | (simp; done) | (simp only [ix2, ix3, ix4]; have := t_lt t; simp; omega)
  | ⟨2, _⟩ => show win0_2.index t 2 * 4096 + 1 * i2.val = _; rw [h2]; first | rfl | (simp; done) | (simp only [ix2, ix3, ix4]; have := t_lt t; simp; omega)

theorem blk3 (c : Dev nD) (t : Fin cfg0.N) (i0 : Fin 1) (i1 : Fin 1) (i2 : Fin 4096) :
    (iblk m c 3 t : S1x1x4096.Idx → EReal) (ix3 i0 i1 i2) = V m c main_v2 (ix3 ⟨t.val / 4, by have := t_lt t; omega⟩ 0 ⟨12288 + i2.val, by have := t_lt t; omega⟩) := by
  obtain ⟨-, -, -, -, -, -, -, h0, h1, h2, -, -⟩ := idx_facts t
  refine congrArg (V m c main_v2) (funext fun a => Fin.ext ?_)
  match a with
  | ⟨0, _⟩ => show win0_3.index t 0 * 1 + 1 * i0.val = _; rw [h0]; first | rfl | (simp; done) | (simp only [ix2, ix3, ix4]; have := t_lt t; simp; omega)
  | ⟨1, _⟩ => show win0_3.index t 1 * 1 + 1 * i1.val = _; rw [h1]; first | rfl | (simp; done) | (simp only [ix2, ix3, ix4]; have := t_lt t; simp; omega)
  | ⟨2, _⟩ => show win0_3.index t 2 * 4096 + 1 * i2.val = _; rw [h2]; first | rfl | (simp; done) | (simp only [ix2, ix3, ix4]; have := t_lt t; simp; omega)

/-- The kernel's result array, from the arguments. -/
abbrev res (c : Dev nD) : FVec Ideal S8192x4096 .bf16 :=
  nrm (m ((c : Thread nD τ).loc main_arg0)) (m ((c : Thread nD τ).loc main_arg1)) (m ((c : Thread nD τ).loc main_arg2))

theorem hz2 : (![0, 0] : Fin 2 → ℕ) = fun _ => 0 := funext fun a => by fin_cases a <;> rfl
theorem hz3 : (![0, 0, 0] : Fin 3 → ℕ) = fun _ => 0 := funext fun a => by fin_cases a <;> rfl

/-- The block's element from the input blocks. -/
theorem out_apply (x0 : Vec Ideal S512x4096 .f32) (x1 : Vec Ideal S1x4096 .f32) (x2 x3 : Vec Ideal S1x1x4096 .f32) (r : Fin 512) (d : Fin 4096) :
    out0_4 x0 x1 x2 x3 (ix2 r d) = nmod (fun j => x0 (ix2 r j)) (fun j => x1 (ix2 0 j)) (fun j => x2 (ix3 0 0 j)) (fun j => x3 (ix3 0 0 j)) d := by
  unfold out0_4
  rw [View.canon_unit_zero hz2, View.ld_unit_zero hz2, View.ld_unit_zero hz2, View.ld_unit_zero hz3, View.ld_unit_zero hz3]
  pointwise [k0_pay1, nmod]

/-- What a point writes back is its block of the result. -/
theorem flushed_eq (c : Dev nD) (t : Fin cfg0.N) :
    (dats m 0 c).flushed 4 t = ((cfg0.win 4).blk t).view.read (Elt Ideal) (res m c) := by
  rw [Value.flushed4]
  obtain ⟨-, -, -, -, -, -, -, -, -, -, h0, h1⟩ := idx_facts t
  have ht := t_lt t
  funext j
  obtain ⟨r, n, rfl⟩ : ∃ (r : Fin 512) (n : Fin 4096), j = ix2 r n := ⟨j 0, j 1, eq_ix2 j⟩
  have hr : ((cfg0.win 4).blk t).view.read (Elt Ideal) (res m c) (ix2 r n) = res m c (ix2 ⟨t.val * 512 + r.val, by omega⟩ n) := by
    refine congrArg (res m c) (funext fun a => Fin.ext ?_)
    match a with
    | ⟨0, _⟩ => show win0_4.index t 0 * 512 + 1 * r.val = _; rw [h0]; simp
    | ⟨1, _⟩ => show win0_4.index t 1 * 4096 + 1 * n.val = _; rw [h1]; simp
  rw [hr]
  show out0_4 (iblk m c 0 t) (iblk m c 1 t) (iblk m c 2 t) (iblk m c 3 t) (ix2 r n) = _
  rw [out_apply]
  show nmod _ _ _ _ _ = nmod _ _ _ _ _
  refine congr (congr (congr (congr_arg₂ nmod (funext fun j => (blk0 m c t _ _).trans ?_) (funext fun j => (blk1 m c t _ _).trans ?_))
    (funext fun j => (blk2 m c t _ _ _).trans ?_)) (funext fun j => (blk3 m c t _ _ _).trans ?_)) rfl
  · rw [V0]; exact castX ..
  · rw [V3]; exact castG ..
  · rw [V2]
    refine (castM ..).trans (congrArg (m ((c : Thread nD τ).loc main_arg1)) (congrArg (fun b => ix2 b _) (Fin.ext ?_)))
    show t.val / 4 = (t.val * 512 + r.val) / 2048; omega
  · rw [V2]
    refine (castM ..).trans (congrArg (m ((c : Thread nD τ).loc main_arg1)) (congrArg (fun b => ix2 b _) (Fin.ext ?_)))
    show t.val / 4 = (t.val * 512 + r.val) / 2048; omega

/-- The array after the run. -/
theorem arr_eq (c : Dev nD) : (dats m 0 c).arrAt 4 cfg0.N = res m c := by
  have hc : (cfg0.win 4).Covers := by decide +kernel
  exact (dats m 0 c).arrAt_eq_of_cover 4 (res m c) (fun t _ => flushed_eq m c t) (Pipeline.Window.Covers.cover (cfg0.win 4) hc (Memref.isWhole_whole main_v4))

end Cert.NormB

end
-- ==== Proof.NormB.Ref.lean ====
/-
  What the reference of the modulated norm computes, element by element, and the two runs side by side.
-/
module

public import proofs.«01_k».proof.Proof.NormB.Val
public import proofs.«01_k».proof.Proof.Gen.Kernel15
public import proofs.«01_k».proof.Proof.Gen.Reference15Ideal.Run
public import Idealize.ShloMosaic.Lib.Quiescent

@[expose] public section

set_option maxRecDepth 16384

noncomputable section

namespace Cert.NormB

open Idealize.ShloMosaic Idealize.ShloMosaic.TcCoe Idealize.SL.Sem
open scoped BigOperators

section
open Cert.Reference15Ideal Cert.Reference15Ideal.Gen

/-- The reference's result, element by element. -/
theorem ref_eq (x : FVec Ideal S4x2048x4096 .f32) (mo : FVec Ideal S8x24576 .f32) (g : FVec Ideal S1x4096 .f32) :
    truncf .bf16 (shapeCast S8192x4096 (addf (mulf (mulf (mulf x (broadcastInDim S4x2048x4096 ![0, 1, 2] bcast_S4x2048x1_S4x2048x4096_0_1_2 (Host.rsqrt (F := Ideal) (addf (Host.divf (broadcastInDim S4x2048x1 ![0, 1] bcast_S4x2048_S4x2048x1_0_1 (Host.reduceAdd (mulf x x) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 (shapeCast S4096 g shapeCasts_S1x4096_S4096)))) (broadcastInDim S4x2048x4096 ![0, 1, 2] bcast_S4x1x4096_S4x2048x4096_0_1_2 (addf (broadcastInDim S4x1x4096 ![] bcast_S_S4x1x4096 (constant S_ .f32 0x3F800000#32)) (broadcastInDim S4x1x4096 ![0, 2] bcast_S4x4096_S4x1x4096_0_2 (extractStridedSlice S4x4096 ![0, 16384] (extractStridedSlice S4x24576 ![0, 0] mo slices_S8x24576_S4x24576_0_0) slices_S4x24576_S4x4096_0_16384))))) (broadcastInDim S4x2048x4096 ![0, 1, 2] bcast_S4x1x4096_S4x2048x4096_0_1_2 (broadcastInDim S4x1x4096 ![0, 2] bcast_S4x4096_S4x1x4096_0_2 (extractStridedSlice S4x4096 ![0, 12288] (extractStridedSlice S4x24576 ![0, 0] mo slices_S8x24576_S4x24576_0_0) slices_S4x24576_S4x4096_0_12288)))) shapeCasts_S4x2048x4096_S8192x4096) bitsLt_bf16_f32
      = nrm x mo g := by
  funext i
  obtain ⟨r, n, rfl⟩ : ∃ (r : Fin 8192) (n : Fin 4096), i = ix2 r n := ⟨i 0, i 1, eq_ix2 i⟩
  pointwise [nrm, nmod]

end

/-- The kernel at the extended reals computes what the reference computes. -/
theorem algebraic : Cert.algebraic_Kernel15Ideal_Reference15Ideal := fun m ρ m' ρ' _ hin =>
  ⟨fun c => res m c,
    (θ_run Cert.Kernel15Ideal.defs _ _).mono (fun _ h c => ⟨(h c).1.trans (arr_eq m c), (h c).2⟩) (Cert.Kernel15Ideal.Value.run_blocks m ρ),
    (θ_run Cert.Reference15Ideal.defs _ _).mono (fun _ h c => ⟨(h c).1.trans ((ref_eq _ _ _).trans
      (by rw [(hin c).1, (hin c).2.1, (hin c).2.2])), (h c).2⟩) (Cert.Reference15Ideal.Value.run m' ρ')⟩

/-- The printed program's body table is the idealized one's, the texts being the same. -/
theorem defs_eq : Cert.Kernel15.defs (F := Bits) = Cert.Kernel15Ideal.defs (F := Bits) :=
  congrArg (Pipeline.defs _) (congrArg Defs.onTc (funext fun l => match l with | 0 => funext fun _ => rfl))

/-- The frames. -/
theorem frame_kernel : Cert.quiescent_Kernel15 := fun m ρ _ => by
  rw [defs_eq]; exact Cert.Kernel15Ideal.Gen.frame (F := Bits) m ρ
theorem frame_ideal : Cert.quiescent_Kernel15Ideal := fun m ρ _ => Cert.Kernel15Ideal.Gen.frame (F := Ideal) m ρ
theorem frame_ref : Cert.quiescent_Reference15Ideal := fun m ρ _ =>
  (θ_run Cert.Reference15Ideal.defs _ _).mono (fun r h => ⟨fun c => (h c).2, Idealize.ShloMosaic.sem_eq_zero_of_no_sems (by decide) r.2⟩) (Cert.Reference15Ideal.Value.run (F := Ideal) m ρ)

end Cert.NormB

end
-- ==== Proof.Ada.Val.lean ====
/-
  The values of the conditioning's projection: each point of the grid multiplies the rows' silu with a block of the
  weight's columns and adds the bias.
-/
module

public import proofs.«01_k».proof.Defs
public import proofs.«01_k».proof.Proof.Gen.Kernel16Ideal.Value
public import Idealize.ShloMosaic.Lib.Pipeline.Value
public import Idealize.ShloMosaic.Lib.Pipeline.ValueKit.Geometry
public import Idealize.ShloMosaic.Lib.Pipeline.ValueKit.Tiles
public import Idealize.ShloMosaic.Lib.Pointwise
public import Idealize.ShloMosaic.Lib.ValueLayout
public import Idealize.ShloMosaic.Lib.IdealHost

@[expose] public section

set_option maxRecDepth 16384

noncomputable section

namespace Cert.Ada

open Cert.Kernel16Ideal Cert.Kernel16Ideal.Gen Idealize.ShloMosaic Idealize.ShloMosaic.TcCoe Idealize.SL.Sem
open Idealize.ShloMosaic.Pipeline (Dat)
open scoped BigOperators

/-- The silu, `x` times the logistic function of `x`. -/
def silu (x : EReal) : EReal := x * Ideal.logistic x

/-- The result at a row and a column. -/
def ada (x : FVec Ideal S8x4096 .f32) (w : FVec Ideal S1x4096x24576 .f32) (b : FVec Ideal S1x24576 .f32) : FVec Ideal S8x24576 .f32 := fun i =>
  (∑ k : Fin 4096, silu (x (ix2 (⟨(i 0).val, ValueIdx.idx2_lt0 i⟩ : Fin 8) k)) * w (ix3 0 k (⟨(i 1).val, ValueIdx.idx2_lt1 i⟩ : Fin 24576)))
    + b (ix2 0 (⟨(i 1).val, ValueIdx.idx2_lt1 i⟩ : Fin 24576))

variable (m : (ℓ : Loc nD τ sig) → Buf (Elt Ideal) ℓ) (ρ : Dev nD → PrngReg)

theorem V0 (c : Dev nD) : V m c main_v0 = shapeCast _ (m ((c : Thread nD τ).loc main_arg2)) shapeCasts_S1x24576_S1x1x24576 := by
  unfold V hostOps0; after_results <;> rfl
theorem castB (b : FVec Ideal S1x24576 .f32) (k : Fin 24576) :
    shapeCast S1x1x24576 b shapeCasts_S1x24576_S1x1x24576 (ix3 0 0 k) = b (ix2 0 k) := by pointwise

theorem t_lt (t : Fin cfg0.N) : t.val < 48 := lt_of_lt_of_eq t.isLt N_0

/-- The blocks' places, decided over the grid. -/
theorem idx_facts : ∀ t : Fin cfg0.N,
    win0_0.index t 0 = 0
    ∧ win0_0.index t 1 = 0
    ∧ win0_1.index t 0 = 0
    ∧ win0_1.index t 1 = 0
    ∧ win0_1.index t 2 = t.val
    ∧ win0_2.index t 0 = 0
    ∧ win0_2.index t 1 = 0
    ∧ win0_2.index t 2 = t.val
    ∧ win0_3.index t 0 = 0
    ∧ win0_3.index t 1 = t.val :=
  (by decide +kernel : ∀ t : Fin grid0.N, _)

theorem blk0 (c : Dev nD) (t : Fin cfg0.N) (i0 : Fin 8) (i1 : Fin 4096) :
    (iblk m c 0 t : S8x4096.Idx → EReal) (ix2 i0 i1) = V m c main_arg0 (ix2 i0 i1) := by
  obtain ⟨h0, h1, -, -, -, -, -, -, -, -⟩ := idx_facts t
  refine congrArg (V m c main_arg0) (funext fun a => Fin.ext ?_)
  match a with
  | ⟨0, _⟩ => show win0_0.index t 0 * 8 + 1 * i0.val = _; rw [h0]; first | rfl | (simp; done) | (simp only [ix2, ix3, ix4]; have := t_lt t; simp; omega)
  | ⟨1, _⟩ => show win0_0.index t 1 * 4096 + 1 * i1.val = _; rw [h1]; first | rfl | (simp; done) | (simp only [ix2, ix3, ix4]; have := t_lt t; simp; omega)

theorem blk1 (c : Dev nD) (t : Fin cfg0.N) (i0 : Fin 1) (i1 : Fin 4096) (i2 : Fin 512) :
    (iblk m c 1 t : S1x4096x512.Idx → EReal) (ix3 i0 i1 i2) = V m c main_arg1 (ix3 0 i1 ⟨t.val * 512 + i2.val, by have := t_lt t; omega⟩) := by
  obtain ⟨-, -, h0, h1, h2, -, -, -, -, -⟩ := idx_facts t
  refine congrArg (V m c main_arg1) (funext fun a => Fin.ext ?_)
  match a with
  | ⟨0, _⟩ => show win0_1.index t 0 * 1 + 1 * i0.val = _; rw [h0]; first | rfl | (simp; done) | (simp only [ix2, ix3, ix4]; have := t_lt t; simp; omega)
  | ⟨1, _⟩ => show win0_1.index t 1 * 4096 + 1 * i1.val = _; rw [h1]; first | rfl | (simp; done) | (simp only [ix2, ix3, ix4]; have := t_lt t; simp; omega)
  | ⟨2, _⟩ => show win0_1.index t 2 * 512 + 1 * i2.val = _; rw [h2]; first | rfl | (simp; done) | (simp only [ix2, ix3, ix4]; have := t_lt t; simp; omega)

theorem blk2 (c : Dev nD) (t : Fin cfg0.N) (i0 : Fin 1) (i1 : Fin 1) (i2 : Fin 512) :
    (iblk m c 2 t : S1x1x512.Idx → EReal) (ix3 i0 i1 i2) = V m c main_v0 (ix3 0 0 ⟨t.val * 512 + i2.val, by have := t_lt t; omega⟩) := by
  obtain ⟨-, -, -, -, -, h0, h1, h2, -, -⟩ := idx_facts t
  refine congrArg (V m c main_v0) (funext fun a => Fin.ext ?_)
  match a with
  | ⟨0, _⟩ => show win0_2.index t 0 * 1 + 1 * i0.val = _; rw [h0]; first | rfl | (simp; done) | (simp only [ix2, ix3, ix4]; have := t_lt t; simp; omega)
  | ⟨1, _⟩ => show win0_2.index t 1 * 1 + 1 * i1.val = _; rw [h1]; first | rfl | (simp; done) | (simp only [ix2, ix3, ix4]; have := t_lt t; simp; omega)
  | ⟨2, _⟩ => show win0_2.index t 2 * 512 + 1 * i2.val = _; rw [h2]; first | rfl | (simp; done) | (simp only [ix2, ix3, ix4]; have := t_lt t; simp; omega)

/-- The kernel's result array, from the arguments. -/
abbrev res (c : Dev nD) : FVec Ideal S8x24576 .f32 :=
  ada (m ((c : Thread nD τ).loc main_arg0)) (m ((c : Thread nD τ).loc main_arg1)) (m ((c : Thread nD τ).loc main_arg2))

theorem hz2 : (![0, 0] : Fin 2 → ℕ) = fun _ => 0 := funext fun a => by fin_cases a <;> rfl
theorem hz3 : (![0, 0, 0] : Fin 3 → ℕ) = fun _ => 0 := funext fun a => by fin_cases a <;> rfl

/-- The block's element from the input blocks. -/
theorem out_apply (x0 : Vec Ideal S8x4096 .f32) (x1 : Vec Ideal S1x4096x512 .f32) (x2 : Vec Ideal S1x1x512 .f32) (r : Fin 8) (d : Fin 512) :
    out0_3 x0 x1 x2 (ix2 r d) = (∑ k : Fin 4096, silu (x0 (ix2 r k)) * x1 (ix3 0 k d)) + x2 (ix3 0 0 d) := by
  unfold out0_3
  rw [View.canon_unit_zero hz2, View.ld_unit_zero hz2, View.ld_unit_zero hz3, View.ld_unit_zero hz3]
  pointwise [k0_pay1, silu]

/-- What a point writes back is its block of the result. -/
theorem flushed_eq (c : Dev nD) (t : Fin cfg0.N) :
    (dats m 0 c).flushed 3 t = ((cfg0.win 3).blk t).view.read (Elt Ideal) (res m c) := by
  rw [Value.flushed3]
  obtain ⟨-, -, -, -, -, -, -, -, h0, h1⟩ := idx_facts t
  have ht := t_lt t
  funext j
  obtain ⟨r, n, rfl⟩ : ∃ (r : Fin 8) (n : Fin 512), j = ix2 r n := ⟨j 0, j 1, eq_ix2 j⟩
  have hr : ((cfg0.win 3).blk t).view.read (Elt Ideal) (res m c) (ix2 r n) = res m c (ix2 r ⟨t.val * 512 + n.val, by omega⟩) := by
    refine congrArg (res m c) (funext fun a => Fin.ext ?_)
    match a with
    | ⟨0, _⟩ => show win0_3.index t 0 * 8 + 1 * r.val = _; rw [h0]; simp
    | ⟨1, _⟩ => show win0_3.index t 1 * 512 + 1 * n.val = _; rw [h1]; simp
  rw [hr]
  show out0_3 (iblk m c 0 t) (iblk m c 1 t) (iblk m c 2 t) (ix2 r n) = _
  rw [out_apply]
  refine congr_arg₂ (· + ·) (Finset.sum_congr rfl fun k _ => congr_arg₂ (· * ·) (congrArg silu ((blk0 m c t _ _).trans ?_)) ((blk1 m c t _ _ _).trans ?_)) ((blk2 m c t _ _ _).trans ?_)
  · rw [V_main_arg0]; rfl
  · rw [V_main_arg1]; rfl
  · rw [V0]; exact castB ..

/-- The array after the run. -/
theorem arr_eq (c : Dev nD) : (dats m 0 c).arrAt 3 cfg0.N = res m c := by
  have hc : (cfg0.win 3).Covers := by decide +kernel
  exact (dats m 0 c).arrAt_eq_of_cover 3 (res m c) (fun t _ => flushed_eq m c t) (Pipeline.Window.Covers.cover (cfg0.win 3) hc (Memref.isWhole_whole main_v1))

end Cert.Ada

end
-- ==== Proof.Ada.Ref.lean ====
/-
  What the reference of the conditioning's projection computes, element by element, and the two runs side by side.
-/
module

public import proofs.«01_k».proof.Proof.Ada.Val
public import proofs.«01_k».proof.Proof.Gen.Kernel16
public import proofs.«01_k».proof.Proof.Gen.Reference16Ideal.Run
public import Idealize.ShloMosaic.Lib.Quiescent

@[expose] public section

set_option maxRecDepth 16384

noncomputable section

namespace Cert.Ada

open Idealize.ShloMosaic Idealize.ShloMosaic.TcCoe Idealize.SL.Sem
open scoped BigOperators

section
open Cert.Reference16Ideal Cert.Reference16Ideal.Gen

/-- The reference's result, element by element. -/
theorem ref_eq (x : FVec Ideal S8x4096 .f32) (w : FVec Ideal S1x4096x24576 .f32) (b : FVec Ideal S1x24576 .f32) :
    addf (Host.dotGeneral (F := Ideal) dot_S8x4096_S4096x24576_S8x24576_1_0_0_1_n_n none (mulf x (Host.divf (broadcastInDim S8x4096 ![] bcast_S_S8x4096 (constant S_ .f32 0x3F800000#32)) (addf (broadcastInDim S8x4096 ![] bcast_S_S8x4096 (constant S_ .f32 0x3F800000#32)) (Host.exp (Host.negf x))))) (shapeCast S4096x24576 w shapeCasts_S1x4096x24576_S4096x24576)) (broadcastInDim S8x24576 ![0, 1] bcast_S1x24576_S8x24576_0_1 (broadcastInDim S1x24576 ![1] bcast_S24576_S1x24576_1 (shapeCast S24576 b shapeCasts_S1x24576_S24576)))
      = ada x w b := by
  funext i
  obtain ⟨r, n, rfl⟩ : ∃ (r : Fin 8) (n : Fin 24576), i = ix2 r n := ⟨i 0, i 1, eq_ix2 i⟩
  pointwise [ada, silu]
  rfl

end

/-- The kernel at the extended reals computes what the reference computes. -/
theorem algebraic : Cert.algebraic_Kernel16Ideal_Reference16Ideal := fun m ρ m' ρ' _ hin =>
  ⟨fun c => res m c,
    (θ_run Cert.Kernel16Ideal.defs _ _).mono (fun _ h c => ⟨(h c).1.trans (arr_eq m c), (h c).2⟩) (Cert.Kernel16Ideal.Value.run_blocks m ρ),
    (θ_run Cert.Reference16Ideal.defs _ _).mono (fun _ h c => ⟨(h c).1.trans ((ref_eq _ _ _).trans
      (by rw [(hin c).1, (hin c).2.1, (hin c).2.2])), (h c).2⟩) (Cert.Reference16Ideal.Value.run m' ρ')⟩

/-- The printed program's body table is the idealized one's, the texts being the same. -/
theorem defs_eq : Cert.Kernel16.defs (F := Bits) = Cert.Kernel16Ideal.defs (F := Bits) :=
  congrArg (Pipeline.defs _) (congrArg Defs.onTc (funext fun l => match l with | 0 => funext fun _ => rfl))

/-- The frames. -/
theorem frame_kernel : Cert.quiescent_Kernel16 := fun m ρ _ => by
  rw [defs_eq]; exact Cert.Kernel16Ideal.Gen.frame (F := Bits) m ρ
theorem frame_ideal : Cert.quiescent_Kernel16Ideal := fun m ρ _ => Cert.Kernel16Ideal.Gen.frame (F := Ideal) m ρ
theorem frame_ref : Cert.quiescent_Reference16Ideal := fun m ρ _ =>
  (θ_run Cert.Reference16Ideal.defs _ _).mono (fun r h => ⟨fun c => (h c).2, Idealize.ShloMosaic.sem_eq_zero_of_no_sems (by decide) r.2⟩) (Cert.Reference16Ideal.Value.run (F := Ideal) m ρ)

end Cert.Ada

end
-- ==== Proof.lean ====
module

public import proofs.«01_k».proof.Defs
public import proofs.«01_k».proof.Proof.Gen.Kernel
public import proofs.«01_k».proof.Proof.Gen.KernelIdeal
public import proofs.«01_k».proof.Proof.Attn.Same
public import proofs.«01_k».proof.Proof.Down.Ref
public import proofs.«01_k».proof.Proof.Up.Ref
public import proofs.«01_k».proof.Proof.Merge.Ref
public import proofs.«01_k».proof.Proof.Out.Ref
public import proofs.«01_k».proof.Proof.Gates.Ref
public import proofs.«01_k».proof.Proof.Uv.Ref
public import proofs.«01_k».proof.Proof.Q.Ref
public import proofs.«01_k».proof.Proof.K.Ref
public import proofs.«01_k».proof.Proof.Vproj.Ref
public import proofs.«01_k».proof.Proof.Qi.Ref
public import proofs.«01_k».proof.Proof.Kw.Ref
public import proofs.«01_k».proof.Proof.Sgu.Ref
public import proofs.«01_k».proof.Proof.NormA.Ref
public import proofs.«01_k».proof.Proof.NormB.Ref
public import proofs.«01_k».proof.Proof.Ada.Ref

@[expose] public section

namespace Cert.Proof

open Idealize.ShloMosaic Idealize.SL.Sem

theorem claim : Cert.Claim :=
  ⟨Cert.Kernel.Gen.facts, Cert.KernelIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Down.pre_facts,
    Cert.KernelIdeal.Attn.frame_kernel, Cert.KernelIdeal.Attn.frame_ideal,
    Cert.Down.frame_kernel, Cert.Down.frame_ideal, Cert.Down.frame_ideal_pre, Cert.Down.frame_ref, Cert.Down.frame_ref_pre,
    Cert.Up.frame_kernel, Cert.Up.frame_ideal, Cert.Up.frame_ref,
    Cert.Merge.frame_kernel, Cert.Merge.frame_ideal, Cert.Merge.frame_ref,
    Cert.Out.frame_kernel, Cert.Out.frame_ideal, Cert.Out.frame_ref,
    Cert.Gates.frame_kernel, Cert.Gates.frame_ideal, Cert.Gates.frame_ref,
    Cert.Uv.frame_kernel, Cert.Uv.frame_ideal, Cert.Uv.frame_ref,
    Cert.Q.frame_kernel, Cert.Q.frame_ideal, Cert.Q.frame_ref,
    Cert.K.frame_kernel, Cert.K.frame_ideal, Cert.K.frame_ref,
    Cert.Vproj.frame_kernel, Cert.Vproj.frame_ideal, Cert.Vproj.frame_ref,
    Cert.Qi.frame_kernel, Cert.Qi.frame_ideal, Cert.Qi.frame_ref,
    Cert.Kw.frame_kernel, Cert.Kw.frame_ideal, Cert.Kw.frame_ref,
    Cert.Sgu.frame_kernel, Cert.Sgu.frame_ideal, Cert.Sgu.frame_ref,
    Cert.NormA.frame_kernel, Cert.NormA.frame_ideal, Cert.NormA.frame_ref,
    Cert.NormB.frame_kernel, Cert.NormB.frame_ideal, Cert.NormB.frame_ref,
    Cert.Ada.frame_kernel, Cert.Ada.frame_ideal, Cert.Ada.frame_ref,
    trivial,
    trivial, Cert.Down.algebraic,
    trivial, Cert.Up.algebraic,
    trivial, Cert.Merge.algebraic,
    trivial, Cert.Out.algebraic,
    trivial, Cert.Gates.algebraic,
    trivial, Cert.Uv.algebraic,
    trivial, Cert.Q.algebraic,
    trivial, Cert.K.algebraic,
    trivial, Cert.Vproj.algebraic,
    trivial, Cert.Qi.algebraic,
    trivial, Cert.Kw.algebraic,
    trivial, Cert.Sgu.algebraic,
    trivial, Cert.NormA.algebraic,
    trivial, Cert.NormB.algebraic,
    trivial, Cert.Ada.algebraic⟩

end Cert.Proof

end
